-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Attc (m : (ℓ : Loc Cert.Attc.nD Cert.Attc.τ Cert.Attc.sig) → Buf (Elt Bits) ℓ) : Prop :=
  True

def Pre_AttcIdeal (m : (ℓ : Loc Cert.AttcIdeal.nD Cert.AttcIdeal.τ Cert.AttcIdeal.sig) → Buf (Elt Ideal) ℓ) : Prop :=
  True

def Pre_AttcIdeal_finite_qk [hPre_finite_qk : Cert.Pre_finite_qk.Facts] (m : (ℓ : Loc Cert.AttcIdeal.nD Cert.AttcIdeal.τ Cert.AttcIdeal.sig) → Buf (Elt Ideal) ℓ) : Prop :=
  ∀ c : Dev Cert.AttcIdeal.nD,
    (Cert.Pre_finite_qk.fn (F := Ideal) (m ((c.tc : Thread Cert.AttcIdeal.nD Cert.AttcIdeal.τ).loc Cert.AttcIdeal.main_arg0)) (m ((c.tc : Thread Cert.AttcIdeal.nD Cert.AttcIdeal.τ).loc Cert.AttcIdeal.main_arg1)) (m ((c.tc : Thread Cert.AttcIdeal.nD Cert.AttcIdeal.τ).loc Cert.AttcIdeal.main_arg2))) = (fun _ => 1#1)

def Pre_AttcRefIdeal (m : (ℓ : Loc Cert.AttcRefIdeal.nD Cert.AttcRefIdeal.τ Cert.AttcRefIdeal.sig) → Buf (Elt Ideal) ℓ) : Prop :=
  True

def Pre_AttcRefIdeal_finite_qk [hPre_finite_qk : Cert.Pre_finite_qk.Facts] (m : (ℓ : Loc Cert.AttcRefIdeal.nD Cert.AttcRefIdeal.τ Cert.AttcRefIdeal.sig) → Buf (Elt Ideal) ℓ) : Prop :=
  ∀ c : Dev Cert.AttcRefIdeal.nD,
    (Cert.Pre_finite_qk.fn (F := Ideal) (m ((c.tc : Thread Cert.AttcRefIdeal.nD Cert.AttcRefIdeal.τ).loc Cert.AttcRefIdeal.main_arg0)) (m ((c.tc : Thread Cert.AttcRefIdeal.nD Cert.AttcRefIdeal.τ).loc Cert.AttcRefIdeal.main_arg1)) (m ((c.tc : Thread Cert.AttcRefIdeal.nD Cert.AttcRefIdeal.τ).loc Cert.AttcRefIdeal.main_arg2))) = (fun _ => 1#1)

def Pre_Rkv (m : (ℓ : Loc Cert.Rkv.nD Cert.Rkv.τ Cert.Rkv.sig) → Buf (Elt Bits) ℓ) : Prop :=
  True

def Pre_RkvIdeal (m : (ℓ : Loc Cert.RkvIdeal.nD Cert.RkvIdeal.τ Cert.RkvIdeal.sig) → Buf (Elt Ideal) ℓ) : Prop :=
  True

def Pre_RkvRefIdeal (m : (ℓ : Loc Cert.RkvRefIdeal.nD Cert.RkvRefIdeal.τ Cert.RkvRefIdeal.sig) → Buf (Elt Ideal) ℓ) : Prop :=
  True

def Pre_Lora (m : (ℓ : Loc Cert.Lora.nD Cert.Lora.τ Cert.Lora.sig) → Buf (Elt Bits) ℓ) : Prop :=
  True

def Pre_LoraIdeal (m : (ℓ : Loc Cert.LoraIdeal.nD Cert.LoraIdeal.τ Cert.LoraIdeal.sig) → Buf (Elt Ideal) ℓ) : Prop :=
  True

def Pre_LoraRefIdeal (m : (ℓ : Loc Cert.LoraRefIdeal.nD Cert.LoraRefIdeal.τ Cert.LoraRefIdeal.sig) → Buf (Elt Ideal) ℓ) : Prop :=
  True

def Pre_Up0 (m : (ℓ : Loc Cert.Up0.nD Cert.Up0.τ Cert.Up0.sig) → Buf (Elt Bits) ℓ) : Prop :=
  True

def Pre_Up0Ideal (m : (ℓ : Loc Cert.Up0Ideal.nD Cert.Up0Ideal.τ Cert.Up0Ideal.sig) → Buf (Elt Ideal) ℓ) : Prop :=
  True

def Pre_Up0RefIdeal (m : (ℓ : Loc Cert.Up0RefIdeal.nD Cert.Up0RefIdeal.τ Cert.Up0RefIdeal.sig) → Buf (Elt Ideal) ℓ) : Prop :=
  True

def Pre_Gates0 (m : (ℓ : Loc Cert.Gates0.nD Cert.Gates0.τ Cert.Gates0.sig) → Buf (Elt Bits) ℓ) : Prop :=
  True

def Pre_Gates0Ideal (m : (ℓ : Loc Cert.Gates0Ideal.nD Cert.Gates0Ideal.τ Cert.Gates0Ideal.sig) → Buf (Elt Ideal) ℓ) : Prop :=
  True

def Pre_Gates0RefIdeal (m : (ℓ : Loc Cert.Gates0RefIdeal.nD Cert.Gates0RefIdeal.τ Cert.Gates0RefIdeal.sig) → Buf (Elt Ideal) ℓ) : Prop :=
  True

def Pre_Qkvc0 (m : (ℓ : Loc Cert.Qkvc0.nD Cert.Qkvc0.τ Cert.Qkvc0.sig) → Buf (Elt Bits) ℓ) : Prop :=
  True

def Pre_Qkvc0Ideal (m : (ℓ : Loc Cert.Qkvc0Ideal.nD Cert.Qkvc0Ideal.τ Cert.Qkvc0Ideal.sig) → Buf (Elt Ideal) ℓ) : Prop :=
  True

def Pre_Qkvc0RefIdeal (m : (ℓ : Loc Cert.Qkvc0RefIdeal.nD Cert.Qkvc0RefIdeal.τ Cert.Qkvc0RefIdeal.sig) → Buf (Elt Ideal) ℓ) : Prop :=
  True

def Pre_Rkv0 (m : (ℓ : Loc Cert.Rkv0.nD Cert.Rkv0.τ Cert.Rkv0.sig) → Buf (Elt Bits) ℓ) : Prop :=
  True

def Pre_Rkv0Ideal (m : (ℓ : Loc Cert.Rkv0Ideal.nD Cert.Rkv0Ideal.τ Cert.Rkv0Ideal.sig) → Buf (Elt Ideal) ℓ) : Prop :=
  True

def Pre_Rkv0RefIdeal (m : (ℓ : Loc Cert.Rkv0RefIdeal.nD Cert.Rkv0RefIdeal.τ Cert.Rkv0RefIdeal.sig) → Buf (Elt Ideal) ℓ) : Prop :=
  True

def Pre_Lora0 (m : (ℓ : Loc Cert.Lora0.nD Cert.Lora0.τ Cert.Lora0.sig) → Buf (Elt Bits) ℓ) : Prop :=
  True

def Pre_Lora0Ideal (m : (ℓ : Loc Cert.Lora0Ideal.nD Cert.Lora0Ideal.τ Cert.Lora0Ideal.sig) → Buf (Elt Ideal) ℓ) : Prop :=
  True

def Pre_Lora0RefIdeal (m : (ℓ : Loc Cert.Lora0RefIdeal.nD Cert.Lora0RefIdeal.τ Cert.Lora0RefIdeal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_Down0RefIdeal (m : (ℓ : Loc Cert.Down0RefIdeal.nD Cert.Down0RefIdeal.τ Cert.Down0RefIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0RefIdeal (m : (ℓ : Loc Cert.Out0RefIdeal.nD Cert.Out0RefIdeal.τ Cert.Out0RefIdeal.sig) → Buf (Elt Ideal) ℓ) : Prop :=
  True

def Pre_Merge0 (m : (ℓ : Loc Cert.Merge0.nD Cert.Merge0.τ Cert.Merge0.sig) → Buf (Elt Bits) ℓ) : Prop :=
  True

def Pre_Merge0Ideal (m : (ℓ : Loc Cert.Merge0Ideal.nD Cert.Merge0Ideal.τ Cert.Merge0Ideal.sig) → Buf (Elt Ideal) ℓ) : Prop :=
  True

def Pre_Merge0RefIdeal (m : (ℓ : Loc Cert.Merge0RefIdeal.nD Cert.Merge0RefIdeal.τ Cert.Merge0RefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Modall (m : (ℓ : Loc Cert.Modall.nD Cert.Modall.τ Cert.Modall.sig) → Buf (Elt Bits) ℓ) : Prop :=
  True

def Pre_ModallIdeal (m : (ℓ : Loc Cert.ModallIdeal.nD Cert.ModallIdeal.τ Cert.ModallIdeal.sig) → Buf (Elt Ideal) ℓ) : Prop :=
  True

def Pre_ModallRefIdeal (m : (ℓ : Loc Cert.ModallRefIdeal.nD Cert.ModallRefIdeal.τ Cert.ModallRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Conv0 (m : (ℓ : Loc Cert.Conv0.nD Cert.Conv0.τ Cert.Conv0.sig) → Buf (Elt Bits) ℓ) : Prop :=
  True

def Pre_Conv0Ideal (m : (ℓ : Loc Cert.Conv0Ideal.nD Cert.Conv0Ideal.τ Cert.Conv0Ideal.sig) → Buf (Elt Ideal) ℓ) : Prop :=
  True

def Pre_Conv0RefIdeal (m : (ℓ : Loc Cert.Conv0RefIdeal.nD Cert.Conv0RefIdeal.τ Cert.Conv0RefIdeal.sig) → Buf (Elt Ideal) ℓ) : Prop :=
  True

def Pre_Act0 (m : (ℓ : Loc Cert.Act0.nD Cert.Act0.τ Cert.Act0.sig) → Buf (Elt Bits) ℓ) : Prop :=
  True

def Pre_Act0Ideal (m : (ℓ : Loc Cert.Act0Ideal.nD Cert.Act0Ideal.τ Cert.Act0Ideal.sig) → Buf (Elt Ideal) ℓ) : Prop :=
  True

def Pre_Act0RefIdeal (m : (ℓ : Loc Cert.Act0RefIdeal.nD Cert.Act0RefIdeal.τ Cert.Act0RefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Qkvc (m : (ℓ : Loc Cert.Qkvc.nD Cert.Qkvc.τ Cert.Qkvc.sig) → Buf (Elt Bits) ℓ) : Prop :=
  True

def Pre_QkvcIdeal (m : (ℓ : Loc Cert.QkvcIdeal.nD Cert.QkvcIdeal.τ Cert.QkvcIdeal.sig) → Buf (Elt Ideal) ℓ) : Prop :=
  True

def Pre_QkvcRefIdeal (m : (ℓ : Loc Cert.QkvcRefIdeal.nD Cert.QkvcRefIdeal.τ Cert.QkvcRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Attc [hAttc : Cert.Attc.Facts] : Prop :=
  ∀ (m : (ℓ : Loc Cert.Attc.nD Cert.Attc.τ Cert.Attc.sig) → Buf (Elt Bits) ℓ) (g : Dev Cert.Attc.nD → PrngReg), Pre_Attc m →
    θ_run (Cert.Attc.defs (F := Bits)) (onTc (τ := Cert.Attc.τ) (Cert.Attc.main (F := Bits))) ⟨m, fun _ => 0, g⟩ (fun r => (∀ c : Dev Cert.Attc.nD,
      r.2.mem ((c.tc : Thread Cert.Attc.nD Cert.Attc.τ).loc Cert.Attc.main_arg0) = m ((c.tc : Thread Cert.Attc.nD Cert.Attc.τ).loc Cert.Attc.main_arg0)
      ∧ r.2.mem ((c.tc : Thread Cert.Attc.nD Cert.Attc.τ).loc Cert.Attc.main_arg1) = m ((c.tc : Thread Cert.Attc.nD Cert.Attc.τ).loc Cert.Attc.main_arg1)
      ∧ r.2.mem ((c.tc : Thread Cert.Attc.nD Cert.Attc.τ).loc Cert.Attc.main_arg2) = m ((c.tc : Thread Cert.Attc.nD Cert.Attc.τ).loc Cert.Attc.main_arg2))
      ∧ r.2.sem = fun _ => 0)

def quiescent_AttcIdeal [hAttcIdeal : Cert.AttcIdeal.Facts] : Prop :=
  ∀ (m : (ℓ : Loc Cert.AttcIdeal.nD Cert.AttcIdeal.τ Cert.AttcIdeal.sig) → Buf (Elt Ideal) ℓ) (g : Dev Cert.AttcIdeal.nD → PrngReg), Pre_AttcIdeal m →
    θ_run (Cert.AttcIdeal.defs (F := Ideal)) (onTc (τ := Cert.AttcIdeal.τ) (Cert.AttcIdeal.main (F := Ideal))) ⟨m, fun _ => 0, g⟩ (fun r => (∀ c : Dev Cert.AttcIdeal.nD,
      r.2.mem ((c.tc : Thread Cert.AttcIdeal.nD Cert.AttcIdeal.τ).loc Cert.AttcIdeal.main_arg0) = m ((c.tc : Thread Cert.AttcIdeal.nD Cert.AttcIdeal.τ).loc Cert.AttcIdeal.main_arg0)
      ∧ r.2.mem ((c.tc : Thread Cert.AttcIdeal.nD Cert.AttcIdeal.τ).loc Cert.AttcIdeal.main_arg1) = m ((c.tc : Thread Cert.AttcIdeal.nD Cert.AttcIdeal.τ).loc Cert.AttcIdeal.main_arg1)
      ∧ r.2.mem ((c.tc : Thread Cert.AttcIdeal.nD Cert.AttcIdeal.τ).loc Cert.AttcIdeal.main_arg2) = m ((c.tc : Thread Cert.AttcIdeal.nD Cert.AttcIdeal.τ).loc Cert.AttcIdeal.main_arg2))
      ∧ r.2.sem = fun _ => 0)

def quiescent_AttcIdeal_pre_finite_qk [hAttcIdeal : Cert.AttcIdeal.Facts] [hPre_finite_qk : Cert.Pre_finite_qk.Facts] : Prop :=
  ∀ (m : (ℓ : Loc Cert.AttcIdeal.nD Cert.AttcIdeal.τ Cert.AttcIdeal.sig) → Buf (Elt Ideal) ℓ) (g : Dev Cert.AttcIdeal.nD → PrngReg), Pre_AttcIdeal_finite_qk m →
    θ_run (Cert.AttcIdeal.defs (F := Ideal)) (onTc (τ := Cert.AttcIdeal.τ) (Cert.AttcIdeal.main (F := Ideal))) ⟨m, fun _ => 0, g⟩ (fun r => (∀ c : Dev Cert.AttcIdeal.nD,
      r.2.mem ((c.tc : Thread Cert.AttcIdeal.nD Cert.AttcIdeal.τ).loc Cert.AttcIdeal.main_arg0) = m ((c.tc : Thread Cert.AttcIdeal.nD Cert.AttcIdeal.τ).loc Cert.AttcIdeal.main_arg0)
      ∧ r.2.mem ((c.tc : Thread Cert.AttcIdeal.nD Cert.AttcIdeal.τ).loc Cert.AttcIdeal.main_arg1) = m ((c.tc : Thread Cert.AttcIdeal.nD Cert.AttcIdeal.τ).loc Cert.AttcIdeal.main_arg1)
      ∧ r.2.mem ((c.tc : Thread Cert.AttcIdeal.nD Cert.AttcIdeal.τ).loc Cert.AttcIdeal.main_arg2) = m ((c.tc : Thread Cert.AttcIdeal.nD Cert.AttcIdeal.τ).loc Cert.AttcIdeal.main_arg2))
      ∧ r.2.sem = fun _ => 0)

def quiescent_AttcRefIdeal [hAttcRefIdeal : Cert.AttcRefIdeal.Facts] : Prop :=
  ∀ (m : (ℓ : Loc Cert.AttcRefIdeal.nD Cert.AttcRefIdeal.τ Cert.AttcRefIdeal.sig) → Buf (Elt Ideal) ℓ) (g : Dev Cert.AttcRefIdeal.nD → PrngReg), Pre_AttcRefIdeal m →
    θ_run (Cert.AttcRefIdeal.defs (F := Ideal)) (onTc (τ := Cert.AttcRefIdeal.τ) (Cert.AttcRefIdeal.main (F := Ideal))) ⟨m, fun _ => 0, g⟩ (fun r => (∀ c : Dev Cert.AttcRefIdeal.nD,
      r.2.mem ((c.tc : Thread Cert.AttcRefIdeal.nD Cert.AttcRefIdeal.τ).loc Cert.AttcRefIdeal.main_arg0) = m ((c.tc : Thread Cert.AttcRefIdeal.nD Cert.AttcRefIdeal.τ).loc Cert.AttcRefIdeal.main_arg0)
      ∧ r.2.mem ((c.tc : Thread Cert.AttcRefIdeal.nD Cert.AttcRefIdeal.τ).loc Cert.AttcRefIdeal.main_arg1) = m ((c.tc : Thread Cert.AttcRefIdeal.nD Cert.AttcRefIdeal.τ).loc Cert.AttcRefIdeal.main_arg1)
      ∧ r.2.mem ((c.tc : Thread Cert.AttcRefIdeal.nD Cert.AttcRefIdeal.τ).loc Cert.AttcRefIdeal.main_arg2) = m ((c.tc : Thread Cert.AttcRefIdeal.nD Cert.AttcRefIdeal.τ).loc Cert.AttcRefIdeal.main_arg2))
      ∧ r.2.sem = fun _ => 0)

def quiescent_AttcRefIdeal_pre_finite_qk [hAttcRefIdeal : Cert.AttcRefIdeal.Facts] [hPre_finite_qk : Cert.Pre_finite_qk.Facts] : Prop :=
  ∀ (m : (ℓ : Loc Cert.AttcRefIdeal.nD Cert.AttcRefIdeal.τ Cert.AttcRefIdeal.sig) → Buf (Elt Ideal) ℓ) (g : Dev Cert.AttcRefIdeal.nD → PrngReg), Pre_AttcRefIdeal_finite_qk m →
    θ_run (Cert.AttcRefIdeal.defs (F := Ideal)) (onTc (τ := Cert.AttcRefIdeal.τ) (Cert.AttcRefIdeal.main (F := Ideal))) ⟨m, fun _ => 0, g⟩ (fun r => (∀ c : Dev Cert.AttcRefIdeal.nD,
      r.2.mem ((c.tc : Thread Cert.AttcRefIdeal.nD Cert.AttcRefIdeal.τ).loc Cert.AttcRefIdeal.main_arg0) = m ((c.tc : Thread Cert.AttcRefIdeal.nD Cert.AttcRefIdeal.τ).loc Cert.AttcRefIdeal.main_arg0)
      ∧ r.2.mem ((c.tc : Thread Cert.AttcRefIdeal.nD Cert.AttcRefIdeal.τ).loc Cert.AttcRefIdeal.main_arg1) = m ((c.tc : Thread Cert.AttcRefIdeal.nD Cert.AttcRefIdeal.τ).loc Cert.AttcRefIdeal.main_arg1)
      ∧ r.2.mem ((c.tc : Thread Cert.AttcRefIdeal.nD Cert.AttcRefIdeal.τ).loc Cert.AttcRefIdeal.main_arg2) = m ((c.tc : Thread Cert.AttcRefIdeal.nD Cert.AttcRefIdeal.τ).loc Cert.AttcRefIdeal.main_arg2))
      ∧ r.2.sem = fun _ => 0)

def quiescent_Rkv [hRkv : Cert.Rkv.Facts] : Prop :=
  ∀ (m : (ℓ : Loc Cert.Rkv.nD Cert.Rkv.τ Cert.Rkv.sig) → Buf (Elt Bits) ℓ) (g : Dev Cert.Rkv.nD → PrngReg), Pre_Rkv m →
    θ_run (Cert.Rkv.defs (F := Bits)) (onTc (τ := Cert.Rkv.τ) (Cert.Rkv.main (F := Bits))) ⟨m, fun _ => 0, g⟩ (fun r => (∀ c : Dev Cert.Rkv.nD,
      r.2.mem ((c.tc : Thread Cert.Rkv.nD Cert.Rkv.τ).loc Cert.Rkv.main_arg0) = m ((c.tc : Thread Cert.Rkv.nD Cert.Rkv.τ).loc Cert.Rkv.main_arg0)
      ∧ r.2.mem ((c.tc : Thread Cert.Rkv.nD Cert.Rkv.τ).loc Cert.Rkv.main_arg1) = m ((c.tc : Thread Cert.Rkv.nD Cert.Rkv.τ).loc Cert.Rkv.main_arg1))
      ∧ r.2.sem = fun _ => 0)

def quiescent_RkvIdeal [hRkvIdeal : Cert.RkvIdeal.Facts] : Prop :=
  ∀ (m : (ℓ : Loc Cert.RkvIdeal.nD Cert.RkvIdeal.τ Cert.RkvIdeal.sig) → Buf (Elt Ideal) ℓ) (g : Dev Cert.RkvIdeal.nD → PrngReg), Pre_RkvIdeal m →
    θ_run (Cert.RkvIdeal.defs (F := Ideal)) (onTc (τ := Cert.RkvIdeal.τ) (Cert.RkvIdeal.main (F := Ideal))) ⟨m, fun _ => 0, g⟩ (fun r => (∀ c : Dev Cert.RkvIdeal.nD,
      r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
      ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ r.2.sem = fun _ => 0)

def quiescent_RkvRefIdeal [hRkvRefIdeal : Cert.RkvRefIdeal.Facts] : Prop :=
  ∀ (m : (ℓ : Loc Cert.RkvRefIdeal.nD Cert.RkvRefIdeal.τ Cert.RkvRefIdeal.sig) → Buf (Elt Ideal) ℓ) (g : Dev Cert.RkvRefIdeal.nD → PrngReg), Pre_RkvRefIdeal m →
    θ_run (Cert.RkvRefIdeal.defs (F := Ideal)) (onTc (τ := Cert.RkvRefIdeal.τ) (Cert.RkvRefIdeal.main (F := Ideal))) ⟨m, fun _ => 0, g⟩ (fun r => (∀ c : Dev Cert.RkvRefIdeal.nD,
      r.2.mem ((c.tc : Thread Cert.RkvRefIdeal.nD Cert.RkvRefIdeal.τ).loc Cert.RkvRefIdeal.main_arg0) = m ((c.tc : Thread Cert.RkvRefIdeal.nD Cert.RkvRefIdeal.τ).loc Cert.RkvRefIdeal.main_arg0)
      ∧ r.2.mem ((c.tc : Thread Cert.RkvRefIdeal.nD Cert.RkvRefIdeal.τ).loc Cert.RkvRefIdeal.main_arg1) = m ((c.tc : Thread Cert.RkvRefIdeal.nD Cert.RkvRefIdeal.τ).loc Cert.RkvRefIdeal.main_arg1))
      ∧ r.2.sem = fun _ => 0)

def quiescent_Lora [hLora : Cert.Lora.Facts] : Prop :=
  ∀ (m : (ℓ : Loc Cert.Lora.nD Cert.Lora.τ Cert.Lora.sig) → Buf (Elt Bits) ℓ) (g : Dev Cert.Lora.nD → PrngReg), Pre_Lora m →
    θ_run (Cert.Lora.defs (F := Bits)) (onTc (τ := Cert.Lora.τ) (Cert.Lora.main (F := Bits))) ⟨m, fun _ => 0, g⟩ (fun r => (∀ c : Dev Cert.Lora.nD,
      r.2.mem ((c.tc : Thread Cert.Lora.nD Cert.Lora.τ).loc Cert.Lora.main_arg0) = m ((c.tc : Thread Cert.Lora.nD Cert.Lora.τ).loc Cert.Lora.main_arg0)
      ∧ r.2.mem ((c.tc : Thread Cert.Lora.nD Cert.Lora.τ).loc Cert.Lora.main_arg1) = m ((c.tc : Thread Cert.Lora.nD Cert.Lora.τ).loc Cert.Lora.main_arg1))
      ∧ r.2.sem = fun _ => 0)

def quiescent_LoraIdeal [hLoraIdeal : Cert.LoraIdeal.Facts] : Prop :=
  ∀ (m : (ℓ : Loc Cert.LoraIdeal.nD Cert.LoraIdeal.τ Cert.LoraIdeal.sig) → Buf (Elt Ideal) ℓ) (g : Dev Cert.LoraIdeal.nD → PrngReg), Pre_LoraIdeal m →
    θ_run (Cert.LoraIdeal.defs (F := Ideal)) (onTc (τ := Cert.LoraIdeal.τ) (Cert.LoraIdeal.main (F := Ideal))) ⟨m, fun _ => 0, g⟩ (fun r => (∀ c : Dev Cert.LoraIdeal.nD,
      r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
      ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1))
      ∧ r.2.sem = fun _ => 0)

def quiescent_LoraRefIdeal [hLoraRefIdeal : Cert.LoraRefIdeal.Facts] : Prop :=
  ∀ (m : (ℓ : Loc Cert.LoraRefIdeal.nD Cert.LoraRefIdeal.τ Cert.LoraRefIdeal.sig) → Buf (Elt Ideal) ℓ) (g : Dev Cert.LoraRefIdeal.nD → PrngReg), Pre_LoraRefIdeal m →
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1))
      ∧ r.2.sem = fun _ => 0)

def quiescent_Up0 [hUp0 : Cert.Up0.Facts] : Prop :=
  ∀ (m : (ℓ : Loc Cert.Up0.nD Cert.Up0.τ Cert.Up0.sig) → Buf (Elt Bits) ℓ) (g : Dev Cert.Up0.nD → PrngReg), Pre_Up0 m →
    θ_run (Cert.Up0.defs (F := Bits)) (onTc (τ := Cert.Up0.τ) (Cert.Up0.main (F := Bits))) ⟨m, fun _ => 0, g⟩ (fun r => (∀ c : Dev Cert.Up0.nD,
      r.2.mem ((c.tc : Thread Cert.Up0.nD Cert.Up0.τ).loc Cert.Up0.main_arg0) = m ((c.tc : Thread Cert.Up0.nD Cert.Up0.τ).loc Cert.Up0.main_arg0)
      ∧ r.2.mem ((c.tc : Thread Cert.Up0.nD Cert.Up0.τ).loc Cert.Up0.main_arg1) = m ((c.tc : Thread Cert.Up0.nD Cert.Up0.τ).loc Cert.Up0.main_arg1))
      ∧ r.2.sem = fun _ => 0)

def quiescent_Up0Ideal [hUp0Ideal : Cert.Up0Ideal.Facts] : Prop :=
  ∀ (m : (ℓ : Loc Cert.Up0Ideal.nD Cert.Up0Ideal.τ Cert.Up0Ideal.sig) → Buf (Elt Ideal) ℓ) (g : Dev Cert.Up0Ideal.nD → PrngReg), Pre_Up0Ideal m →
    θ_run (Cert.Up0Ideal.defs (F := Ideal)) (onTc (τ := Cert.Up0Ideal.τ) (Cert.Up0Ideal.main (F := Ideal))) ⟨m, fun _ => 0, g⟩ (fun r => (∀ c : Dev Cert.Up0Ideal.nD,
      r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
      ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ r.2.sem = fun _ => 0)

def quiescent_Up0RefIdeal [hUp0RefIdeal : Cert.Up0RefIdeal.Facts] : Prop :=
  ∀ (m : (ℓ : Loc Cert.Up0RefIdeal.nD Cert.Up0RefIdeal.τ Cert.Up0RefIdeal.sig) → Buf (Elt Ideal) ℓ) (g : Dev Cert.Up0RefIdeal.nD → PrngReg), Pre_Up0RefIdeal m →
    θ_run (Cert.Up0RefIdeal.defs (F := Ideal)) (onTc (τ := Cert.Up0RefIdeal.τ) (Cert.Up0RefIdeal.main (F := Ideal))) ⟨m, fun _ => 0, g⟩ (fun r => (∀ c : Dev Cert.Up0RefIdeal.nD,
      r.2.mem ((c.tc : Thread Cert.Up0RefIdeal.nD Cert.Up0RefIdeal.τ).loc Cert.Up0RefIdeal.main_arg0) = m ((c.tc : Thread Cert.Up0RefIdeal.nD Cert.Up0RefIdeal.τ).loc Cert.Up0RefIdeal.main_arg0)
      ∧ r.2.mem ((c.tc : Thread Cert.Up0RefIdeal.nD Cert.Up0RefIdeal.τ).loc Cert.Up0RefIdeal.main_arg1) = m ((c.tc : Thread Cert.Up0RefIdeal.nD Cert.Up0RefIdeal.τ).loc Cert.Up0RefIdeal.main_arg1))
      ∧ r.2.sem = fun _ => 0)

def quiescent_Gates0 [hGates0 : Cert.Gates0.Facts] : Prop :=
  ∀ (m : (ℓ : Loc Cert.Gates0.nD Cert.Gates0.τ Cert.Gates0.sig) → Buf (Elt Bits) ℓ) (g : Dev Cert.Gates0.nD → PrngReg), Pre_Gates0 m →
    θ_run (Cert.Gates0.defs (F := Bits)) (onTc (τ := Cert.Gates0.τ) (Cert.Gates0.main (F := Bits))) ⟨m, fun _ => 0, g⟩ (fun r => (∀ c : Dev Cert.Gates0.nD,
      r.2.mem ((c.tc : Thread Cert.Gates0.nD Cert.Gates0.τ).loc Cert.Gates0.main_arg0) = m ((c.tc : Thread Cert.Gates0.nD Cert.Gates0.τ).loc Cert.Gates0.main_arg0)
      ∧ r.2.mem ((c.tc : Thread Cert.Gates0.nD Cert.Gates0.τ).loc Cert.Gates0.main_arg1) = m ((c.tc : Thread Cert.Gates0.nD Cert.Gates0.τ).loc Cert.Gates0.main_arg1)
      ∧ r.2.mem ((c.tc : Thread Cert.Gates0.nD Cert.Gates0.τ).loc Cert.Gates0.main_arg2) = m ((c.tc : Thread Cert.Gates0.nD Cert.Gates0.τ).loc Cert.Gates0.main_arg2))
      ∧ r.2.sem = fun _ => 0)

def quiescent_Gates0Ideal [hGates0Ideal : Cert.Gates0Ideal.Facts] : Prop :=
  ∀ (m : (ℓ : Loc Cert.Gates0Ideal.nD Cert.Gates0Ideal.τ Cert.Gates0Ideal.sig) → Buf (Elt Ideal) ℓ) (g : Dev Cert.Gates0Ideal.nD → PrngReg), Pre_Gates0Ideal m →
    θ_run (Cert.Gates0Ideal.defs (F := Ideal)) (onTc (τ := Cert.Gates0Ideal.τ) (Cert.Gates0Ideal.main (F := Ideal))) ⟨m, fun _ => 0, g⟩ (fun r => (∀ c : Dev Cert.Gates0Ideal.nD,
      r.2.mem ((c.tc : Thread Cert.Gates0Ideal.nD Cert.Gates0Ideal.τ).loc Cert.Gates0Ideal.main_arg0) = m ((c.tc : Thread Cert.Gates0Ideal.nD Cert.Gates0Ideal.τ).loc Cert.Gates0Ideal.main_arg0)
      ∧ r.2.mem ((c.tc : Thread Cert.Gates0Ideal.nD Cert.Gates0Ideal.τ).loc Cert.Gates0Ideal.main_arg1) = m ((c.tc : Thread Cert.Gates0Ideal.nD Cert.Gates0Ideal.τ).loc Cert.Gates0Ideal.main_arg1)
      ∧ r.2.mem ((c.tc : Thread Cert.Gates0Ideal.nD Cert.Gates0Ideal.τ).loc Cert.Gates0Ideal.main_arg2) = m ((c.tc : Thread Cert.Gates0Ideal.nD Cert.Gates0Ideal.τ).loc Cert.Gates0Ideal.main_arg2))
      ∧ r.2.sem = fun _ => 0)

def quiescent_Gates0RefIdeal [hGates0RefIdeal : Cert.Gates0RefIdeal.Facts] : Prop :=
  ∀ (m : (ℓ : Loc Cert.Gates0RefIdeal.nD Cert.Gates0RefIdeal.τ Cert.Gates0RefIdeal.sig) → Buf (Elt Ideal) ℓ) (g : Dev Cert.Gates0RefIdeal.nD → PrngReg), Pre_Gates0RefIdeal m →
    θ_run (Cert.Gates0RefIdeal.defs (F := Ideal)) (onTc (τ := Cert.Gates0RefIdeal.τ) (Cert.Gates0RefIdeal.main (F := Ideal))) ⟨m, fun _ => 0, g⟩ (fun r => (∀ c : Dev Cert.Gates0RefIdeal.nD,
      r.2.mem ((c.tc : Thread Cert.Gates0RefIdeal.nD Cert.Gates0RefIdeal.τ).loc Cert.Gates0RefIdeal.main_arg0) = m ((c.tc : Thread Cert.Gates0RefIdeal.nD Cert.Gates0RefIdeal.τ).loc Cert.Gates0RefIdeal.main_arg0)
      ∧ r.2.mem ((c.tc : Thread Cert.Gates0RefIdeal.nD Cert.Gates0RefIdeal.τ).loc Cert.Gates0RefIdeal.main_arg1) = m ((c.tc : Thread Cert.Gates0RefIdeal.nD Cert.Gates0RefIdeal.τ).loc Cert.Gates0RefIdeal.main_arg1)
      ∧ r.2.mem ((c.tc : Thread Cert.Gates0RefIdeal.nD Cert.Gates0RefIdeal.τ).loc Cert.Gates0RefIdeal.main_arg2) = m ((c.tc : Thread Cert.Gates0RefIdeal.nD Cert.Gates0RefIdeal.τ).loc Cert.Gates0RefIdeal.main_arg2))
      ∧ r.2.sem = fun _ => 0)

def quiescent_Qkvc0 [hQkvc0 : Cert.Qkvc0.Facts] : Prop :=
  ∀ (m : (ℓ : Loc Cert.Qkvc0.nD Cert.Qkvc0.τ Cert.Qkvc0.sig) → Buf (Elt Bits) ℓ) (g : Dev Cert.Qkvc0.nD → PrngReg), Pre_Qkvc0 m →
    θ_run (Cert.Qkvc0.defs (F := Bits)) (onTc (τ := Cert.Qkvc0.τ) (Cert.Qkvc0.main (F := Bits))) ⟨m, fun _ => 0, g⟩ (fun r => (∀ c : Dev Cert.Qkvc0.nD,
      r.2.mem ((c.tc : Thread Cert.Qkvc0.nD Cert.Qkvc0.τ).loc Cert.Qkvc0.main_arg0) = m ((c.tc : Thread Cert.Qkvc0.nD Cert.Qkvc0.τ).loc Cert.Qkvc0.main_arg0)
      ∧ r.2.mem ((c.tc : Thread Cert.Qkvc0.nD Cert.Qkvc0.τ).loc Cert.Qkvc0.main_arg1) = m ((c.tc : Thread Cert.Qkvc0.nD Cert.Qkvc0.τ).loc Cert.Qkvc0.main_arg1))
      ∧ r.2.sem = fun _ => 0)

def quiescent_Qkvc0Ideal [hQkvc0Ideal : Cert.Qkvc0Ideal.Facts] : Prop :=
  ∀ (m : (ℓ : Loc Cert.Qkvc0Ideal.nD Cert.Qkvc0Ideal.τ Cert.Qkvc0Ideal.sig) → Buf (Elt Ideal) ℓ) (g : Dev Cert.Qkvc0Ideal.nD → PrngReg), Pre_Qkvc0Ideal m →
    θ_run (Cert.Qkvc0Ideal.defs (F := Ideal)) (onTc (τ := Cert.Qkvc0Ideal.τ) (Cert.Qkvc0Ideal.main (F := Ideal))) ⟨m, fun _ => 0, g⟩ (fun r => (∀ c : Dev Cert.Qkvc0Ideal.nD,
      r.2.mem ((c.tc : Thread Cert.Qkvc0Ideal.nD Cert.Qkvc0Ideal.τ).loc Cert.Qkvc0Ideal.main_arg0) = m ((c.tc : Thread Cert.Qkvc0Ideal.nD Cert.Qkvc0Ideal.τ).loc Cert.Qkvc0Ideal.main_arg0)
      ∧ r.2.mem ((c.tc : Thread Cert.Qkvc0Ideal.nD Cert.Qkvc0Ideal.τ).loc Cert.Qkvc0Ideal.main_arg1) = m ((c.tc : Thread Cert.Qkvc0Ideal.nD Cert.Qkvc0Ideal.τ).loc Cert.Qkvc0Ideal.main_arg1))
      ∧ r.2.sem = fun _ => 0)

def quiescent_Qkvc0RefIdeal [hQkvc0RefIdeal : Cert.Qkvc0RefIdeal.Facts] : Prop :=
  ∀ (m : (ℓ : Loc Cert.Qkvc0RefIdeal.nD Cert.Qkvc0RefIdeal.τ Cert.Qkvc0RefIdeal.sig) → Buf (Elt Ideal) ℓ) (g : Dev Cert.Qkvc0RefIdeal.nD → PrngReg), Pre_Qkvc0RefIdeal m →
    θ_run (Cert.Qkvc0RefIdeal.defs (F := Ideal)) (onTc (τ := Cert.Qkvc0RefIdeal.τ) (Cert.Qkvc0RefIdeal.main (F := Ideal))) ⟨m, fun _ => 0, g⟩ (fun r => (∀ c : Dev Cert.Qkvc0RefIdeal.nD,
      r.2.mem ((c.tc : Thread Cert.Qkvc0RefIdeal.nD Cert.Qkvc0RefIdeal.τ).loc Cert.Qkvc0RefIdeal.main_arg0) = m ((c.tc : Thread Cert.Qkvc0RefIdeal.nD Cert.Qkvc0RefIdeal.τ).loc Cert.Qkvc0RefIdeal.main_arg0)
      ∧ r.2.mem ((c.tc : Thread Cert.Qkvc0RefIdeal.nD Cert.Qkvc0RefIdeal.τ).loc Cert.Qkvc0RefIdeal.main_arg1) = m ((c.tc : Thread Cert.Qkvc0RefIdeal.nD Cert.Qkvc0RefIdeal.τ).loc Cert.Qkvc0RefIdeal.main_arg1))
      ∧ r.2.sem = fun _ => 0)

def quiescent_Rkv0 [hRkv0 : Cert.Rkv0.Facts] : Prop :=
  ∀ (m : (ℓ : Loc Cert.Rkv0.nD Cert.Rkv0.τ Cert.Rkv0.sig) → Buf (Elt Bits) ℓ) (g : Dev Cert.Rkv0.nD → PrngReg), Pre_Rkv0 m →
    θ_run (Cert.Rkv0.defs (F := Bits)) (onTc (τ := Cert.Rkv0.τ) (Cert.Rkv0.main (F := Bits))) ⟨m, fun _ => 0, g⟩ (fun r => (∀ c : Dev Cert.Rkv0.nD,
      r.2.mem ((c.tc : Thread Cert.Rkv0.nD Cert.Rkv0.τ).loc Cert.Rkv0.main_arg0) = m ((c.tc : Thread Cert.Rkv0.nD Cert.Rkv0.τ).loc Cert.Rkv0.main_arg0)
      ∧ r.2.mem ((c.tc : Thread Cert.Rkv0.nD Cert.Rkv0.τ).loc Cert.Rkv0.main_arg1) = m ((c.tc : Thread Cert.Rkv0.nD Cert.Rkv0.τ).loc Cert.Rkv0.main_arg1))
      ∧ r.2.sem = fun _ => 0)

def quiescent_Rkv0Ideal [hRkv0Ideal : Cert.Rkv0Ideal.Facts] : Prop :=
  ∀ (m : (ℓ : Loc Cert.Rkv0Ideal.nD Cert.Rkv0Ideal.τ Cert.Rkv0Ideal.sig) → Buf (Elt Ideal) ℓ) (g : Dev Cert.Rkv0Ideal.nD → PrngReg), Pre_Rkv0Ideal m →
    θ_run (Cert.Rkv0Ideal.defs (F := Ideal)) (onTc (τ := Cert.Rkv0Ideal.τ) (Cert.Rkv0Ideal.main (F := Ideal))) ⟨m, fun _ => 0, g⟩ (fun r => (∀ c : Dev Cert.Rkv0Ideal.nD,
      r.2.mem ((c.tc : Thread Cert.Rkv0Ideal.nD Cert.Rkv0Ideal.τ).loc Cert.Rkv0Ideal.main_arg0) = m ((c.tc : Thread Cert.Rkv0Ideal.nD Cert.Rkv0Ideal.τ).loc Cert.Rkv0Ideal.main_arg0)
      ∧ r.2.mem ((c.tc : Thread Cert.Rkv0Ideal.nD Cert.Rkv0Ideal.τ).loc Cert.Rkv0Ideal.main_arg1) = m ((c.tc : Thread Cert.Rkv0Ideal.nD Cert.Rkv0Ideal.τ).loc Cert.Rkv0Ideal.main_arg1))
      ∧ r.2.sem = fun _ => 0)

def quiescent_Rkv0RefIdeal [hRkv0RefIdeal : Cert.Rkv0RefIdeal.Facts] : Prop :=
  ∀ (m : (ℓ : Loc Cert.Rkv0RefIdeal.nD Cert.Rkv0RefIdeal.τ Cert.Rkv0RefIdeal.sig) → Buf (Elt Ideal) ℓ) (g : Dev Cert.Rkv0RefIdeal.nD → PrngReg), Pre_Rkv0RefIdeal m →
    θ_run (Cert.Rkv0RefIdeal.defs (F := Ideal)) (onTc (τ := Cert.Rkv0RefIdeal.τ) (Cert.Rkv0RefIdeal.main (F := Ideal))) ⟨m, fun _ => 0, g⟩ (fun r => (∀ c : Dev Cert.Rkv0RefIdeal.nD,
      r.2.mem ((c.tc : Thread Cert.Rkv0RefIdeal.nD Cert.Rkv0RefIdeal.τ).loc Cert.Rkv0RefIdeal.main_arg0) = m ((c.tc : Thread Cert.Rkv0RefIdeal.nD Cert.Rkv0RefIdeal.τ).loc Cert.Rkv0RefIdeal.main_arg0)
      ∧ r.2.mem ((c.tc : Thread Cert.Rkv0RefIdeal.nD Cert.Rkv0RefIdeal.τ).loc Cert.Rkv0RefIdeal.main_arg1) = m ((c.tc : Thread Cert.Rkv0RefIdeal.nD Cert.Rkv0RefIdeal.τ).loc Cert.Rkv0RefIdeal.main_arg1))
      ∧ r.2.sem = fun _ => 0)

def quiescent_Lora0 [hLora0 : Cert.Lora0.Facts] : Prop :=
  ∀ (m : (ℓ : Loc Cert.Lora0.nD Cert.Lora0.τ Cert.Lora0.sig) → Buf (Elt Bits) ℓ) (g : Dev Cert.Lora0.nD → PrngReg), Pre_Lora0 m →
    θ_run (Cert.Lora0.defs (F := Bits)) (onTc (τ := Cert.Lora0.τ) (Cert.Lora0.main (F := Bits))) ⟨m, fun _ => 0, g⟩ (fun r => (∀ c : Dev Cert.Lora0.nD,
      r.2.mem ((c.tc : Thread Cert.Lora0.nD Cert.Lora0.τ).loc Cert.Lora0.main_arg0) = m ((c.tc : Thread Cert.Lora0.nD Cert.Lora0.τ).loc Cert.Lora0.main_arg0)
      ∧ r.2.mem ((c.tc : Thread Cert.Lora0.nD Cert.Lora0.τ).loc Cert.Lora0.main_arg1) = m ((c.tc : Thread Cert.Lora0.nD Cert.Lora0.τ).loc Cert.Lora0.main_arg1))
      ∧ r.2.sem = fun _ => 0)

def quiescent_Lora0Ideal [hLora0Ideal : Cert.Lora0Ideal.Facts] : Prop :=
  ∀ (m : (ℓ : Loc Cert.Lora0Ideal.nD Cert.Lora0Ideal.τ Cert.Lora0Ideal.sig) → Buf (Elt Ideal) ℓ) (g : Dev Cert.Lora0Ideal.nD → PrngReg), Pre_Lora0Ideal m →
    θ_run (Cert.Lora0Ideal.defs (F := Ideal)) (onTc (τ := Cert.Lora0Ideal.τ) (Cert.Lora0Ideal.main (F := Ideal))) ⟨m, fun _ => 0, g⟩ (fun r => (∀ c : Dev Cert.Lora0Ideal.nD,
      r.2.mem ((c.tc : Thread Cert.Lora0Ideal.nD Cert.Lora0Ideal.τ).loc Cert.Lora0Ideal.main_arg0) = m ((c.tc : Thread Cert.Lora0Ideal.nD Cert.Lora0Ideal.τ).loc Cert.Lora0Ideal.main_arg0)
      ∧ r.2.mem ((c.tc : Thread Cert.Lora0Ideal.nD Cert.Lora0Ideal.τ).loc Cert.Lora0Ideal.main_arg1) = m ((c.tc : Thread Cert.Lora0Ideal.nD Cert.Lora0Ideal.τ).loc Cert.Lora0Ideal.main_arg1))
      ∧ r.2.sem = fun _ => 0)

def quiescent_Lora0RefIdeal [hLora0RefIdeal : Cert.Lora0RefIdeal.Facts] : Prop :=
  ∀ (m : (ℓ : Loc Cert.Lora0RefIdeal.nD Cert.Lora0RefIdeal.τ Cert.Lora0RefIdeal.sig) → Buf (Elt Ideal) ℓ) (g : Dev Cert.Lora0RefIdeal.nD → PrngReg), Pre_Lora0RefIdeal m →
    θ_run (Cert.Lora0RefIdeal.defs (F := Ideal)) (onTc (τ := Cert.Lora0RefIdeal.τ) (Cert.Lora0RefIdeal.main (F := Ideal))) ⟨m, fun _ => 0, g⟩ (fun r => (∀ c : Dev Cert.Lora0RefIdeal.nD,
      r.2.mem ((c.tc : Thread Cert.Lora0RefIdeal.nD Cert.Lora0RefIdeal.τ).loc Cert.Lora0RefIdeal.main_arg0) = m ((c.tc : Thread Cert.Lora0RefIdeal.nD Cert.Lora0RefIdeal.τ).loc Cert.Lora0RefIdeal.main_arg0)
      ∧ r.2.mem ((c.tc : Thread Cert.Lora0RefIdeal.nD Cert.Lora0RefIdeal.τ).loc Cert.Lora0RefIdeal.main_arg1) = m ((c.tc : Thread Cert.Lora0RefIdeal.nD Cert.Lora0RefIdeal.τ).loc Cert.Lora0RefIdeal.main_arg1))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1)
      ∧ r.2.mem ((c.tc : Thread Cert.Down0.nD Cert.Down0.τ).loc Cert.Down0.main_arg2) = m ((c.tc : Thread Cert.Down0.nD Cert.Down0.τ).loc Cert.Down0.main_arg2)
      ∧ r.2.mem ((c.tc : Thread Cert.Down0.nD Cert.Down0.τ).loc Cert.Down0.main_arg3) = m ((c.tc : Thread Cert.Down0.nD Cert.Down0.τ).loc Cert.Down0.main_arg3))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
      ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
      ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ r.2.sem = fun _ => 0)

def quiescent_Down0RefIdeal [hDown0RefIdeal : Cert.Down0RefIdeal.Facts] : Prop :=
  ∀ (m : (ℓ : Loc Cert.Down0RefIdeal.nD Cert.Down0RefIdeal.τ Cert.Down0RefIdeal.sig) → Buf (Elt Ideal) ℓ) (g : Dev Cert.Down0RefIdeal.nD → PrngReg), Pre_Down0RefIdeal m →
    θ_run (Cert.Down0RefIdeal.defs (F := Ideal)) (onTc (τ := Cert.Down0RefIdeal.τ) (Cert.Down0RefIdeal.main (F := Ideal))) ⟨m, fun _ => 0, g⟩ (fun r => (∀ c : Dev Cert.Down0RefIdeal.nD,
      r.2.mem ((c.tc : Thread Cert.Down0RefIdeal.nD Cert.Down0RefIdeal.τ).loc Cert.Down0RefIdeal.main_arg0) = m ((c.tc : Thread Cert.Down0RefIdeal.nD Cert.Down0RefIdeal.τ).loc Cert.Down0RefIdeal.main_arg0)
      ∧ r.2.mem ((c.tc : Thread Cert.Down0RefIdeal.nD Cert.Down0RefIdeal.τ).loc Cert.Down0RefIdeal.main_arg1) = m ((c.tc : Thread Cert.Down0RefIdeal.nD Cert.Down0RefIdeal.τ).loc Cert.Down0RefIdeal.main_arg1)
      ∧ r.2.mem ((c.tc : Thread Cert.Down0RefIdeal.nD Cert.Down0RefIdeal.τ).loc Cert.Down0RefIdeal.main_arg2) = m ((c.tc : Thread Cert.Down0RefIdeal.nD Cert.Down0RefIdeal.τ).loc Cert.Down0RefIdeal.main_arg2)
      ∧ r.2.mem ((c.tc : Thread Cert.Down0RefIdeal.nD Cert.Down0RefIdeal.τ).loc Cert.Down0RefIdeal.main_arg3) = m ((c.tc : Thread Cert.Down0RefIdeal.nD Cert.Down0RefIdeal.τ).loc Cert.Down0RefIdeal.main_arg3))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3))
      ∧ r.2.sem = fun _ => 0)

def quiescent_Out0RefIdeal [hOut0RefIdeal : Cert.Out0RefIdeal.Facts] : Prop :=
  ∀ (m : (ℓ : Loc Cert.Out0RefIdeal.nD Cert.Out0RefIdeal.τ Cert.Out0RefIdeal.sig) → Buf (Elt Ideal) ℓ) (g : Dev Cert.Out0RefIdeal.nD → PrngReg), Pre_Out0RefIdeal m →
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1)
      ∧ r.2.mem ((c.tc : Thread Cert.Out0RefIdeal.nD Cert.Out0RefIdeal.τ).loc Cert.Out0RefIdeal.main_arg2) = m ((c.tc : Thread Cert.Out0RefIdeal.nD Cert.Out0RefIdeal.τ).loc Cert.Out0RefIdeal.main_arg2)
      ∧ r.2.mem ((c.tc : Thread Cert.Out0RefIdeal.nD Cert.Out0RefIdeal.τ).loc Cert.Out0RefIdeal.main_arg3) = m ((c.tc : Thread Cert.Out0RefIdeal.nD Cert.Out0RefIdeal.τ).loc Cert.Out0RefIdeal.main_arg3))
      ∧ r.2.sem = fun _ => 0)

def quiescent_Merge0 [hMerge0 : Cert.Merge0.Facts] : Prop :=
  ∀ (m : (ℓ : Loc Cert.Merge0.nD Cert.Merge0.τ Cert.Merge0.sig) → Buf (Elt Bits) ℓ) (g : Dev Cert.Merge0.nD → PrngReg), Pre_Merge0 m →
    θ_run (Cert.Merge0.defs (F := Bits)) (onTc (τ := Cert.Merge0.τ) (Cert.Merge0.main (F := Bits))) ⟨m, fun _ => 0, g⟩ (fun r => (∀ c : Dev Cert.Merge0.nD,
      r.2.mem ((c.tc : Thread Cert.Merge0.nD Cert.Merge0.τ).loc Cert.Merge0.main_arg0) = m ((c.tc : Thread Cert.Merge0.nD Cert.Merge0.τ).loc Cert.Merge0.main_arg0)
      ∧ r.2.mem ((c.tc : Thread Cert.Merge0.nD Cert.Merge0.τ).loc Cert.Merge0.main_arg1) = m ((c.tc : Thread Cert.Merge0.nD Cert.Merge0.τ).loc Cert.Merge0.main_arg1)
      ∧ r.2.mem ((c.tc : Thread Cert.Merge0.nD Cert.Merge0.τ).loc Cert.Merge0.main_arg2) = m ((c.tc : Thread Cert.Merge0.nD Cert.Merge0.τ).loc Cert.Merge0.main_arg2)
      ∧ r.2.mem ((c.tc : Thread Cert.Merge0.nD Cert.Merge0.τ).loc Cert.Merge0.main_arg3) = m ((c.tc : Thread Cert.Merge0.nD Cert.Merge0.τ).loc Cert.Merge0.main_arg3)
      ∧ r.2.mem ((c.tc : Thread Cert.Merge0.nD Cert.Merge0.τ).loc Cert.Merge0.main_arg4) = m ((c.tc : Thread Cert.Merge0.nD Cert.Merge0.τ).loc Cert.Merge0.main_arg4)
      ∧ r.2.mem ((c.tc : Thread Cert.Merge0.nD Cert.Merge0.τ).loc Cert.Merge0.main_arg5) = m ((c.tc : Thread Cert.Merge0.nD Cert.Merge0.τ).loc Cert.Merge0.main_arg5)
      ∧ r.2.mem ((c.tc : Thread Cert.Merge0.nD Cert.Merge0.τ).loc Cert.Merge0.main_arg6) = m ((c.tc : Thread Cert.Merge0.nD Cert.Merge0.τ).loc Cert.Merge0.main_arg6))
      ∧ r.2.sem = fun _ => 0)

def quiescent_Merge0Ideal [hMerge0Ideal : Cert.Merge0Ideal.Facts] : Prop :=
  ∀ (m : (ℓ : Loc Cert.Merge0Ideal.nD Cert.Merge0Ideal.τ Cert.Merge0Ideal.sig) → Buf (Elt Ideal) ℓ) (g : Dev Cert.Merge0Ideal.nD → PrngReg), Pre_Merge0Ideal m →
    θ_run (Cert.Merge0Ideal.defs (F := Ideal)) (onTc (τ := Cert.Merge0Ideal.τ) (Cert.Merge0Ideal.main (F := Ideal))) ⟨m, fun _ => 0, g⟩ (fun r => (∀ c : Dev Cert.Merge0Ideal.nD,
      r.2.mem ((c.tc : Thread Cert.Merge0Ideal.nD Cert.Merge0Ideal.τ).loc Cert.Merge0Ideal.main_arg0) = m ((c.tc : Thread Cert.Merge0Ideal.nD Cert.Merge0Ideal.τ).loc Cert.Merge0Ideal.main_arg0)
      ∧ r.2.mem ((c.tc : Thread Cert.Merge0Ideal.nD Cert.Merge0Ideal.τ).loc Cert.Merge0Ideal.main_arg1) = m ((c.tc : Thread Cert.Merge0Ideal.nD Cert.Merge0Ideal.τ).loc Cert.Merge0Ideal.main_arg1)
      ∧ r.2.mem ((c.tc : Thread Cert.Merge0Ideal.nD Cert.Merge0Ideal.τ).loc Cert.Merge0Ideal.main_arg2) = m ((c.tc : Thread Cert.Merge0Ideal.nD Cert.Merge0Ideal.τ).loc Cert.Merge0Ideal.main_arg2)
      ∧ r.2.mem ((c.tc : Thread Cert.Merge0Ideal.nD Cert.Merge0Ideal.τ).loc Cert.Merge0Ideal.main_arg3) = m ((c.tc : Thread Cert.Merge0Ideal.nD Cert.Merge0Ideal.τ).loc Cert.Merge0Ideal.main_arg3)
      ∧ r.2.mem ((c.tc : Thread Cert.Merge0Ideal.nD Cert.Merge0Ideal.τ).loc Cert.Merge0Ideal.main_arg4) = m ((c.tc : Thread Cert.Merge0Ideal.nD Cert.Merge0Ideal.τ).loc Cert.Merge0Ideal.main_arg4)
      ∧ r.2.mem ((c.tc : Thread Cert.Merge0Ideal.nD Cert.Merge0Ideal.τ).loc Cert.Merge0Ideal.main_arg5) = m ((c.tc : Thread Cert.Merge0Ideal.nD Cert.Merge0Ideal.τ).loc Cert.Merge0Ideal.main_arg5)
      ∧ r.2.mem ((c.tc : Thread Cert.Merge0Ideal.nD Cert.Merge0Ideal.τ).loc Cert.Merge0Ideal.main_arg6) = m ((c.tc : Thread Cert.Merge0Ideal.nD Cert.Merge0Ideal.τ).loc Cert.Merge0Ideal.main_arg6))
      ∧ r.2.sem = fun _ => 0)

def quiescent_Merge0RefIdeal [hMerge0RefIdeal : Cert.Merge0RefIdeal.Facts] : Prop :=
  ∀ (m : (ℓ : Loc Cert.Merge0RefIdeal.nD Cert.Merge0RefIdeal.τ Cert.Merge0RefIdeal.sig) → Buf (Elt Ideal) ℓ) (g : Dev Cert.Merge0RefIdeal.nD → PrngReg), Pre_Merge0RefIdeal m →
    θ_run (Cert.Merge0RefIdeal.defs (F := Ideal)) (onTc (τ := Cert.Merge0RefIdeal.τ) (Cert.Merge0RefIdeal.main (F := Ideal))) ⟨m, fun _ => 0, g⟩ (fun r => (∀ c : Dev Cert.Merge0RefIdeal.nD,
      r.2.mem ((c.tc : Thread Cert.Merge0RefIdeal.nD Cert.Merge0RefIdeal.τ).loc Cert.Merge0RefIdeal.main_arg0) = m ((c.tc : Thread Cert.Merge0RefIdeal.nD Cert.Merge0RefIdeal.τ).loc Cert.Merge0RefIdeal.main_arg0)
      ∧ r.2.mem ((c.tc : Thread Cert.Merge0RefIdeal.nD Cert.Merge0RefIdeal.τ).loc Cert.Merge0RefIdeal.main_arg1) = m ((c.tc : Thread Cert.Merge0RefIdeal.nD Cert.Merge0RefIdeal.τ).loc Cert.Merge0RefIdeal.main_arg1)
      ∧ r.2.mem ((c.tc : Thread Cert.Merge0RefIdeal.nD Cert.Merge0RefIdeal.τ).loc Cert.Merge0RefIdeal.main_arg2) = m ((c.tc : Thread Cert.Merge0RefIdeal.nD Cert.Merge0RefIdeal.τ).loc Cert.Merge0RefIdeal.main_arg2)
      ∧ r.2.mem ((c.tc : Thread Cert.Merge0RefIdeal.nD Cert.Merge0RefIdeal.τ).loc Cert.Merge0RefIdeal.main_arg3) = m ((c.tc : Thread Cert.Merge0RefIdeal.nD Cert.Merge0RefIdeal.τ).loc Cert.Merge0RefIdeal.main_arg3)
      ∧ r.2.mem ((c.tc : Thread Cert.Merge0RefIdeal.nD Cert.Merge0RefIdeal.τ).loc Cert.Merge0RefIdeal.main_arg4) = m ((c.tc : Thread Cert.Merge0RefIdeal.nD Cert.Merge0RefIdeal.τ).loc Cert.Merge0RefIdeal.main_arg4)
      ∧ r.2.mem ((c.tc : Thread Cert.Merge0RefIdeal.nD Cert.Merge0RefIdeal.τ).loc Cert.Merge0RefIdeal.main_arg5) = m ((c.tc : Thread Cert.Merge0RefIdeal.nD Cert.Merge0RefIdeal.τ).loc Cert.Merge0RefIdeal.main_arg5)
      ∧ r.2.mem ((c.tc : Thread Cert.Merge0RefIdeal.nD Cert.Merge0RefIdeal.τ).loc Cert.Merge0RefIdeal.main_arg6) = m ((c.tc : Thread Cert.Merge0RefIdeal.nD Cert.Merge0RefIdeal.τ).loc Cert.Merge0RefIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Modall [hModall : Cert.Modall.Facts] : Prop :=
  ∀ (m : (ℓ : Loc Cert.Modall.nD Cert.Modall.τ Cert.Modall.sig) → Buf (Elt Bits) ℓ) (g : Dev Cert.Modall.nD → PrngReg), Pre_Modall m →
    θ_run (Cert.Modall.defs (F := Bits)) (onTc (τ := Cert.Modall.τ) (Cert.Modall.main (F := Bits))) ⟨m, fun _ => 0, g⟩ (fun r => (∀ c : Dev Cert.Modall.nD,
      r.2.mem ((c.tc : Thread Cert.Modall.nD Cert.Modall.τ).loc Cert.Modall.main_arg0) = m ((c.tc : Thread Cert.Modall.nD Cert.Modall.τ).loc Cert.Modall.main_arg0)
      ∧ r.2.mem ((c.tc : Thread Cert.Modall.nD Cert.Modall.τ).loc Cert.Modall.main_arg1) = m ((c.tc : Thread Cert.Modall.nD Cert.Modall.τ).loc Cert.Modall.main_arg1)
      ∧ r.2.mem ((c.tc : Thread Cert.Modall.nD Cert.Modall.τ).loc Cert.Modall.main_arg2) = m ((c.tc : Thread Cert.Modall.nD Cert.Modall.τ).loc Cert.Modall.main_arg2)
      ∧ r.2.mem ((c.tc : Thread Cert.Modall.nD Cert.Modall.τ).loc Cert.Modall.main_arg3) = m ((c.tc : Thread Cert.Modall.nD Cert.Modall.τ).loc Cert.Modall.main_arg3))
      ∧ r.2.sem = fun _ => 0)

def quiescent_ModallIdeal [hModallIdeal : Cert.ModallIdeal.Facts] : Prop :=
  ∀ (m : (ℓ : Loc Cert.ModallIdeal.nD Cert.ModallIdeal.τ Cert.ModallIdeal.sig) → Buf (Elt Ideal) ℓ) (g : Dev Cert.ModallIdeal.nD → PrngReg), Pre_ModallIdeal m →
    θ_run (Cert.ModallIdeal.defs (F := Ideal)) (onTc (τ := Cert.ModallIdeal.τ) (Cert.ModallIdeal.main (F := Ideal))) ⟨m, fun _ => 0, g⟩ (fun r => (∀ c : Dev Cert.ModallIdeal.nD,
      r.2.mem ((c.tc : Thread Cert.ModallIdeal.nD Cert.ModallIdeal.τ).loc Cert.ModallIdeal.main_arg0) = m ((c.tc : Thread Cert.ModallIdeal.nD Cert.ModallIdeal.τ).loc Cert.ModallIdeal.main_arg0)
      ∧ r.2.mem ((c.tc : Thread Cert.ModallIdeal.nD Cert.ModallIdeal.τ).loc Cert.ModallIdeal.main_arg1) = m ((c.tc : Thread Cert.ModallIdeal.nD Cert.ModallIdeal.τ).loc Cert.ModallIdeal.main_arg1)
      ∧ r.2.mem ((c.tc : Thread Cert.ModallIdeal.nD Cert.ModallIdeal.τ).loc Cert.ModallIdeal.main_arg2) = m ((c.tc : Thread Cert.ModallIdeal.nD Cert.ModallIdeal.τ).loc Cert.ModallIdeal.main_arg2)
      ∧ r.2.mem ((c.tc : Thread Cert.ModallIdeal.nD Cert.ModallIdeal.τ).loc Cert.ModallIdeal.main_arg3) = m ((c.tc : Thread Cert.ModallIdeal.nD Cert.ModallIdeal.τ).loc Cert.ModallIdeal.main_arg3))
      ∧ r.2.sem = fun _ => 0)

def quiescent_ModallRefIdeal [hModallRefIdeal : Cert.ModallRefIdeal.Facts] : Prop :=
  ∀ (m : (ℓ : Loc Cert.ModallRefIdeal.nD Cert.ModallRefIdeal.τ Cert.ModallRefIdeal.sig) → Buf (Elt Ideal) ℓ) (g : Dev Cert.ModallRefIdeal.nD → PrngReg), Pre_ModallRefIdeal m →
    θ_run (Cert.ModallRefIdeal.defs (F := Ideal)) (onTc (τ := Cert.ModallRefIdeal.τ) (Cert.ModallRefIdeal.main (F := Ideal))) ⟨m, fun _ => 0, g⟩ (fun r => (∀ c : Dev Cert.ModallRefIdeal.nD,
      r.2.mem ((c.tc : Thread Cert.ModallRefIdeal.nD Cert.ModallRefIdeal.τ).loc Cert.ModallRefIdeal.main_arg0) = m ((c.tc : Thread Cert.ModallRefIdeal.nD Cert.ModallRefIdeal.τ).loc Cert.ModallRefIdeal.main_arg0)
      ∧ r.2.mem ((c.tc : Thread Cert.ModallRefIdeal.nD Cert.ModallRefIdeal.τ).loc Cert.ModallRefIdeal.main_arg1) = m ((c.tc : Thread Cert.ModallRefIdeal.nD Cert.ModallRefIdeal.τ).loc Cert.ModallRefIdeal.main_arg1)
      ∧ r.2.mem ((c.tc : Thread Cert.ModallRefIdeal.nD Cert.ModallRefIdeal.τ).loc Cert.ModallRefIdeal.main_arg2) = m ((c.tc : Thread Cert.ModallRefIdeal.nD Cert.ModallRefIdeal.τ).loc Cert.ModallRefIdeal.main_arg2)
      ∧ r.2.mem ((c.tc : Thread Cert.ModallRefIdeal.nD Cert.ModallRefIdeal.τ).loc Cert.ModallRefIdeal.main_arg3) = m ((c.tc : Thread Cert.ModallRefIdeal.nD Cert.ModallRefIdeal.τ).loc Cert.ModallRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Conv0 [hConv0 : Cert.Conv0.Facts] : Prop :=
  ∀ (m : (ℓ : Loc Cert.Conv0.nD Cert.Conv0.τ Cert.Conv0.sig) → Buf (Elt Bits) ℓ) (g : Dev Cert.Conv0.nD → PrngReg), Pre_Conv0 m →
    θ_run (Cert.Conv0.defs (F := Bits)) (onTc (τ := Cert.Conv0.τ) (Cert.Conv0.main (F := Bits))) ⟨m, fun _ => 0, g⟩ (fun r => (∀ c : Dev Cert.Conv0.nD,
      r.2.mem ((c.tc : Thread Cert.Conv0.nD Cert.Conv0.τ).loc Cert.Conv0.main_arg0) = m ((c.tc : Thread Cert.Conv0.nD Cert.Conv0.τ).loc Cert.Conv0.main_arg0)
      ∧ r.2.mem ((c.tc : Thread Cert.Conv0.nD Cert.Conv0.τ).loc Cert.Conv0.main_arg1) = m ((c.tc : Thread Cert.Conv0.nD Cert.Conv0.τ).loc Cert.Conv0.main_arg1))
      ∧ r.2.sem = fun _ => 0)

def quiescent_Conv0Ideal [hConv0Ideal : Cert.Conv0Ideal.Facts] : Prop :=
  ∀ (m : (ℓ : Loc Cert.Conv0Ideal.nD Cert.Conv0Ideal.τ Cert.Conv0Ideal.sig) → Buf (Elt Ideal) ℓ) (g : Dev Cert.Conv0Ideal.nD → PrngReg), Pre_Conv0Ideal m →
    θ_run (Cert.Conv0Ideal.defs (F := Ideal)) (onTc (τ := Cert.Conv0Ideal.τ) (Cert.Conv0Ideal.main (F := Ideal))) ⟨m, fun _ => 0, g⟩ (fun r => (∀ c : Dev Cert.Conv0Ideal.nD,
      r.2.mem ((c.tc : Thread Cert.Conv0Ideal.nD Cert.Conv0Ideal.τ).loc Cert.Conv0Ideal.main_arg0) = m ((c.tc : Thread Cert.Conv0Ideal.nD Cert.Conv0Ideal.τ).loc Cert.Conv0Ideal.main_arg0)
      ∧ r.2.mem ((c.tc : Thread Cert.Conv0Ideal.nD Cert.Conv0Ideal.τ).loc Cert.Conv0Ideal.main_arg1) = m ((c.tc : Thread Cert.Conv0Ideal.nD Cert.Conv0Ideal.τ).loc Cert.Conv0Ideal.main_arg1))
      ∧ r.2.sem = fun _ => 0)

def quiescent_Conv0RefIdeal [hConv0RefIdeal : Cert.Conv0RefIdeal.Facts] : Prop :=
  ∀ (m : (ℓ : Loc Cert.Conv0RefIdeal.nD Cert.Conv0RefIdeal.τ Cert.Conv0RefIdeal.sig) → Buf (Elt Ideal) ℓ) (g : Dev Cert.Conv0RefIdeal.nD → PrngReg), Pre_Conv0RefIdeal m →
    θ_run (Cert.Conv0RefIdeal.defs (F := Ideal)) (onTc (τ := Cert.Conv0RefIdeal.τ) (Cert.Conv0RefIdeal.main (F := Ideal))) ⟨m, fun _ => 0, g⟩ (fun r => (∀ c : Dev Cert.Conv0RefIdeal.nD,
      r.2.mem ((c.tc : Thread Cert.Conv0RefIdeal.nD Cert.Conv0RefIdeal.τ).loc Cert.Conv0RefIdeal.main_arg0) = m ((c.tc : Thread Cert.Conv0RefIdeal.nD Cert.Conv0RefIdeal.τ).loc Cert.Conv0RefIdeal.main_arg0)
      ∧ r.2.mem ((c.tc : Thread Cert.Conv0RefIdeal.nD Cert.Conv0RefIdeal.τ).loc Cert.Conv0RefIdeal.main_arg1) = m ((c.tc : Thread Cert.Conv0RefIdeal.nD Cert.Conv0RefIdeal.τ).loc Cert.Conv0RefIdeal.main_arg1))
      ∧ r.2.sem = fun _ => 0)

def quiescent_Act0 [hAct0 : Cert.Act0.Facts] : Prop :=
  ∀ (m : (ℓ : Loc Cert.Act0.nD Cert.Act0.τ Cert.Act0.sig) → Buf (Elt Bits) ℓ) (g : Dev Cert.Act0.nD → PrngReg), Pre_Act0 m →
    θ_run (Cert.Act0.defs (F := Bits)) (onTc (τ := Cert.Act0.τ) (Cert.Act0.main (F := Bits))) ⟨m, fun _ => 0, g⟩ (fun r => (∀ c : Dev Cert.Act0.nD,
      r.2.mem ((c.tc : Thread Cert.Act0.nD Cert.Act0.τ).loc Cert.Act0.main_arg0) = m ((c.tc : Thread Cert.Act0.nD Cert.Act0.τ).loc Cert.Act0.main_arg0)
      ∧ r.2.mem ((c.tc : Thread Cert.Act0.nD Cert.Act0.τ).loc Cert.Act0.main_arg1) = m ((c.tc : Thread Cert.Act0.nD Cert.Act0.τ).loc Cert.Act0.main_arg1)
      ∧ r.2.mem ((c.tc : Thread Cert.Act0.nD Cert.Act0.τ).loc Cert.Act0.main_arg2) = m ((c.tc : Thread Cert.Act0.nD Cert.Act0.τ).loc Cert.Act0.main_arg2))
      ∧ r.2.sem = fun _ => 0)

def quiescent_Act0Ideal [hAct0Ideal : Cert.Act0Ideal.Facts] : Prop :=
  ∀ (m : (ℓ : Loc Cert.Act0Ideal.nD Cert.Act0Ideal.τ Cert.Act0Ideal.sig) → Buf (Elt Ideal) ℓ) (g : Dev Cert.Act0Ideal.nD → PrngReg), Pre_Act0Ideal m →
    θ_run (Cert.Act0Ideal.defs (F := Ideal)) (onTc (τ := Cert.Act0Ideal.τ) (Cert.Act0Ideal.main (F := Ideal))) ⟨m, fun _ => 0, g⟩ (fun r => (∀ c : Dev Cert.Act0Ideal.nD,
      r.2.mem ((c.tc : Thread Cert.Act0Ideal.nD Cert.Act0Ideal.τ).loc Cert.Act0Ideal.main_arg0) = m ((c.tc : Thread Cert.Act0Ideal.nD Cert.Act0Ideal.τ).loc Cert.Act0Ideal.main_arg0)
      ∧ r.2.mem ((c.tc : Thread Cert.Act0Ideal.nD Cert.Act0Ideal.τ).loc Cert.Act0Ideal.main_arg1) = m ((c.tc : Thread Cert.Act0Ideal.nD Cert.Act0Ideal.τ).loc Cert.Act0Ideal.main_arg1)
      ∧ r.2.mem ((c.tc : Thread Cert.Act0Ideal.nD Cert.Act0Ideal.τ).loc Cert.Act0Ideal.main_arg2) = m ((c.tc : Thread Cert.Act0Ideal.nD Cert.Act0Ideal.τ).loc Cert.Act0Ideal.main_arg2))
      ∧ r.2.sem = fun _ => 0)

def quiescent_Act0RefIdeal [hAct0RefIdeal : Cert.Act0RefIdeal.Facts] : Prop :=
  ∀ (m : (ℓ : Loc Cert.Act0RefIdeal.nD Cert.Act0RefIdeal.τ Cert.Act0RefIdeal.sig) → Buf (Elt Ideal) ℓ) (g : Dev Cert.Act0RefIdeal.nD → PrngReg), Pre_Act0RefIdeal m →
    θ_run (Cert.Act0RefIdeal.defs (F := Ideal)) (onTc (τ := Cert.Act0RefIdeal.τ) (Cert.Act0RefIdeal.main (F := Ideal))) ⟨m, fun _ => 0, g⟩ (fun r => (∀ c : Dev Cert.Act0RefIdeal.nD,
      r.2.mem ((c.tc : Thread Cert.Act0RefIdeal.nD Cert.Act0RefIdeal.τ).loc Cert.Act0RefIdeal.main_arg0) = m ((c.tc : Thread Cert.Act0RefIdeal.nD Cert.Act0RefIdeal.τ).loc Cert.Act0RefIdeal.main_arg0)
      ∧ r.2.mem ((c.tc : Thread Cert.Act0RefIdeal.nD Cert.Act0RefIdeal.τ).loc Cert.Act0RefIdeal.main_arg1) = m ((c.tc : Thread Cert.Act0RefIdeal.nD Cert.Act0RefIdeal.τ).loc Cert.Act0RefIdeal.main_arg1)
      ∧ r.2.mem ((c.tc : Thread Cert.Act0RefIdeal.nD Cert.Act0RefIdeal.τ).loc Cert.Act0RefIdeal.main_arg2) = m ((c.tc : Thread Cert.Act0RefIdeal.nD Cert.Act0RefIdeal.τ).loc Cert.Act0RefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Qkvc [hQkvc : Cert.Qkvc.Facts] : Prop :=
  ∀ (m : (ℓ : Loc Cert.Qkvc.nD Cert.Qkvc.τ Cert.Qkvc.sig) → Buf (Elt Bits) ℓ) (g : Dev Cert.Qkvc.nD → PrngReg), Pre_Qkvc m →
    θ_run (Cert.Qkvc.defs (F := Bits)) (onTc (τ := Cert.Qkvc.τ) (Cert.Qkvc.main (F := Bits))) ⟨m, fun _ => 0, g⟩ (fun r => (∀ c : Dev Cert.Qkvc.nD,
      r.2.mem ((c.tc : Thread Cert.Qkvc.nD Cert.Qkvc.τ).loc Cert.Qkvc.main_arg0) = m ((c.tc : Thread Cert.Qkvc.nD Cert.Qkvc.τ).loc Cert.Qkvc.main_arg0)
      ∧ r.2.mem ((c.tc : Thread Cert.Qkvc.nD Cert.Qkvc.τ).loc Cert.Qkvc.main_arg1) = m ((c.tc : Thread Cert.Qkvc.nD Cert.Qkvc.τ).loc Cert.Qkvc.main_arg1))
      ∧ r.2.sem = fun _ => 0)

def quiescent_QkvcIdeal [hQkvcIdeal : Cert.QkvcIdeal.Facts] : Prop :=
  ∀ (m : (ℓ : Loc Cert.QkvcIdeal.nD Cert.QkvcIdeal.τ Cert.QkvcIdeal.sig) → Buf (Elt Ideal) ℓ) (g : Dev Cert.QkvcIdeal.nD → PrngReg), Pre_QkvcIdeal m →
    θ_run (Cert.QkvcIdeal.defs (F := Ideal)) (onTc (τ := Cert.QkvcIdeal.τ) (Cert.QkvcIdeal.main (F := Ideal))) ⟨m, fun _ => 0, g⟩ (fun r => (∀ c : Dev Cert.QkvcIdeal.nD,
      r.2.mem ((c.tc : Thread Cert.QkvcIdeal.nD Cert.QkvcIdeal.τ).loc Cert.QkvcIdeal.main_arg0) = m ((c.tc : Thread Cert.QkvcIdeal.nD Cert.QkvcIdeal.τ).loc Cert.QkvcIdeal.main_arg0)
      ∧ r.2.mem ((c.tc : Thread Cert.QkvcIdeal.nD Cert.QkvcIdeal.τ).loc Cert.QkvcIdeal.main_arg1) = m ((c.tc : Thread Cert.QkvcIdeal.nD Cert.QkvcIdeal.τ).loc Cert.QkvcIdeal.main_arg1))
      ∧ r.2.sem = fun _ => 0)

def quiescent_QkvcRefIdeal [hQkvcRefIdeal : Cert.QkvcRefIdeal.Facts] : Prop :=
  ∀ (m : (ℓ : Loc Cert.QkvcRefIdeal.nD Cert.QkvcRefIdeal.τ Cert.QkvcRefIdeal.sig) → Buf (Elt Ideal) ℓ) (g : Dev Cert.QkvcRefIdeal.nD → PrngReg), Pre_QkvcRefIdeal m →
    θ_run (Cert.QkvcRefIdeal.defs (F := Ideal)) (onTc (τ := Cert.QkvcRefIdeal.τ) (Cert.QkvcRefIdeal.main (F := Ideal))) ⟨m, fun _ => 0, g⟩ (fun r => (∀ c : Dev Cert.QkvcRefIdeal.nD,
      r.2.mem ((c.tc : Thread Cert.QkvcRefIdeal.nD Cert.QkvcRefIdeal.τ).loc Cert.QkvcRefIdeal.main_arg0) = m ((c.tc : Thread Cert.QkvcRefIdeal.nD Cert.QkvcRefIdeal.τ).loc Cert.QkvcRefIdeal.main_arg0)
      ∧ r.2.mem ((c.tc : Thread Cert.QkvcRefIdeal.nD Cert.QkvcRefIdeal.τ).loc Cert.QkvcRefIdeal.main_arg1) = m ((c.tc : Thread Cert.QkvcRefIdeal.nD Cert.QkvcRefIdeal.τ).loc Cert.QkvcRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Attc_AttcIdeal : Prop :=
  True

def algebraic_AttcIdeal_AttcRefIdeal_pre_finite_qk [hAttcIdeal : Cert.AttcIdeal.Facts] [hAttcRefIdeal : Cert.AttcRefIdeal.Facts] [hPre_finite_qk : Cert.Pre_finite_qk.Facts] : Prop :=
  ∀ (m : (ℓ : Loc Cert.AttcIdeal.nD Cert.AttcIdeal.τ Cert.AttcIdeal.sig) → Buf (Elt Ideal) ℓ) (g : Dev Cert.AttcIdeal.nD → PrngReg)
    (m' : (ℓ : Loc Cert.AttcRefIdeal.nD Cert.AttcRefIdeal.τ Cert.AttcRefIdeal.sig) → Buf (Elt Ideal) ℓ) (g' : Dev Cert.AttcRefIdeal.nD → PrngReg), Pre_AttcIdeal_finite_qk m →
    (∀ c : Dev Cert.AttcIdeal.nD,
      m' ((c.tc : Thread Cert.AttcRefIdeal.nD Cert.AttcRefIdeal.τ).loc Cert.AttcRefIdeal.main_arg0) = m ((c.tc : Thread Cert.AttcIdeal.nD Cert.AttcIdeal.τ).loc Cert.AttcIdeal.main_arg0)
      ∧ m' ((c.tc : Thread Cert.AttcRefIdeal.nD Cert.AttcRefIdeal.τ).loc Cert.AttcRefIdeal.main_arg1) = m ((c.tc : Thread Cert.AttcIdeal.nD Cert.AttcIdeal.τ).loc Cert.AttcIdeal.main_arg1)
      ∧ m' ((c.tc : Thread Cert.AttcRefIdeal.nD Cert.AttcRefIdeal.τ).loc Cert.AttcRefIdeal.main_arg2) = m ((c.tc : Thread Cert.AttcIdeal.nD Cert.AttcIdeal.τ).loc Cert.AttcIdeal.main_arg2)) →
    ∃ (v0 : (c : Dev Cert.AttcIdeal.nD) → Buf (Elt Ideal) ((c.tc : Thread Cert.AttcIdeal.nD Cert.AttcIdeal.τ).loc Cert.AttcIdeal.main_v0)),
      θ_run (Cert.AttcIdeal.defs (F := Ideal)) (onTc (τ := Cert.AttcIdeal.τ) (Cert.AttcIdeal.main (F := Ideal))) ⟨m, fun _ => 0, g⟩ (fun r => ∀ c : Dev Cert.AttcIdeal.nD,
          r.2.mem ((c.tc : Thread Cert.AttcIdeal.nD Cert.AttcIdeal.τ).loc Cert.AttcIdeal.main_v0) = v0 c
          ∧ r.2.mem ((c.tc : Thread Cert.AttcIdeal.nD Cert.AttcIdeal.τ).loc Cert.AttcIdeal.main_arg0) = m ((c.tc : Thread Cert.AttcIdeal.nD Cert.AttcIdeal.τ).loc Cert.AttcIdeal.main_arg0)
          ∧ r.2.mem ((c.tc : Thread Cert.AttcIdeal.nD Cert.AttcIdeal.τ).loc Cert.AttcIdeal.main_arg1) = m ((c.tc : Thread Cert.AttcIdeal.nD Cert.AttcIdeal.τ).loc Cert.AttcIdeal.main_arg1)
          ∧ r.2.mem ((c.tc : Thread Cert.AttcIdeal.nD Cert.AttcIdeal.τ).loc Cert.AttcIdeal.main_arg2) = m ((c.tc : Thread Cert.AttcIdeal.nD Cert.AttcIdeal.τ).loc Cert.AttcIdeal.main_arg2))
      ∧ θ_run (Cert.AttcRefIdeal.defs (F := Ideal)) (onTc (τ := Cert.AttcRefIdeal.τ) (Cert.AttcRefIdeal.main (F := Ideal))) ⟨m', fun _ => 0, g'⟩ (fun r => ∀ c : Dev Cert.AttcRefIdeal.nD,
          r.2.mem ((c.tc : Thread Cert.AttcRefIdeal.nD Cert.AttcRefIdeal.τ).loc Cert.AttcRefIdeal.main_v28) = v0 c
          ∧ r.2.mem ((c.tc : Thread Cert.AttcRefIdeal.nD Cert.AttcRefIdeal.τ).loc Cert.AttcRefIdeal.main_arg0) = m' ((c.tc : Thread Cert.AttcRefIdeal.nD Cert.AttcRefIdeal.τ).loc Cert.AttcRefIdeal.main_arg0)
          ∧ r.2.mem ((c.tc : Thread Cert.AttcRefIdeal.nD Cert.AttcRefIdeal.τ).loc Cert.AttcRefIdeal.main_arg1) = m' ((c.tc : Thread Cert.AttcRefIdeal.nD Cert.AttcRefIdeal.τ).loc Cert.AttcRefIdeal.main_arg1)
          ∧ r.2.mem ((c.tc : Thread Cert.AttcRefIdeal.nD Cert.AttcRefIdeal.τ).loc Cert.AttcRefIdeal.main_arg2) = m' ((c.tc : Thread Cert.AttcRefIdeal.nD Cert.AttcRefIdeal.τ).loc Cert.AttcRefIdeal.main_arg2))

def preserves_Rkv_RkvIdeal : Prop :=
  True

def algebraic_RkvIdeal_RkvRefIdeal [hRkvIdeal : Cert.RkvIdeal.Facts] [hRkvRefIdeal : Cert.RkvRefIdeal.Facts] : Prop :=
  ∀ (m : (ℓ : Loc Cert.RkvIdeal.nD Cert.RkvIdeal.τ Cert.RkvIdeal.sig) → Buf (Elt Ideal) ℓ) (g : Dev Cert.RkvIdeal.nD → PrngReg)
    (m' : (ℓ : Loc Cert.RkvRefIdeal.nD Cert.RkvRefIdeal.τ Cert.RkvRefIdeal.sig) → Buf (Elt Ideal) ℓ) (g' : Dev Cert.RkvRefIdeal.nD → PrngReg), Pre_RkvIdeal m →
    (∀ c : Dev Cert.RkvIdeal.nD,
      m' ((c.tc : Thread Cert.RkvRefIdeal.nD Cert.RkvRefIdeal.τ).loc Cert.RkvRefIdeal.main_arg0) = m ((c.tc : Thread Cert.RkvIdeal.nD Cert.RkvIdeal.τ).loc Cert.RkvIdeal.main_arg0)
      ∧ m' ((c.tc : Thread Cert.RkvRefIdeal.nD Cert.RkvRefIdeal.τ).loc Cert.RkvRefIdeal.main_arg1) = m ((c.tc : Thread Cert.RkvIdeal.nD Cert.RkvIdeal.τ).loc Cert.RkvIdeal.main_arg1)) →
    ∃ (v0 : (c : Dev Cert.RkvIdeal.nD) → Buf (Elt Ideal) ((c.tc : Thread Cert.RkvIdeal.nD Cert.RkvIdeal.τ).loc Cert.RkvIdeal.main_v0)),
      θ_run (Cert.RkvIdeal.defs (F := Ideal)) (onTc (τ := Cert.RkvIdeal.τ) (Cert.RkvIdeal.main (F := Ideal))) ⟨m, fun _ => 0, g⟩ (fun r => ∀ c : Dev Cert.RkvIdeal.nD,
          r.2.mem ((c.tc : Thread Cert.RkvIdeal.nD Cert.RkvIdeal.τ).loc Cert.RkvIdeal.main_v0) = v0 c
          ∧ r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
          ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ θ_run (Cert.RkvRefIdeal.defs (F := Ideal)) (onTc (τ := Cert.RkvRefIdeal.τ) (Cert.RkvRefIdeal.main (F := Ideal))) ⟨m', fun _ => 0, g'⟩ (fun r => ∀ c : Dev Cert.RkvRefIdeal.nD,
          r.2.mem ((c.tc : Thread Cert.RkvRefIdeal.nD Cert.RkvRefIdeal.τ).loc Cert.RkvRefIdeal.main_v5) = v0 c
          ∧ r.2.mem ((c.tc : Thread Cert.RkvRefIdeal.nD Cert.RkvRefIdeal.τ).loc Cert.RkvRefIdeal.main_arg0) = m' ((c.tc : Thread Cert.RkvRefIdeal.nD Cert.RkvRefIdeal.τ).loc Cert.RkvRefIdeal.main_arg0)
          ∧ r.2.mem ((c.tc : Thread Cert.RkvRefIdeal.nD Cert.RkvRefIdeal.τ).loc Cert.RkvRefIdeal.main_arg1) = m' ((c.tc : Thread Cert.RkvRefIdeal.nD Cert.RkvRefIdeal.τ).loc Cert.RkvRefIdeal.main_arg1))

def preserves_Lora_LoraIdeal : Prop :=
  True

def algebraic_LoraIdeal_LoraRefIdeal [hLoraIdeal : Cert.LoraIdeal.Facts] [hLoraRefIdeal : Cert.LoraRefIdeal.Facts] : Prop :=
  ∀ (m : (ℓ : Loc Cert.LoraIdeal.nD Cert.LoraIdeal.τ Cert.LoraIdeal.sig) → Buf (Elt Ideal) ℓ) (g : Dev Cert.LoraIdeal.nD → PrngReg)
    (m' : (ℓ : Loc Cert.LoraRefIdeal.nD Cert.LoraRefIdeal.τ Cert.LoraRefIdeal.sig) → Buf (Elt Ideal) ℓ) (g' : Dev Cert.LoraRefIdeal.nD → PrngReg), Pre_LoraIdeal m →
    (∀ c : Dev Cert.LoraIdeal.nD,
      m' ((c.tc : Thread Cert.LoraRefIdeal.nD Cert.LoraRefIdeal.τ).loc Cert.LoraRefIdeal.main_arg0) = m ((c.tc : Thread Cert.LoraIdeal.nD Cert.LoraIdeal.τ).loc Cert.LoraIdeal.main_arg0)
      ∧ m' ((c.tc : Thread Cert.LoraRefIdeal.nD Cert.LoraRefIdeal.τ).loc Cert.LoraRefIdeal.main_arg1) = m ((c.tc : Thread Cert.LoraIdeal.nD Cert.LoraIdeal.τ).loc Cert.LoraIdeal.main_arg1)) →
    ∃ (v0 : (c : Dev Cert.LoraIdeal.nD) → Buf (Elt Ideal) ((c.tc : Thread Cert.LoraIdeal.nD Cert.LoraIdeal.τ).loc Cert.LoraIdeal.main_v0)),
      θ_run (Cert.LoraIdeal.defs (F := Ideal)) (onTc (τ := Cert.LoraIdeal.τ) (Cert.LoraIdeal.main (F := Ideal))) ⟨m, fun _ => 0, g⟩ (fun r => ∀ c : Dev Cert.LoraIdeal.nD,
          r.2.mem ((c.tc : Thread Cert.LoraIdeal.nD Cert.LoraIdeal.τ).loc Cert.LoraIdeal.main_v0) = v0 c
          ∧ r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
          ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1))
      ∧ θ_run (Cert.LoraRefIdeal.defs (F := Ideal)) (onTc (τ := Cert.LoraRefIdeal.τ) (Cert.LoraRefIdeal.main (F := Ideal))) ⟨m', fun _ => 0, g'⟩ (fun r => ∀ c : Dev Cert.LoraRefIdeal.nD,
          r.2.mem ((c.tc : Thread Cert.LoraRefIdeal.nD Cert.LoraRefIdeal.τ).loc Cert.LoraRefIdeal.main_v4) = v0 c
          ∧ r.2.mem ((c.tc : Thread Cert.LoraRefIdeal.nD Cert.LoraRefIdeal.τ).loc Cert.LoraRefIdeal.main_arg0) = m' ((c.tc : Thread Cert.LoraRefIdeal.nD Cert.LoraRefIdeal.τ).loc Cert.LoraRefIdeal.main_arg0)
          ∧ r.2.mem ((c.tc : Thread Cert.LoraRefIdeal.nD Cert.LoraRefIdeal.τ).loc Cert.LoraRefIdeal.main_arg1) = m' ((c.tc : Thread Cert.LoraRefIdeal.nD Cert.LoraRefIdeal.τ).loc Cert.LoraRefIdeal.main_arg1))

def preserves_Up0_Up0Ideal : Prop :=
  True

def algebraic_Up0Ideal_Up0RefIdeal [hUp0Ideal : Cert.Up0Ideal.Facts] [hUp0RefIdeal : Cert.Up0RefIdeal.Facts] : Prop :=
  ∀ (m : (ℓ : Loc Cert.Up0Ideal.nD Cert.Up0Ideal.τ Cert.Up0Ideal.sig) → Buf (Elt Ideal) ℓ) (g : Dev Cert.Up0Ideal.nD → PrngReg)
    (m' : (ℓ : Loc Cert.Up0RefIdeal.nD Cert.Up0RefIdeal.τ Cert.Up0RefIdeal.sig) → Buf (Elt Ideal) ℓ) (g' : Dev Cert.Up0RefIdeal.nD → PrngReg), Pre_Up0Ideal m →
    (∀ c : Dev Cert.Up0Ideal.nD,
      m' ((c.tc : Thread Cert.Up0RefIdeal.nD Cert.Up0RefIdeal.τ).loc Cert.Up0RefIdeal.main_arg0) = m ((c.tc : Thread Cert.Up0Ideal.nD Cert.Up0Ideal.τ).loc Cert.Up0Ideal.main_arg0)
      ∧ m' ((c.tc : Thread Cert.Up0RefIdeal.nD Cert.Up0RefIdeal.τ).loc Cert.Up0RefIdeal.main_arg1) = m ((c.tc : Thread Cert.Up0Ideal.nD Cert.Up0Ideal.τ).loc Cert.Up0Ideal.main_arg1)) →
    ∃ (v0 : (c : Dev Cert.Up0Ideal.nD) → Buf (Elt Ideal) ((c.tc : Thread Cert.Up0Ideal.nD Cert.Up0Ideal.τ).loc Cert.Up0Ideal.main_v0)),
      θ_run (Cert.Up0Ideal.defs (F := Ideal)) (onTc (τ := Cert.Up0Ideal.τ) (Cert.Up0Ideal.main (F := Ideal))) ⟨m, fun _ => 0, g⟩ (fun r => ∀ c : Dev Cert.Up0Ideal.nD,
          r.2.mem ((c.tc : Thread Cert.Up0Ideal.nD Cert.Up0Ideal.τ).loc Cert.Up0Ideal.main_v0) = v0 c
          ∧ r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
          ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ θ_run (Cert.Up0RefIdeal.defs (F := Ideal)) (onTc (τ := Cert.Up0RefIdeal.τ) (Cert.Up0RefIdeal.main (F := Ideal))) ⟨m', fun _ => 0, g'⟩ (fun r => ∀ c : Dev Cert.Up0RefIdeal.nD,
          r.2.mem ((c.tc : Thread Cert.Up0RefIdeal.nD Cert.Up0RefIdeal.τ).loc Cert.Up0RefIdeal.main_v4) = v0 c
          ∧ r.2.mem ((c.tc : Thread Cert.Up0RefIdeal.nD Cert.Up0RefIdeal.τ).loc Cert.Up0RefIdeal.main_arg0) = m' ((c.tc : Thread Cert.Up0RefIdeal.nD Cert.Up0RefIdeal.τ).loc Cert.Up0RefIdeal.main_arg0)
          ∧ r.2.mem ((c.tc : Thread Cert.Up0RefIdeal.nD Cert.Up0RefIdeal.τ).loc Cert.Up0RefIdeal.main_arg1) = m' ((c.tc : Thread Cert.Up0RefIdeal.nD Cert.Up0RefIdeal.τ).loc Cert.Up0RefIdeal.main_arg1))

def preserves_Gates0_Gates0Ideal : Prop :=
  True

def algebraic_Gates0Ideal_Gates0RefIdeal [hGates0Ideal : Cert.Gates0Ideal.Facts] [hGates0RefIdeal : Cert.Gates0RefIdeal.Facts] : Prop :=
  ∀ (m : (ℓ : Loc Cert.Gates0Ideal.nD Cert.Gates0Ideal.τ Cert.Gates0Ideal.sig) → Buf (Elt Ideal) ℓ) (g : Dev Cert.Gates0Ideal.nD → PrngReg)
    (m' : (ℓ : Loc Cert.Gates0RefIdeal.nD Cert.Gates0RefIdeal.τ Cert.Gates0RefIdeal.sig) → Buf (Elt Ideal) ℓ) (g' : Dev Cert.Gates0RefIdeal.nD → PrngReg), Pre_Gates0Ideal m →
    (∀ c : Dev Cert.Gates0Ideal.nD,
      m' ((c.tc : Thread Cert.Gates0RefIdeal.nD Cert.Gates0RefIdeal.τ).loc Cert.Gates0RefIdeal.main_arg0) = m ((c.tc : Thread Cert.Gates0Ideal.nD Cert.Gates0Ideal.τ).loc Cert.Gates0Ideal.main_arg0)
      ∧ m' ((c.tc : Thread Cert.Gates0RefIdeal.nD Cert.Gates0RefIdeal.τ).loc Cert.Gates0RefIdeal.main_arg1) = m ((c.tc : Thread Cert.Gates0Ideal.nD Cert.Gates0Ideal.τ).loc Cert.Gates0Ideal.main_arg1)
      ∧ m' ((c.tc : Thread Cert.Gates0RefIdeal.nD Cert.Gates0RefIdeal.τ).loc Cert.Gates0RefIdeal.main_arg2) = m ((c.tc : Thread Cert.Gates0Ideal.nD Cert.Gates0Ideal.τ).loc Cert.Gates0Ideal.main_arg2)) →
    ∃ (v0 : (c : Dev Cert.Gates0Ideal.nD) → Buf (Elt Ideal) ((c.tc : Thread Cert.Gates0Ideal.nD Cert.Gates0Ideal.τ).loc Cert.Gates0Ideal.main_v1)),
      θ_run (Cert.Gates0Ideal.defs (F := Ideal)) (onTc (τ := Cert.Gates0Ideal.τ) (Cert.Gates0Ideal.main (F := Ideal))) ⟨m, fun _ => 0, g⟩ (fun r => ∀ c : Dev Cert.Gates0Ideal.nD,
          r.2.mem ((c.tc : Thread Cert.Gates0Ideal.nD Cert.Gates0Ideal.τ).loc Cert.Gates0Ideal.main_v1) = v0 c
          ∧ r.2.mem ((c.tc : Thread Cert.Gates0Ideal.nD Cert.Gates0Ideal.τ).loc Cert.Gates0Ideal.main_arg0) = m ((c.tc : Thread Cert.Gates0Ideal.nD Cert.Gates0Ideal.τ).loc Cert.Gates0Ideal.main_arg0)
          ∧ r.2.mem ((c.tc : Thread Cert.Gates0Ideal.nD Cert.Gates0Ideal.τ).loc Cert.Gates0Ideal.main_arg1) = m ((c.tc : Thread Cert.Gates0Ideal.nD Cert.Gates0Ideal.τ).loc Cert.Gates0Ideal.main_arg1)
          ∧ r.2.mem ((c.tc : Thread Cert.Gates0Ideal.nD Cert.Gates0Ideal.τ).loc Cert.Gates0Ideal.main_arg2) = m ((c.tc : Thread Cert.Gates0Ideal.nD Cert.Gates0Ideal.τ).loc Cert.Gates0Ideal.main_arg2))
      ∧ θ_run (Cert.Gates0RefIdeal.defs (F := Ideal)) (onTc (τ := Cert.Gates0RefIdeal.τ) (Cert.Gates0RefIdeal.main (F := Ideal))) ⟨m', fun _ => 0, g'⟩ (fun r => ∀ c : Dev Cert.Gates0RefIdeal.nD,
          r.2.mem ((c.tc : Thread Cert.Gates0RefIdeal.nD Cert.Gates0RefIdeal.τ).loc Cert.Gates0RefIdeal.main_v14) = v0 c
          ∧ r.2.mem ((c.tc : Thread Cert.Gates0RefIdeal.nD Cert.Gates0RefIdeal.τ).loc Cert.Gates0RefIdeal.main_arg0) = m' ((c.tc : Thread Cert.Gates0RefIdeal.nD Cert.Gates0RefIdeal.τ).loc Cert.Gates0RefIdeal.main_arg0)
          ∧ r.2.mem ((c.tc : Thread Cert.Gates0RefIdeal.nD Cert.Gates0RefIdeal.τ).loc Cert.Gates0RefIdeal.main_arg1) = m' ((c.tc : Thread Cert.Gates0RefIdeal.nD Cert.Gates0RefIdeal.τ).loc Cert.Gates0RefIdeal.main_arg1)
          ∧ r.2.mem ((c.tc : Thread Cert.Gates0RefIdeal.nD Cert.Gates0RefIdeal.τ).loc Cert.Gates0RefIdeal.main_arg2) = m' ((c.tc : Thread Cert.Gates0RefIdeal.nD Cert.Gates0RefIdeal.τ).loc Cert.Gates0RefIdeal.main_arg2))

def preserves_Qkvc0_Qkvc0Ideal : Prop :=
  True

def algebraic_Qkvc0Ideal_Qkvc0RefIdeal [hQkvc0Ideal : Cert.Qkvc0Ideal.Facts] [hQkvc0RefIdeal : Cert.Qkvc0RefIdeal.Facts] : Prop :=
  ∀ (m : (ℓ : Loc Cert.Qkvc0Ideal.nD Cert.Qkvc0Ideal.τ Cert.Qkvc0Ideal.sig) → Buf (Elt Ideal) ℓ) (g : Dev Cert.Qkvc0Ideal.nD → PrngReg)
    (m' : (ℓ : Loc Cert.Qkvc0RefIdeal.nD Cert.Qkvc0RefIdeal.τ Cert.Qkvc0RefIdeal.sig) → Buf (Elt Ideal) ℓ) (g' : Dev Cert.Qkvc0RefIdeal.nD → PrngReg), Pre_Qkvc0Ideal m →
    (∀ c : Dev Cert.Qkvc0Ideal.nD,
      m' ((c.tc : Thread Cert.Qkvc0RefIdeal.nD Cert.Qkvc0RefIdeal.τ).loc Cert.Qkvc0RefIdeal.main_arg0) = m ((c.tc : Thread Cert.Qkvc0Ideal.nD Cert.Qkvc0Ideal.τ).loc Cert.Qkvc0Ideal.main_arg0)
      ∧ m' ((c.tc : Thread Cert.Qkvc0RefIdeal.nD Cert.Qkvc0RefIdeal.τ).loc Cert.Qkvc0RefIdeal.main_arg1) = m ((c.tc : Thread Cert.Qkvc0Ideal.nD Cert.Qkvc0Ideal.τ).loc Cert.Qkvc0Ideal.main_arg1)) →
    ∃ (v0 : (c : Dev Cert.Qkvc0Ideal.nD) → Buf (Elt Ideal) ((c.tc : Thread Cert.Qkvc0Ideal.nD Cert.Qkvc0Ideal.τ).loc Cert.Qkvc0Ideal.main_v0)),
      θ_run (Cert.Qkvc0Ideal.defs (F := Ideal)) (onTc (τ := Cert.Qkvc0Ideal.τ) (Cert.Qkvc0Ideal.main (F := Ideal))) ⟨m, fun _ => 0, g⟩ (fun r => ∀ c : Dev Cert.Qkvc0Ideal.nD,
          r.2.mem ((c.tc : Thread Cert.Qkvc0Ideal.nD Cert.Qkvc0Ideal.τ).loc Cert.Qkvc0Ideal.main_v0) = v0 c
          ∧ r.2.mem ((c.tc : Thread Cert.Qkvc0Ideal.nD Cert.Qkvc0Ideal.τ).loc Cert.Qkvc0Ideal.main_arg0) = m ((c.tc : Thread Cert.Qkvc0Ideal.nD Cert.Qkvc0Ideal.τ).loc Cert.Qkvc0Ideal.main_arg0)
          ∧ r.2.mem ((c.tc : Thread Cert.Qkvc0Ideal.nD Cert.Qkvc0Ideal.τ).loc Cert.Qkvc0Ideal.main_arg1) = m ((c.tc : Thread Cert.Qkvc0Ideal.nD Cert.Qkvc0Ideal.τ).loc Cert.Qkvc0Ideal.main_arg1))
      ∧ θ_run (Cert.Qkvc0RefIdeal.defs (F := Ideal)) (onTc (τ := Cert.Qkvc0RefIdeal.τ) (Cert.Qkvc0RefIdeal.main (F := Ideal))) ⟨m', fun _ => 0, g'⟩ (fun r => ∀ c : Dev Cert.Qkvc0RefIdeal.nD,
          r.2.mem ((c.tc : Thread Cert.Qkvc0RefIdeal.nD Cert.Qkvc0RefIdeal.τ).loc Cert.Qkvc0RefIdeal.main_v5) = v0 c
          ∧ r.2.mem ((c.tc : Thread Cert.Qkvc0RefIdeal.nD Cert.Qkvc0RefIdeal.τ).loc Cert.Qkvc0RefIdeal.main_arg0) = m' ((c.tc : Thread Cert.Qkvc0RefIdeal.nD Cert.Qkvc0RefIdeal.τ).loc Cert.Qkvc0RefIdeal.main_arg0)
          ∧ r.2.mem ((c.tc : Thread Cert.Qkvc0RefIdeal.nD Cert.Qkvc0RefIdeal.τ).loc Cert.Qkvc0RefIdeal.main_arg1) = m' ((c.tc : Thread Cert.Qkvc0RefIdeal.nD Cert.Qkvc0RefIdeal.τ).loc Cert.Qkvc0RefIdeal.main_arg1))

def preserves_Rkv0_Rkv0Ideal : Prop :=
  True

def algebraic_Rkv0Ideal_Rkv0RefIdeal [hRkv0Ideal : Cert.Rkv0Ideal.Facts] [hRkv0RefIdeal : Cert.Rkv0RefIdeal.Facts] : Prop :=
  ∀ (m : (ℓ : Loc Cert.Rkv0Ideal.nD Cert.Rkv0Ideal.τ Cert.Rkv0Ideal.sig) → Buf (Elt Ideal) ℓ) (g : Dev Cert.Rkv0Ideal.nD → PrngReg)
    (m' : (ℓ : Loc Cert.Rkv0RefIdeal.nD Cert.Rkv0RefIdeal.τ Cert.Rkv0RefIdeal.sig) → Buf (Elt Ideal) ℓ) (g' : Dev Cert.Rkv0RefIdeal.nD → PrngReg), Pre_Rkv0Ideal m →
    (∀ c : Dev Cert.Rkv0Ideal.nD,
      m' ((c.tc : Thread Cert.Rkv0RefIdeal.nD Cert.Rkv0RefIdeal.τ).loc Cert.Rkv0RefIdeal.main_arg0) = m ((c.tc : Thread Cert.Rkv0Ideal.nD Cert.Rkv0Ideal.τ).loc Cert.Rkv0Ideal.main_arg0)
      ∧ m' ((c.tc : Thread Cert.Rkv0RefIdeal.nD Cert.Rkv0RefIdeal.τ).loc Cert.Rkv0RefIdeal.main_arg1) = m ((c.tc : Thread Cert.Rkv0Ideal.nD Cert.Rkv0Ideal.τ).loc Cert.Rkv0Ideal.main_arg1)) →
    ∃ (v0 : (c : Dev Cert.Rkv0Ideal.nD) → Buf (Elt Ideal) ((c.tc : Thread Cert.Rkv0Ideal.nD Cert.Rkv0Ideal.τ).loc Cert.Rkv0Ideal.main_v0)),
      θ_run (Cert.Rkv0Ideal.defs (F := Ideal)) (onTc (τ := Cert.Rkv0Ideal.τ) (Cert.Rkv0Ideal.main (F := Ideal))) ⟨m, fun _ => 0, g⟩ (fun r => ∀ c : Dev Cert.Rkv0Ideal.nD,
          r.2.mem ((c.tc : Thread Cert.Rkv0Ideal.nD Cert.Rkv0Ideal.τ).loc Cert.Rkv0Ideal.main_v0) = v0 c
          ∧ r.2.mem ((c.tc : Thread Cert.Rkv0Ideal.nD Cert.Rkv0Ideal.τ).loc Cert.Rkv0Ideal.main_arg0) = m ((c.tc : Thread Cert.Rkv0Ideal.nD Cert.Rkv0Ideal.τ).loc Cert.Rkv0Ideal.main_arg0)
          ∧ r.2.mem ((c.tc : Thread Cert.Rkv0Ideal.nD Cert.Rkv0Ideal.τ).loc Cert.Rkv0Ideal.main_arg1) = m ((c.tc : Thread Cert.Rkv0Ideal.nD Cert.Rkv0Ideal.τ).loc Cert.Rkv0Ideal.main_arg1))
      ∧ θ_run (Cert.Rkv0RefIdeal.defs (F := Ideal)) (onTc (τ := Cert.Rkv0RefIdeal.τ) (Cert.Rkv0RefIdeal.main (F := Ideal))) ⟨m', fun _ => 0, g'⟩ (fun r => ∀ c : Dev Cert.Rkv0RefIdeal.nD,
          r.2.mem ((c.tc : Thread Cert.Rkv0RefIdeal.nD Cert.Rkv0RefIdeal.τ).loc Cert.Rkv0RefIdeal.main_v5) = v0 c
          ∧ r.2.mem ((c.tc : Thread Cert.Rkv0RefIdeal.nD Cert.Rkv0RefIdeal.τ).loc Cert.Rkv0RefIdeal.main_arg0) = m' ((c.tc : Thread Cert.Rkv0RefIdeal.nD Cert.Rkv0RefIdeal.τ).loc Cert.Rkv0RefIdeal.main_arg0)
          ∧ r.2.mem ((c.tc : Thread Cert.Rkv0RefIdeal.nD Cert.Rkv0RefIdeal.τ).loc Cert.Rkv0RefIdeal.main_arg1) = m' ((c.tc : Thread Cert.Rkv0RefIdeal.nD Cert.Rkv0RefIdeal.τ).loc Cert.Rkv0RefIdeal.main_arg1))

def preserves_Lora0_Lora0Ideal : Prop :=
  True

def algebraic_Lora0Ideal_Lora0RefIdeal [hLora0Ideal : Cert.Lora0Ideal.Facts] [hLora0RefIdeal : Cert.Lora0RefIdeal.Facts] : Prop :=
  ∀ (m : (ℓ : Loc Cert.Lora0Ideal.nD Cert.Lora0Ideal.τ Cert.Lora0Ideal.sig) → Buf (Elt Ideal) ℓ) (g : Dev Cert.Lora0Ideal.nD → PrngReg)
    (m' : (ℓ : Loc Cert.Lora0RefIdeal.nD Cert.Lora0RefIdeal.τ Cert.Lora0RefIdeal.sig) → Buf (Elt Ideal) ℓ) (g' : Dev Cert.Lora0RefIdeal.nD → PrngReg), Pre_Lora0Ideal m →
    (∀ c : Dev Cert.Lora0Ideal.nD,
      m' ((c.tc : Thread Cert.Lora0RefIdeal.nD Cert.Lora0RefIdeal.τ).loc Cert.Lora0RefIdeal.main_arg0) = m ((c.tc : Thread Cert.Lora0Ideal.nD Cert.Lora0Ideal.τ).loc Cert.Lora0Ideal.main_arg0)
      ∧ m' ((c.tc : Thread Cert.Lora0RefIdeal.nD Cert.Lora0RefIdeal.τ).loc Cert.Lora0RefIdeal.main_arg1) = m ((c.tc : Thread Cert.Lora0Ideal.nD Cert.Lora0Ideal.τ).loc Cert.Lora0Ideal.main_arg1)) →
    ∃ (v0 : (c : Dev Cert.Lora0Ideal.nD) → Buf (Elt Ideal) ((c.tc : Thread Cert.Lora0Ideal.nD Cert.Lora0Ideal.τ).loc Cert.Lora0Ideal.main_v0)),
      θ_run (Cert.Lora0Ideal.defs (F := Ideal)) (onTc (τ := Cert.Lora0Ideal.τ) (Cert.Lora0Ideal.main (F := Ideal))) ⟨m, fun _ => 0, g⟩ (fun r => ∀ c : Dev Cert.Lora0Ideal.nD,
          r.2.mem ((c.tc : Thread Cert.Lora0Ideal.nD Cert.Lora0Ideal.τ).loc Cert.Lora0Ideal.main_v0) = v0 c
          ∧ r.2.mem ((c.tc : Thread Cert.Lora0Ideal.nD Cert.Lora0Ideal.τ).loc Cert.Lora0Ideal.main_arg0) = m ((c.tc : Thread Cert.Lora0Ideal.nD Cert.Lora0Ideal.τ).loc Cert.Lora0Ideal.main_arg0)
          ∧ r.2.mem ((c.tc : Thread Cert.Lora0Ideal.nD Cert.Lora0Ideal.τ).loc Cert.Lora0Ideal.main_arg1) = m ((c.tc : Thread Cert.Lora0Ideal.nD Cert.Lora0Ideal.τ).loc Cert.Lora0Ideal.main_arg1))
      ∧ θ_run (Cert.Lora0RefIdeal.defs (F := Ideal)) (onTc (τ := Cert.Lora0RefIdeal.τ) (Cert.Lora0RefIdeal.main (F := Ideal))) ⟨m', fun _ => 0, g'⟩ (fun r => ∀ c : Dev Cert.Lora0RefIdeal.nD,
          r.2.mem ((c.tc : Thread Cert.Lora0RefIdeal.nD Cert.Lora0RefIdeal.τ).loc Cert.Lora0RefIdeal.main_v4) = v0 c
          ∧ r.2.mem ((c.tc : Thread Cert.Lora0RefIdeal.nD Cert.Lora0RefIdeal.τ).loc Cert.Lora0RefIdeal.main_arg0) = m' ((c.tc : Thread Cert.Lora0RefIdeal.nD Cert.Lora0RefIdeal.τ).loc Cert.Lora0RefIdeal.main_arg0)
          ∧ r.2.mem ((c.tc : Thread Cert.Lora0RefIdeal.nD Cert.Lora0RefIdeal.τ).loc Cert.Lora0RefIdeal.main_arg1) = m' ((c.tc : Thread Cert.Lora0RefIdeal.nD Cert.Lora0RefIdeal.τ).loc Cert.Lora0RefIdeal.main_arg1))

def preserves_Down0_Down0Ideal : Prop :=
  True

def algebraic_Down0Ideal_Down0RefIdeal [hDown0Ideal : Cert.Down0Ideal.Facts] [hDown0RefIdeal : Cert.Down0RefIdeal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.Down0RefIdeal.nD Cert.Down0RefIdeal.τ Cert.Down0RefIdeal.sig) → Buf (Elt Ideal) ℓ) (g' : Dev Cert.Down0RefIdeal.nD → PrngReg), Pre_Down0Ideal m →
    (∀ c : Dev Cert.Down0Ideal.nD,
      m' ((c.tc : Thread Cert.Down0RefIdeal.nD Cert.Down0RefIdeal.τ).loc Cert.Down0RefIdeal.main_arg0) = m ((c.tc : Thread Cert.Down0Ideal.nD Cert.Down0Ideal.τ).loc Cert.Down0Ideal.main_arg0)
      ∧ m' ((c.tc : Thread Cert.Down0RefIdeal.nD Cert.Down0RefIdeal.τ).loc Cert.Down0RefIdeal.main_arg1) = m ((c.tc : Thread Cert.Down0Ideal.nD Cert.Down0Ideal.τ).loc Cert.Down0Ideal.main_arg1)
      ∧ m' ((c.tc : Thread Cert.Down0RefIdeal.nD Cert.Down0RefIdeal.τ).loc Cert.Down0RefIdeal.main_arg2) = m ((c.tc : Thread Cert.Down0Ideal.nD Cert.Down0Ideal.τ).loc Cert.Down0Ideal.main_arg2)
      ∧ m' ((c.tc : Thread Cert.Down0RefIdeal.nD Cert.Down0RefIdeal.τ).loc Cert.Down0RefIdeal.main_arg3) = m ((c.tc : Thread Cert.Down0Ideal.nD Cert.Down0Ideal.τ).loc Cert.Down0Ideal.main_arg3)) →
    ∃ (v0 : (c : Dev Cert.Down0Ideal.nD) → Buf (Elt Ideal) ((c.tc : Thread Cert.Down0Ideal.nD Cert.Down0Ideal.τ).loc Cert.Down0Ideal.main_v0)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v0) = v0 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
          ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
          ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ θ_run (Cert.Down0RefIdeal.defs (F := Ideal)) (onTc (τ := Cert.Down0RefIdeal.τ) (Cert.Down0RefIdeal.main (F := Ideal))) ⟨m', fun _ => 0, g'⟩ (fun r => ∀ c : Dev Cert.Down0RefIdeal.nD,
          r.2.mem ((c.tc : Thread Cert.Down0RefIdeal.nD Cert.Down0RefIdeal.τ).loc Cert.Down0RefIdeal.main_v21) = v0 c
          ∧ r.2.mem ((c.tc : Thread Cert.Down0RefIdeal.nD Cert.Down0RefIdeal.τ).loc Cert.Down0RefIdeal.main_arg0) = m' ((c.tc : Thread Cert.Down0RefIdeal.nD Cert.Down0RefIdeal.τ).loc Cert.Down0RefIdeal.main_arg0)
          ∧ r.2.mem ((c.tc : Thread Cert.Down0RefIdeal.nD Cert.Down0RefIdeal.τ).loc Cert.Down0RefIdeal.main_arg1) = m' ((c.tc : Thread Cert.Down0RefIdeal.nD Cert.Down0RefIdeal.τ).loc Cert.Down0RefIdeal.main_arg1)
          ∧ r.2.mem ((c.tc : Thread Cert.Down0RefIdeal.nD Cert.Down0RefIdeal.τ).loc Cert.Down0RefIdeal.main_arg2) = m' ((c.tc : Thread Cert.Down0RefIdeal.nD Cert.Down0RefIdeal.τ).loc Cert.Down0RefIdeal.main_arg2)
          ∧ r.2.mem ((c.tc : Thread Cert.Down0RefIdeal.nD Cert.Down0RefIdeal.τ).loc Cert.Down0RefIdeal.main_arg3) = m' ((c.tc : Thread Cert.Down0RefIdeal.nD Cert.Down0RefIdeal.τ).loc Cert.Down0RefIdeal.main_arg3))

def preserves_Out0_Out0Ideal : Prop :=
  True

def algebraic_Out0Ideal_Out0RefIdeal [hOut0Ideal : Cert.Out0Ideal.Facts] [hOut0RefIdeal : Cert.Out0RefIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0RefIdeal.nD Cert.Out0RefIdeal.τ Cert.Out0RefIdeal.sig) → Buf (Elt Ideal) ℓ) (g' : Dev Cert.Out0RefIdeal.nD → PrngReg), Pre_Out0Ideal m →
    (∀ c : Dev Cert.Out0Ideal.nD,
      m' ((c.tc : Thread Cert.Out0RefIdeal.nD Cert.Out0RefIdeal.τ).loc Cert.Out0RefIdeal.main_arg0) = m ((c.tc : Thread Cert.Out0Ideal.nD Cert.Out0Ideal.τ).loc Cert.Out0Ideal.main_arg0)
      ∧ m' ((c.tc : Thread Cert.Out0RefIdeal.nD Cert.Out0RefIdeal.τ).loc Cert.Out0RefIdeal.main_arg1) = m ((c.tc : Thread Cert.Out0Ideal.nD Cert.Out0Ideal.τ).loc Cert.Out0Ideal.main_arg1)
      ∧ m' ((c.tc : Thread Cert.Out0RefIdeal.nD Cert.Out0RefIdeal.τ).loc Cert.Out0RefIdeal.main_arg2) = m ((c.tc : Thread Cert.Out0Ideal.nD Cert.Out0Ideal.τ).loc Cert.Out0Ideal.main_arg2)
      ∧ m' ((c.tc : Thread Cert.Out0RefIdeal.nD Cert.Out0RefIdeal.τ).loc Cert.Out0RefIdeal.main_arg3) = m ((c.tc : Thread Cert.Out0Ideal.nD Cert.Out0Ideal.τ).loc Cert.Out0Ideal.main_arg3)) →
    ∃ (v0 : (c : Dev Cert.Out0Ideal.nD) → Buf (Elt Ideal) ((c.tc : Thread Cert.Out0Ideal.nD Cert.Out0Ideal.τ).loc Cert.Out0Ideal.main_v0)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v0) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3))
      ∧ θ_run (Cert.Out0RefIdeal.defs (F := Ideal)) (onTc (τ := Cert.Out0RefIdeal.τ) (Cert.Out0RefIdeal.main (F := Ideal))) ⟨m', fun _ => 0, g'⟩ (fun r => ∀ c : Dev Cert.Out0RefIdeal.nD,
          r.2.mem ((c.tc : Thread Cert.Out0RefIdeal.nD Cert.Out0RefIdeal.τ).loc Cert.Out0RefIdeal.main_v21) = v0 c
          ∧ r.2.mem ((c.tc : Thread Cert.Out0RefIdeal.nD Cert.Out0RefIdeal.τ).loc Cert.Out0RefIdeal.main_arg0) = m' ((c.tc : Thread Cert.Out0RefIdeal.nD Cert.Out0RefIdeal.τ).loc Cert.Out0RefIdeal.main_arg0)
          ∧ r.2.mem ((c.tc : Thread Cert.Out0RefIdeal.nD Cert.Out0RefIdeal.τ).loc Cert.Out0RefIdeal.main_arg1) = m' ((c.tc : Thread Cert.Out0RefIdeal.nD Cert.Out0RefIdeal.τ).loc Cert.Out0RefIdeal.main_arg1)
          ∧ r.2.mem ((c.tc : Thread Cert.Out0RefIdeal.nD Cert.Out0RefIdeal.τ).loc Cert.Out0RefIdeal.main_arg2) = m' ((c.tc : Thread Cert.Out0RefIdeal.nD Cert.Out0RefIdeal.τ).loc Cert.Out0RefIdeal.main_arg2)
          ∧ r.2.mem ((c.tc : Thread Cert.Out0RefIdeal.nD Cert.Out0RefIdeal.τ).loc Cert.Out0RefIdeal.main_arg3) = m' ((c.tc : Thread Cert.Out0RefIdeal.nD Cert.Out0RefIdeal.τ).loc Cert.Out0RefIdeal.main_arg3))

def preserves_Merge0_Merge0Ideal : Prop :=
  True

def algebraic_Merge0Ideal_Merge0RefIdeal [hMerge0Ideal : Cert.Merge0Ideal.Facts] [hMerge0RefIdeal : Cert.Merge0RefIdeal.Facts] : Prop :=
  ∀ (m : (ℓ : Loc Cert.Merge0Ideal.nD Cert.Merge0Ideal.τ Cert.Merge0Ideal.sig) → Buf (Elt Ideal) ℓ) (g : Dev Cert.Merge0Ideal.nD → PrngReg)
    (m' : (ℓ : Loc Cert.Merge0RefIdeal.nD Cert.Merge0RefIdeal.τ Cert.Merge0RefIdeal.sig) → Buf (Elt Ideal) ℓ) (g' : Dev Cert.Merge0RefIdeal.nD → PrngReg), Pre_Merge0Ideal m →
    (∀ c : Dev Cert.Merge0Ideal.nD,
      m' ((c.tc : Thread Cert.Merge0RefIdeal.nD Cert.Merge0RefIdeal.τ).loc Cert.Merge0RefIdeal.main_arg0) = m ((c.tc : Thread Cert.Merge0Ideal.nD Cert.Merge0Ideal.τ).loc Cert.Merge0Ideal.main_arg0)
      ∧ m' ((c.tc : Thread Cert.Merge0RefIdeal.nD Cert.Merge0RefIdeal.τ).loc Cert.Merge0RefIdeal.main_arg1) = m ((c.tc : Thread Cert.Merge0Ideal.nD Cert.Merge0Ideal.τ).loc Cert.Merge0Ideal.main_arg1)
      ∧ m' ((c.tc : Thread Cert.Merge0RefIdeal.nD Cert.Merge0RefIdeal.τ).loc Cert.Merge0RefIdeal.main_arg2) = m ((c.tc : Thread Cert.Merge0Ideal.nD Cert.Merge0Ideal.τ).loc Cert.Merge0Ideal.main_arg2)
      ∧ m' ((c.tc : Thread Cert.Merge0RefIdeal.nD Cert.Merge0RefIdeal.τ).loc Cert.Merge0RefIdeal.main_arg3) = m ((c.tc : Thread Cert.Merge0Ideal.nD Cert.Merge0Ideal.τ).loc Cert.Merge0Ideal.main_arg3)
      ∧ m' ((c.tc : Thread Cert.Merge0RefIdeal.nD Cert.Merge0RefIdeal.τ).loc Cert.Merge0RefIdeal.main_arg4) = m ((c.tc : Thread Cert.Merge0Ideal.nD Cert.Merge0Ideal.τ).loc Cert.Merge0Ideal.main_arg4)
      ∧ m' ((c.tc : Thread Cert.Merge0RefIdeal.nD Cert.Merge0RefIdeal.τ).loc Cert.Merge0RefIdeal.main_arg5) = m ((c.tc : Thread Cert.Merge0Ideal.nD Cert.Merge0Ideal.τ).loc Cert.Merge0Ideal.main_arg5)
      ∧ m' ((c.tc : Thread Cert.Merge0RefIdeal.nD Cert.Merge0RefIdeal.τ).loc Cert.Merge0RefIdeal.main_arg6) = m ((c.tc : Thread Cert.Merge0Ideal.nD Cert.Merge0Ideal.τ).loc Cert.Merge0Ideal.main_arg6)) →
    ∃ (v0 : (c : Dev Cert.Merge0Ideal.nD) → Buf (Elt Ideal) ((c.tc : Thread Cert.Merge0Ideal.nD Cert.Merge0Ideal.τ).loc Cert.Merge0Ideal.main_v0)),
      θ_run (Cert.Merge0Ideal.defs (F := Ideal)) (onTc (τ := Cert.Merge0Ideal.τ) (Cert.Merge0Ideal.main (F := Ideal))) ⟨m, fun _ => 0, g⟩ (fun r => ∀ c : Dev Cert.Merge0Ideal.nD,
          r.2.mem ((c.tc : Thread Cert.Merge0Ideal.nD Cert.Merge0Ideal.τ).loc Cert.Merge0Ideal.main_v0) = v0 c
          ∧ r.2.mem ((c.tc : Thread Cert.Merge0Ideal.nD Cert.Merge0Ideal.τ).loc Cert.Merge0Ideal.main_arg0) = m ((c.tc : Thread Cert.Merge0Ideal.nD Cert.Merge0Ideal.τ).loc Cert.Merge0Ideal.main_arg0)
          ∧ r.2.mem ((c.tc : Thread Cert.Merge0Ideal.nD Cert.Merge0Ideal.τ).loc Cert.Merge0Ideal.main_arg1) = m ((c.tc : Thread Cert.Merge0Ideal.nD Cert.Merge0Ideal.τ).loc Cert.Merge0Ideal.main_arg1)
          ∧ r.2.mem ((c.tc : Thread Cert.Merge0Ideal.nD Cert.Merge0Ideal.τ).loc Cert.Merge0Ideal.main_arg2) = m ((c.tc : Thread Cert.Merge0Ideal.nD Cert.Merge0Ideal.τ).loc Cert.Merge0Ideal.main_arg2)
          ∧ r.2.mem ((c.tc : Thread Cert.Merge0Ideal.nD Cert.Merge0Ideal.τ).loc Cert.Merge0Ideal.main_arg3) = m ((c.tc : Thread Cert.Merge0Ideal.nD Cert.Merge0Ideal.τ).loc Cert.Merge0Ideal.main_arg3)
          ∧ r.2.mem ((c.tc : Thread Cert.Merge0Ideal.nD Cert.Merge0Ideal.τ).loc Cert.Merge0Ideal.main_arg4) = m ((c.tc : Thread Cert.Merge0Ideal.nD Cert.Merge0Ideal.τ).loc Cert.Merge0Ideal.main_arg4)
          ∧ r.2.mem ((c.tc : Thread Cert.Merge0Ideal.nD Cert.Merge0Ideal.τ).loc Cert.Merge0Ideal.main_arg5) = m ((c.tc : Thread Cert.Merge0Ideal.nD Cert.Merge0Ideal.τ).loc Cert.Merge0Ideal.main_arg5)
          ∧ r.2.mem ((c.tc : Thread Cert.Merge0Ideal.nD Cert.Merge0Ideal.τ).loc Cert.Merge0Ideal.main_arg6) = m ((c.tc : Thread Cert.Merge0Ideal.nD Cert.Merge0Ideal.τ).loc Cert.Merge0Ideal.main_arg6))
      ∧ θ_run (Cert.Merge0RefIdeal.defs (F := Ideal)) (onTc (τ := Cert.Merge0RefIdeal.τ) (Cert.Merge0RefIdeal.main (F := Ideal))) ⟨m', fun _ => 0, g'⟩ (fun r => ∀ c : Dev Cert.Merge0RefIdeal.nD,
          r.2.mem ((c.tc : Thread Cert.Merge0RefIdeal.nD Cert.Merge0RefIdeal.τ).loc Cert.Merge0RefIdeal.main_v24) = v0 c
          ∧ r.2.mem ((c.tc : Thread Cert.Merge0RefIdeal.nD Cert.Merge0RefIdeal.τ).loc Cert.Merge0RefIdeal.main_arg0) = m' ((c.tc : Thread Cert.Merge0RefIdeal.nD Cert.Merge0RefIdeal.τ).loc Cert.Merge0RefIdeal.main_arg0)
          ∧ r.2.mem ((c.tc : Thread Cert.Merge0RefIdeal.nD Cert.Merge0RefIdeal.τ).loc Cert.Merge0RefIdeal.main_arg1) = m' ((c.tc : Thread Cert.Merge0RefIdeal.nD Cert.Merge0RefIdeal.τ).loc Cert.Merge0RefIdeal.main_arg1)
          ∧ r.2.mem ((c.tc : Thread Cert.Merge0RefIdeal.nD Cert.Merge0RefIdeal.τ).loc Cert.Merge0RefIdeal.main_arg2) = m' ((c.tc : Thread Cert.Merge0RefIdeal.nD Cert.Merge0RefIdeal.τ).loc Cert.Merge0RefIdeal.main_arg2)
          ∧ r.2.mem ((c.tc : Thread Cert.Merge0RefIdeal.nD Cert.Merge0RefIdeal.τ).loc Cert.Merge0RefIdeal.main_arg3) = m' ((c.tc : Thread Cert.Merge0RefIdeal.nD Cert.Merge0RefIdeal.τ).loc Cert.Merge0RefIdeal.main_arg3)
          ∧ r.2.mem ((c.tc : Thread Cert.Merge0RefIdeal.nD Cert.Merge0RefIdeal.τ).loc Cert.Merge0RefIdeal.main_arg4) = m' ((c.tc : Thread Cert.Merge0RefIdeal.nD Cert.Merge0RefIdeal.τ).loc Cert.Merge0RefIdeal.main_arg4)
          ∧ r.2.mem ((c.tc : Thread Cert.Merge0RefIdeal.nD Cert.Merge0RefIdeal.τ).loc Cert.Merge0RefIdeal.main_arg5) = m' ((c.tc : Thread Cert.Merge0RefIdeal.nD Cert.Merge0RefIdeal.τ).loc Cert.Merge0RefIdeal.main_arg5)
          ∧ r.2.mem ((c.tc : Thread Cert.Merge0RefIdeal.nD Cert.Merge0RefIdeal.τ).loc Cert.Merge0RefIdeal.main_arg6) = m' ((c.tc : Thread Cert.Merge0RefIdeal.nD Cert.Merge0RefIdeal.τ).loc Cert.Merge0RefIdeal.main_arg6))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v23) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Modall_ModallIdeal : Prop :=
  True

def algebraic_ModallIdeal_ModallRefIdeal [hModallIdeal : Cert.ModallIdeal.Facts] [hModallRefIdeal : Cert.ModallRefIdeal.Facts] : Prop :=
  ∀ (m : (ℓ : Loc Cert.ModallIdeal.nD Cert.ModallIdeal.τ Cert.ModallIdeal.sig) → Buf (Elt Ideal) ℓ) (g : Dev Cert.ModallIdeal.nD → PrngReg)
    (m' : (ℓ : Loc Cert.ModallRefIdeal.nD Cert.ModallRefIdeal.τ Cert.ModallRefIdeal.sig) → Buf (Elt Ideal) ℓ) (g' : Dev Cert.ModallRefIdeal.nD → PrngReg), Pre_ModallIdeal m →
    (∀ c : Dev Cert.ModallIdeal.nD,
      m' ((c.tc : Thread Cert.ModallRefIdeal.nD Cert.ModallRefIdeal.τ).loc Cert.ModallRefIdeal.main_arg0) = m ((c.tc : Thread Cert.ModallIdeal.nD Cert.ModallIdeal.τ).loc Cert.ModallIdeal.main_arg0)
      ∧ m' ((c.tc : Thread Cert.ModallRefIdeal.nD Cert.ModallRefIdeal.τ).loc Cert.ModallRefIdeal.main_arg1) = m ((c.tc : Thread Cert.ModallIdeal.nD Cert.ModallIdeal.τ).loc Cert.ModallIdeal.main_arg1)
      ∧ m' ((c.tc : Thread Cert.ModallRefIdeal.nD Cert.ModallRefIdeal.τ).loc Cert.ModallRefIdeal.main_arg2) = m ((c.tc : Thread Cert.ModallIdeal.nD Cert.ModallIdeal.τ).loc Cert.ModallIdeal.main_arg2)
      ∧ m' ((c.tc : Thread Cert.ModallRefIdeal.nD Cert.ModallRefIdeal.τ).loc Cert.ModallRefIdeal.main_arg3) = m ((c.tc : Thread Cert.ModallIdeal.nD Cert.ModallIdeal.τ).loc Cert.ModallIdeal.main_arg3)) →
    ∃ (v0 : (c : Dev Cert.ModallIdeal.nD) → Buf (Elt Ideal) ((c.tc : Thread Cert.ModallIdeal.nD Cert.ModallIdeal.τ).loc Cert.ModallIdeal.main_v1)),
      θ_run (Cert.ModallIdeal.defs (F := Ideal)) (onTc (τ := Cert.ModallIdeal.τ) (Cert.ModallIdeal.main (F := Ideal))) ⟨m, fun _ => 0, g⟩ (fun r => ∀ c : Dev Cert.ModallIdeal.nD,
          r.2.mem ((c.tc : Thread Cert.ModallIdeal.nD Cert.ModallIdeal.τ).loc Cert.ModallIdeal.main_v1) = v0 c
          ∧ r.2.mem ((c.tc : Thread Cert.ModallIdeal.nD Cert.ModallIdeal.τ).loc Cert.ModallIdeal.main_arg0) = m ((c.tc : Thread Cert.ModallIdeal.nD Cert.ModallIdeal.τ).loc Cert.ModallIdeal.main_arg0)
          ∧ r.2.mem ((c.tc : Thread Cert.ModallIdeal.nD Cert.ModallIdeal.τ).loc Cert.ModallIdeal.main_arg1) = m ((c.tc : Thread Cert.ModallIdeal.nD Cert.ModallIdeal.τ).loc Cert.ModallIdeal.main_arg1)
          ∧ r.2.mem ((c.tc : Thread Cert.ModallIdeal.nD Cert.ModallIdeal.τ).loc Cert.ModallIdeal.main_arg2) = m ((c.tc : Thread Cert.ModallIdeal.nD Cert.ModallIdeal.τ).loc Cert.ModallIdeal.main_arg2)
          ∧ r.2.mem ((c.tc : Thread Cert.ModallIdeal.nD Cert.ModallIdeal.τ).loc Cert.ModallIdeal.main_arg3) = m ((c.tc : Thread Cert.ModallIdeal.nD Cert.ModallIdeal.τ).loc Cert.ModallIdeal.main_arg3))
      ∧ θ_run (Cert.ModallRefIdeal.defs (F := Ideal)) (onTc (τ := Cert.ModallRefIdeal.τ) (Cert.ModallRefIdeal.main (F := Ideal))) ⟨m', fun _ => 0, g'⟩ (fun r => ∀ c : Dev Cert.ModallRefIdeal.nD,
          r.2.mem ((c.tc : Thread Cert.ModallRefIdeal.nD Cert.ModallRefIdeal.τ).loc Cert.ModallRefIdeal.main_v36) = v0 c
          ∧ r.2.mem ((c.tc : Thread Cert.ModallRefIdeal.nD Cert.ModallRefIdeal.τ).loc Cert.ModallRefIdeal.main_arg0) = m' ((c.tc : Thread Cert.ModallRefIdeal.nD Cert.ModallRefIdeal.τ).loc Cert.ModallRefIdeal.main_arg0)
          ∧ r.2.mem ((c.tc : Thread Cert.ModallRefIdeal.nD Cert.ModallRefIdeal.τ).loc Cert.ModallRefIdeal.main_arg1) = m' ((c.tc : Thread Cert.ModallRefIdeal.nD Cert.ModallRefIdeal.τ).loc Cert.ModallRefIdeal.main_arg1)
          ∧ r.2.mem ((c.tc : Thread Cert.ModallRefIdeal.nD Cert.ModallRefIdeal.τ).loc Cert.ModallRefIdeal.main_arg2) = m' ((c.tc : Thread Cert.ModallRefIdeal.nD Cert.ModallRefIdeal.τ).loc Cert.ModallRefIdeal.main_arg2)
          ∧ r.2.mem ((c.tc : Thread Cert.ModallRefIdeal.nD Cert.ModallRefIdeal.τ).loc Cert.ModallRefIdeal.main_arg3) = m' ((c.tc : Thread Cert.ModallRefIdeal.nD Cert.ModallRefIdeal.τ).loc Cert.ModallRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v28) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v32) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Conv0_Conv0Ideal : Prop :=
  True

def algebraic_Conv0Ideal_Conv0RefIdeal [hConv0Ideal : Cert.Conv0Ideal.Facts] [hConv0RefIdeal : Cert.Conv0RefIdeal.Facts] : Prop :=
  ∀ (m : (ℓ : Loc Cert.Conv0Ideal.nD Cert.Conv0Ideal.τ Cert.Conv0Ideal.sig) → Buf (Elt Ideal) ℓ) (g : Dev Cert.Conv0Ideal.nD → PrngReg)
    (m' : (ℓ : Loc Cert.Conv0RefIdeal.nD Cert.Conv0RefIdeal.τ Cert.Conv0RefIdeal.sig) → Buf (Elt Ideal) ℓ) (g' : Dev Cert.Conv0RefIdeal.nD → PrngReg), Pre_Conv0Ideal m →
    (∀ c : Dev Cert.Conv0Ideal.nD,
      m' ((c.tc : Thread Cert.Conv0RefIdeal.nD Cert.Conv0RefIdeal.τ).loc Cert.Conv0RefIdeal.main_arg0) = m ((c.tc : Thread Cert.Conv0Ideal.nD Cert.Conv0Ideal.τ).loc Cert.Conv0Ideal.main_arg0)
      ∧ m' ((c.tc : Thread Cert.Conv0RefIdeal.nD Cert.Conv0RefIdeal.τ).loc Cert.Conv0RefIdeal.main_arg1) = m ((c.tc : Thread Cert.Conv0Ideal.nD Cert.Conv0Ideal.τ).loc Cert.Conv0Ideal.main_arg1)) →
    ∃ (v0 : (c : Dev Cert.Conv0Ideal.nD) → Buf (Elt Ideal) ((c.tc : Thread Cert.Conv0Ideal.nD Cert.Conv0Ideal.τ).loc Cert.Conv0Ideal.main_v0)),
      θ_run (Cert.Conv0Ideal.defs (F := Ideal)) (onTc (τ := Cert.Conv0Ideal.τ) (Cert.Conv0Ideal.main (F := Ideal))) ⟨m, fun _ => 0, g⟩ (fun r => ∀ c : Dev Cert.Conv0Ideal.nD,
          r.2.mem ((c.tc : Thread Cert.Conv0Ideal.nD Cert.Conv0Ideal.τ).loc Cert.Conv0Ideal.main_v0) = v0 c
          ∧ r.2.mem ((c.tc : Thread Cert.Conv0Ideal.nD Cert.Conv0Ideal.τ).loc Cert.Conv0Ideal.main_arg0) = m ((c.tc : Thread Cert.Conv0Ideal.nD Cert.Conv0Ideal.τ).loc Cert.Conv0Ideal.main_arg0)
          ∧ r.2.mem ((c.tc : Thread Cert.Conv0Ideal.nD Cert.Conv0Ideal.τ).loc Cert.Conv0Ideal.main_arg1) = m ((c.tc : Thread Cert.Conv0Ideal.nD Cert.Conv0Ideal.τ).loc Cert.Conv0Ideal.main_arg1))
      ∧ θ_run (Cert.Conv0RefIdeal.defs (F := Ideal)) (onTc (τ := Cert.Conv0RefIdeal.τ) (Cert.Conv0RefIdeal.main (F := Ideal))) ⟨m', fun _ => 0, g'⟩ (fun r => ∀ c : Dev Cert.Conv0RefIdeal.nD,
          r.2.mem ((c.tc : Thread Cert.Conv0RefIdeal.nD Cert.Conv0RefIdeal.τ).loc Cert.Conv0RefIdeal.main_v51) = v0 c
          ∧ r.2.mem ((c.tc : Thread Cert.Conv0RefIdeal.nD Cert.Conv0RefIdeal.τ).loc Cert.Conv0RefIdeal.main_arg0) = m' ((c.tc : Thread Cert.Conv0RefIdeal.nD Cert.Conv0RefIdeal.τ).loc Cert.Conv0RefIdeal.main_arg0)
          ∧ r.2.mem ((c.tc : Thread Cert.Conv0RefIdeal.nD Cert.Conv0RefIdeal.τ).loc Cert.Conv0RefIdeal.main_arg1) = m' ((c.tc : Thread Cert.Conv0RefIdeal.nD Cert.Conv0RefIdeal.τ).loc Cert.Conv0RefIdeal.main_arg1))

def preserves_Act0_Act0Ideal : Prop :=
  True

def algebraic_Act0Ideal_Act0RefIdeal [hAct0Ideal : Cert.Act0Ideal.Facts] [hAct0RefIdeal : Cert.Act0RefIdeal.Facts] : Prop :=
  ∀ (m : (ℓ : Loc Cert.Act0Ideal.nD Cert.Act0Ideal.τ Cert.Act0Ideal.sig) → Buf (Elt Ideal) ℓ) (g : Dev Cert.Act0Ideal.nD → PrngReg)
    (m' : (ℓ : Loc Cert.Act0RefIdeal.nD Cert.Act0RefIdeal.τ Cert.Act0RefIdeal.sig) → Buf (Elt Ideal) ℓ) (g' : Dev Cert.Act0RefIdeal.nD → PrngReg), Pre_Act0Ideal m →
    (∀ c : Dev Cert.Act0Ideal.nD,
      m' ((c.tc : Thread Cert.Act0RefIdeal.nD Cert.Act0RefIdeal.τ).loc Cert.Act0RefIdeal.main_arg0) = m ((c.tc : Thread Cert.Act0Ideal.nD Cert.Act0Ideal.τ).loc Cert.Act0Ideal.main_arg0)
      ∧ m' ((c.tc : Thread Cert.Act0RefIdeal.nD Cert.Act0RefIdeal.τ).loc Cert.Act0RefIdeal.main_arg1) = m ((c.tc : Thread Cert.Act0Ideal.nD Cert.Act0Ideal.τ).loc Cert.Act0Ideal.main_arg1)
      ∧ m' ((c.tc : Thread Cert.Act0RefIdeal.nD Cert.Act0RefIdeal.τ).loc Cert.Act0RefIdeal.main_arg2) = m ((c.tc : Thread Cert.Act0Ideal.nD Cert.Act0Ideal.τ).loc Cert.Act0Ideal.main_arg2)) →
    ∃ (v0 : (c : Dev Cert.Act0Ideal.nD) → Buf (Elt Ideal) ((c.tc : Thread Cert.Act0Ideal.nD Cert.Act0Ideal.τ).loc Cert.Act0Ideal.main_v0)),
      θ_run (Cert.Act0Ideal.defs (F := Ideal)) (onTc (τ := Cert.Act0Ideal.τ) (Cert.Act0Ideal.main (F := Ideal))) ⟨m, fun _ => 0, g⟩ (fun r => ∀ c : Dev Cert.Act0Ideal.nD,
          r.2.mem ((c.tc : Thread Cert.Act0Ideal.nD Cert.Act0Ideal.τ).loc Cert.Act0Ideal.main_v0) = v0 c
          ∧ r.2.mem ((c.tc : Thread Cert.Act0Ideal.nD Cert.Act0Ideal.τ).loc Cert.Act0Ideal.main_arg0) = m ((c.tc : Thread Cert.Act0Ideal.nD Cert.Act0Ideal.τ).loc Cert.Act0Ideal.main_arg0)
          ∧ r.2.mem ((c.tc : Thread Cert.Act0Ideal.nD Cert.Act0Ideal.τ).loc Cert.Act0Ideal.main_arg1) = m ((c.tc : Thread Cert.Act0Ideal.nD Cert.Act0Ideal.τ).loc Cert.Act0Ideal.main_arg1)
          ∧ r.2.mem ((c.tc : Thread Cert.Act0Ideal.nD Cert.Act0Ideal.τ).loc Cert.Act0Ideal.main_arg2) = m ((c.tc : Thread Cert.Act0Ideal.nD Cert.Act0Ideal.τ).loc Cert.Act0Ideal.main_arg2))
      ∧ θ_run (Cert.Act0RefIdeal.defs (F := Ideal)) (onTc (τ := Cert.Act0RefIdeal.τ) (Cert.Act0RefIdeal.main (F := Ideal))) ⟨m', fun _ => 0, g'⟩ (fun r => ∀ c : Dev Cert.Act0RefIdeal.nD,
          r.2.mem ((c.tc : Thread Cert.Act0RefIdeal.nD Cert.Act0RefIdeal.τ).loc Cert.Act0RefIdeal.main_v56) = v0 c
          ∧ r.2.mem ((c.tc : Thread Cert.Act0RefIdeal.nD Cert.Act0RefIdeal.τ).loc Cert.Act0RefIdeal.main_arg0) = m' ((c.tc : Thread Cert.Act0RefIdeal.nD Cert.Act0RefIdeal.τ).loc Cert.Act0RefIdeal.main_arg0)
          ∧ r.2.mem ((c.tc : Thread Cert.Act0RefIdeal.nD Cert.Act0RefIdeal.τ).loc Cert.Act0RefIdeal.main_arg1) = m' ((c.tc : Thread Cert.Act0RefIdeal.nD Cert.Act0RefIdeal.τ).loc Cert.Act0RefIdeal.main_arg1)
          ∧ r.2.mem ((c.tc : Thread Cert.Act0RefIdeal.nD Cert.Act0RefIdeal.τ).loc Cert.Act0RefIdeal.main_arg2) = m' ((c.tc : Thread Cert.Act0RefIdeal.nD Cert.Act0RefIdeal.τ).loc Cert.Act0RefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v19) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v15) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Qkvc_QkvcIdeal : Prop :=
  True

def algebraic_QkvcIdeal_QkvcRefIdeal [hQkvcIdeal : Cert.QkvcIdeal.Facts] [hQkvcRefIdeal : Cert.QkvcRefIdeal.Facts] : Prop :=
  ∀ (m : (ℓ : Loc Cert.QkvcIdeal.nD Cert.QkvcIdeal.τ Cert.QkvcIdeal.sig) → Buf (Elt Ideal) ℓ) (g : Dev Cert.QkvcIdeal.nD → PrngReg)
    (m' : (ℓ : Loc Cert.QkvcRefIdeal.nD Cert.QkvcRefIdeal.τ Cert.QkvcRefIdeal.sig) → Buf (Elt Ideal) ℓ) (g' : Dev Cert.QkvcRefIdeal.nD → PrngReg), Pre_QkvcIdeal m →
    (∀ c : Dev Cert.QkvcIdeal.nD,
      m' ((c.tc : Thread Cert.QkvcRefIdeal.nD Cert.QkvcRefIdeal.τ).loc Cert.QkvcRefIdeal.main_arg0) = m ((c.tc : Thread Cert.QkvcIdeal.nD Cert.QkvcIdeal.τ).loc Cert.QkvcIdeal.main_arg0)
      ∧ m' ((c.tc : Thread Cert.QkvcRefIdeal.nD Cert.QkvcRefIdeal.τ).loc Cert.QkvcRefIdeal.main_arg1) = m ((c.tc : Thread Cert.QkvcIdeal.nD Cert.QkvcIdeal.τ).loc Cert.QkvcIdeal.main_arg1)) →
    ∃ (v0 : (c : Dev Cert.QkvcIdeal.nD) → Buf (Elt Ideal) ((c.tc : Thread Cert.QkvcIdeal.nD Cert.QkvcIdeal.τ).loc Cert.QkvcIdeal.main_v0)),
      θ_run (Cert.QkvcIdeal.defs (F := Ideal)) (onTc (τ := Cert.QkvcIdeal.τ) (Cert.QkvcIdeal.main (F := Ideal))) ⟨m, fun _ => 0, g⟩ (fun r => ∀ c : Dev Cert.QkvcIdeal.nD,
          r.2.mem ((c.tc : Thread Cert.QkvcIdeal.nD Cert.QkvcIdeal.τ).loc Cert.QkvcIdeal.main_v0) = v0 c
          ∧ r.2.mem ((c.tc : Thread Cert.QkvcIdeal.nD Cert.QkvcIdeal.τ).loc Cert.QkvcIdeal.main_arg0) = m ((c.tc : Thread Cert.QkvcIdeal.nD Cert.QkvcIdeal.τ).loc Cert.QkvcIdeal.main_arg0)
          ∧ r.2.mem ((c.tc : Thread Cert.QkvcIdeal.nD Cert.QkvcIdeal.τ).loc Cert.QkvcIdeal.main_arg1) = m ((c.tc : Thread Cert.QkvcIdeal.nD Cert.QkvcIdeal.τ).loc Cert.QkvcIdeal.main_arg1))
      ∧ θ_run (Cert.QkvcRefIdeal.defs (F := Ideal)) (onTc (τ := Cert.QkvcRefIdeal.τ) (Cert.QkvcRefIdeal.main (F := Ideal))) ⟨m', fun _ => 0, g'⟩ (fun r => ∀ c : Dev Cert.QkvcRefIdeal.nD,
          r.2.mem ((c.tc : Thread Cert.QkvcRefIdeal.nD Cert.QkvcRefIdeal.τ).loc Cert.QkvcRefIdeal.main_v5) = v0 c
          ∧ r.2.mem ((c.tc : Thread Cert.QkvcRefIdeal.nD Cert.QkvcRefIdeal.τ).loc Cert.QkvcRefIdeal.main_arg0) = m' ((c.tc : Thread Cert.QkvcRefIdeal.nD Cert.QkvcRefIdeal.τ).loc Cert.QkvcRefIdeal.main_arg0)
          ∧ r.2.mem ((c.tc : Thread Cert.QkvcRefIdeal.nD Cert.QkvcRefIdeal.τ).loc Cert.QkvcRefIdeal.main_arg1) = m' ((c.tc : Thread Cert.QkvcRefIdeal.nD Cert.QkvcRefIdeal.τ).loc Cert.QkvcRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v10) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v11) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hKernel : Cert.Kernel.Facts) (hKernelIdeal : Cert.KernelIdeal.Facts) (hReferenceIdeal : Cert.ReferenceIdeal.Facts) (hAttc : Cert.Attc.Facts) (hAttcIdeal : Cert.AttcIdeal.Facts) (hAttcRefIdeal : Cert.AttcRefIdeal.Facts) (hRkv : Cert.Rkv.Facts) (hRkvIdeal : Cert.RkvIdeal.Facts) (hRkvRefIdeal : Cert.RkvRefIdeal.Facts) (hLora : Cert.Lora.Facts) (hLoraIdeal : Cert.LoraIdeal.Facts) (hLoraRefIdeal : Cert.LoraRefIdeal.Facts) (hUp0 : Cert.Up0.Facts) (hUp0Ideal : Cert.Up0Ideal.Facts) (hUp0RefIdeal : Cert.Up0RefIdeal.Facts) (hGates0 : Cert.Gates0.Facts) (hGates0Ideal : Cert.Gates0Ideal.Facts) (hGates0RefIdeal : Cert.Gates0RefIdeal.Facts) (hQkvc0 : Cert.Qkvc0.Facts) (hQkvc0Ideal : Cert.Qkvc0Ideal.Facts) (hQkvc0RefIdeal : Cert.Qkvc0RefIdeal.Facts) (hRkv0 : Cert.Rkv0.Facts) (hRkv0Ideal : Cert.Rkv0Ideal.Facts) (hRkv0RefIdeal : Cert.Rkv0RefIdeal.Facts) (hLora0 : Cert.Lora0.Facts) (hLora0Ideal : Cert.Lora0Ideal.Facts) (hLora0RefIdeal : Cert.Lora0RefIdeal.Facts) (hDown0 : Cert.Down0.Facts) (hDown0Ideal : Cert.Down0Ideal.Facts) (hDown0RefIdeal : Cert.Down0RefIdeal.Facts) (hOut0 : Cert.Out0.Facts) (hOut0Ideal : Cert.Out0Ideal.Facts) (hOut0RefIdeal : Cert.Out0RefIdeal.Facts) (hMerge0 : Cert.Merge0.Facts) (hMerge0Ideal : Cert.Merge0Ideal.Facts) (hMerge0RefIdeal : Cert.Merge0RefIdeal.Facts) (hMod : Cert.Mod.Facts) (hModIdeal : Cert.ModIdeal.Facts) (hModRefIdeal : Cert.ModRefIdeal.Facts) (hModall : Cert.Modall.Facts) (hModallIdeal : Cert.ModallIdeal.Facts) (hModallRefIdeal : Cert.ModallRefIdeal.Facts) (hConv : Cert.Conv.Facts) (hConvIdeal : Cert.ConvIdeal.Facts) (hConvRefIdeal : Cert.ConvRefIdeal.Facts) (hAct : Cert.Act.Facts) (hActIdeal : Cert.ActIdeal.Facts) (hActRefIdeal : Cert.ActRefIdeal.Facts) (hConv0 : Cert.Conv0.Facts) (hConv0Ideal : Cert.Conv0Ideal.Facts) (hConv0RefIdeal : Cert.Conv0RefIdeal.Facts) (hAct0 : Cert.Act0.Facts) (hAct0Ideal : Cert.Act0Ideal.Facts) (hAct0RefIdeal : Cert.Act0RefIdeal.Facts) (hAda : Cert.Ada.Facts) (hAdaIdeal : Cert.AdaIdeal.Facts) (hAdaRefIdeal : Cert.AdaRefIdeal.Facts) (hUp : Cert.Up.Facts) (hUpIdeal : Cert.UpIdeal.Facts) (hUpRefIdeal : Cert.UpRefIdeal.Facts) (hGates : Cert.Gates.Facts) (hGatesIdeal : Cert.GatesIdeal.Facts) (hGatesRefIdeal : Cert.GatesRefIdeal.Facts) (hQkvc : Cert.Qkvc.Facts) (hQkvcIdeal : Cert.QkvcIdeal.Facts) (hQkvcRefIdeal : Cert.QkvcRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Attc (hAttc := hAttc)
    ∧ quiescent_AttcIdeal (hAttcIdeal := hAttcIdeal)
    ∧ quiescent_AttcIdeal_pre_finite_qk (hAttcIdeal := hAttcIdeal) (hPre_finite_qk := hPre_finite_qk)
    ∧ quiescent_AttcRefIdeal (hAttcRefIdeal := hAttcRefIdeal)
    ∧ quiescent_AttcRefIdeal_pre_finite_qk (hAttcRefIdeal := hAttcRefIdeal) (hPre_finite_qk := hPre_finite_qk)
    ∧ quiescent_Rkv (hRkv := hRkv)
    ∧ quiescent_RkvIdeal (hRkvIdeal := hRkvIdeal)
    ∧ quiescent_RkvRefIdeal (hRkvRefIdeal := hRkvRefIdeal)
    ∧ quiescent_Lora (hLora := hLora)
    ∧ quiescent_LoraIdeal (hLoraIdeal := hLoraIdeal)
    ∧ quiescent_LoraRefIdeal (hLoraRefIdeal := hLoraRefIdeal)
    ∧ quiescent_Up0 (hUp0 := hUp0)
    ∧ quiescent_Up0Ideal (hUp0Ideal := hUp0Ideal)
    ∧ quiescent_Up0RefIdeal (hUp0RefIdeal := hUp0RefIdeal)
    ∧ quiescent_Gates0 (hGates0 := hGates0)
    ∧ quiescent_Gates0Ideal (hGates0Ideal := hGates0Ideal)
    ∧ quiescent_Gates0RefIdeal (hGates0RefIdeal := hGates0RefIdeal)
    ∧ quiescent_Qkvc0 (hQkvc0 := hQkvc0)
    ∧ quiescent_Qkvc0Ideal (hQkvc0Ideal := hQkvc0Ideal)
    ∧ quiescent_Qkvc0RefIdeal (hQkvc0RefIdeal := hQkvc0RefIdeal)
    ∧ quiescent_Rkv0 (hRkv0 := hRkv0)
    ∧ quiescent_Rkv0Ideal (hRkv0Ideal := hRkv0Ideal)
    ∧ quiescent_Rkv0RefIdeal (hRkv0RefIdeal := hRkv0RefIdeal)
    ∧ quiescent_Lora0 (hLora0 := hLora0)
    ∧ quiescent_Lora0Ideal (hLora0Ideal := hLora0Ideal)
    ∧ quiescent_Lora0RefIdeal (hLora0RefIdeal := hLora0RefIdeal)
    ∧ quiescent_Down0 (hDown0 := hDown0)
    ∧ quiescent_Down0Ideal (hDown0Ideal := hDown0Ideal)
    ∧ quiescent_Down0RefIdeal (hDown0RefIdeal := hDown0RefIdeal)
    ∧ quiescent_Out0 (hOut0 := hOut0)
    ∧ quiescent_Out0Ideal (hOut0Ideal := hOut0Ideal)
    ∧ quiescent_Out0RefIdeal (hOut0RefIdeal := hOut0RefIdeal)
    ∧ quiescent_Merge0 (hMerge0 := hMerge0)
    ∧ quiescent_Merge0Ideal (hMerge0Ideal := hMerge0Ideal)
    ∧ quiescent_Merge0RefIdeal (hMerge0RefIdeal := hMerge0RefIdeal)
    ∧ quiescent_Mod (hMod := hMod)
    ∧ quiescent_ModIdeal (hModIdeal := hModIdeal)
    ∧ quiescent_ModRefIdeal (hModRefIdeal := hModRefIdeal)
    ∧ quiescent_Modall (hModall := hModall)
    ∧ quiescent_ModallIdeal (hModallIdeal := hModallIdeal)
    ∧ quiescent_ModallRefIdeal (hModallRefIdeal := hModallRefIdeal)
    ∧ quiescent_Conv (hConv := hConv)
    ∧ quiescent_ConvIdeal (hConvIdeal := hConvIdeal)
    ∧ quiescent_ConvRefIdeal (hConvRefIdeal := hConvRefIdeal)
    ∧ quiescent_Act (hAct := hAct)
    ∧ quiescent_ActIdeal (hActIdeal := hActIdeal)
    ∧ quiescent_ActRefIdeal (hActRefIdeal := hActRefIdeal)
    ∧ quiescent_Conv0 (hConv0 := hConv0)
    ∧ quiescent_Conv0Ideal (hConv0Ideal := hConv0Ideal)
    ∧ quiescent_Conv0RefIdeal (hConv0RefIdeal := hConv0RefIdeal)
    ∧ quiescent_Act0 (hAct0 := hAct0)
    ∧ quiescent_Act0Ideal (hAct0Ideal := hAct0Ideal)
    ∧ quiescent_Act0RefIdeal (hAct0RefIdeal := hAct0RefIdeal)
    ∧ quiescent_Ada (hAda := hAda)
    ∧ quiescent_AdaIdeal (hAdaIdeal := hAdaIdeal)
    ∧ quiescent_AdaRefIdeal (hAdaRefIdeal := hAdaRefIdeal)
    ∧ quiescent_Up (hUp := hUp)
    ∧ quiescent_UpIdeal (hUpIdeal := hUpIdeal)
    ∧ quiescent_UpRefIdeal (hUpRefIdeal := hUpRefIdeal)
    ∧ quiescent_Gates (hGates := hGates)
    ∧ quiescent_GatesIdeal (hGatesIdeal := hGatesIdeal)
    ∧ quiescent_GatesRefIdeal (hGatesRefIdeal := hGatesRefIdeal)
    ∧ quiescent_Qkvc (hQkvc := hQkvc)
    ∧ quiescent_QkvcIdeal (hQkvcIdeal := hQkvcIdeal)
    ∧ quiescent_QkvcRefIdeal (hQkvcRefIdeal := hQkvcRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Attc_AttcIdeal
    ∧ algebraic_AttcIdeal_AttcRefIdeal_pre_finite_qk (hAttcIdeal := hAttcIdeal) (hAttcRefIdeal := hAttcRefIdeal) (hPre_finite_qk := hPre_finite_qk)
    ∧ preserves_Rkv_RkvIdeal
    ∧ algebraic_RkvIdeal_RkvRefIdeal (hRkvIdeal := hRkvIdeal) (hRkvRefIdeal := hRkvRefIdeal)
    ∧ preserves_Lora_LoraIdeal
    ∧ algebraic_LoraIdeal_LoraRefIdeal (hLoraIdeal := hLoraIdeal) (hLoraRefIdeal := hLoraRefIdeal)
    ∧ preserves_Up0_Up0Ideal
    ∧ algebraic_Up0Ideal_Up0RefIdeal (hUp0Ideal := hUp0Ideal) (hUp0RefIdeal := hUp0RefIdeal)
    ∧ preserves_Gates0_Gates0Ideal
    ∧ algebraic_Gates0Ideal_Gates0RefIdeal (hGates0Ideal := hGates0Ideal) (hGates0RefIdeal := hGates0RefIdeal)
    ∧ preserves_Qkvc0_Qkvc0Ideal
    ∧ algebraic_Qkvc0Ideal_Qkvc0RefIdeal (hQkvc0Ideal := hQkvc0Ideal) (hQkvc0RefIdeal := hQkvc0RefIdeal)
    ∧ preserves_Rkv0_Rkv0Ideal
    ∧ algebraic_Rkv0Ideal_Rkv0RefIdeal (hRkv0Ideal := hRkv0Ideal) (hRkv0RefIdeal := hRkv0RefIdeal)
    ∧ preserves_Lora0_Lora0Ideal
    ∧ algebraic_Lora0Ideal_Lora0RefIdeal (hLora0Ideal := hLora0Ideal) (hLora0RefIdeal := hLora0RefIdeal)
    ∧ preserves_Down0_Down0Ideal
    ∧ algebraic_Down0Ideal_Down0RefIdeal (hDown0Ideal := hDown0Ideal) (hDown0RefIdeal := hDown0RefIdeal)
    ∧ preserves_Out0_Out0Ideal
    ∧ algebraic_Out0Ideal_Out0RefIdeal (hOut0Ideal := hOut0Ideal) (hOut0RefIdeal := hOut0RefIdeal)
    ∧ preserves_Merge0_Merge0Ideal
    ∧ algebraic_Merge0Ideal_Merge0RefIdeal (hMerge0Ideal := hMerge0Ideal) (hMerge0RefIdeal := hMerge0RefIdeal)
    ∧ preserves_Mod_ModIdeal
    ∧ algebraic_ModIdeal_ModRefIdeal (hModIdeal := hModIdeal) (hModRefIdeal := hModRefIdeal)
    ∧ preserves_Modall_ModallIdeal
    ∧ algebraic_ModallIdeal_ModallRefIdeal (hModallIdeal := hModallIdeal) (hModallRefIdeal := hModallRefIdeal)
    ∧ preserves_Conv_ConvIdeal
    ∧ algebraic_ConvIdeal_ConvRefIdeal (hConvIdeal := hConvIdeal) (hConvRefIdeal := hConvRefIdeal)
    ∧ preserves_Act_ActIdeal
    ∧ algebraic_ActIdeal_ActRefIdeal (hActIdeal := hActIdeal) (hActRefIdeal := hActRefIdeal)
    ∧ preserves_Conv0_Conv0Ideal
    ∧ algebraic_Conv0Ideal_Conv0RefIdeal (hConv0Ideal := hConv0Ideal) (hConv0RefIdeal := hConv0RefIdeal)
    ∧ preserves_Act0_Act0Ideal
    ∧ algebraic_Act0Ideal_Act0RefIdeal (hAct0Ideal := hAct0Ideal) (hAct0RefIdeal := hAct0RefIdeal)
    ∧ preserves_Ada_AdaIdeal
    ∧ algebraic_AdaIdeal_AdaRefIdeal (hAdaIdeal := hAdaIdeal) (hAdaRefIdeal := hAdaRefIdeal)
    ∧ preserves_Up_UpIdeal
    ∧ algebraic_UpIdeal_UpRefIdeal (hUpIdeal := hUpIdeal) (hUpRefIdeal := hUpRefIdeal)
    ∧ preserves_Gates_GatesIdeal
    ∧ algebraic_GatesIdeal_GatesRefIdeal (hGatesIdeal := hGatesIdeal) (hGatesRefIdeal := hGatesRefIdeal)
    ∧ preserves_Qkvc_QkvcIdeal
    ∧ algebraic_QkvcIdeal_QkvcRefIdeal (hQkvcIdeal := hQkvcIdeal) (hQkvcRefIdeal := hQkvcRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
-- ==== Pre_finite_qk.lean ====
abbrev S8448x2048 : Shape := ⟨2, ![8448, 2048]⟩
abbrev S8448x512 : Shape := ⟨2, ![8448, 512]⟩
abbrev S8448x6144 : Shape := ⟨2, ![8448, 6144]⟩
abbrev S8448x2560 : Shape := ⟨2, ![8448, 2560]⟩
abbrev S_ : Shape := ⟨0, ![]⟩

class Facts : Prop where
  concatenates_S8448x2048_S8448x512_S8448x2560_d1 : Shape.Concatenates [S8448x2048, S8448x512] S8448x2560 1
  bitsLt_bf16_f32 : FTy.bits .bf16 < FTy.bits .f32
  bcast_S_S8448x2560 : S_.BroadcastsInDim S8448x2560 (![] : Fin 0 → Fin S8448x2560.rank)

variable [Facts]

def fn {F : FTy → Type} [FloatOps F] (main_arg0 : FVec F S8448x2048 .bf16) (main_arg1 : FVec F S8448x512 .bf16) (main_arg2 : FVec F S8448x6144 .bf16) : IVec S8448x2560 1 :=
  let main_v0 : FVec F S8448x2560 .bf16 := (fun a b => concatenate S8448x2560 1 [⟨S8448x2048, a⟩, ⟨S8448x512, b⟩] concatenates_S8448x2048_S8448x512_S8448x2560_d1) main_arg0 main_arg1
  let main_v1 : FVec F S8448x2560 .f32 := (extf .f32 · bitsLt_bf16_f32) main_v0
  let main_cst : FVec F S_ .f32 := constant S_ .f32 0x7F800000#32
  let main_v2 : FVec F S8448x2560 .f32 := broadcastInDim S8448x2560 ![] bcast_S_S8448x2560 main_cst
  let main_v3 : IVec S8448x2560 1 := cmpf .olt main_v1 main_v2
  let main_cst_0 : FVec F S_ .f32 := constant S_ .f32 0xFF800000#32
  let main_v4 : FVec F S8448x2560 .f32 := broadcastInDim S8448x2560 ![] bcast_S_S8448x2560 main_cst_0
  let main_v5 : IVec S8448x2560 1 := cmpf .ogt main_v1 main_v4
  let main_v6 : IVec S8448x2560 1 := andi main_v3 main_v5
  main_v6
-- ==== Kernel.lean ====
abbrev S8448x2048 : Shape := ⟨2, ![8448, 2048]⟩
abbrev S8448x512 : Shape := ⟨2, ![8448, 512]⟩
abbrev S8448x6144 : Shape := ⟨2, ![8448, 6144]⟩
abbrev S8192x2048 : Shape := ⟨2, ![8192, 2048]⟩
abbrev S256x512 : Shape := ⟨2, ![256, 512]⟩
abbrev S8448x128 : Shape := ⟨2, ![8448, 128]⟩
abbrev S256x128 : Shape := ⟨2, ![256, 128]⟩
abbrev S1024x128 : Shape := ⟨2, ![1024, 128]⟩
abbrev S768x128 : Shape := ⟨2, ![768, 128]⟩
abbrev S768x256 : Shape := ⟨2, ![768, 256]⟩
abbrev S1024x768 : Shape := ⟨2, ![1024, 768]⟩
abbrev S1024 : Shape := ⟨1, ![1024]⟩
abbrev S1024x1 : Shape := ⟨2, ![1024, 1]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S8448x512, .bf16⟩
  | .hbm, ⟨2, _⟩ => ⟨S8448x6144, .bf16⟩
  | .hbm, ⟨3, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S256x512, .bf16⟩
  | .local _ .vmem, ⟨7, _⟩ => ⟨S256x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8448x2048 : Shape := ⟨2, ![8448, 2048]⟩
abbrev S8448x512 : Shape := ⟨2, ![8448, 512]⟩
abbrev S8448x6144 : Shape := ⟨2, ![8448, 6144]⟩
abbrev S8192x2048 : Shape := ⟨2, ![8192, 2048]⟩
abbrev S8192x4x4x128 : Shape := ⟨4, ![8192, 4, 4, 128]⟩
abbrev S8448x4x128 : Shape := ⟨3, ![8448, 4, 128]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x512, .bf16⟩
  | .hbm, ⟨2, _⟩ => ⟨S8448x6144, .bf16⟩
  | .hbm, ⟨3, _⟩ => ⟨S8192x2048, .bf16⟩
  | .hbm, ⟨4, _⟩ => ⟨S8192x2048, .f32⟩
  | .hbm, ⟨5, _⟩ => ⟨S8192x4x4x128, .f32⟩
  | .hbm, ⟨6, _⟩ => ⟨S8448x512, .f32⟩
  | .hbm, ⟨7, _⟩ => ⟨S8448x4x128, .f32⟩
  | .hbm, ⟨8, _⟩ => ⟨S8448x512, .bf16⟩
  | .hbm, ⟨9, _⟩ => ⟨S8448x512, .f32⟩
  | .hbm, ⟨10, _⟩ => ⟨S8448x4x128, .f32⟩
  | .hbm, ⟨11, _⟩ => ⟨S4x8448x8192x4, .f32⟩
  | .hbm, ⟨12, _⟩ => ⟨S4x4x8192x8448, .f32⟩
  | .hbm, ⟨13, _⟩ => ⟨S_, .f32⟩
  | .hbm, ⟨14, _⟩ => ⟨S_, .f32⟩
  | .hbm, ⟨15, _⟩ => ⟨S4x4x8192x8448, .f32⟩
  | .hbm, ⟨16, _⟩ => ⟨S4x4x8192x8448, .f32⟩
  | .hbm, ⟨17, _⟩ => ⟨S_, .f32⟩
  | .hbm, ⟨18, _⟩ => ⟨S4x4x8192, .f32⟩
  | .hbm, ⟨19, _⟩ => ⟨S_, .f32⟩
  | .hbm, ⟨20, _⟩ => ⟨S4x4x8192, .f32⟩
  | .hbm, ⟨21, _⟩ => ⟨S4x4x8192, .f32⟩
  | .hbm, ⟨22, _⟩ => ⟨S4x4x8192x1, .f32⟩
  | .hbm, ⟨23, _⟩ => ⟨S4x4x8192x8448, .f32⟩
  | .hbm, ⟨24, _⟩ => ⟨S4x4x8192x8448, .f32⟩
  | .hbm, ⟨25, _⟩ => ⟨S4x4x8192x8448, .f32⟩
  | .hbm, ⟨26, _⟩ => ⟨S_, .f32⟩
  | .hbm, ⟨27, _⟩ => ⟨S4x4x8192, .f32⟩
  | .hbm, ⟨28, _⟩ => ⟨S4x4x8192x1, .f32⟩
  | .hbm, ⟨29, _⟩ => ⟨S4x4x8192x8448, .f32⟩
  | .hbm, ⟨30, _⟩ => ⟨S4x4x8192x8448, .f32⟩
  | .hbm, ⟨31, _⟩ => ⟨S4x128x4x8192, .f32⟩
  | .hbm, ⟨32, _⟩ => ⟨S8192x4x4x128, .f32⟩
  | .hbm, ⟨33, _⟩ => ⟨S8192x2048, .f32⟩
  | .hbm, ⟨34, _⟩ => ⟨S8192x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Attc.lean ====
abbrev S8448x2048 : Shape := ⟨2, ![8448, 2048]⟩
abbrev S8448x512 : Shape := ⟨2, ![8448, 512]⟩
abbrev S8448x6144 : Shape := ⟨2, ![8448, 6144]⟩
abbrev S256x2048 : Shape := ⟨2, ![256, 2048]⟩
abbrev S256x512 : Shape := ⟨2, ![256, 512]⟩
abbrev S256x128 : Shape := ⟨2, ![256, 128]⟩
abbrev S1024x128 : Shape := ⟨2, ![1024, 128]⟩
abbrev S256x256 : Shape := ⟨2, ![256, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S8448x512, .bf16⟩
  | .hbm, ⟨2, _⟩ => ⟨S8448x6144, .bf16⟩
  | .hbm, ⟨3, _⟩ => ⟨S256x2048, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x512, .bf16⟩
  | .local _ .vmem, ⟨7, _⟩ => ⟨S256x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let c0_i32 : BitVec 32 := 0#32
  ![c32_i32.toNat, arg0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c32_i32 : BitVec 32 := 32#32
  let c0_i32 : BitVec 32 := 0#32
  ![c32_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttcRefIdeal.lean ====
abbrev S8448x2048 : Shape := ⟨2, ![8448, 2048]⟩
abbrev S8448x512 : Shape := ⟨2, ![8448, 512]⟩
abbrev S8448x6144 : Shape := ⟨2, ![8448, 6144]⟩
abbrev S256x2048 : Shape := ⟨2, ![256, 2048]⟩
abbrev S256x4x4x128 : Shape := ⟨4, ![256, 4, 4, 128]⟩
abbrev S256x512 : Shape := ⟨2, ![256, 512]⟩
abbrev S256x4x128 : Shape := ⟨3, ![256, 4, 128]⟩
abbrev S4x256x256x4 : Shape := ⟨4, ![4, 256, 256, 4]⟩
abbrev S4x4x256x256 : Shape := ⟨4, ![4, 4, 256, 256]⟩
abbrev S_ : Shape := ⟨0, ![]⟩
abbrev S4x4x256 : Shape := ⟨3, ![4, 4, 256]⟩
abbrev S4x4x256x1 : Shape := ⟨4, ![4, 4, 256, 1]⟩
abbrev S4x128x4x256 : Shape := ⟨4, ![4, 128, 4, 256]⟩

abbrev nBuf : Space → Nat
  | .hbm => 36
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x512, .bf16⟩
  | .hbm, ⟨2, _⟩ => ⟨S8448x6144, .bf16⟩
  | .hbm, ⟨3, _⟩ => ⟨S256x2048, .bf16⟩
  | .hbm, ⟨4, _⟩ => ⟨S256x2048, .f32⟩
  | .hbm, ⟨5, _⟩ => ⟨S256x4x4x128, .f32⟩
  | .hbm, ⟨6, _⟩ => ⟨S256x512, .bf16⟩
  | .hbm, ⟨7, _⟩ => ⟨S256x512, .f32⟩
  | .hbm, ⟨8, _⟩ => ⟨S256x4x128, .f32⟩
  | .hbm, ⟨9, _⟩ => ⟨S256x512, .bf16⟩
  | .hbm, ⟨10, _⟩ => ⟨S256x512, .f32⟩
  | .hbm, ⟨11, _⟩ => ⟨S256x4x128, .f32⟩
  | .hbm, ⟨12, _⟩ => ⟨S4x256x256x4, .f32⟩
  | .hbm, ⟨13, _⟩ => ⟨S4x4x256x256, .f32⟩
  | .hbm, ⟨14, _⟩ => ⟨S_, .f32⟩
  | .hbm, ⟨15, _⟩ => ⟨S_, .f32⟩
  | .hbm, ⟨16, _⟩ => ⟨S4x4x256x256, .f32⟩
  | .hbm, ⟨17, _⟩ => ⟨S4x4x256x256, .f32⟩
  | .hbm, ⟨18, _⟩ => ⟨S_, .f32⟩
  | .hbm, ⟨19, _⟩ => ⟨S4x4x256, .f32⟩
  | .hbm, ⟨20, _⟩ => ⟨S_, .f32⟩
  | .hbm, ⟨21, _⟩ => ⟨S4x4x256, .f32⟩
  | .hbm, ⟨22, _⟩ => ⟨S4x4x256, .f32⟩
  | .hbm, ⟨23, _⟩ => ⟨S4x4x256x1, .f32⟩
  | .hbm, ⟨24, _⟩ => ⟨S4x4x256x256, .f32⟩
  | .hbm, ⟨25, _⟩ => ⟨S4x4x256x256, .f32⟩
  | .hbm, ⟨26, _⟩ => ⟨S4x4x256x256, .f32⟩
  | .hbm, ⟨27, _⟩ => ⟨S_, .f32⟩
  | .hbm, ⟨28, _⟩ => ⟨S4x4x256, .f32⟩
  | .hbm, ⟨29, _⟩ => ⟨S4x4x256x1, .f32⟩
  | .hbm, ⟨30, _⟩ => ⟨S4x4x256x256, .f32⟩
  | .hbm, ⟨31, _⟩ => ⟨S4x4x256x256, .f32⟩
  | .hbm, ⟨32, _⟩ => ⟨S4x128x4x256, .f32⟩
  | .hbm, ⟨33, _⟩ => ⟨S256x4x4x128, .f32⟩
  | .hbm, ⟨34, _⟩ => ⟨S256x2048, .f32⟩
  | .hbm, ⟨35, _⟩ => ⟨S256x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Rkv.lean ====
abbrev S8448x4096 : Shape := ⟨2, ![8448, 4096]⟩
abbrev S2x21920x4096 : Shape := ⟨3, ![2, 21920, 4096]⟩
abbrev S8448x3072 : Shape := ⟨2, ![8448, 3072]⟩
abbrev S1408x4096 : Shape := ⟨2, ![1408, 4096]⟩
abbrev S1x512x4096 : Shape := ⟨3, ![1, 512, 4096]⟩
abbrev S1408x512 : Shape := ⟨2, ![1408, 512]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x3072, .bf16⟩
  | .local _ .vmem, ⟨0, _⟩ => ⟨S1408x4096, .bf16⟩
  | .local _ .vmem, ⟨1, _⟩ => ⟨S1408x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1408x512, .bf16⟩
  | .local _ .vmem, ⟨5, _⟩ => ⟨S1408x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 6, 1], ![false, false, false]⟩

def k0_mult1 (i : grid0.Coords) : BitVec 32 :=
  let c6144_i32 : BitVec 32 := 6144#32
  let arg1 : BitVec 32 := BitVec.ofNat 32 (i 1).val
  let c512_i32 : BitVec 32 := 512#32
  let v0 : BitVec 32 := Scalar.muli arg1 c512_i32
  let v1 : BitVec 32 := Scalar.addi c6144_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c6144_i32 : BitVec 32 := 6144#32
  let v1 : BitVec 32 := Scalar.addi c6144_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RkvRefIdeal.lean ====
abbrev S8448x4096 : Shape := ⟨2, ![8448, 4096]⟩
abbrev S2x21920x4096 : Shape := ⟨3, ![2, 21920, 4096]⟩
abbrev S1x3072x4096 : Shape := ⟨3, ![1, 3072, 4096]⟩
abbrev S3072x4096 : Shape := ⟨2, ![3072, 4096]⟩
abbrev S4096x3072 : Shape := ⟨2, ![4096, 3072]⟩
abbrev S8448x3072 : Shape := ⟨2, ![8448, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x4096, .f32⟩
  | .hbm, ⟨3, _⟩ => ⟨S1x3072x4096, .f32⟩
  | .hbm, ⟨4, _⟩ => ⟨S3072x4096, .f32⟩
  | .hbm, ⟨5, _⟩ => ⟨S4096x3072, .f32⟩
  | .hbm, ⟨6, _⟩ => ⟨S8448x3072, .f32⟩
  | .hbm, ⟨7, _⟩ => ⟨S8448x3072, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Lora.lean ====
abbrev S8448x4096 : Shape := ⟨2, ![8448, 4096]⟩
abbrev S2x21920x4096 : Shape := ⟨3, ![2, 21920, 4096]⟩
abbrev S8448x512 : Shape := ⟨2, ![8448, 512]⟩
abbrev S768x4096 : Shape := ⟨2, ![768, 4096]⟩
abbrev S1x512x4096 : Shape := ⟨3, ![1, 512, 4096]⟩
abbrev S768x512 : Shape := ⟨2, ![768, 512]⟩
abbrev S512x4096 : Shape := ⟨2, ![512, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x512, .f32⟩
  | .local _ .vmem, ⟨0, _⟩ => ⟨S768x4096, .bf16⟩
  | .local _ .vmem, ⟨1, _⟩ => ⟨S768x4096, .bf16⟩
  | .local _ .vmem, ⟨2, _⟩ => ⟨S1x512x4096, .f32⟩
  | .local _ .vmem, ⟨3, _⟩ => ⟨S768x512, .f32⟩
  | .local _ .vmem, ⟨4, _⟩ => ⟨S768x512, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_mult1 (i : grid0.Coords) : BitVec 32 :=
  let c9216_i32 : BitVec 32 := 9216#32
  let arg1 : BitVec 32 := BitVec.ofNat 32 (i 1).val
  let c512_i32 : BitVec 32 := 512#32
  let v0 : BitVec 32 := Scalar.muli arg1 c512_i32
  let v1 : BitVec 32 := Scalar.addi c9216_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c9216_i32 : BitVec 32 := 9216#32
  let v1 : BitVec 32 := Scalar.addi c9216_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LoraRefIdeal.lean ====
abbrev S8448x4096 : Shape := ⟨2, ![8448, 4096]⟩
abbrev S2x21920x4096 : Shape := ⟨3, ![2, 21920, 4096]⟩
abbrev S1x512x4096 : Shape := ⟨3, ![1, 512, 4096]⟩
abbrev S512x4096 : Shape := ⟨2, ![512, 4096]⟩
abbrev S4096x512 : Shape := ⟨2, ![4096, 512]⟩
abbrev S8448x512 : Shape := ⟨2, ![8448, 512]⟩

abbrev nBuf : Space → Nat
  | .hbm => 7
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x4096, .f32⟩
  | .hbm, ⟨3, _⟩ => ⟨S1x512x4096, .f32⟩
  | .hbm, ⟨4, _⟩ => ⟨S512x4096, .f32⟩
  | .hbm, ⟨5, _⟩ => ⟨S4096x512, .f32⟩
  | .hbm, ⟨6, _⟩ => ⟨S8448x512, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Up0.lean ====
abbrev S8448x4096 : Shape := ⟨2, ![8448, 4096]⟩
abbrev S2x4096x22016 : Shape := ⟨3, ![2, 4096, 22016]⟩
abbrev S8448x22016 : Shape := ⟨2, ![8448, 22016]⟩
abbrev S1408x4096 : Shape := ⟨2, ![1408, 4096]⟩
abbrev S1x4096x512 : Shape := ⟨3, ![1, 4096, 512]⟩
abbrev S1408x512 : Shape := ⟨2, ![1408, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S2x4096x22016, .f32⟩
  | .hbm, ⟨2, _⟩ => ⟨S8448x22016, .bf16⟩
  | .local _ .vmem, ⟨0, _⟩ => ⟨S1408x4096, .bf16⟩
  | .local _ .vmem, ⟨1, _⟩ => ⟨S1408x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1408x512, .bf16⟩
  | .local _ .vmem, ⟨5, _⟩ => ⟨S1408x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Up0RefIdeal.lean ====
abbrev S8448x4096 : Shape := ⟨2, ![8448, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S8448x22016 : Shape := ⟨2, ![8448, 22016]⟩

abbrev nBuf : Space → Nat
  | .hbm => 7
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x22016, .f32⟩
  | .hbm, ⟨2, _⟩ => ⟨S8448x4096, .f32⟩
  | .hbm, ⟨3, _⟩ => ⟨S1x4096x22016, .f32⟩
  | .hbm, ⟨4, _⟩ => ⟨S4096x22016, .f32⟩
  | .hbm, ⟨5, _⟩ => ⟨S8448x22016, .f32⟩
  | .hbm, ⟨6, _⟩ => ⟨S8448x22016, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Gates0.lean ====
abbrev S8448x4096 : Shape := ⟨2, ![8448, 4096]⟩
abbrev S2x21920x4096 : Shape := ⟨3, ![2, 21920, 4096]⟩
abbrev S12288 : Shape := ⟨1, ![12288]⟩
abbrev S1x12288 : Shape := ⟨2, ![1, 12288]⟩
abbrev S8448x12288 : Shape := ⟨2, ![8448, 12288]⟩
abbrev S1408x4096 : Shape := ⟨2, ![1408, 4096]⟩
abbrev S1x512x4096 : Shape := ⟨3, ![1, 512, 4096]⟩
abbrev S1x512 : Shape := ⟨2, ![1, 512]⟩
abbrev S1408x512 : Shape := ⟨2, ![1408, 512]⟩
abbrev S512x4096 : Shape := ⟨2, ![512, 4096]⟩

abbrev nBuf : Space → Nat
  | .hbm => 5
  | .vmem => 8
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S12288, .f32⟩
  | .hbm, ⟨3, _⟩ => ⟨S1x12288, .f32⟩
  | .hbm, ⟨4, _⟩ => ⟨S8448x12288, .bf16⟩
  | .local _ .vmem, ⟨0, _⟩ => ⟨S1408x4096, .bf16⟩
  | .local _ .vmem, ⟨1, _⟩ => ⟨S1408x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x512, .f32⟩
  | .local _ .vmem, ⟨5, _⟩ => ⟨S1x512, .f32⟩
  | .local _ .vmem, ⟨6, _⟩ => ⟨S1408x512, .bf16⟩
  | .local _ .vmem, ⟨7, _⟩ => ⟨S1408x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 24, 1], ![false, false, false]⟩

def k0_mult1 (i : grid0.Coords) : BitVec 32 :=
  let c9632_i32 : BitVec 32 := 9632#32
  let arg1 : BitVec 32 := BitVec.ofNat 32 (i 1).val
  let c512_i32 : BitVec 32 := 512#32
  let v0 : BitVec 32 := Scalar.muli arg1 c512_i32
  let v1 : BitVec 32 := Scalar.addi c9632_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c9632_i32 : BitVec 32 := 9632#32
  let v1 : BitVec 32 := Scalar.addi c9632_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Gates0RefIdeal.lean ====
abbrev S8448x4096 : Shape := ⟨2, ![8448, 4096]⟩
abbrev S2x21920x4096 : Shape := ⟨3, ![2, 21920, 4096]⟩
abbrev S12288 : Shape := ⟨1, ![12288]⟩
abbrev S1x12288x4096 : Shape := ⟨3, ![1, 12288, 4096]⟩
abbrev S12288x4096 : Shape := ⟨2, ![12288, 4096]⟩
abbrev S4096x12288 : Shape := ⟨2, ![4096, 12288]⟩
abbrev S8448x12288 : Shape := ⟨2, ![8448, 12288]⟩
abbrev S1x12288 : Shape := ⟨2, ![1, 12288]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S12288, .f32⟩
  | .hbm, ⟨3, _⟩ => ⟨S8448x4096, .f32⟩
  | .hbm, ⟨4, _⟩ => ⟨S1x12288x4096, .f32⟩
  | .hbm, ⟨5, _⟩ => ⟨S12288x4096, .f32⟩
  | .hbm, ⟨6, _⟩ => ⟨S4096x12288, .f32⟩
  | .hbm, ⟨7, _⟩ => ⟨S8448x12288, .f32⟩
  | .hbm, ⟨8, _⟩ => ⟨S1x12288, .f32⟩
  | .hbm, ⟨9, _⟩ => ⟨S8448x12288, .f32⟩
  | .hbm, ⟨10, _⟩ => ⟨S8448x12288, .f32⟩
  | .hbm, ⟨11, _⟩ => ⟨S8448x12288, .f32⟩
  | .hbm, ⟨12, _⟩ => ⟨S8448x12288, .f32⟩
  | .hbm, ⟨13, _⟩ => ⟨S_, .f32⟩
  | .hbm, ⟨14, _⟩ => ⟨S8448x12288, .f32⟩
  | .hbm, ⟨15, _⟩ => ⟨S8448x12288, .f32⟩
  | .hbm, ⟨16, _⟩ => ⟨S_, .f32⟩
  | .hbm, ⟨17, _⟩ => ⟨S8448x12288, .f32⟩
  | .hbm, ⟨18, _⟩ => ⟨S8448x12288, .f32⟩
  | .hbm, ⟨19, _⟩ => ⟨S8448x12288, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Qkvc0.lean ====
abbrev S8448x4096 : Shape := ⟨2, ![8448, 4096]⟩
abbrev S2x21920x4096 : Shape := ⟨3, ![2, 21920, 4096]⟩
abbrev S8448x6144 : Shape := ⟨2, ![8448, 6144]⟩
abbrev S1408x4096 : Shape := ⟨2, ![1408, 4096]⟩
abbrev S1x512x4096 : Shape := ⟨3, ![1, 512, 4096]⟩
abbrev S1408x512 : Shape := ⟨2, ![1408, 512]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x6144, .bf16⟩
  | .local _ .vmem, ⟨0, _⟩ => ⟨S1408x4096, .bf16⟩
  | .local _ .vmem, ⟨1, _⟩ => ⟨S1408x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1408x512, .bf16⟩
  | .local _ .vmem, ⟨5, _⟩ => ⟨S1408x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 12, 1], ![false, false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Qkvc0RefIdeal.lean ====
abbrev S8448x4096 : Shape := ⟨2, ![8448, 4096]⟩
abbrev S2x21920x4096 : Shape := ⟨3, ![2, 21920, 4096]⟩
abbrev S1x6144x4096 : Shape := ⟨3, ![1, 6144, 4096]⟩
abbrev S6144x4096 : Shape := ⟨2, ![6144, 4096]⟩
abbrev S4096x6144 : Shape := ⟨2, ![4096, 6144]⟩
abbrev S8448x6144 : Shape := ⟨2, ![8448, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x4096, .f32⟩
  | .hbm, ⟨3, _⟩ => ⟨S1x6144x4096, .f32⟩
  | .hbm, ⟨4, _⟩ => ⟨S6144x4096, .f32⟩
  | .hbm, ⟨5, _⟩ => ⟨S4096x6144, .f32⟩
  | .hbm, ⟨6, _⟩ => ⟨S8448x6144, .f32⟩
  | .hbm, ⟨7, _⟩ => ⟨S8448x6144, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Rkv0.lean ====
abbrev S8448x4096 : Shape := ⟨2, ![8448, 4096]⟩
abbrev S2x21920x4096 : Shape := ⟨3, ![2, 21920, 4096]⟩
abbrev S8448x3072 : Shape := ⟨2, ![8448, 3072]⟩
abbrev S1408x4096 : Shape := ⟨2, ![1408, 4096]⟩
abbrev S1x512x4096 : Shape := ⟨3, ![1, 512, 4096]⟩
abbrev S1408x512 : Shape := ⟨2, ![1408, 512]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x3072, .bf16⟩
  | .local _ .vmem, ⟨0, _⟩ => ⟨S1408x4096, .bf16⟩
  | .local _ .vmem, ⟨1, _⟩ => ⟨S1408x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1408x512, .bf16⟩
  | .local _ .vmem, ⟨5, _⟩ => ⟨S1408x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 6, 1], ![false, false, false]⟩

def k0_mult1 (i : grid0.Coords) : BitVec 32 :=
  let c6144_i32 : BitVec 32 := 6144#32
  let arg1 : BitVec 32 := BitVec.ofNat 32 (i 1).val
  let c512_i32 : BitVec 32 := 512#32
  let v0 : BitVec 32 := Scalar.muli arg1 c512_i32
  let v1 : BitVec 32 := Scalar.addi c6144_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c6144_i32 : BitVec 32 := 6144#32
  let v1 : BitVec 32 := Scalar.addi c6144_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Rkv0RefIdeal.lean ====
abbrev S8448x4096 : Shape := ⟨2, ![8448, 4096]⟩
abbrev S2x21920x4096 : Shape := ⟨3, ![2, 21920, 4096]⟩
abbrev S1x3072x4096 : Shape := ⟨3, ![1, 3072, 4096]⟩
abbrev S3072x4096 : Shape := ⟨2, ![3072, 4096]⟩
abbrev S4096x3072 : Shape := ⟨2, ![4096, 3072]⟩
abbrev S8448x3072 : Shape := ⟨2, ![8448, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x4096, .f32⟩
  | .hbm, ⟨3, _⟩ => ⟨S1x3072x4096, .f32⟩
  | .hbm, ⟨4, _⟩ => ⟨S3072x4096, .f32⟩
  | .hbm, ⟨5, _⟩ => ⟨S4096x3072, .f32⟩
  | .hbm, ⟨6, _⟩ => ⟨S8448x3072, .f32⟩
  | .hbm, ⟨7, _⟩ => ⟨S8448x3072, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Lora0.lean ====
abbrev S8448x4096 : Shape := ⟨2, ![8448, 4096]⟩
abbrev S2x21920x4096 : Shape := ⟨3, ![2, 21920, 4096]⟩
abbrev S8448x512 : Shape := ⟨2, ![8448, 512]⟩
abbrev S768x4096 : Shape := ⟨2, ![768, 4096]⟩
abbrev S1x512x4096 : Shape := ⟨3, ![1, 512, 4096]⟩
abbrev S768x512 : Shape := ⟨2, ![768, 512]⟩
abbrev S512x4096 : Shape := ⟨2, ![512, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x512, .f32⟩
  | .local _ .vmem, ⟨0, _⟩ => ⟨S768x4096, .bf16⟩
  | .local _ .vmem, ⟨1, _⟩ => ⟨S768x4096, .bf16⟩
  | .local _ .vmem, ⟨2, _⟩ => ⟨S1x512x4096, .f32⟩
  | .local _ .vmem, ⟨3, _⟩ => ⟨S768x512, .f32⟩
  | .local _ .vmem, ⟨4, _⟩ => ⟨S768x512, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_mult1 (i : grid0.Coords) : BitVec 32 :=
  let c9216_i32 : BitVec 32 := 9216#32
  let arg1 : BitVec 32 := BitVec.ofNat 32 (i 1).val
  let c512_i32 : BitVec 32 := 512#32
  let v0 : BitVec 32 := Scalar.muli arg1 c512_i32
  let v1 : BitVec 32 := Scalar.addi c9216_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c9216_i32 : BitVec 32 := 9216#32
  let v1 : BitVec 32 := Scalar.addi c9216_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Lora0RefIdeal.lean ====
abbrev S8448x4096 : Shape := ⟨2, ![8448, 4096]⟩
abbrev S2x21920x4096 : Shape := ⟨3, ![2, 21920, 4096]⟩
abbrev S1x512x4096 : Shape := ⟨3, ![1, 512, 4096]⟩
abbrev S512x4096 : Shape := ⟨2, ![512, 4096]⟩
abbrev S4096x512 : Shape := ⟨2, ![4096, 512]⟩
abbrev S8448x512 : Shape := ⟨2, ![8448, 512]⟩

abbrev nBuf : Space → Nat
  | .hbm => 7
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x4096, .f32⟩
  | .hbm, ⟨3, _⟩ => ⟨S1x512x4096, .f32⟩
  | .hbm, ⟨4, _⟩ => ⟨S512x4096, .f32⟩
  | .hbm, ⟨5, _⟩ => ⟨S4096x512, .f32⟩
  | .hbm, ⟨6, _⟩ => ⟨S8448x512, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down0.lean ====
abbrev S8448x11264 : Shape := ⟨2, ![8448, 11264]⟩
abbrev S2x11264x4096 : Shape := ⟨3, ![2, 11264, 4096]⟩
abbrev S8448x4096 : Shape := ⟨2, ![8448, 4096]⟩
abbrev S2x4096 : Shape := ⟨2, ![2, 4096]⟩
abbrev S768x2816 : Shape := ⟨2, ![768, 2816]⟩
abbrev S1x2816x1024 : Shape := ⟨3, ![1, 2816, 1024]⟩
abbrev S768x1024 : Shape := ⟨2, ![768, 1024]⟩
abbrev S2x1024 : Shape := ⟨2, ![2, 1024]⟩
abbrev S2816x1024 : Shape := ⟨2, ![2816, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8448x11264, .bf16⟩
  | .hbm, ⟨1, _⟩ => ⟨S2x11264x4096, .bf16⟩
  | .hbm, ⟨2, _⟩ => ⟨S8448x4096, .f32⟩
  | .hbm, ⟨3, _⟩ => ⟨S2x4096, .f32⟩
  | .hbm, ⟨4, _⟩ => ⟨S8448x4096, .f32⟩
  | .local _ .vmem, ⟨0, _⟩ => ⟨S768x2816, .bf16⟩
  | .local _ .vmem, ⟨1, _⟩ => ⟨S768x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S768x1024, .f32⟩
  | .local _ .vmem, ⟨5, _⟩ => ⟨S768x1024, .f32⟩
  | .local _ .vmem, ⟨6, _⟩ => ⟨S2x1024, .f32⟩
  | .local _ .vmem, ⟨7, _⟩ => ⟨S2x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![11, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Down0RefIdeal.lean ====
abbrev S8448x11264 : Shape := ⟨2, ![8448, 11264]⟩
abbrev S2x11264x4096 : Shape := ⟨3, ![2, 11264, 4096]⟩
abbrev S8448x4096 : Shape := ⟨2, ![8448, 4096]⟩
abbrev S2x4096 : Shape := ⟨2, ![2, 4096]⟩
abbrev S1x11264x4096 : Shape := ⟨3, ![1, 11264, 4096]⟩
abbrev S11264x4096 : Shape := ⟨2, ![11264, 4096]⟩
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S2x11264x4096, .bf16⟩
  | .hbm, ⟨2, _⟩ => ⟨S8448x4096, .f32⟩
  | .hbm, ⟨3, _⟩ => ⟨S2x4096, .f32⟩
  | .hbm, ⟨4, _⟩ => ⟨S8448x11264, .f32⟩
  | .hbm, ⟨5, _⟩ => ⟨S1x11264x4096, .bf16⟩
  | .hbm, ⟨6, _⟩ => ⟨S11264x4096, .bf16⟩
  | .hbm, ⟨7, _⟩ => ⟨S11264x4096, .f32⟩
  | .hbm, ⟨8, _⟩ => ⟨S8448x4096, .f32⟩
  | .hbm, ⟨9, _⟩ => ⟨S8192x4096, .f32⟩
  | .hbm, ⟨10, _⟩ => ⟨S1x4096, .f32⟩
  | .hbm, ⟨11, _⟩ => ⟨S4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S256x4096, .f32⟩
  | .hbm, ⟨18, _⟩ => ⟨S1x4096, .f32⟩
  | .hbm, ⟨19, _⟩ => ⟨S4096, .f32⟩
  | .hbm, ⟨20, _⟩ => ⟨S256x4096, .f32⟩
  | .hbm, ⟨21, _⟩ => ⟨S1x4096, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S8448x4096, .f32⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Out0.lean ====
abbrev S8448x4096 : Shape := ⟨2, ![8448, 4096]⟩
abbrev S2x4096x4096 : Shape := ⟨3, ![2, 4096, 4096]⟩
abbrev S2x4096 : Shape := ⟨2, ![2, 4096]⟩
abbrev S768x4096 : Shape := ⟨2, ![768, 4096]⟩
abbrev S1x4096x1024 : Shape := ⟨3, ![1, 4096, 1024]⟩
abbrev S768x1024 : Shape := ⟨2, ![768, 1024]⟩
abbrev S2x1024 : Shape := ⟨2, ![2, 1024]⟩
abbrev S4096x1024 : Shape := ⟨2, ![4096, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8448x4096, .bf16⟩
  | .hbm, ⟨1, _⟩ => ⟨S2x4096x4096, .bf16⟩
  | .hbm, ⟨2, _⟩ => ⟨S8448x4096, .f32⟩
  | .hbm, ⟨3, _⟩ => ⟨S2x4096, .f32⟩
  | .hbm, ⟨4, _⟩ => ⟨S8448x4096, .f32⟩
  | .local _ .vmem, ⟨0, _⟩ => ⟨S768x4096, .bf16⟩
  | .local _ .vmem, ⟨1, _⟩ => ⟨S768x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S768x1024, .f32⟩
  | .local _ .vmem, ⟨5, _⟩ => ⟨S768x1024, .f32⟩
  | .local _ .vmem, ⟨6, _⟩ => ⟨S2x1024, .f32⟩
  | .local _ .vmem, ⟨7, _⟩ => ⟨S2x1024, .f32⟩
  | .local _ .vmem, ⟨8, _⟩ => ⟨S768x1024, .f32⟩
  | .local _ .vmem, ⟨9, _⟩ => ⟨S768x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Out0RefIdeal.lean ====
abbrev S8448x4096 : Shape := ⟨2, ![8448, 4096]⟩
abbrev S2x4096x4096 : Shape := ⟨3, ![2, 4096, 4096]⟩
abbrev S2x4096 : Shape := ⟨2, ![2, 4096]⟩
abbrev S1x4096x4096 : Shape := ⟨3, ![1, 4096, 4096]⟩
abbrev S4096x4096 : Shape := ⟨2, ![4096, 4096]⟩
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x4096, .bf16⟩
  | .hbm, ⟨2, _⟩ => ⟨S8448x4096, .f32⟩
  | .hbm, ⟨3, _⟩ => ⟨S2x4096, .f32⟩
  | .hbm, ⟨4, _⟩ => ⟨S8448x4096, .f32⟩
  | .hbm, ⟨5, _⟩ => ⟨S1x4096x4096, .bf16⟩
  | .hbm, ⟨6, _⟩ => ⟨S4096x4096, .bf16⟩
  | .hbm, ⟨7, _⟩ => ⟨S4096x4096, .f32⟩
  | .hbm, ⟨8, _⟩ => ⟨S8448x4096, .f32⟩
  | .hbm, ⟨9, _⟩ => ⟨S8192x4096, .f32⟩
  | .hbm, ⟨10, _⟩ => ⟨S1x4096, .f32⟩
  | .hbm, ⟨11, _⟩ => ⟨S4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S256x4096, .f32⟩
  | .hbm, ⟨18, _⟩ => ⟨S1x4096, .f32⟩
  | .hbm, ⟨19, _⟩ => ⟨S4096, .f32⟩
  | .hbm, ⟨20, _⟩ => ⟨S256x4096, .f32⟩
  | .hbm, ⟨21, _⟩ => ⟨S1x4096, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S8448x4096, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Merge0.lean ====
abbrev S8448x2048 : Shape := ⟨2, ![8448, 2048]⟩
abbrev S8448x1024 : Shape := ⟨2, ![8448, 1024]⟩
abbrev S2x2048x4096 : Shape := ⟨3, ![2, 2048, 4096]⟩
abbrev S2x1024x4096 : Shape := ⟨3, ![2, 1024, 4096]⟩
abbrev S8448x12288 : Shape := ⟨2, ![8448, 12288]⟩
abbrev S8448x4096 : Shape := ⟨2, ![8448, 4096]⟩
abbrev S256x2048 : Shape := ⟨2, ![256, 2048]⟩
abbrev S256x1024 : Shape := ⟨2, ![256, 1024]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 8
  | .vmem => 20
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .bf16⟩
  | .hbm, ⟨2, _⟩ => ⟨S8448x1024, .bf16⟩
  | .hbm, ⟨3, _⟩ => ⟨S2x2048x4096, .bf16⟩
  | .hbm, ⟨4, _⟩ => ⟨S2x1024x4096, .bf16⟩
  | .hbm, ⟨5, _⟩ => ⟨S2x1024x4096, .bf16⟩
  | .hbm, ⟨6, _⟩ => ⟨S8448x12288, .bf16⟩
  | .hbm, ⟨7, _⟩ => ⟨S8448x4096, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Merge0RefIdeal.lean ====
abbrev S8448x2048 : Shape := ⟨2, ![8448, 2048]⟩
abbrev S8448x1024 : Shape := ⟨2, ![8448, 1024]⟩
abbrev S2x2048x4096 : Shape := ⟨3, ![2, 2048, 4096]⟩
abbrev S2x1024x4096 : Shape := ⟨3, ![2, 1024, 4096]⟩
abbrev S8448x12288 : Shape := ⟨2, ![8448, 12288]⟩
abbrev S8448x4096 : Shape := ⟨2, ![8448, 4096]⟩
abbrev S1x2048x4096 : Shape := ⟨3, ![1, 2048, 4096]⟩
abbrev S2048x4096 : Shape := ⟨2, ![2048, 4096]⟩
abbrev S1x1024x4096 : Shape := ⟨3, ![1, 1024, 4096]⟩
abbrev S1024x4096 : Shape := ⟨2, ![1024, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .bf16⟩
  | .hbm, ⟨2, _⟩ => ⟨S8448x1024, .bf16⟩
  | .hbm, ⟨3, _⟩ => ⟨S2x2048x4096, .bf16⟩
  | .hbm, ⟨4, _⟩ => ⟨S2x1024x4096, .bf16⟩
  | .hbm, ⟨5, _⟩ => ⟨S2x1024x4096, .bf16⟩
  | .hbm, ⟨6, _⟩ => ⟨S8448x12288, .bf16⟩
  | .hbm, ⟨7, _⟩ => ⟨S8448x12288, .f32⟩
  | .hbm, ⟨8, _⟩ => ⟨S8448x4096, .f32⟩
  | .hbm, ⟨9, _⟩ => ⟨S8448x4096, .f32⟩
  | .hbm, ⟨10, _⟩ => ⟨S8448x4096, .f32⟩
  | .hbm, ⟨11, _⟩ => ⟨S8448x2048, .f32⟩
  | .hbm, ⟨12, _⟩ => ⟨S1x2048x4096, .bf16⟩
  | .hbm, ⟨13, _⟩ => ⟨S2048x4096, .bf16⟩
  | .hbm, ⟨14, _⟩ => ⟨S2048x4096, .f32⟩
  | .hbm, ⟨15, _⟩ => ⟨S8448x4096, .f32⟩
  | .hbm, ⟨16, _⟩ => ⟨S8448x4096, .f32⟩
  | .hbm, ⟨17, _⟩ => ⟨S8448x1024, .f32⟩
  | .hbm, ⟨18, _⟩ => ⟨S1x1024x4096, .bf16⟩
  | .hbm, ⟨19, _⟩ => ⟨S1024x4096, .bf16⟩
  | .hbm, ⟨20, _⟩ => ⟨S1024x4096, .f32⟩
  | .hbm, ⟨21, _⟩ => ⟨S8448x4096, .f32⟩
  | .hbm, ⟨22, _⟩ => ⟨S8448x4096, .f32⟩
  | .hbm, ⟨23, _⟩ => ⟨S8448x4096, .f32⟩
  | .hbm, ⟨24, _⟩ => ⟨S8448x1024, .f32⟩
  | .hbm, ⟨25, _⟩ => ⟨S1x1024x4096, .bf16⟩
  | .hbm, ⟨26, _⟩ => ⟨S1024x4096, .bf16⟩
  | .hbm, ⟨27, _⟩ => ⟨S1024x4096, .f32⟩
  | .hbm, ⟨28, _⟩ => ⟨S8448x4096, .f32⟩
  | .hbm, ⟨29, _⟩ => ⟨S8448x4096, .f32⟩
  | .hbm, ⟨30, _⟩ => ⟨S8448x4096, .f32⟩
  | .hbm, ⟨31, _⟩ => ⟨S8448x4096, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Mod.lean ====
abbrev S8192x4096 : Shape := ⟨2, ![8192, 4096]⟩
abbrev S4096 : Shape := ⟨1, ![4096]⟩
abbrev S2x1x4096 : Shape := ⟨3, ![2, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModRefIdeal.lean ====
abbrev S8192x4096 : Shape := ⟨2, ![8192, 4096]⟩
abbrev S4096 : Shape := ⟨1, ![4096]⟩
abbrev S2x1x4096 : Shape := ⟨3, ![2, 1, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S1x1x4096 : Shape := ⟨3, ![1, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S1x1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S1x1x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Modall.lean ====
abbrev S8448x4096 : Shape := ⟨2, ![8448, 4096]⟩
abbrev S4096 : Shape := ⟨1, ![4096]⟩
abbrev S2x1x4096 : Shape := ⟨3, ![2, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S1x4096, .f32⟩
  | .hbm, ⟨5, _⟩ => ⟨S8448x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModallRefIdeal.lean ====
abbrev S8448x4096 : Shape := ⟨2, ![8448, 4096]⟩
abbrev S4096 : Shape := ⟨1, ![4096]⟩
abbrev S2x1x4096 : Shape := ⟨3, ![2, 1, 4096]⟩
abbrev S_ : Shape := ⟨0, ![]⟩
abbrev S8448 : Shape := ⟨1, ![8448]⟩
abbrev S8448x1 : Shape := ⟨2, ![8448, 1]⟩
abbrev S1x4096 : Shape := ⟨2, ![1, 4096]⟩
abbrev S8192x4096 : Shape := ⟨2, ![8192, 4096]⟩
abbrev S1x1x4096 : Shape := ⟨3, ![1, 1, 4096]⟩
abbrev S256x4096 : Shape := ⟨2, ![256, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S8448x4096, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x4096, .f32⟩
  | .hbm, ⟨16, _⟩ => ⟨S8448x4096, .f32⟩
  | .hbm, ⟨17, _⟩ => ⟨S1x4096, .f32⟩
  | .hbm, ⟨18, _⟩ => ⟨S8448x4096, .f32⟩
  | .hbm, ⟨19, _⟩ => ⟨S8448x4096, .f32⟩
  | .hbm, ⟨20, _⟩ => ⟨S8192x4096, .f32⟩
  | .hbm, ⟨21, _⟩ => ⟨S1x1x4096, .f32⟩
  | .hbm, ⟨22, _⟩ => ⟨S1x4096, .f32⟩
  | .hbm, ⟨23, _⟩ => ⟨S_, .f32⟩
  | .hbm, ⟨24, _⟩ => ⟨S1x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S1x1x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S256x4096, .f32⟩
  | .hbm, ⟨33, _⟩ => ⟨S1x1x4096, .f32⟩
  | .hbm, ⟨34, _⟩ => ⟨S1x4096, .f32⟩
  | .hbm, ⟨35, _⟩ => ⟨S_, .f32⟩
  | .hbm, ⟨36, _⟩ => ⟨S1x4096, .f32⟩
  | .hbm, ⟨37, _⟩ => ⟨S1x4096, .f32⟩
  | .hbm, ⟨38, _⟩ => ⟨S256x4096, .f32⟩
  | .hbm, ⟨39, _⟩ => ⟨S256x4096, .f32⟩
  | .hbm, ⟨40, _⟩ => ⟨S1x1x4096, .f32⟩
  | .hbm, ⟨41, _⟩ => ⟨S1x4096, .f32⟩
  | .hbm, ⟨42, _⟩ => ⟨S256x4096, .f32⟩
  | .hbm, ⟨43, _⟩ => ⟨S256x4096, .f32⟩
  | .hbm, ⟨44, _⟩ => ⟨S8448x4096, .f32⟩
  | .hbm, ⟨45, _⟩ => ⟨S8448x4096, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Conv.lean ====
abbrev S8448x6144 : Shape := ⟨2, ![8448, 6144]⟩
abbrev S3x1024 : Shape := ⟨2, ![3, 1024]⟩
abbrev S8192x1024 : Shape := ⟨2, ![8192, 1024]⟩
abbrev S256x1024 : Shape := ⟨2, ![256, 1024]⟩
abbrev S16x1024 : Shape := ⟨2, ![16, 1024]⟩
abbrev S1x1024 : Shape := ⟨2, ![1, 1024]⟩

abbrev nBuf : Space → Nat
  | .hbm => 3
  | .vmem => 17
  | .smem => 0
  | _ => 0

abbrev bufTy : (tb : Table) → Fin (tcTables nBuf tb) → BufTy
  | .hbm, ⟨0, _⟩ => ⟨S8448x6144, .bf16⟩
  | .hbm, ⟨1, _⟩ => ⟨S3x1024, .f32⟩
  | .hbm, ⟨2, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S3x1024, .f32⟩
  | .local _ .vmem, ⟨15, _⟩ => ⟨S256x1024, .bf16⟩
  | .local _ .vmem, ⟨16, _⟩ => ⟨S256x1024, .bf16⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c5_i32 : BitVec 32 := 5#32
  let c0_i32 : BitVec 32 := 0#32
  ![v2.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S8448x6144 : Shape := ⟨2, ![8448, 6144]⟩
abbrev S3x1024 : Shape := ⟨2, ![3, 1024]⟩
abbrev S8192x6144 : Shape := ⟨2, ![8192, 6144]⟩
abbrev S8192x1024 : Shape := ⟨2, ![8192, 1024]⟩
abbrev S_ : Shape := ⟨0, ![]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 33
  | .vmem => 0
  | .smem => 0
  | _ => 0

abbrev bufTy : (tb : Table) → Fin (tcTables nBuf tb) → BufTy
  | .hbm, ⟨0, _⟩ => ⟨S8448x6144, .bf16⟩
  | .hbm, ⟨1, _⟩ => ⟨S3x1024, .f32⟩
  | .hbm, ⟨2, _⟩ => ⟨S8192x6144, .bf16⟩
  | .hbm, ⟨3, _⟩ => ⟨S8192x6144, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .i32⟩
  | .hbm, ⟨9, _⟩ => ⟨S_, .f32⟩
  | .hbm, ⟨10, _⟩ => ⟨S8194x1024, .f32⟩
  | .hbm, ⟨11, _⟩ => ⟨S8192x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Act.lean ====
abbrev S8192x22016 : Shape := ⟨2, ![8192, 22016]⟩
abbrev S3x22016 : Shape := ⟨2, ![3, 22016]⟩
abbrev S1x22016 : Shape := ⟨2, ![1, 22016]⟩
abbrev S8192x11264 : Shape := ⟨2, ![8192, 11264]⟩
abbrev S128x5504 : Shape := ⟨2, ![128, 5504]⟩
abbrev S16x5504 : Shape := ⟨2, ![16, 5504]⟩
abbrev S3x5504 : Shape := ⟨2, ![3, 5504]⟩
abbrev S1x5504 : Shape := ⟨2, ![1, 5504]⟩
abbrev S128x5632 : Shape := ⟨2, ![128, 5632]⟩
abbrev S256x128 : Shape := ⟨2, ![256, 128]⟩
abbrev S8x5504 : Shape := ⟨2, ![8, 5504]⟩
abbrev S256x5504 : Shape := ⟨2, ![256, 5504]⟩
abbrev S120x5504 : Shape := ⟨2, ![120, 5504]⟩
abbrev S128x128 : Shape := ⟨2, ![128, 128]⟩

abbrev nBuf : Space → Nat
  | .hbm => 4
  | .vmem => 22
  | .smem => 0
  | _ => 0

abbrev bufTy : (tb : Table) → Fin (tcTables nBuf tb) → BufTy
  | .hbm, ⟨0, _⟩ => ⟨S8192x22016, .bf16⟩
  | .hbm, ⟨1, _⟩ => ⟨S3x22016, .f32⟩
  | .hbm, ⟨2, _⟩ => ⟨S1x22016, .f32⟩
  | .hbm, ⟨3, _⟩ => ⟨S8192x11264, .bf16⟩
  | .local _ .vmem, ⟨0, _⟩ => ⟨S128x5504, .bf16⟩
  | .local _ .vmem, ⟨1, _⟩ => ⟨S128x5504, .bf16⟩
  | .local _ .vmem, ⟨2, _⟩ => ⟨S16x5504, .bf16⟩
  | .local _ .vmem, ⟨3, _⟩ => ⟨S16x5504, .bf16⟩
  | .local _ .vmem, ⟨4, _⟩ => ⟨S16x5504, .bf16⟩
  | .local _ .vmem, ⟨5, _⟩ => ⟨S16x5504, .bf16⟩
  | .local _ .vmem, ⟨6, _⟩ => ⟨S128x5504, .bf16⟩
  | .local _ .vmem, ⟨7, _⟩ => ⟨S128x5504, .bf16⟩
  | .local _ .vmem, ⟨8, _⟩ => ⟨S16x5504, .bf16⟩
  | .local _ .vmem, ⟨9, _⟩ => ⟨S16x5504, .bf16⟩
  | .local _ .vmem, ⟨10, _⟩ => ⟨S16x5504, .bf16⟩
  | .local _ .vmem, ⟨11, _⟩ => ⟨S16x5504, .bf16⟩
  | .local _ .vmem, ⟨12, _⟩ => ⟨S3x5504, .f32⟩
  | .local _ .vmem, ⟨13, _⟩ => ⟨S3x5504, .f32⟩
  | .local _ .vmem, ⟨14, _⟩ => ⟨S3x5504, .f32⟩
  | .local _ .vmem, ⟨15, _⟩ => ⟨S3x5504, .f32⟩
  | .local _ .vmem, ⟨16, _⟩ => ⟨S1x5504, .f32⟩
  | .local _ .vmem, ⟨17, _⟩ => ⟨S1x5504, .f32⟩
  | .local _ .vmem, ⟨18, _⟩ => ⟨S1x5504, .f32⟩
  | .local _ .vmem, ⟨19, _⟩ => ⟨S1x5504, .f32⟩
  | .local _ .vmem, ⟨20, _⟩ => ⟨S128x5632, .bf16⟩
  | .local _ .vmem, ⟨21, _⟩ => ⟨S128x5632, .bf16⟩
  | _, _ => ⟨S8192x22016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c2_i32 : BitVec 32 := 2#32
  let v3 : BitVec 32 := Scalar.addi c2_i32 arg1
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x5504 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x5504 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x5504 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x5504 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x5504 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x5504 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x5504 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x5504 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ActRefIdeal.lean ====
abbrev S8192x22016 : Shape := ⟨2, ![8192, 22016]⟩
abbrev S3x22016 : Shape := ⟨2, ![3, 22016]⟩
abbrev S1x22016 : Shape := ⟨2, ![1, 22016]⟩
abbrev S_ : Shape := ⟨0, ![]⟩
abbrev S8194x22016 : Shape := ⟨2, ![8194, 22016]⟩
abbrev S22016 : Shape := ⟨1, ![22016]⟩
abbrev S8192x11008 : Shape := ⟨2, ![8192, 11008]⟩
abbrev S8192x128 : Shape := ⟨2, ![8192, 128]⟩
abbrev S8192x5504 : Shape := ⟨2, ![8192, 5504]⟩
abbrev S8192x11264 : Shape := ⟨2, ![8192, 11264]⟩

abbrev nBuf : Space → Nat
  | .hbm => 47
  | .vmem => 0
  | .smem => 0
  | _ => 0

abbrev bufTy : (tb : Table) → Fin (tcTables nBuf tb) → BufTy
  | .hbm, ⟨0, _⟩ => ⟨S8192x22016, .bf16⟩
  | .hbm, ⟨1, _⟩ => ⟨S3x22016, .f32⟩
  | .hbm, ⟨2, _⟩ => ⟨S1x22016, .f32⟩
  | .hbm, ⟨3, _⟩ => ⟨S8192x22016, .f32⟩
  | .hbm, ⟨4, _⟩ => ⟨S_, .i32⟩
  | .hbm, ⟨5, _⟩ => ⟨S_, .f32⟩
  | .hbm, ⟨6, _⟩ => ⟨S8194x22016, .f32⟩
  | .hbm, ⟨7, _⟩ => ⟨S8192x22016, .f32⟩
  | .hbm, ⟨8, _⟩ => ⟨S1x22016, .f32⟩
  | .hbm, ⟨9, _⟩ => ⟨S22016, .f32⟩
  | .hbm, ⟨10, _⟩ => ⟨S1x22016, .f32⟩
  | .hbm, ⟨11, _⟩ => ⟨S8192x22016, .f32⟩
  | .hbm, ⟨12, _⟩ => ⟨S8192x22016, .f32⟩
  | .hbm, ⟨13, _⟩ => ⟨S8192x22016, .f32⟩
  | .hbm, ⟨14, _⟩ => ⟨S1x22016, .f32⟩
  | .hbm, ⟨15, _⟩ => ⟨S22016, .f32⟩
  | .hbm, ⟨16, _⟩ => ⟨S1x22016, .f32⟩
  | .hbm, ⟨17, _⟩ => ⟨S8192x22016, .f32⟩
  | .hbm, ⟨18, _⟩ => ⟨S8192x22016, .f32⟩
  | .hbm, ⟨19, _⟩ => ⟨S8192x22016, .f32⟩
  | .hbm, ⟨20, _⟩ => ⟨S8192x22016, .f32⟩
  | .hbm, ⟨21, _⟩ => ⟨S1x22016, .f32⟩
  | .hbm, ⟨22, _⟩ => ⟨S22016, .f32⟩
  | .hbm, ⟨23, _⟩ => ⟨S1x22016, .f32⟩
  | .hbm, ⟨24, _⟩ => ⟨S8192x22016, .f32⟩
  | .hbm, ⟨25, _⟩ => ⟨S8192x22016, .f32⟩
  | .hbm, ⟨26, _⟩ => ⟨S8192x22016, .f32⟩
  | .hbm, ⟨27, _⟩ => ⟨S8192x22016, .f32⟩
  | .hbm, ⟨28, _⟩ => ⟨S8192x22016, .f32⟩
  | .hbm, ⟨29, _⟩ => ⟨S8192x11008, .f32⟩
  | .hbm, ⟨30, _⟩ => ⟨S8192x11008, .f32⟩
  | .hbm, ⟨31, _⟩ => ⟨S8192x11008, .f32⟩
  | .hbm, ⟨32, _⟩ => ⟨S_, .f32⟩
  | .hbm, ⟨33, _⟩ => ⟨S8192x11008, .f32⟩
  | .hbm, ⟨34, _⟩ => ⟨S8192x11008, .f32⟩
  | .hbm, ⟨35, _⟩ => ⟨S_, .f32⟩
  | .hbm, ⟨36, _⟩ => ⟨S8192x11008, .f32⟩
  | .hbm, ⟨37, _⟩ => ⟨S8192x11008, .f32⟩
  | .hbm, ⟨38, _⟩ => ⟨S8192x11008, .f32⟩
  | .hbm, ⟨39, _⟩ => ⟨S8192x11008, .f32⟩
  | .hbm, ⟨40, _⟩ => ⟨S8192x11008, .f32⟩
  | .hbm, ⟨41, _⟩ => ⟨S8192x11008, .bf16⟩
  | .hbm, ⟨42, _⟩ => ⟨S_, .bf16⟩
  | .hbm, ⟨43, _⟩ => ⟨S8192x128, .bf16⟩
  | .hbm, ⟨44, _⟩ => ⟨S8192x5504, .bf16⟩
  | .hbm, ⟨45, _⟩ => ⟨S8192x5504, .bf16⟩
  | .hbm, ⟨46, _⟩ => ⟨S8192x11264, .bf16⟩
  | _, _ => ⟨S8192x22016, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Conv0.lean ====
abbrev S8448x6144 : Shape := ⟨2, ![8448, 6144]⟩
abbrev S3x1024 : Shape := ⟨2, ![3, 1024]⟩
abbrev S8448x1024 : Shape := ⟨2, ![8448, 1024]⟩
abbrev S256x1024 : Shape := ⟨2, ![256, 1024]⟩
abbrev S16x1024 : Shape := ⟨2, ![16, 1024]⟩
abbrev S1x1024 : Shape := ⟨2, ![1, 1024]⟩

abbrev nBuf : Space → Nat
  | .hbm => 3
  | .vmem => 17
  | .smem => 0
  | _ => 0

abbrev bufTy : (tb : Table) → Fin (tcTables nBuf tb) → BufTy
  | .hbm, ⟨0, _⟩ => ⟨S8448x6144, .bf16⟩
  | .hbm, ⟨1, _⟩ => ⟨S3x1024, .f32⟩
  | .hbm, ⟨2, _⟩ => ⟨S8448x1024, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S3x1024, .f32⟩
  | .local _ .vmem, ⟨15, _⟩ => ⟨S256x1024, .bf16⟩
  | .local _ .vmem, ⟨16, _⟩ => ⟨S256x1024, .bf16⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c527_i32 : BitVec 32 := 527#32
  let v2 : BitVec 32 := Scalar.minsi v1 c527_i32
  let c3_i32 : BitVec 32 := 3#32
  let c0_i32 : BitVec 32 := 0#32
  ![v2.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c527_i32 : BitVec 32 := 527#32
  let v2 : BitVec 32 := Scalar.minsi v1 c527_i32
  let c5_i32 : BitVec 32 := 5#32
  let c0_i32 : BitVec 32 := 0#32
  ![v2.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Conv0RefIdeal.lean ====
abbrev S8448x6144 : Shape := ⟨2, ![8448, 6144]⟩
abbrev S3x1024 : Shape := ⟨2, ![3, 1024]⟩
abbrev S8448x1024 : Shape := ⟨2, ![8448, 1024]⟩
abbrev S8192x1024 : Shape := ⟨2, ![8192, 1024]⟩
abbrev S_ : Shape := ⟨0, ![]⟩
abbrev S8194x1024 : Shape := ⟨2, ![8194, 1024]⟩
abbrev S1x1024 : Shape := ⟨2, ![1, 1024]⟩
abbrev S1024 : Shape := ⟨1, ![1024]⟩
abbrev S256x1024 : Shape := ⟨2, ![256, 1024]⟩
abbrev S258x1024 : Shape := ⟨2, ![258, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8448x6144, .bf16⟩
  | .hbm, ⟨1, _⟩ => ⟨S3x1024, .f32⟩
  | .hbm, ⟨2, _⟩ => ⟨S8448x6144, .f32⟩
  | .hbm, ⟨3, _⟩ => ⟨S8448x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S8192x1024, .f32⟩
  | .hbm, ⟨8, _⟩ => ⟨S_, .i32⟩
  | .hbm, ⟨9, _⟩ => ⟨S_, .f32⟩
  | .hbm, ⟨10, _⟩ => ⟨S8194x1024, .f32⟩
  | .hbm, ⟨11, _⟩ => ⟨S8192x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S256x1024, .f32⟩
  | .hbm, ⟨32, _⟩ => ⟨S_, .i32⟩
  | .hbm, ⟨33, _⟩ => ⟨S_, .f32⟩
  | .hbm, ⟨34, _⟩ => ⟨S258x1024, .f32⟩
  | .hbm, ⟨35, _⟩ => ⟨S256x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S8448x1024, .f32⟩
  | .hbm, ⟨56, _⟩ => ⟨S8448x1024, .f32⟩
  | .hbm, ⟨57, _⟩ => ⟨S8448x1024, .bf16⟩
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_0 : Ref sig .tc := ⟨.hbm, 32, rfl⟩
abbrev main_call1_v0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩

abbrev nD : Nat := 1
abbrev τ : Topo := Topo.v7x

variable {F : FTy → Type} [FloatOps F]
-- ==== Act0.lean ====
abbrev S8448x22016 : Shape := ⟨2, ![8448, 22016]⟩
abbrev S3x22016 : Shape := ⟨2, ![3, 22016]⟩
abbrev S1x22016 : Shape := ⟨2, ![1, 22016]⟩
abbrev S8448x11264 : Shape := ⟨2, ![8448, 11264]⟩
abbrev S128x5504 : Shape := ⟨2, ![128, 5504]⟩
abbrev S16x5504 : Shape := ⟨2, ![16, 5504]⟩
abbrev S3x5504 : Shape := ⟨2, ![3, 5504]⟩
abbrev S1x5504 : Shape := ⟨2, ![1, 5504]⟩
abbrev S128x5632 : Shape := ⟨2, ![128, 5632]⟩
abbrev S256x128 : Shape := ⟨2, ![256, 128]⟩
abbrev S8x5504 : Shape := ⟨2, ![8, 5504]⟩
abbrev S256x5504 : Shape := ⟨2, ![256, 5504]⟩
abbrev S120x5504 : Shape := ⟨2, ![120, 5504]⟩
abbrev S128x128 : Shape := ⟨2, ![128, 128]⟩

abbrev nBuf : Space → Nat
  | .hbm => 4
  | .vmem => 22
  | .smem => 0
  | _ => 0

abbrev bufTy : (tb : Table) → Fin (tcTables nBuf tb) → BufTy
  | .hbm, ⟨0, _⟩ => ⟨S8448x22016, .bf16⟩
  | .hbm, ⟨1, _⟩ => ⟨S3x22016, .f32⟩
  | .hbm, ⟨2, _⟩ => ⟨S1x22016, .f32⟩
  | .hbm, ⟨3, _⟩ => ⟨S8448x11264, .bf16⟩
  | .local _ .vmem, ⟨0, _⟩ => ⟨S128x5504, .bf16⟩
  | .local _ .vmem, ⟨1, _⟩ => ⟨S128x5504, .bf16⟩
  | .local _ .vmem, ⟨2, _⟩ => ⟨S16x5504, .bf16⟩
  | .local _ .vmem, ⟨3, _⟩ => ⟨S16x5504, .bf16⟩
  | .local _ .vmem, ⟨4, _⟩ => ⟨S16x5504, .bf16⟩
  | .local _ .vmem, ⟨5, _⟩ => ⟨S16x5504, .bf16⟩
  | .local _ .vmem, ⟨6, _⟩ => ⟨S128x5504, .bf16⟩
  | .local _ .vmem, ⟨7, _⟩ => ⟨S128x5504, .bf16⟩
  | .local _ .vmem, ⟨8, _⟩ => ⟨S16x5504, .bf16⟩
  | .local _ .vmem, ⟨9, _⟩ => ⟨S16x5504, .bf16⟩
  | .local _ .vmem, ⟨10, _⟩ => ⟨S16x5504, .bf16⟩
  | .local _ .vmem, ⟨11, _⟩ => ⟨S16x5504, .bf16⟩
  | .local _ .vmem, ⟨12, _⟩ => ⟨S3x5504, .f32⟩
  | .local _ .vmem, ⟨13, _⟩ => ⟨S3x5504, .f32⟩
  | .local _ .vmem, ⟨14, _⟩ => ⟨S3x5504, .f32⟩
  | .local _ .vmem, ⟨15, _⟩ => ⟨S3x5504, .f32⟩
  | .local _ .vmem, ⟨16, _⟩ => ⟨S1x5504, .f32⟩
  | .local _ .vmem, ⟨17, _⟩ => ⟨S1x5504, .f32⟩
  | .local _ .vmem, ⟨18, _⟩ => ⟨S1x5504, .f32⟩
  | .local _ .vmem, ⟨19, _⟩ => ⟨S1x5504, .f32⟩
  | .local _ .vmem, ⟨20, _⟩ => ⟨S128x5632, .bf16⟩
  | .local _ .vmem, ⟨21, _⟩ => ⟨S128x5632, .bf16⟩
  | _, _ => ⟨S8448x22016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![66, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c527_i32 : BitVec 32 := 527#32
  let v2 : BitVec 32 := Scalar.minsi v1 c527_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c527_i32 : BitVec 32 := 527#32
  let v2 : BitVec 32 := Scalar.minsi v1 c527_i32
  let c2_i32 : BitVec 32 := 2#32
  let v3 : BitVec 32 := Scalar.addi c2_i32 arg1
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x5504 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x5504 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x5504 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x5504 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x5504 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x5504 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x5504 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x5504 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Act0RefIdeal.lean ====
abbrev S8448x22016 : Shape := ⟨2, ![8448, 22016]⟩
abbrev S3x22016 : Shape := ⟨2, ![3, 22016]⟩
abbrev S1x22016 : Shape := ⟨2, ![1, 22016]⟩
abbrev S8192x22016 : Shape := ⟨2, ![8192, 22016]⟩
abbrev S_ : Shape := ⟨0, ![]⟩
abbrev S8194x22016 : Shape := ⟨2, ![8194, 22016]⟩
abbrev S22016 : Shape := ⟨1, ![22016]⟩
abbrev S256x22016 : Shape := ⟨2, ![256, 22016]⟩
abbrev S258x22016 : Shape := ⟨2, ![258, 22016]⟩
abbrev S8448x11008 : Shape := ⟨2, ![8448, 11008]⟩
abbrev S8448x128 : Shape := ⟨2, ![8448, 128]⟩
abbrev S8448x5504 : Shape := ⟨2, ![8448, 5504]⟩
abbrev S8448x11264 : Shape := ⟨2, ![8448, 11264]⟩

abbrev nBuf : Space → Nat
  | .hbm => 73
  | .vmem => 0
  | .smem => 0
  | _ => 0

abbrev bufTy : (tb : Table) → Fin (tcTables nBuf tb) → BufTy
  | .hbm, ⟨0, _⟩ => ⟨S8448x22016, .bf16⟩
  | .hbm, ⟨1, _⟩ => ⟨S3x22016, .f32⟩
  | .hbm, ⟨2, _⟩ => ⟨S1x22016, .f32⟩
  | .hbm, ⟨3, _⟩ => ⟨S8448x22016, .f32⟩
  | .hbm, ⟨4, _⟩ => ⟨S8192x22016, .f32⟩
  | .hbm, ⟨5, _⟩ => ⟨S_, .i32⟩
  | .hbm, ⟨6, _⟩ => ⟨S_, .f32⟩
  | .hbm, ⟨7, _⟩ => ⟨S8194x22016, .f32⟩
  | .hbm, ⟨8, _⟩ => ⟨S8192x22016, .f32⟩
  | .hbm, ⟨9, _⟩ => ⟨S1x22016, .f32⟩
  | .hbm, ⟨10, _⟩ => ⟨S22016, .f32⟩
  | .hbm, ⟨11, _⟩ => ⟨S1x22016, .f32⟩
  | .hbm, ⟨12, _⟩ => ⟨S8192x22016, .f32⟩
  | .hbm, ⟨13, _⟩ => ⟨S8192x22016, .f32⟩
  | .hbm, ⟨14, _⟩ => ⟨S8192x22016, .f32⟩
  | .hbm, ⟨15, _⟩ => ⟨S1x22016, .f32⟩
  | .hbm, ⟨16, _⟩ => ⟨S22016, .f32⟩
  | .hbm, ⟨17, _⟩ => ⟨S1x22016, .f32⟩
  | .hbm, ⟨18, _⟩ => ⟨S8192x22016, .f32⟩
  | .hbm, ⟨19, _⟩ => ⟨S8192x22016, .f32⟩
  | .hbm, ⟨20, _⟩ => ⟨S8192x22016, .f32⟩
  | .hbm, ⟨21, _⟩ => ⟨S8192x22016, .f32⟩
  | .hbm, ⟨22, _⟩ => ⟨S1x22016, .f32⟩
  | .hbm, ⟨23, _⟩ => ⟨S22016, .f32⟩
  | .hbm, ⟨24, _⟩ => ⟨S1x22016, .f32⟩
  | .hbm, ⟨25, _⟩ => ⟨S8192x22016, .f32⟩
  | .hbm, ⟨26, _⟩ => ⟨S8192x22016, .f32⟩
  | .hbm, ⟨27, _⟩ => ⟨S8192x22016, .f32⟩
  | .hbm, ⟨28, _⟩ => ⟨S256x22016, .f32⟩
  | .hbm, ⟨29, _⟩ => ⟨S_, .i32⟩
  | .hbm, ⟨30, _⟩ => ⟨S_, .f32⟩
  | .hbm, ⟨31, _⟩ => ⟨S258x22016, .f32⟩
  | .hbm, ⟨32, _⟩ => ⟨S256x22016, .f32⟩
  | .hbm, ⟨33, _⟩ => ⟨S1x22016, .f32⟩
  | .hbm, ⟨34, _⟩ => ⟨S22016, .f32⟩
  | .hbm, ⟨35, _⟩ => ⟨S1x22016, .f32⟩
  | .hbm, ⟨36, _⟩ => ⟨S256x22016, .f32⟩
  | .hbm, ⟨37, _⟩ => ⟨S256x22016, .f32⟩
  | .hbm, ⟨38, _⟩ => ⟨S256x22016, .f32⟩
  | .hbm, ⟨39, _⟩ => ⟨S1x22016, .f32⟩
  | .hbm, ⟨40, _⟩ => ⟨S22016, .f32⟩
  | .hbm, ⟨41, _⟩ => ⟨S1x22016, .f32⟩
  | .hbm, ⟨42, _⟩ => ⟨S256x22016, .f32⟩
  | .hbm, ⟨43, _⟩ => ⟨S256x22016, .f32⟩
  | .hbm, ⟨44, _⟩ => ⟨S256x22016, .f32⟩
  | .hbm, ⟨45, _⟩ => ⟨S256x22016, .f32⟩
  | .hbm, ⟨46, _⟩ => ⟨S1x22016, .f32⟩
  | .hbm, ⟨47, _⟩ => ⟨S22016, .f32⟩
  | .hbm, ⟨48, _⟩ => ⟨S1x22016, .f32⟩
  | .hbm, ⟨49, _⟩ => ⟨S256x22016, .f32⟩
  | .hbm, ⟨50, _⟩ => ⟨S256x22016, .f32⟩
  | .hbm, ⟨51, _⟩ => ⟨S256x22016, .f32⟩
  | .hbm, ⟨52, _⟩ => ⟨S8448x22016, .f32⟩
  | .hbm, ⟨53, _⟩ => ⟨S8448x22016, .f32⟩
  | .hbm, ⟨54, _⟩ => ⟨S8448x22016, .f32⟩
  | .hbm, ⟨55, _⟩ => ⟨S8448x11008, .f32⟩
  | .hbm, ⟨56, _⟩ => ⟨S8448x11008, .f32⟩
  | .hbm, ⟨57, _⟩ => ⟨S8448x11008, .f32⟩
  | .hbm, ⟨58, _⟩ => ⟨S_, .f32⟩
  | .hbm, ⟨59, _⟩ => ⟨S8448x11008, .f32⟩
  | .hbm, ⟨60, _⟩ => ⟨S8448x11008, .f32⟩
  | .hbm, ⟨61, _⟩ => ⟨S_, .f32⟩
  | .hbm, ⟨62, _⟩ => ⟨S8448x11008, .f32⟩
  | .hbm, ⟨63, _⟩ => ⟨S8448x11008, .f32⟩
  | .hbm, ⟨64, _⟩ => ⟨S8448x11008, .f32⟩
  | .hbm, ⟨65, _⟩ => ⟨S8448x11008, .f32⟩
  | .hbm, ⟨66, _⟩ => ⟨S8448x11008, .f32⟩
  | .hbm, ⟨67, _⟩ => ⟨S8448x11008, .bf16⟩
  | .hbm, ⟨68, _⟩ => ⟨S_, .bf16⟩
  | .hbm, ⟨69, _⟩ => ⟨S8448x128, .bf16⟩
  | .hbm, ⟨70, _⟩ => ⟨S8448x5504, .bf16⟩
  | .hbm, ⟨71, _⟩ => ⟨S8448x5504, .bf16⟩
  | .hbm, ⟨72, _⟩ => ⟨S8448x11264, .bf16⟩
  | _, _ => ⟨S8448x22016, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_0 : Ref sig .tc := ⟨.hbm, 29, rfl⟩
abbrev main_call1_v0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Ada.lean ====
abbrev S16x4096 : Shape := ⟨2, ![16, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x16x24576 : Shape := ⟨3, ![2, 16, 24576]⟩
abbrev S1x4096x512 : Shape := ⟨3, ![1, 4096, 512]⟩
abbrev S1x1x512 : Shape := ⟨3, ![1, 1, 512]⟩
abbrev S1x16x512 : Shape := ⟨3, ![1, 16, 512]⟩
abbrev S4096x512 : Shape := ⟨2, ![4096, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x16x24576, .f32⟩
  | .local _ .vmem, ⟨0, _⟩ => ⟨S16x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x4096 : Shape := ⟨2, ![16, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S16x24576 : Shape := ⟨2, ![16, 24576]⟩
abbrev S1x24576 : Shape := ⟨2, ![1, 24576]⟩
abbrev S24576 : Shape := ⟨1, ![24576]⟩
abbrev S1x16x24576 : Shape := ⟨3, ![1, 16, 24576]⟩
abbrev S2x16x24576 : Shape := ⟨3, ![2, 16, 24576]⟩

abbrev nBuf : Space → Nat
  | .hbm => 31
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S1x4096x24576, .f32⟩
  | .hbm, ⟨13, _⟩ => ⟨S4096x24576, .f32⟩
  | .hbm, ⟨14, _⟩ => ⟨S16x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S16x24576, .f32⟩
  | .hbm, ⟨19, _⟩ => ⟨S16x24576, .f32⟩
  | .hbm, ⟨20, _⟩ => ⟨S1x4096x24576, .f32⟩
  | .hbm, ⟨21, _⟩ => ⟨S4096x24576, .f32⟩
  | .hbm, ⟨22, _⟩ => ⟨S16x24576, .f32⟩
  | .hbm, ⟨23, _⟩ => ⟨S1x24576, .f32⟩
  | .hbm, ⟨24, _⟩ => ⟨S24576, .f32⟩
  | .hbm, ⟨25, _⟩ => ⟨S1x24576, .f32⟩
  | .hbm, ⟨26, _⟩ => ⟨S16x24576, .f32⟩
  | .hbm, ⟨27, _⟩ => ⟨S16x24576, .f32⟩
  | .hbm, ⟨28, _⟩ => ⟨S1x16x24576, .f32⟩
  | .hbm, ⟨29, _⟩ => ⟨S1x16x24576, .f32⟩
  | .hbm, ⟨30, _⟩ => ⟨S2x16x24576, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Up.lean ====
abbrev S8192x4096 : Shape := ⟨2, ![8192, 4096]⟩
abbrev S2x4096x22016 : Shape := ⟨3, ![2, 4096, 22016]⟩
abbrev S8192x22016 : Shape := ⟨2, ![8192, 22016]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S8192x22016, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c0_i32_0 : BitVec 32 := 0#32
  ![c1_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x4096 : Shape := ⟨2, ![8192, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S8192x22016 : Shape := ⟨2, ![8192, 22016]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S8192x4096, .f32⟩
  | .hbm, ⟨3, _⟩ => ⟨S1x4096x22016, .f32⟩
  | .hbm, ⟨4, _⟩ => ⟨S4096x22016, .f32⟩
  | .hbm, ⟨5, _⟩ => ⟨S8192x22016, .f32⟩
  | .hbm, ⟨6, _⟩ => ⟨S8192x22016, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Gates.lean ====
abbrev S8448x4096 : Shape := ⟨2, ![8448, 4096]⟩
abbrev S2x21920x4096 : Shape := ⟨3, ![2, 21920, 4096]⟩
abbrev S12288 : Shape := ⟨1, ![12288]⟩
abbrev S1x12288 : Shape := ⟨2, ![1, 12288]⟩
abbrev S8192x12288 : Shape := ⟨2, ![8192, 12288]⟩
abbrev S1024x4096 : Shape := ⟨2, ![1024, 4096]⟩
abbrev S1x512x4096 : Shape := ⟨3, ![1, 512, 4096]⟩
abbrev S1x512 : Shape := ⟨2, ![1, 512]⟩
abbrev S1024x512 : Shape := ⟨2, ![1024, 512]⟩
abbrev S512x4096 : Shape := ⟨2, ![512, 4096]⟩

abbrev nBuf : Space → Nat
  | .hbm => 5
  | .vmem => 8
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S12288, .f32⟩
  | .hbm, ⟨3, _⟩ => ⟨S1x12288, .f32⟩
  | .hbm, ⟨4, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 24, 1], ![false, false, false]⟩

def k0_mult1 (i : grid0.Coords) : BitVec 32 :=
  let c9632_i32 : BitVec 32 := 9632#32
  let arg1 : BitVec 32 := BitVec.ofNat 32 (i 1).val
  let c512_i32 : BitVec 32 := 512#32
  let v0 : BitVec 32 := Scalar.muli arg1 c512_i32
  let v1 : BitVec 32 := Scalar.addi c9632_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c9632_i32 : BitVec 32 := 9632#32
  let v1 : BitVec 32 := Scalar.addi c9632_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GatesRefIdeal.lean ====
abbrev S8448x4096 : Shape := ⟨2, ![8448, 4096]⟩
abbrev S2x21920x4096 : Shape := ⟨3, ![2, 21920, 4096]⟩
abbrev S12288 : Shape := ⟨1, ![12288]⟩
abbrev S8192x4096 : Shape := ⟨2, ![8192, 4096]⟩
abbrev S1x12288x4096 : Shape := ⟨3, ![1, 12288, 4096]⟩
abbrev S12288x4096 : Shape := ⟨2, ![12288, 4096]⟩
abbrev S4096x12288 : Shape := ⟨2, ![4096, 12288]⟩
abbrev S8192x12288 : Shape := ⟨2, ![8192, 12288]⟩
abbrev S1x12288 : Shape := ⟨2, ![1, 12288]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S12288, .f32⟩
  | .hbm, ⟨3, _⟩ => ⟨S8192x4096, .bf16⟩
  | .hbm, ⟨4, _⟩ => ⟨S8192x4096, .f32⟩
  | .hbm, ⟨5, _⟩ => ⟨S1x12288x4096, .f32⟩
  | .hbm, ⟨6, _⟩ => ⟨S12288x4096, .f32⟩
  | .hbm, ⟨7, _⟩ => ⟨S4096x12288, .f32⟩
  | .hbm, ⟨8, _⟩ => ⟨S8192x12288, .f32⟩
  | .hbm, ⟨9, _⟩ => ⟨S1x12288, .f32⟩
  | .hbm, ⟨10, _⟩ => ⟨S8192x12288, .f32⟩
  | .hbm, ⟨11, _⟩ => ⟨S8192x12288, .f32⟩
  | .hbm, ⟨12, _⟩ => ⟨S8192x12288, .f32⟩
  | .hbm, ⟨13, _⟩ => ⟨S8192x12288, .f32⟩
  | .hbm, ⟨14, _⟩ => ⟨S_, .f32⟩
  | .hbm, ⟨15, _⟩ => ⟨S8192x12288, .f32⟩
  | .hbm, ⟨16, _⟩ => ⟨S8192x12288, .f32⟩
  | .hbm, ⟨17, _⟩ => ⟨S_, .f32⟩
  | .hbm, ⟨18, _⟩ => ⟨S8192x12288, .f32⟩
  | .hbm, ⟨19, _⟩ => ⟨S8192x12288, .f32⟩
  | .hbm, ⟨20, _⟩ => ⟨S8192x12288, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Qkvc.lean ====
abbrev S8448x4096 : Shape := ⟨2, ![8448, 4096]⟩
abbrev S2x21920x4096 : Shape := ⟨3, ![2, 21920, 4096]⟩
abbrev S8448x6144 : Shape := ⟨2, ![8448, 6144]⟩
abbrev S1408x4096 : Shape := ⟨2, ![1408, 4096]⟩
abbrev S1x512x4096 : Shape := ⟨3, ![1, 512, 4096]⟩
abbrev S1408x512 : Shape := ⟨2, ![1408, 512]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x6144, .bf16⟩
  | .local _ .vmem, ⟨0, _⟩ => ⟨S1408x4096, .bf16⟩
  | .local _ .vmem, ⟨1, _⟩ => ⟨S1408x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1408x512, .bf16⟩
  | .local _ .vmem, ⟨5, _⟩ => ⟨S1408x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 12, 1], ![false, false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c1_i32 : BitVec 32 := 1#32
  let c0_i32_0 : BitVec 32 := 0#32
  let c0_i32_1 : BitVec 32 := 0#32
  ![c1_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvcRefIdeal.lean ====
abbrev S8448x4096 : Shape := ⟨2, ![8448, 4096]⟩
abbrev S2x21920x4096 : Shape := ⟨3, ![2, 21920, 4096]⟩
abbrev S1x6144x4096 : Shape := ⟨3, ![1, 6144, 4096]⟩
abbrev S6144x4096 : Shape := ⟨2, ![6144, 4096]⟩
abbrev S4096x6144 : Shape := ⟨2, ![4096, 6144]⟩
abbrev S8448x6144 : Shape := ⟨2, ![8448, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x21920x4096, .f32⟩
  | .hbm, ⟨2, _⟩ => ⟨S8448x4096, .f32⟩
  | .hbm, ⟨3, _⟩ => ⟨S1x6144x4096, .f32⟩
  | .hbm, ⟨4, _⟩ => ⟨S6144x4096, .f32⟩
  | .hbm, ⟨5, _⟩ => ⟨S4096x6144, .f32⟩
  | .hbm, ⟨6, _⟩ => ⟨S8448x6144, .f32⟩
  | .hbm, ⟨7, _⟩ => ⟨S8448x6144, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S8192x11264 : Shape := ⟨2, ![8192, 11264]⟩
abbrev S2x11264x4096 : Shape := ⟨3, ![2, 11264, 4096]⟩
abbrev S8192x4096 : Shape := ⟨2, ![8192, 4096]⟩
abbrev S2x4096 : Shape := ⟨2, ![2, 4096]⟩
abbrev S1024x2816 : Shape := ⟨2, ![1024, 2816]⟩
abbrev S1x2816x1024 : Shape := ⟨3, ![1, 2816, 1024]⟩
abbrev S1024x1024 : Shape := ⟨2, ![1024, 1024]⟩
abbrev S2x1024 : Shape := ⟨2, ![2, 1024]⟩
abbrev S2816x1024 : Shape := ⟨2, ![2816, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x11264, .bf16⟩
  | .hbm, ⟨1, _⟩ => ⟨S2x11264x4096, .bf16⟩
  | .hbm, ⟨2, _⟩ => ⟨S8192x4096, .f32⟩
  | .hbm, ⟨3, _⟩ => ⟨S2x4096, .f32⟩
  | .hbm, ⟨4, _⟩ => ⟨S8192x4096, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S2x1024, .f32⟩
  | .local _ .vmem, ⟨7, _⟩ => ⟨S2x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c0_i32_0 : BitVec 32 := 0#32
  ![c1_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DownRefIdeal.lean ====
abbrev S8192x11264 : Shape := ⟨2, ![8192, 11264]⟩
abbrev S2x11264x4096 : Shape := ⟨3, ![2, 11264, 4096]⟩
abbrev S8192x4096 : Shape := ⟨2, ![8192, 4096]⟩
abbrev S2x4096 : Shape := ⟨2, ![2, 4096]⟩
abbrev S1x4096 : Shape := ⟨2, ![1, 4096]⟩
abbrev S4096 : Shape := ⟨1, ![4096]⟩
abbrev S1x11264x4096 : Shape := ⟨3, ![1, 11264, 4096]⟩
abbrev S11264x4096 : Shape := ⟨2, ![11264, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2x11264x4096, .bf16⟩
  | .hbm, ⟨2, _⟩ => ⟨S8192x4096, .f32⟩
  | .hbm, ⟨3, _⟩ => ⟨S2x4096, .f32⟩
  | .hbm, ⟨4, _⟩ => ⟨S1x4096, .f32⟩
  | .hbm, ⟨5, _⟩ => ⟨S4096, .f32⟩
  | .hbm, ⟨6, _⟩ => ⟨S8192x11264, .f32⟩
  | .hbm, ⟨7, _⟩ => ⟨S1x11264x4096, .bf16⟩
  | .hbm, ⟨8, _⟩ => ⟨S11264x4096, .bf16⟩
  | .hbm, ⟨9, _⟩ => ⟨S11264x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Out.lean ====
abbrev S8192x4096 : Shape := ⟨2, ![8192, 4096]⟩
abbrev S2x4096x4096 : Shape := ⟨3, ![2, 4096, 4096]⟩
abbrev S8448x4096 : Shape := ⟨2, ![8448, 4096]⟩
abbrev S2x4096 : Shape := ⟨2, ![2, 4096]⟩
abbrev S1024x4096 : Shape := ⟨2, ![1024, 4096]⟩
abbrev S1x4096x512 : Shape := ⟨3, ![1, 4096, 512]⟩
abbrev S1024x512 : Shape := ⟨2, ![1024, 512]⟩
abbrev S2x512 : Shape := ⟨2, ![2, 512]⟩
abbrev S4096x512 : Shape := ⟨2, ![4096, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .bf16⟩
  | .hbm, ⟨2, _⟩ => ⟨S8448x4096, .f32⟩
  | .hbm, ⟨3, _⟩ => ⟨S2x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S2x512, .f32⟩
  | .local _ .vmem, ⟨7, _⟩ => ⟨S2x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c0_i32_0 : BitVec 32 := 0#32
  ![c1_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRefIdeal.lean ====
abbrev S8192x4096 : Shape := ⟨2, ![8192, 4096]⟩
abbrev S2x4096x4096 : Shape := ⟨3, ![2, 4096, 4096]⟩
abbrev S8448x4096 : Shape := ⟨2, ![8448, 4096]⟩
abbrev S2x4096 : Shape := ⟨2, ![2, 4096]⟩
abbrev S1x4096 : Shape := ⟨2, ![1, 4096]⟩
abbrev S4096 : Shape := ⟨1, ![4096]⟩
abbrev S1x4096x4096 : Shape := ⟨3, ![1, 4096, 4096]⟩
abbrev S4096x4096 : Shape := ⟨2, ![4096, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .bf16⟩
  | .hbm, ⟨2, _⟩ => ⟨S8448x4096, .f32⟩
  | .hbm, ⟨3, _⟩ => ⟨S2x4096, .f32⟩
  | .hbm, ⟨4, _⟩ => ⟨S8192x4096, .f32⟩
  | .hbm, ⟨5, _⟩ => ⟨S1x4096, .f32⟩
  | .hbm, ⟨6, _⟩ => ⟨S4096, .f32⟩
  | .hbm, ⟨7, _⟩ => ⟨S8192x4096, .f32⟩
  | .hbm, ⟨8, _⟩ => ⟨S1x4096x4096, .bf16⟩
  | .hbm, ⟨9, _⟩ => ⟨S4096x4096, .bf16⟩
  | .hbm, ⟨10, _⟩ => ⟨S4096x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Merge.lean ====
abbrev S8192x2048 : Shape := ⟨2, ![8192, 2048]⟩
abbrev S8192x1024 : Shape := ⟨2, ![8192, 1024]⟩
abbrev S2x2048x4096 : Shape := ⟨3, ![2, 2048, 4096]⟩
abbrev S2x1024x4096 : Shape := ⟨3, ![2, 1024, 4096]⟩
abbrev S8192x12288 : Shape := ⟨2, ![8192, 12288]⟩
abbrev S8192x4096 : Shape := ⟨2, ![8192, 4096]⟩
abbrev S512x2048 : Shape := ⟨2, ![512, 2048]⟩
abbrev S512x1024 : Shape := ⟨2, ![512, 1024]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 8
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S2x2048x4096, .bf16⟩
  | .hbm, ⟨4, _⟩ => ⟨S2x1024x4096, .bf16⟩
  | .hbm, ⟨5, _⟩ => ⟨S2x1024x4096, .bf16⟩
  | .hbm, ⟨6, _⟩ => ⟨S8192x12288, .bf16⟩
  | .hbm, ⟨7, _⟩ => ⟨S8192x4096, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8192x2048 : Shape := ⟨2, ![8192, 2048]⟩
abbrev S8192x1024 : Shape := ⟨2, ![8192, 1024]⟩
abbrev S2x2048x4096 : Shape := ⟨3, ![2, 2048, 4096]⟩
abbrev S2x1024x4096 : Shape := ⟨3, ![2, 1024, 4096]⟩
abbrev S8192x12288 : Shape := ⟨2, ![8192, 12288]⟩
abbrev S8192x4096 : Shape := ⟨2, ![8192, 4096]⟩
abbrev S1x2048x4096 : Shape := ⟨3, ![1, 2048, 4096]⟩
abbrev S2048x4096 : Shape := ⟨2, ![2048, 4096]⟩
abbrev S1x1024x4096 : Shape := ⟨3, ![1, 1024, 4096]⟩
abbrev S1024x4096 : Shape := ⟨2, ![1024, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S2x2048x4096, .bf16⟩
  | .hbm, ⟨4, _⟩ => ⟨S2x1024x4096, .bf16⟩
  | .hbm, ⟨5, _⟩ => ⟨S2x1024x4096, .bf16⟩
  | .hbm, ⟨6, _⟩ => ⟨S8192x12288, .bf16⟩
  | .hbm, ⟨7, _⟩ => ⟨S8192x12288, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x2048, .f32⟩
  | .hbm, ⟨12, _⟩ => ⟨S1x2048x4096, .bf16⟩
  | .hbm, ⟨13, _⟩ => ⟨S2048x4096, .bf16⟩
  | .hbm, ⟨14, _⟩ => ⟨S2048x4096, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S1x1024x4096, .bf16⟩
  | .hbm, ⟨19, _⟩ => ⟨S1024x4096, .bf16⟩
  | .hbm, ⟨20, _⟩ => ⟨S1024x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x1024, .f32⟩
  | .hbm, ⟨25, _⟩ => ⟨S1x1024x4096, .bf16⟩
  | .hbm, ⟨26, _⟩ => ⟨S1024x4096, .bf16⟩
  | .hbm, ⟨27, _⟩ => ⟨S1024x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Softmax.lean ====
module

public import Idealize.ShloMosaic.PureOps.Ideal
public import Idealize.ShloMosaic.PureOps.Vector
public import Mathlib.Data.EReal.Operations
public import Mathlib.Algebra.BigOperators.Fin
public import Mathlib.Analysis.SpecialFunctions.Pow.Real

@[expose] public section

noncomputable section

/-! # Weighted sums with weights `2 ^ (score - shift)` over the extended reals

The running state of a softmax row that is read tile by tile: a real shift `M` (the maximum so far, although
only its being a real number matters) and the sum of `2 ^ (s l - M) * w l` over the keys read so far. Changing the
shift multiplies the sum by a positive real, which distributes over a sum of extended reals whatever the `w l` are. -/

namespace Cert.Attn

open Idealize.ShloMosaic Finset

/-- A nonnegative real factor distributes over a finite sum of extended reals. -/
theorem coe_mul_sum {ι : Type*} (c : ℝ) (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [sum_insert ha, sum_insert ha, ← ih]
    exact EReal.left_distrib_of_nonneg_of_ne_top (by exact_mod_cast hc) (EReal.coe_ne_top c) _ _

/-- The embedding of the reals commutes with finite sums. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [sum_insert ha, sum_insert ha, EReal.coe_add, ih]

/-- A maximum over finitely many reals, at least one, is a real. -/
theorem fold_max_real {ι : Type*} (t : Finset ι) (ht : t.Nonempty) (f : ι → EReal) (g : ι → ℝ) (h : ∀ i ∈ t, f i = (g i : EReal)) :
    ∃ r : ℝ, t.fold max (⊥ : EReal) f = (r : EReal) := by
  have hb : (⊥ : EReal) < t.fold max ⊥ f := by
    obtain ⟨i, hi⟩ := ht
    exact (Finset.lt_fold_max _).2 (Or.inr ⟨i, hi, by rw [h i hi]; exact EReal.bot_lt_coe _⟩)
  have htp : t.fold max ⊥ f < (⊤ : EReal) :=
    (Finset.fold_max_lt _).2 ⟨bot_lt_top, fun i hi => by rw [h i hi]; exact EReal.coe_lt_top _⟩
  exact ⟨(t.fold max ⊥ f).toReal, (EReal.coe_toReal htp.ne hb.ne').symm⟩

/-- The vector maximum at an index. -/
theorem maximumf_at {s : Shape} {φ : FTy} (a b : FVec Ideal s φ) (j : s.Idx) : maximumf a b j = max (a j : EReal) (b j) := rfl

/-- The sum of `2 ^ (s l - M) * w l` over the first `n` keys. -/
def wsum (s : ℕ → ℝ) (w : ℕ → EReal) (n : ℕ) (M : ℝ) : EReal :=
  ∑ l ∈ range n, ((Real.rpow 2 (s l - M) : ℝ) : EReal) * w l

/-- Moving the shift from `M` to `M'` multiplies the sum by `2 ^ (M - M')`. -/
theorem wsum_shift (s : ℕ → ℝ) (w : ℕ → EReal) (n : ℕ) (M M' : ℝ) :
    Ideal.exp2 ((M : EReal) - (M' : EReal)) * wsum s w n M = wsum s w n M' := by
  rw [← EReal.coe_sub, Ideal.exp2_coe, wsum, coe_mul_sum (Real.rpow 2 (M - M')) (Real.rpow_nonneg (by norm_num) _)]
  refine Finset.sum_congr rfl fun l _ => ?_
  rw [← mul_assoc, ← EReal.coe_mul]
  congr 2
  show (2 : ℝ) ^ (M - M') * (2 : ℝ) ^ (s l - M) = (2 : ℝ) ^ (s l - M')
  rw [← Real.rpow_add (by norm_num)]
  congr 1
  ring

/-- The next `c` keys, at the shift `M`. -/
theorem tile_sum (s : ℕ → ℝ) (w : ℕ → EReal) (n c : ℕ) (M : ℝ) :
    ∑ l : Fin c, Ideal.exp2 ((s (n + l) : EReal) - (M : EReal)) * w (n + l)
      = ∑ l ∈ range c, ((Real.rpow 2 (s (n + l) - M) : ℝ) : EReal) * w (n + l) := by
  rw [Fin.sum_univ_eq_sum_range (fun l => Ideal.exp2 ((s (n + l) : EReal) - (M : EReal)) * w (n + l)) c]
  refine Finset.sum_congr rfl fun l _ => ?_
  rw [← EReal.coe_sub, Ideal.exp2_coe]

/-- One tile of the running sum: the old sum rescaled, plus the new keys. -/
theorem wsum_step (s : ℕ → ℝ) (w : ℕ → EReal) (n c : ℕ) (M M' : ℝ) :
    Ideal.exp2 ((M : EReal) - (M' : EReal)) * wsum s w n M
        + ∑ l : Fin c, Ideal.exp2 ((s (n + l) : EReal) - (M' : EReal)) * w (n + l)
      = wsum s w (n + c) M' := by
  rw [wsum_shift, tile_sum, wsum, wsum, sum_range_add]

/-- The weights without values: a positive real. -/
theorem wsum_one (s : ℕ → ℝ) (n : ℕ) (M : ℝ) :
    wsum s (fun _ => 1) n M = ((∑ l ∈ range n, Real.rpow 2 (s l - M) : ℝ) : EReal) := by
  rw [wsum, coe_sum]
  exact Finset.sum_congr rfl fun l _ => mul_one _

theorem weights_pos (s : ℕ → ℝ) (n : ℕ) (hn : 0 < n) (M : ℝ) : 0 < ∑ l ∈ range n, Real.rpow 2 (s l - M) :=
  Finset.sum_pos (fun _ _ => Real.rpow_pos_of_pos (by norm_num) _) ⟨0, mem_range.2 hn⟩

/-- THE SOFTMAX ROW: the quotient of the two running sums is the softmax-weighted sum of the values, whatever real
    shifts the two sides use. The left side shifts in base 2, the right side takes `exp` of the score times `log 2`. -/
theorem quotient (s : ℕ → ℝ) (w : ℕ → EReal) (n : ℕ) (hn : 0 < n) (M M' : ℝ) :
    Ideal.div (wsum s w n M) (wsum s (fun _ => 1) n M)
      = ∑ l : Fin n, w l * Ideal.div (Ideal.exp ((s l : EReal) * ((Real.log 2 : ℝ) : EReal) - (M' : EReal)))
          (∑ l : Fin n, Ideal.exp ((s l : EReal) * ((Real.log 2 : ℝ) : EReal) - (M' : EReal))) := by
  have key : ∀ x : ℝ, Ideal.exp ((x : EReal) * ((Real.log 2 : ℝ) : EReal) - (M' : EReal))
      = ((Real.exp (M * Real.log 2 - M') * Real.rpow 2 (x - M) : ℝ) : EReal) := fun x => by
    rw [← EReal.coe_mul, ← EReal.coe_sub, Ideal.exp_coe]
    congr 1
    show _ = _ * (2 : ℝ) ^ (x - M)
    rw [Real.rpow_def_of_pos (by norm_num), ← Real.exp_add]
    congr 1
    ring
  simp only [key]
  set K := Real.exp (M * Real.log 2 - M') with hK
  have hKp : 0 < K := Real.exp_pos _
  have hZ := weights_pos s n hn M
  set Z := ∑ l ∈ range n, Real.rpow 2 (s l - M) with hZdef
  have hden : ∑ l : Fin n, ((K * Real.rpow 2 (s l - M) : ℝ) : EReal) = ((K * Z : ℝ) : EReal) := by
    rw [← coe_sum, ← Finset.mul_sum, Fin.sum_univ_eq_sum_range (fun l => Real.rpow 2 (s l - M)) n]
  rw [hden, wsum_one, Ideal.div_coe hZ.ne', mul_comm, wsum, coe_mul_sum _ (by positivity),
    Fin.sum_univ_eq_sum_range (fun l => w l * Ideal.div ((K * Real.rpow 2 (s l - M) : ℝ) : EReal) ((K * Z : ℝ) : EReal)) n]
  refine Finset.sum_congr rfl fun l _ => ?_
  rw [Ideal.div_coe (mul_pos hKp hZ).ne', mul_comm (w l), ← mul_assoc, ← EReal.coe_mul, ← EReal.coe_mul]
  congr 2
  field_simp

end Cert.Attn

end
-- ==== Proof.Tile.lean ====
module

public import proofs.«01_k».proof.Proof.Gen.KernelIdeal.Skeleton
public import proofs.«01_k».proof.Proof.Softmax
public import Idealize.ShloMosaic.Lib.Pointwise

@[expose] public section

set_option maxRecDepth 16384

noncomputable section

/-! # One key/value tile of the attention kernel, and the eleven in order

The kernel's payloads are the compositions of four vector functions: the scores of a tile, the running maximum,
the running weighted sum and the closing quotient. -/

namespace Cert.KernelIdeal.Row

open Idealize.ShloMosaic Idealize.ShloMosaic.TcCoe Idealize.SL.Sem
open Cert.KernelIdeal Cert.KernelIdeal.Gen

section Generic
variable {F : FTy → Type} [FloatOps F]

/-- Scores of the 1024 stacked query rows against one tile of 768 keys. -/
def score (q : FVec F S1024x128 .bf16) (k : FVec F S768x128 .bf16) : FVec F S1024x768 .f32 :=
  matmul dot_S1024x128_S768x128_S1024x768_1_1_0_0_n_n none q k (constant S1024x768 .f32 0x00000000#32)

/-- Row maxima of a tile's scores. -/
def rowMax (s : FVec F S1024x768 .f32) : FVec F S1024x1 .f32 :=
  shapeCast S1024x1 (multiReduction .maximumf [1] S1024 s 0xFF800000#32 reduces_S1024x768_S1024 (.inl rfl) rfl) shapeCasts_S1024_S1024x1

/-- A value tile beside the columns that count the weights. -/
def withOnes (ones : FVec F S768x128 .bf16) (v : FVec F S768x128 .bf16) : FVec F S768x256 .bf16 :=
  concatenate S768x256 1 [⟨S768x128, v⟩, ⟨S768x128, ones⟩] concatenates_S768x128_S768x128_S768x256_d1

/-- The tile's weighted sum at the shifts `m`. -/
def part (m : FVec F S1024x1 .f32) (s : FVec F S1024x768 .f32) (e : FVec F S768x256 .bf16) : FVec F S1024x256 .f32 :=
  matmul dot_S1024x768_S768x256_S1024x256_1_0_0_1_n_n none
    (truncf .bf16 (exp2 (subf s (broadcastTo S1024x768 m broadcasts_S1024x1_S1024x768))) bitsLt_bf16_f32) e (constant S1024x256 .f32 0x00000000#32)

/-- The running maximum after a further tile. -/
def nextMax (m : FVec F S1024x1 .f32) (s : FVec F S1024x768 .f32) : FVec F S1024x1 .f32 := maximumf m (rowMax s)

/-- The old weighted sum, moved to the new shift. -/
def rescale (m m' : FVec F S1024x1 .f32) (a : FVec F S1024x256 .f32) : FVec F S1024x256 .f32 :=
  mulf (broadcastTo S1024x256 (exp2 (subf m m')) broadcasts_S1024x1_S1024x256) a

/-- The running weighted sum after a further tile. -/
def nextAcc (m m' : FVec F S1024x1 .f32) (a : FVec F S1024x256 .f32) (s : FVec F S1024x768 .f32) (e : FVec F S768x256 .bf16) : FVec F S1024x256 .f32 :=
  addf (rescale m m' a) (part m' s e)

/-- The value columns divided by the column that counts the weights. -/
def close (a : FVec F S1024x256 .f32) : FVec F S1024x128 .f32 :=
  divf (extractStridedSlice S1024x128 ![0, 0] a slices_S1024x256_o0_0_S1024x128)
    (broadcastTo S1024x128 (extractStridedSlice S1024x1 ![0, 128] a slices_S1024x256_o0_128_S1024x1) broadcasts_S1024x1_S1024x128)

/-- The running maximum after tiles `0 … j`. -/
def maxAt (q : FVec F S1024x128 .bf16) (k : ℕ → FVec F S768x128 .bf16) : ℕ → FVec F S1024x1 .f32
  | 0 => rowMax (score q (k 0))
  | j + 1 => nextMax (maxAt q k j) (score q (k (j + 1)))

/-- The running weighted sum after tiles `0 … j`. -/
def accAt (q : FVec F S1024x128 .bf16) (ones : FVec F S768x128 .bf16) (k v : ℕ → FVec F S768x128 .bf16) : ℕ → FVec F S1024x256 .f32
  | 0 => part (maxAt q k 0) (score q (k 0)) (withOnes ones (v 0))
  | j + 1 => nextAcc (maxAt q k j) (maxAt q k (j + 1)) (accAt q ones k v j) (score q (k (j + 1))) (withOnes ones (v (j + 1)))

/-- Eleven tiles as a function of the tile number. -/
def tiles (k0 k1 k2 k3 k4 k5 k6 k7 k8 k9 k10 : FVec F S768x128 .bf16) : ℕ → FVec F S768x128 .bf16
  | 0 => k0 | 1 => k1 | 2 => k2 | 3 => k3 | 4 => k4 | 5 => k5 | 6 => k6 | 7 => k7 | 8 => k8 | 9 => k9 | _ => k10

variable (q0 q1 q2 q3 : FVec F S256x128 .bf16) (k0 k1 k2 k3 k4 k5 k6 k7 k8 k9 k10 v0 v1 v2 v3 v4 v5 v6 v7 v8 v9 v10 : FVec F S768x128 .bf16)

theorem max1 : k0_pay9 q0 q1 q2 q3 k0 k1 = maxAt (k0_pay3 q0 q1 q2 q3) (tiles k0 k1 k2 k3 k4 k5 k6 k7 k8 k9 k10) 1 := rfl
theorem max3 (q : FVec F S1024x128 .bf16) : k0_pay14 q (maxAt q (tiles k0 k1 k2 k3 k4 k5 k6 k7 k8 k9 k10) 1) k2 k3
    = maxAt q (tiles k0 k1 k2 k3 k4 k5 k6 k7 k8 k9 k10) 3 := rfl
theorem max6 (q : FVec F S1024x128 .bf16) : k0_pay22 q (maxAt q (tiles k0 k1 k2 k3 k4 k5 k6 k7 k8 k9 k10) 3) k4 k5 k6
    = maxAt q (tiles k0 k1 k2 k3 k4 k5 k6 k7 k8 k9 k10) 6 := rfl
theorem max8 (q : FVec F S1024x128 .bf16) : k0_pay27 q (maxAt q (tiles k0 k1 k2 k3 k4 k5 k6 k7 k8 k9 k10) 6) k7 k8
    = maxAt q (tiles k0 k1 k2 k3 k4 k5 k6 k7 k8 k9 k10) 8 := rfl

theorem acc0 : k0_pay10 q0 q1 q2 q3 k0 v0 k1
    = rescale (maxAt (k0_pay3 q0 q1 q2 q3) (tiles k0 k1 k2 k3 k4 k5 k6 k7 k8 k9 k10) 0) (maxAt (k0_pay3 q0 q1 q2 q3) (tiles k0 k1 k2 k3 k4 k5 k6 k7 k8 k9 k10) 1)
        (accAt (k0_pay3 q0 q1 q2 q3) k0_pay4 (tiles k0 k1 k2 k3 k4 k5 k6 k7 k8 k9 k10) (tiles v0 v1 v2 v3 v4 v5 v6 v7 v8 v9 v10) 0) := rfl

theorem acc3 : k0_pay15 (k0_pay3 q0 q1 q2 q3) k0_pay4 (k0_pay7 v1) (k0_pay8 q0 q1 q2 q3 k1)
      (maxAt (k0_pay3 q0 q1 q2 q3) (tiles k0 k1 k2 k3 k4 k5 k6 k7 k8 k9 k10) 1)
      (rescale (maxAt (k0_pay3 q0 q1 q2 q3) (tiles k0 k1 k2 k3 k4 k5 k6 k7 k8 k9 k10) 0) (maxAt (k0_pay3 q0 q1 q2 q3) (tiles k0 k1 k2 k3 k4 k5 k6 k7 k8 k9 k10) 1)
        (accAt (k0_pay3 q0 q1 q2 q3) k0_pay4 (tiles k0 k1 k2 k3 k4 k5 k6 k7 k8 k9 k10) (tiles v0 v1 v2 v3 v4 v5 v6 v7 v8 v9 v10) 0)) k2 v2 k3 v3
    = accAt (k0_pay3 q0 q1 q2 q3) k0_pay4 (tiles k0 k1 k2 k3 k4 k5 k6 k7 k8 k9 k10) (tiles v0 v1 v2 v3 v4 v5 v6 v7 v8 v9 v10) 3 := rfl

theorem acc5 (q : FVec F S1024x128 .bf16) (o : FVec F S768x128 .bf16) :
    k0_pay23 q o (maxAt q (tiles k0 k1 k2 k3 k4 k5 k6 k7 k8 k9 k10) 3)
      (accAt q o (tiles k0 k1 k2 k3 k4 k5 k6 k7 k8 k9 k10) (tiles v0 v1 v2 v3 v4 v5 v6 v7 v8 v9 v10) 3) k4 v4 k5 v5 k6
    = rescale (maxAt q (tiles k0 k1 k2 k3 k4 k5 k6 k7 k8 k9 k10) 5) (maxAt q (tiles k0 k1 k2 k3 k4 k5 k6 k7 k8 k9 k10) 6)
        (accAt q o (tiles k0 k1 k2 k3 k4 k5 k6 k7 k8 k9 k10) (tiles v0 v1 v2 v3 v4 v5 v6 v7 v8 v9 v10) 5) := rfl

theorem acc8 (q : FVec F S1024x128 .bf16) (o : FVec F S768x128 .bf16) :
    k0_pay28 q o (k0_pay20 o v6) (k0_pay21 q k6) (maxAt q (tiles k0 k1 k2 k3 k4 k5 k6 k7 k8 k9 k10) 6)
      (rescale (maxAt q (tiles k0 k1 k2 k3 k4 k5 k6 k7 k8 k9 k10) 5) (maxAt q (tiles k0 k1 k2 k3 k4 k5 k6 k7 k8 k9 k10) 6)
        (accAt q o (tiles k0 k1 k2 k3 k4 k5 k6 k7 k8 k9 k10) (tiles v0 v1 v2 v3 v4 v5 v6 v7 v8 v9 v10) 5)) k7 v7 k8 v8
    = accAt q o (tiles k0 k1 k2 k3 k4 k5 k6 k7 k8 k9 k10) (tiles v0 v1 v2 v3 v4 v5 v6 v7 v8 v9 v10) 8 := rfl

theorem quot (q : FVec F S1024x128 .bf16) (o : FVec F S768x128 .bf16) :
    k0_pay29 q o (maxAt q (tiles k0 k1 k2 k3 k4 k5 k6 k7 k8 k9 k10) 8)
      (accAt q o (tiles k0 k1 k2 k3 k4 k5 k6 k7 k8 k9 k10) (tiles v0 v1 v2 v3 v4 v5 v6 v7 v8 v9 v10) 8) k9 v9 k10 v10
    = close (accAt q o (tiles k0 k1 k2 k3 k4 k5 k6 k7 k8 k9 k10) (tiles v0 v1 v2 v3 v4 v5 v6 v7 v8 v9 v10) 10) := rfl

end Generic

/-! ## Read at a row, over the extended reals -/

theorem score_at (q : FVec Ideal S1024x128 .bf16) (k : FVec Ideal S768x128 .bf16) (r : Fin 1024) (l : Fin 768) :
    score (F := Ideal) q k (ix2 r l) = ∑ d : Fin 128, q (ix2 r d) * k (ix2 l d) := by
  pointwise [score]

/-- The pattern of `-∞`. -/
theorem negInf : Ideal.ofBits .f32 0xFF800000#32 = ⊥ := by simp [Ideal.ofBits, Ideal.ieee]

theorem rowMax_at (s : FVec Ideal S1024x768 .f32) (r : Fin 1024) :
    rowMax (F := Ideal) s (ix2 r 0) = Finset.univ.fold max (⊥ : EReal) fun l : Fin 768 => s (ix2 r l) := by
  pointwise [rowMax]
  rw [negInf]

theorem part_at (m : FVec Ideal S1024x1 .f32) (s : FVec Ideal S1024x768 .f32) (e : FVec Ideal S768x256 .bf16) (r : Fin 1024) (c : Fin 256) :
    part (F := Ideal) m s e (ix2 r c) = ∑ l : Fin 768, Ideal.exp2 (s (ix2 r l) - m (ix2 r 0)) * e (ix2 l c) := by
  pointwise [part]
  all_goals rfl

theorem rescale_at (m m' : FVec Ideal S1024x1 .f32) (a : FVec Ideal S1024x256 .f32) (r : Fin 1024) (c : Fin 256) :
    rescale (F := Ideal) m m' a (ix2 r c) = Ideal.exp2 (m (ix2 r 0) - m' (ix2 r 0)) * a (ix2 r c) := by
  pointwise [rescale]
  all_goals rfl

theorem close_at (a : FVec Ideal S1024x256 .f32) (r : Fin 1024) (d : Fin 128) :
    close (F := Ideal) a (ix2 r d) = Ideal.div (a (ix2 r ⟨d.val, by omega⟩)) (a (ix2 r 128)) := by
  pointwise [close]
  all_goals rfl

theorem withOnes_value (v : FVec Ideal S768x128 .bf16) (l : Fin 768) (d : Fin 128) :
    withOnes (F := Ideal) k0_pay4 v (ix2 l ⟨d.val, by omega⟩) = v (ix2 l d) := by
  pointwise [withOnes, k0_pay4]
  all_goals rfl

theorem withOnes_one (v : FVec Ideal S768x128 .bf16) (l : Fin 768) :
    withOnes (F := Ideal) k0_pay4 v (ix2 l 128) = 1 := by
  pointwise [withOnes, k0_pay4]
  all_goals rfl

/-! ## The row -/

section Row
variable (q : FVec Ideal S1024x128 .bf16) (k v : ℕ → FVec Ideal S768x128 .bf16) (r : Fin 1024)

/-- The score of key `n`, counted through the tiles, at row `r`. -/
def scoreAt (n : ℕ) : EReal := score (F := Ideal) q (k (n / 768)) (ix2 r ⟨n % 768, Nat.mod_lt _ (by norm_num)⟩)

/-- Column `c` of key `n` of the value tiles with their counting columns. -/
def colAt (v : ℕ → FVec Ideal S768x128 .bf16) (c : Fin 256) (n : ℕ) : EReal :=
  withOnes (F := Ideal) k0_pay4 (v (n / 768)) (ix2 ⟨n % 768, Nat.mod_lt _ (by norm_num)⟩ c)

theorem tile_div (j : ℕ) (l : Fin 768) : (768 * j + l.val) / 768 = j := by omega
theorem tile_mod (j : ℕ) (l : Fin 768) : (⟨(768 * j + l.val) % 768, Nat.mod_lt _ (by norm_num)⟩ : Fin 768) = l := by
  apply Fin.ext; show (768 * j + l.val) % 768 = l.val; omega

theorem scoreAt_tile (j : ℕ) (l : Fin 768) : scoreAt q k r (768 * j + l.val) = score (F := Ideal) q (k j) (ix2 r l) := by
  unfold scoreAt; rw [tile_mod, tile_div]

theorem colAt_tile (c : Fin 256) (j : ℕ) (l : Fin 768) : colAt v c (768 * j + l.val) = withOnes (F := Ideal) k0_pay4 (v j) (ix2 l c) := by
  unfold colAt; rw [tile_mod, tile_div]

variable (s : ℕ → ℝ) (hs : ∀ n, scoreAt q k r n = (s n : EReal))
include hs

theorem rowMax_real (j : ℕ) : ∃ M : ℝ, rowMax (F := Ideal) (score q (k j)) (ix2 r 0) = (M : EReal) := by
  rw [rowMax_at]
  exact Cert.Attn.fold_max_real _ Finset.univ_nonempty _ (fun l : Fin 768 => s (768 * j + l.val)) fun l _ => by
    rw [← hs, scoreAt_tile]

theorem maxAt_real : ∀ j : ℕ, ∃ M : ℝ, maxAt (F := Ideal) q k j (ix2 r 0) = (M : EReal)
  | 0 => rowMax_real q k r s hs 0
  | j + 1 => by
    obtain ⟨M, hM⟩ := maxAt_real j
    obtain ⟨N, hN⟩ := rowMax_real q k r s hs (j + 1)
    refine ⟨max M N, ?_⟩
    have e : maxAt (F := Ideal) q k (j + 1) = maximumf (maxAt (F := Ideal) q k j) (rowMax (F := Ideal) (score q (k (j + 1)))) := by
      conv_lhs => unfold maxAt
      unfold nextMax
      exact Eq.refl _
    rw [e, Cert.Attn.maximumf_at, hM, hN]
    exact (EReal.coe_strictMono.monotone.map_max).symm

theorem part_tile (j : ℕ) (m : FVec Ideal S1024x1 .f32) (M : ℝ) (hM : m (ix2 r 0) = (M : EReal)) (c : Fin 256) :
    part (F := Ideal) m (score q (k j)) (withOnes k0_pay4 (v j)) (ix2 r c)
      = ∑ l : Fin 768, Ideal.exp2 ((s (768 * j + l.val) : EReal) - (M : EReal)) * colAt v c (768 * j + l.val) := by
  rw [part_at, hM]
  refine Finset.sum_congr rfl fun l _ => ?_
  rw [← hs, scoreAt_tile, colAt_tile]

/-- THE INVARIANT: after tiles `0 … j` the running sum is the weighted sum of the first `768 (j + 1)` keys at the running shift. -/
theorem accAt_eq (c : Fin 256) (j : ℕ) : ∀ M : ℝ, maxAt (F := Ideal) q k j (ix2 r 0) = (M : EReal) →
    accAt (F := Ideal) q k0_pay4 k v j (ix2 r c) = Cert.Attn.wsum s (colAt v c) (768 * (j + 1)) M := by
  induction j with
  | zero =>
    intro M hM
    have h : accAt (F := Ideal) q k0_pay4 k v 0 = part (F := Ideal) (maxAt q k 0) (score q (k 0)) (withOnes k0_pay4 (v 0)) := by
      unfold accAt; exact Eq.refl _
    rw [h, part_tile q k v r s hs 0 _ M hM, Cert.Attn.tile_sum s (colAt v c) (768 * 0) 768 M, Nat.mul_zero, Nat.zero_add, Nat.mul_one]
    unfold Cert.Attn.wsum
    exact Finset.sum_congr (Eq.refl _) fun l _ => by rw [Nat.zero_add]
  | succ j ih =>
    intro M' hM'
    obtain ⟨M, hM⟩ := maxAt_real q k r s hs j
    have h : accAt (F := Ideal) q k0_pay4 k v (j + 1) (ix2 r c)
        = rescale (F := Ideal) (maxAt q k j) (maxAt q k (j + 1)) (accAt q k0_pay4 k v j) (ix2 r c)
          + part (F := Ideal) (maxAt q k (j + 1)) (score q (k (j + 1))) (withOnes k0_pay4 (v (j + 1))) (ix2 r c) := by
      conv_lhs => unfold accAt
      unfold nextAcc
      pointwise
    rw [h, rescale_at, ih M hM, hM, hM', part_tile q k v r s hs (j + 1) _ M' hM', Cert.Attn.wsum_step s (colAt v c) (768 * (j + 1)) 768 M M',
      ← Nat.mul_succ]

/-- THE ROW: what the kernel divides at the end is the softmax-weighted sum of the values. -/
theorem row_eq (d : Fin 128) (M' : ℝ) :
    close (F := Ideal) (accAt q k0_pay4 k v 10) (ix2 r d)
      = ∑ n : Fin 8448, v (n.val / 768) (ix2 ⟨n.val % 768, Nat.mod_lt _ (by norm_num)⟩ d)
          * Ideal.div (Ideal.exp (scoreAt q k r n.val * ((Real.log 2 : ℝ) : EReal) - (M' : EReal)))
              (∑ n : Fin 8448, Ideal.exp (scoreAt q k r n.val * ((Real.log 2 : ℝ) : EReal) - (M' : EReal))) := by
  obtain ⟨M, hM⟩ := maxAt_real q k r s hs 10
  have hone : colAt v 128 = fun _ => 1 := funext fun n => by unfold colAt; rw [withOnes_one]
  rw [close_at, accAt_eq q k v r s hs _ 10 M hM, accAt_eq q k v r s hs _ 10 M hM, hone,
    Cert.Attn.quotient s _ (768 * (10 + 1)) (by norm_num) M M']
  simp only [hs]
  refine Finset.sum_congr rfl fun n _ => ?_
  unfold colAt
  rw [withOnes_value]

end Row

/-! ## The eleven tiles of one block of keys or values -/

/-- Rows `768 j … 768 j + 767` of the staged keys or values. -/
def tile (x : FVec Ideal S8448x128 .bf16) (j : ℕ) : FVec Ideal S768x128 .bf16 :=
  fun i => x (ix2 ⟨(768 * j + (i 0).val) % 8448, Nat.mod_lt _ (by norm_num)⟩ (i 1))

theorem tile_at (x : FVec Ideal S8448x128 .bf16) (n : Fin 8448) (d : Fin 128) :
    tile x (n.val / 768) (ix2 ⟨n.val % 768, Nat.mod_lt _ (by norm_num)⟩ d) = x (ix2 n d) := by
  show x (ix2 ⟨(768 * (n.val / 768) + n.val % 768) % 8448, _⟩ d) = _
  congr 2
  apply Fin.ext
  show (768 * (n.val / 768) + n.val % 768) % 8448 = n.val
  omega

theorem tiles_tile (x : FVec Ideal S8448x128 .bf16) (n : Fin 8448) :
    tiles (F := Ideal) (tile x 0) (tile x 1) (tile x 2) (tile x 3) (tile x 4) (tile x 5) (tile x 6) (tile x 7) (tile x 8) (tile x 9) (tile x 10) (n.val / 768)
      = tile x (n.val / 768) := by
  have h : n.val / 768 < 11 := by omega
  generalize n.val / 768 = j at h
  interval_cases j <;> rfl

end Cert.KernelIdeal.Row

end
-- ==== Proof.Block.lean ====
module

public import proofs.«01_k».proof.Proof.Gen.KernelIdeal.Frame
public import proofs.«01_k».proof.Proof.Tile
public import Idealize.ShloMosaic.Lib.Pipeline.ValueKit

@[expose] public section

set_option maxRecDepth 16384

noncomputable section

/-! # The output block of one grid point -/

namespace Cert.KernelIdeal.Row

open Idealize.ShloMosaic Idealize.ShloMosaic.TcCoe Idealize.SL.Sem
open Cert.KernelIdeal Cert.KernelIdeal.Gen

/-- The four query heads of a group, stacked. -/
def stack (x : Vec Ideal S256x512 .bf16) : FVec Ideal S1024x128 .bf16 :=
  k0_pay3 (F := Ideal) (View.ld x r0_0) (View.ld x r0_1) (View.ld x r0_2) (View.ld x r0_3)

/-- The eleven loads of the staged keys or values. -/
def loads (x : Vec Ideal S8448x128 .bf16) : ℕ → FVec Ideal S768x128 .bf16 :=
  tiles (F := Ideal) (View.ld x r0_4) (View.ld x r0_5) (View.ld x r0_6) (View.ld x r0_7) (View.ld x r0_8) (View.ld x r0_9) (View.ld x r0_10) (View.ld x r0_11) (View.ld x r0_12) (View.ld x r0_13) (View.ld x r0_14)

theorem ld0 (x : Vec Ideal S8448x128 .bf16) : (@View.ld (Elt Ideal) S8448x128 .bf16 x r0_4 : FVec Ideal S768x128 .bf16) = tile x 0 := by
  funext i
  idx_vars i
  pointwise [tile]
  exact congrArg x ((ix2_inj ..).2 ⟨Fin.ext (Nat.mod_eq_of_lt (by omega)).symm, Eq.refl _⟩)

theorem ld1 (x : Vec Ideal S8448x128 .bf16) : (@View.ld (Elt Ideal) S8448x128 .bf16 x r0_5 : FVec Ideal S768x128 .bf16) = tile x 1 := by
  funext i
  idx_vars i
  pointwise [tile]
  exact congrArg x ((ix2_inj ..).2 ⟨Fin.ext (Nat.mod_eq_of_lt (by omega)).symm, Eq.refl _⟩)

theorem ld2 (x : Vec Ideal S8448x128 .bf16) : (@View.ld (Elt Ideal) S8448x128 .bf16 x r0_6 : FVec Ideal S768x128 .bf16) = tile x 2 := by
  funext i
  idx_vars i
  pointwise [tile]
  exact congrArg x ((ix2_inj ..).2 ⟨Fin.ext (Nat.mod_eq_of_lt (by omega)).symm, Eq.refl _⟩)

theorem ld3 (x : Vec Ideal S8448x128 .bf16) : (@View.ld (Elt Ideal) S8448x128 .bf16 x r0_7 : FVec Ideal S768x128 .bf16) = tile x 3 := by
  funext i
  idx_vars i
  pointwise [tile]
  exact congrArg x ((ix2_inj ..).2 ⟨Fin.ext (Nat.mod_eq_of_lt (by omega)).symm, Eq.refl _⟩)

theorem ld4 (x : Vec Ideal S8448x128 .bf16) : (@View.ld (Elt Ideal) S8448x128 .bf16 x r0_8 : FVec Ideal S768x128 .bf16) = tile x 4 := by
  funext i
  idx_vars i
  pointwise [tile]
  exact congrArg x ((ix2_inj ..).2 ⟨Fin.ext (Nat.mod_eq_of_lt (by omega)).symm, Eq.refl _⟩)

theorem ld5 (x : Vec Ideal S8448x128 .bf16) : (@View.ld (Elt Ideal) S8448x128 .bf16 x r0_9 : FVec Ideal S768x128 .bf16) = tile x 5 := by
  funext i
  idx_vars i
  pointwise [tile]
  exact congrArg x ((ix2_inj ..).2 ⟨Fin.ext (Nat.mod_eq_of_lt (by omega)).symm, Eq.refl _⟩)

theorem ld6 (x : Vec Ideal S8448x128 .bf16) : (@View.ld (Elt Ideal) S8448x128 .bf16 x r0_10 : FVec Ideal S768x128 .bf16) = tile x 6 := by
  funext i
  idx_vars i
  pointwise [tile]
  exact congrArg x ((ix2_inj ..).2 ⟨Fin.ext (Nat.mod_eq_of_lt (by omega)).symm, Eq.refl _⟩)

theorem ld7 (x : Vec Ideal S8448x128 .bf16) : (@View.ld (Elt Ideal) S8448x128 .bf16 x r0_11 : FVec Ideal S768x128 .bf16) = tile x 7 := by
  funext i
  idx_vars i
  pointwise [tile]
  exact congrArg x ((ix2_inj ..).2 ⟨Fin.ext (Nat.mod_eq_of_lt (by omega)).symm, Eq.refl _⟩)

theorem ld8 (x : Vec Ideal S8448x128 .bf16) : (@View.ld (Elt Ideal) S8448x128 .bf16 x r0_12 : FVec Ideal S768x128 .bf16) = tile x 8 := by
  funext i
  idx_vars i
  pointwise [tile]
  exact congrArg x ((ix2_inj ..).2 ⟨Fin.ext (Nat.mod_eq_of_lt (by omega)).symm, Eq.refl _⟩)

theorem ld9 (x : Vec Ideal S8448x128 .bf16) : (@View.ld (Elt Ideal) S8448x128 .bf16 x r0_13 : FVec Ideal S768x128 .bf16) = tile x 9 := by
  funext i
  idx_vars i
  pointwise [tile]
  exact congrArg x ((ix2_inj ..).2 ⟨Fin.ext (Nat.mod_eq_of_lt (by omega)).symm, Eq.refl _⟩)

theorem ld10 (x : Vec Ideal S8448x128 .bf16) : (@View.ld (Elt Ideal) S8448x128 .bf16 x r0_14 : FVec Ideal S768x128 .bf16) = tile x 10 := by
  funext i
  idx_vars i
  pointwise [tile]
  exact congrArg x ((ix2_inj ..).2 ⟨Fin.ext (Nat.mod_eq_of_lt (by omega)).symm, Eq.refl _⟩)

theorem loads_eq (x : Vec Ideal S8448x128 .bf16) (n : Fin 8448) : loads x (n.val / 768) = tile x (n.val / 768) := by
  unfold loads
  rw [ld0, ld1, ld2, ld3, ld4, ld5, ld6, ld7, ld8, ld9, ld10]
  exact tiles_tile x n

/-- Row `256 g + i` of the stacked queries is head `g` of query `i`. -/
theorem stack_at (x : Vec Ideal S256x512 .bf16) (r : Fin 1024) (d : Fin 128) :
    stack x (ix2 r d) = x (ix2 (⟨r.val % 256, Nat.mod_lt _ (by norm_num)⟩ : Fin 256) (⟨r.val / 256 * 128 + d.val, by omega⟩ : Fin 512)) := by
  pointwise [stack, k0_pay3]
  split_ifs <;> exact congrArg x ((ix2_inj ..).2 ⟨Fin.ext (by dsimp only; omega), Fin.ext (by dsimp only; omega)⟩)

section
variable (x0 : Vec Ideal S256x512 .bf16) (x1 x2 : Vec Ideal S8448x128 .bf16)

theorem p33 : k0_pay33 (F := Ideal) x0 x1 x2 = stack x0 := rfl
theorem p34 : k0_pay34 (F := Ideal) x0 x1 x2 = k0_pay4 := rfl
theorem p35 : k0_pay35 (F := Ideal) x0 x1 x2 = maxAt (stack x0) (loads x1) 1 := max1 ..
theorem p36 : k0_pay36 (F := Ideal) x0 x1 x2 = maxAt (stack x0) (loads x1) 3 := by
  unfold k0_pay36; rw [p35, p33]; exact max3 ..
theorem p37 : k0_pay37 (F := Ideal) x0 x1 x2 = maxAt (stack x0) (loads x1) 6 := by
  unfold k0_pay37; rw [p36, p33]; exact max6 ..
theorem p38 : k0_pay38 (F := Ideal) x0 x1 x2 = maxAt (stack x0) (loads x1) 8 := by
  unfold k0_pay38; rw [p37, p33]; exact max8 ..
theorem p39 : k0_pay39 (F := Ideal) x0 x1 x2 = accAt (stack x0) k0_pay4 (loads x1) (loads x2) 8 := by
  have h0 := acc0 (F := Ideal) (View.ld x0 r0_0) (View.ld x0 r0_1) (View.ld x0 r0_2) (View.ld x0 r0_3) (View.ld x1 r0_4) (View.ld x1 r0_5) (View.ld x1 r0_6) (View.ld x1 r0_7) (View.ld x1 r0_8) (View.ld x1 r0_9) (View.ld x1 r0_10) (View.ld x1 r0_11) (View.ld x1 r0_12) (View.ld x1 r0_13) (View.ld x1 r0_14) (View.ld x2 r0_4) (View.ld x2 r0_5) (View.ld x2 r0_6) (View.ld x2 r0_7) (View.ld x2 r0_8) (View.ld x2 r0_9) (View.ld x2 r0_10) (View.ld x2 r0_11) (View.ld x2 r0_12) (View.ld x2 r0_13) (View.ld x2 r0_14)
  unfold k0_pay39; rw [p37, p36, p35, p34, p33, h0]
  refine Eq.trans ?_ (acc8 (F := Ideal) (View.ld x1 r0_4) (View.ld x1 r0_5) (View.ld x1 r0_6) (View.ld x1 r0_7) (View.ld x1 r0_8) (View.ld x1 r0_9) (View.ld x1 r0_10) (View.ld x1 r0_11) (View.ld x1 r0_12) (View.ld x1 r0_13) (View.ld x1 r0_14) (View.ld x2 r0_4) (View.ld x2 r0_5) (View.ld x2 r0_6) (View.ld x2 r0_7) (View.ld x2 r0_8) (View.ld x2 r0_9) (View.ld x2 r0_10) (View.ld x2 r0_11) (View.ld x2 r0_12) (View.ld x2 r0_13) (View.ld x2 r0_14) (stack x0) k0_pay4)
  refine congrArg (fun a => k0_pay28 (F := Ideal) _ _ _ _ _ a _ _ _ _) ?_
  refine Eq.trans ?_ (acc5 (F := Ideal) (View.ld x1 r0_4) (View.ld x1 r0_5) (View.ld x1 r0_6) (View.ld x1 r0_7) (View.ld x1 r0_8) (View.ld x1 r0_9) (View.ld x1 r0_10) (View.ld x1 r0_11) (View.ld x1 r0_12) (View.ld x1 r0_13) (View.ld x1 r0_14) (View.ld x2 r0_4) (View.ld x2 r0_5) (View.ld x2 r0_6) (View.ld x2 r0_7) (View.ld x2 r0_8) (View.ld x2 r0_9) (View.ld x2 r0_10) (View.ld x2 r0_11) (View.ld x2 r0_12) (View.ld x2 r0_13) (View.ld x2 r0_14) (stack x0) k0_pay4)
  refine congrArg (fun a => k0_pay23 (F := Ideal) _ _ _ a _ _ _ _ _) ?_
  exact acc3 ..

/-- What the pieces of the output block are cut from. -/
def whole : FVec Ideal S1024x128 .f32 := close (accAt (stack x0) k0_pay4 (loads x1) (loads x2) 10)

theorem p29 : k0_pay29 (F := Ideal) (k0_pay33 x0 x1 x2) (k0_pay34 x0 x1 x2) (k0_pay38 x0 x1 x2) (k0_pay39 x0 x1 x2)
    (View.ld x1 r0_13) (View.ld x2 r0_13) (View.ld x1 r0_14) (View.ld x2 r0_14) = whole x0 x1 x2 := by
  rw [p39, p38, p34, p33]; exact quot ..

theorem out_at (y : S256x512.Idx) : out0_3 (F := Ideal) x0 x1 x2 y
    = whole x0 x1 x2 (ix2 (⟨(y 1).val / 128 * 256 + (y 0).val, by have := (y 0).isLt; have := (y 1).isLt; simp at *; omega⟩ : Fin 1024) (⟨(y 1).val % 128, Nat.mod_lt _ (by norm_num)⟩ : Fin 128)) := by
  obtain_idx i : S1024x128 := [(y 1 : ℕ) / 128 * 256 + (y 0 : ℕ), (y 1 : ℕ) % 128] with hi
  refine Eq.trans (b := whole x0 x1 x2 i) ?_ (congrArg _ ?_)
  · unfold out0_3 k0_pay32 k0_pay31 k0_pay30
    rw [p29]
    generalize whole x0 x1 x2 = T
    canon_tiles x h
    all_goals (open_payloads; pointwise; blk_ext)
  · rw [eq_ix2 i]; exact (ix2_inj ..).2 ⟨Fin.ext hi0, Fin.ext hi1⟩
end

end Cert.KernelIdeal.Row

end
-- ==== Proof.Ref.lean ====
module

public import proofs.«01_k».proof.Proof.Gen.ReferenceIdeal.Run
public import proofs.«01_k».proof.Proof.Softmax
public import Idealize.ShloMosaic.Lib.Pointwise
public import Mathlib.Analysis.SpecialFunctions.Log.Basic

@[expose] public section

set_option maxRecDepth 16384

noncomputable section

/-! # The reference's term, read at an index -/

namespace Cert.ReferenceIdeal.Row

open Idealize.ShloMosaic Idealize.ShloMosaic.TcCoe Idealize.SL.Sem
open Cert.ReferenceIdeal Cert.ReferenceIdeal.Gen

variable (Q : FVec Ideal S8448x2048 .bf16) (K : FVec Ideal S8448x512 .bf16) (Z : FVec Ideal S8448x6144 .bf16)

/-- The scores in natural units. -/
def logits : FVec Ideal S4x4x8192x8448 .f32 :=
  mulf (transpose S4x4x8192x8448 [0, 3, 2, 1] (Host.dotGeneral dot_S8448x4x128_S8192x4x4x128_S4x8448x8192x4_2_3_0_02_1_1 none (shapeCast _ (extf .f32 K bitsLt_bf16_f32) shapeCasts_S8448x512_S8448x4x128) (shapeCast _ (extf .f32 (extractStridedSlice S8192x2048 ![0, 0] Q slices_S8448x2048_S8192x2048_0_0) bitsLt_bf16_f32) shapeCasts_S8192x2048_S8192x4x4x128)) transposes_S4x8448x8192x4_S4x4x8192x8448_0_3_2_1) (broadcastInDim S4x4x8192x8448 ![] bcast_S_S4x4x8192x8448 (Host.log (constant S_ .f32 0x40000000#32)))

/-- The maxima of the rows of scores. -/
def tops (x : FVec Ideal S4x4x8192x8448 .f32) : FVec Ideal S4x4x8192 .f32 :=
  Host.reduce FloatOps.maximumf x (constant S_ .f32 0xFF800000#32) reducesTo_S4x4x8192x8448_S4x4x8192_d3 h_S_

/-- The row maxima the softmax subtracts. -/
def rowMax : FVec Ideal S4x4x8192 .f32 :=
  maximumf (broadcastInDim S4x4x8192 ![] bcast_S_S4x4x8192 (constant S_ .f32 0xFF800000#32)) (tops (logits Q K))

/-- The reference's result. -/
def REF : FVec Ideal S8192x2048 .bf16 :=
  truncf .bf16 (shapeCast _ (transpose S8192x4x4x128 [3, 0, 2, 1] (Host.dotGeneral dot_S8448x4x128_S4x4x8192x8448_S4x128x4x8192_0_3_2_12_1_0 none (shapeCast _ (extf .f32 (extractStridedSlice S8448x512 ![0, 2560] Z slices_S8448x6144_S8448x512_0_2560) bitsLt_bf16_f32) shapeCasts_S8448x512_S8448x4x128) (Host.divf (Host.exp (subf (logits Q K) (broadcastInDim S4x4x8192x8448 ![0, 1, 2, 3] bcast_S4x4x8192x1_S4x4x8192x8448_0_1_2_3 (broadcastInDim S4x4x8192x1 ![0, 1, 2] bcast_S4x4x8192_S4x4x8192x1_0_1_2 (rowMax Q K))))) (broadcastInDim S4x4x8192x8448 ![0, 1, 2, 3] bcast_S4x4x8192x1_S4x4x8192x8448_0_1_2_3 (broadcastInDim S4x4x8192x1 ![0, 1, 2] bcast_S4x4x8192_S4x4x8192x1_0_1_2 (Host.reduceAdd (Host.exp (subf (logits Q K) (broadcastInDim S4x4x8192x8448 ![0, 1, 2, 3] bcast_S4x4x8192x1_S4x4x8192x8448_0_1_2_3 (broadcastInDim S4x4x8192x1 ![0, 1, 2] bcast_S4x4x8192_S4x4x8192x1_0_1_2 (rowMax Q K))))) (constant S_ .f32 0x00000000#32) reducesTo_S4x4x8192x8448_S4x4x8192_d3 h_S_))))) transposes_S4x128x4x8192_S8192x4x4x128_3_0_2_1) shapeCasts_S8192x4x4x128_S8192x2048) bitsLt_bf16_f32

/-- The pattern of two. -/
theorem two : Ideal.ofBits .f32 0x40000000#32 = ((2 : ℝ) : EReal) := by
  simp [Ideal.ofBits, Ideal.ieee]
  rw [← EReal.coe_mul]
  congr 1
  norm_num

theorem negInf : Ideal.ofBits .f32 0xFF800000#32 = ⊥ := by simp [Ideal.ofBits, Ideal.ieee]

theorem log_two : Ideal.log (Ideal.ofBits .f32 0x40000000#32) = ((Real.log 2 : ℝ) : EReal) := by
  rw [two, Ideal.log_coe, if_neg (by norm_num)]

/-- The score of key `n` for query `i` of head `g` in group `h`, in base 2. -/
def dots (h g : Fin 4) (i : Fin 8192) (n : Fin 8448) : EReal :=
  ∑ d : Fin 128, Q (ix2 (⟨i.val, by omega⟩ : Fin 8448) (⟨h.val * 512 + g.val * 128 + d.val, by omega⟩ : Fin 2048))
    * K (ix2 n (⟨h.val * 128 + d.val, by omega⟩ : Fin 512))

theorem logits_at (h g : Fin 4) (i : Fin 8192) (n : Fin 8448) :
    logits Q K (ix4 h g i n) = dots Q K h g i n * ((Real.log 2 : ℝ) : EReal) := by
  pointwise [logits]
  rw [log_two, dots]
  congr 1
  exact Finset.sum_congr rfl fun d _ => mul_comm _ _

theorem tops_real (x : FVec Ideal S4x4x8192x8448 .f32) (f : S4x4x8192x8448.Idx → ℝ) (hf : ∀ i, x i = (f i : EReal)) (j : S4x4x8192.Idx) :
    ∃ M : ℝ, tops x j = (M : EReal) := by
  have hr : S4x4x8192x8448.Reduces [3] S4x4x8192 := by decide
  unfold tops
  rw [Host.reduce_eq_fold_single _ _ _ _ hr]
  have ei : constant (F := Ideal) S_ .f32 0xFF800000#32 (Shape.Idx.first h_S_) = (⊥ : EReal) := negInf
  rw [ei]
  exact Cert.Attn.fold_max_real _ ⟨⟨0, by decide⟩, Finset.mem_univ _⟩ _ (fun n => f (hr.lift j n)) fun n _ => hf (hr.lift j n)

theorem bcast_negInf (j : S4x4x8192.Idx) :
    broadcastInDim S4x4x8192 ![] bcast_S_S4x4x8192 (constant (F := Ideal) S_ .f32 0xFF800000#32) j = (⊥ : EReal) := by
  idx_vars j
  pointwise
  exact negInf

/-- The row maxima are real when the scores are. -/
theorem rowMax_real (hl : ∀ i, ∃ x : ℝ, logits Q K i = (x : EReal)) (j : S4x4x8192.Idx) : ∃ M : ℝ, rowMax Q K j = (M : EReal) := by
  choose f hf using hl
  obtain ⟨M, hM⟩ := tops_real (logits Q K) f hf j
  refine ⟨M, ?_⟩
  unfold rowMax
  generalize tops (logits Q K) = y at hM
  rw [Cert.Attn.maximumf_at, hM, bcast_negInf]
  exact max_eq_right bot_le

theorem ref_at (i : Fin 8192) (c : Fin 2048) :
    REF Q K Z (ix2 i c)
      = ∑ n : Fin 8448, Z (ix2 n (⟨2560 + (c.val / 512 * 128 + c.val % 128), by omega⟩ : Fin 6144))
        * Ideal.div (Ideal.exp (dots Q K ⟨c.val / 512, by omega⟩ ⟨c.val / 128 % 4, by omega⟩ i n * ((Real.log 2 : ℝ) : EReal)
              - rowMax Q K (ix3 (⟨c.val / 512, by omega⟩ : Fin 4) (⟨c.val / 128 % 4, by omega⟩ : Fin 4) i)))
            (∑ n : Fin 8448, Ideal.exp (dots Q K ⟨c.val / 512, by omega⟩ ⟨c.val / 128 % 4, by omega⟩ i n * ((Real.log 2 : ℝ) : EReal)
              - rowMax Q K (ix3 (⟨c.val / 512, by omega⟩ : Fin 4) (⟨c.val / 128 % 4, by omega⟩ : Fin 4) i))) := by
  pointwise [REF]
  simp only [logits_at]

end Cert.ReferenceIdeal.Row

end
-- ==== Proof.Core.lean ====
module

public import proofs.«01_k».proof.Proof.Block
public import proofs.«01_k».proof.Proof.Ref

@[expose] public section

set_option maxRecDepth 16384

noncomputable section

/-! # One block of the kernel against the reference -/

namespace Cert.KernelIdeal.Row

open Idealize.ShloMosaic Idealize.ShloMosaic.TcCoe Idealize.SL.Sem
open Cert.KernelIdeal Cert.KernelIdeal.Gen

/-- A finite sum of products of reals is a real. -/
theorem dot_real {n : ℕ} (f g : Fin n → EReal) (hf : ∀ d, ∃ x : ℝ, f d = (x : EReal)) (hg : ∀ d, ∃ x : ℝ, g d = (x : EReal)) :
    ∃ x : ℝ, ∑ d, f d * g d = (x : EReal) := by
  choose a ha using hf
  choose b hb using hg
  refine ⟨∑ d, a d * b d, ?_⟩
  rw [Cert.Attn.coe_sum]
  exact Finset.sum_congr rfl fun d _ => by rw [ha, hb, EReal.coe_mul]

theorem logits_real (Q : FVec Ideal S8448x2048 .bf16) (K : FVec Ideal S8448x512 .bf16)
    (hQ : ∀ i, ∃ a : ℝ, (Q i : EReal) = (a : EReal)) (hK : ∀ i, ∃ a : ℝ, (K i : EReal) = (a : EReal))
    (j : Cert.ReferenceIdeal.S4x4x8192x8448.Idx) : ∃ a : ℝ, Cert.ReferenceIdeal.Row.logits Q K j = (a : EReal) := by
  idx_vars j
  rw [Cert.ReferenceIdeal.Row.logits_at]
  obtain ⟨x, hx⟩ := dot_real _ _ (fun d : Fin 128 => hQ (ix2 (⟨j2.val, by omega⟩ : Fin 8448) (⟨j0.val * 512 + j1.val * 128 + d.val, by omega⟩ : Fin 2048)))
    (fun d : Fin 128 => hK (ix2 j3 (⟨j0.val * 128 + d.val, by omega⟩ : Fin 512)))
  refine ⟨x * Real.log 2, ?_⟩
  rw [EReal.coe_mul, ← hx]
  exact Eq.refl _

theorem tile_real (x : Vec Ideal S8448x128 .bf16) (hx : ∀ i, ∃ a : ℝ, (x i : EReal) = (a : EReal)) (j : ℕ) (i : S768x128.Idx) :
    ∃ a : ℝ, tile x j i = (a : EReal) := hx _

theorem loads_real (x : Vec Ideal S8448x128 .bf16) (hx : ∀ i, ∃ a : ℝ, (x i : EReal) = (a : EReal)) (j : ℕ) (i : S768x128.Idx) :
    ∃ a : ℝ, loads x j i = (a : EReal) := by
  unfold loads
  rw [ld0, ld1, ld2, ld3, ld4, ld5, ld6, ld7, ld8, ld9, ld10]
  match j with
  | 0 => exact tile_real x hx 0 i
  | 1 => exact tile_real x hx 1 i
  | 2 => exact tile_real x hx 2 i
  | 3 => exact tile_real x hx 3 i
  | 4 => exact tile_real x hx 4 i
  | 5 => exact tile_real x hx 5 i
  | 6 => exact tile_real x hx 6 i
  | 7 => exact tile_real x hx 7 i
  | 8 => exact tile_real x hx 8 i
  | 9 => exact tile_real x hx 9 i
  | n + 10 => exact tile_real x hx 10 i

theorem core (Q : FVec Ideal S8448x2048 .bf16) (K : FVec Ideal S8448x512 .bf16) (Z : FVec Ideal S8448x6144 .bf16)
    (hQ : ∀ i, ∃ a : ℝ, (Q i : EReal) = (a : EReal)) (hK : ∀ i, ∃ a : ℝ, (K i : EReal) = (a : EReal))
    (x0 : Vec Ideal S256x512 .bf16) (x1 x2 : Vec Ideal S8448x128 .bf16) (a : Fin 32) (h : Fin 4)
    (hx0 : ∀ (i : Fin 256) (e : Fin 512), x0 (ix2 i e) = Q (ix2 (⟨a.val * 256 + i.val, by omega⟩ : Fin 8448) (⟨h.val * 512 + e.val, by omega⟩ : Fin 2048)))
    (hx1 : ∀ (n : Fin 8448) (d : Fin 128), x1 (ix2 n d) = K (ix2 n (⟨h.val * 128 + d.val, by omega⟩ : Fin 512)))
    (hx2 : ∀ (n : Fin 8448) (d : Fin 128), x2 (ix2 n d) = Z (ix2 n (⟨2560 + (h.val * 128 + d.val), by omega⟩ : Fin 6144)))
    (i : Fin 256) (e : Fin 512) :
    out0_3 (F := Ideal) x0 x1 x2 (ix2 i e)
      = Cert.ReferenceIdeal.Row.REF Q K Z (ix2 (⟨a.val * 256 + i.val, by omega⟩ : Fin 8192) (⟨h.val * 512 + e.val, by omega⟩ : Fin 2048)) := by
  have h0 : ∀ i, ∃ a : ℝ, (x0 i : EReal) = (a : EReal) := fun i => by
    rw [eq_ix2 i]; exact (hQ _).imp fun _ hh => (hx0 _ _).trans hh
  have h1 : ∀ i, ∃ a : ℝ, (x1 i : EReal) = (a : EReal) := fun i => by
    rw [eq_ix2 i]; exact (hK _).imp fun _ hh => (hx1 _ _).trans hh
  rw [out_at, Cert.ReferenceIdeal.Row.ref_at]
  generalize hr : (⟨((ix2 i e : S256x512.Idx) 1).val / 128 * 256 + ((ix2 i e : S256x512.Idx) 0).val, _⟩ : Fin 1024) = r
  generalize hd : (⟨((ix2 i e : S256x512.Idx) 1).val % 128, _⟩ : Fin 128) = d
  have hr' : r.val = e.val / 128 * 256 + i.val := (congrArg Fin.val hr).symm
  have hd' : d.val = e.val % 128 := (congrArg Fin.val hd).symm
  have hreal : ∀ n : ℕ, ∃ x : ℝ, scoreAt (stack x0) (loads x1) r n = (x : EReal) := fun n => by
    unfold scoreAt
    rw [score_at]
    refine dot_real _ _ (fun dd => ?_) fun dd => loads_real x1 h1 _ _
    rw [stack_at]
    exact h0 _
  choose s hs using hreal
  obtain ⟨M', hM'⟩ := Cert.ReferenceIdeal.Row.rowMax_real Q K (logits_real Q K hQ hK) (ix3 (⟨(h.val * 512 + e.val) / 512, by omega⟩ : Fin 4) (⟨(h.val * 512 + e.val) / 128 % 4, by omega⟩ : Fin 4) (⟨a.val * 256 + i.val, by omega⟩ : Fin 8192))
  unfold whole
  rw [row_eq (stack x0) (loads x1) (loads x2) r s hs d M', hM']
  have hscore : ∀ n : Fin 8448, scoreAt (stack x0) (loads x1) r n.val
      = Cert.ReferenceIdeal.Row.dots Q K ⟨(h.val * 512 + e.val) / 512, by omega⟩ ⟨(h.val * 512 + e.val) / 128 % 4, by omega⟩ ⟨a.val * 256 + i.val, by omega⟩ n := fun n => by
    unfold scoreAt Cert.ReferenceIdeal.Row.dots
    rw [score_at]
    refine Finset.sum_congr (Eq.refl _) fun dd _ => ?_
    rw [stack_at, loads_eq, tile_at, hx0, hx1]
    refine Ideal.mul_congr (congrArg Q ((ix2_inj ..).2 ⟨Fin.ext ?_, Fin.ext ?_⟩)) (congrArg K ((ix2_inj ..).2 ⟨Eq.refl _, Fin.ext ?_⟩))
    all_goals (dsimp only; omega)
  simp only [hscore]
  refine Finset.sum_congr (Eq.refl _) fun n _ => ?_
  rw [loads_eq, tile_at, hx2]
  refine Ideal.mul_congr (congrArg Z ((ix2_inj ..).2 ⟨Eq.refl _, Fin.ext ?_⟩)) (Eq.refl _)
  dsimp only
  omega

end Cert.KernelIdeal.Row

end
-- ==== Proof.Final.lean ====
module

public import proofs.«01_k».proof.Proof.Core
public import proofs.«01_k».proof.Proof.Gen.KernelIdeal.Value
public import proofs.«01_k».proof.Proof.Gen.Pre_finite_qk

@[expose] public section

set_option maxRecDepth 16384

noncomputable section

/-! # The attention array after the run -/

namespace Cert.KernelIdeal.Row

open Idealize.ShloMosaic Idealize.ShloMosaic.TcCoe Idealize.SL.Sem
open Idealize.ShloMosaic.Pipeline (Dat)
open Cert.KernelIdeal Cert.KernelIdeal.Gen

theorem idx : ∀ t : Fin cfg0.N, win0_0.index t = ![t.val % 32, t.val / 32] ∧ win0_1.index t = ![0, t.val / 32]
    ∧ win0_2.index t = ![0, 20 + t.val / 32] ∧ win0_3.index t = ![t.val % 32, t.val / 32] :=
  (by decide +kernel : ∀ t : Fin grid0.N, _)

variable (m : (ℓ : Loc nD τ sig) → Buf (Elt Ideal) ℓ)

theorem point (c : Dev nD) (t : Fin cfg0.N)
    (hQ : ∀ i, ∃ a : ℝ, ((m ((c : Thread nD τ).loc main_arg0) : FVec Ideal S8448x2048 .bf16) i : EReal) = (a : EReal))
    (hK : ∀ i, ∃ a : ℝ, ((m ((c : Thread nD τ).loc main_arg1) : FVec Ideal S8448x512 .bf16) i : EReal) = (a : EReal))
    (y : S256x512.Idx) (j : S8192x2048.Idx) (hj0 : (j 0).val = t.val % 32 * 256 + (y 0).val) (hj1 : (j 1).val = t.val / 32 * 512 + (y 1).val) :
    out0_3 (F := Ideal) (iblk m c 0 t) (iblk m c 1 t) (iblk m c 2 t) y
      = Cert.ReferenceIdeal.Row.REF (m ((c : Thread nD τ).loc main_arg0)) (m ((c : Thread nD τ).loc main_arg1)) (m ((c : Thread nD τ).loc main_arg2)) j := by
  have ht : t.val < 128 := lt_of_lt_of_eq t.isLt (by decide)
  have hh := core (m ((c : Thread nD τ).loc main_arg0)) (m ((c : Thread nD τ).loc main_arg1)) (m ((c : Thread nD τ).loc main_arg2)) hQ hK
    (iblk m c 0 t) (iblk m c 1 t) (iblk m c 2 t) ⟨t.val % 32, Nat.mod_lt _ (by norm_num)⟩ ⟨t.val / 32, by omega⟩
    (fun i e => by blk_ext [iblk, V, idx t]) (fun n d => by blk_ext [iblk, V, idx t]) (fun n d => by blk_ext [iblk, V, idx t]) (y 0) (y 1)
  rw [← eq_ix2 y] at hh
  rw [hh]
  refine congrArg _ ?_
  rw [eq_ix2 j]
  exact (ix2_inj ..).2 ⟨Fin.ext hj0.symm, Fin.ext hj1.symm⟩

theorem final (c : Dev nD)
    (hQ : ∀ i, ∃ a : ℝ, ((m ((c : Thread nD τ).loc main_arg0) : FVec Ideal S8448x2048 .bf16) i : EReal) = (a : EReal))
    (hK : ∀ i, ∃ a : ℝ, ((m ((c : Thread nD τ).loc main_arg1) : FVec Ideal S8448x512 .bf16) i : EReal) = (a : EReal)) :
    (dats m 0 c).arrAt 3 (cfgs 0).N
      = Cert.ReferenceIdeal.Row.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine point m c t hQ hK y _ ?_ ?_
  all_goals (blk_simp [idx t] <;> try omega)

theorem posInf : Ideal.ofBits .f32 0x7F800000#32 = ⊤ := by simp [Ideal.ofBits, Ideal.ieee]

theorem real_of_bits (x : EReal) (h : IntOp.andi (BitVec.ofBool (decide (x < Ideal.ofBits .f32 0x7F800000#32)))
    (BitVec.ofBool (decide (Ideal.ofBits .f32 0xFF800000#32 < x))) = 1#1) : ∃ a : ℝ, x = (a : EReal) := by
  rw [posInf, Cert.ReferenceIdeal.Row.negInf] at h
  by_cases h1 : x < ⊤
  · by_cases h2 : ⊥ < x
    · exact ⟨x.toReal, (EReal.coe_toReal h1.ne h2.ne').symm⟩
    · rw [decide_eq_false h2] at h
      revert h
      cases decide (x < ⊤) <;> exact fun hh => absurd hh (by decide)
  · rw [decide_eq_false h1] at h
    revert h
    cases decide (⊥ < x) <;> exact fun hh => absurd hh (by decide)

/-- The precondition says that every query and every key is a real number. -/
theorem real_of_pre (Q : FVec Ideal S8448x2048 .bf16) (K : FVec Ideal S8448x512 .bf16) (Z : FVec Ideal S8448x6144 .bf16)
    (h : Cert.Pre_finite_qk.fn (F := Ideal) Q K Z = fun _ => 1#1) :
    (∀ i, ∃ a : ℝ, (Q i : EReal) = (a : EReal)) ∧ (∀ i, ∃ a : ℝ, (K i : EReal) = (a : EReal)) := by
  constructor
  · intro i
    idx_vars i
    have := congrFun h (ix2 i0 (⟨i1.val, by omega⟩ : Fin 2560))
    pointwise [Cert.Pre_finite_qk.fn] at this
    exact real_of_bits _ this
  · intro i
    idx_vars i
    have := congrFun h (ix2 i0 (⟨2048 + i1.val, by omega⟩ : Fin 2560))
    pointwise [Cert.Pre_finite_qk.fn] at this
    exact real_of_bits _ this

end Cert.KernelIdeal.Row

end
-- ==== Proof.AttcVal.lean ====
module

public import proofs.«01_k».proof.Proof.Gen.AttcIdeal.Frame
public import proofs.«01_k».proof.Proof.Gen.AttcIdeal.Value
public import proofs.«01_k».proof.Proof.Gen.AttcRefIdeal.Run
public import proofs.«01_k».proof.Proof.Softmax
public import Idealize.ShloMosaic.Lib.Pointwise
public import Idealize.ShloMosaic.Lib.Pipeline.ValueKit
public import Mathlib.Analysis.SpecialFunctions.Log.Basic

@[expose] public section

set_option maxRecDepth 16384

noncomputable section

/-! # The first layer's attention of the 256 context queries

One tile holds all 256 keys, so nothing is rescaled; the rest is as in the large attention. -/

namespace Cert.AttcRefIdeal.Row

open Idealize.ShloMosaic Idealize.ShloMosaic.TcCoe Idealize.SL.Sem
open Cert.AttcRefIdeal Cert.AttcRefIdeal.Gen

variable (Q : FVec Ideal S8448x2048 .bf16) (K : FVec Ideal S8448x512 .bf16) (Z : FVec Ideal S8448x6144 .bf16)

/-- The scores in natural units. -/
def logits : FVec Ideal S4x4x256x256 .f32 :=
  mulf (transpose S4x4x256x256 [0, 3, 2, 1] (Host.dotGeneral dot_S256x4x128_S256x4x4x128_S4x256x256x4_2_3_0_02_1_1 none (shapeCast _ (extf .f32 (extractStridedSlice S256x512 ![8192, 0] K slices_S8448x512_S256x512_8192_0) bitsLt_bf16_f32) shapeCasts_S256x512_S256x4x128) (shapeCast _ (extf .f32 (extractStridedSlice S256x2048 ![8192, 0] Q slices_S8448x2048_S256x2048_8192_0) bitsLt_bf16_f32) shapeCasts_S256x2048_S256x4x4x128)) transposes_S4x256x256x4_S4x4x256x256_0_3_2_1) (broadcastInDim S4x4x256x256 ![] bcast_S_S4x4x256x256 (Host.log (constant S_ .f32 0x40000000#32)))

/-- The maxima of the rows of scores. -/
def tops (x : FVec Ideal S4x4x256x256 .f32) : FVec Ideal S4x4x256 .f32 :=
  Host.reduce FloatOps.maximumf x (constant S_ .f32 0xFF800000#32) reducesTo_S4x4x256x256_S4x4x256_d3 h_S_

/-- The row maxima the softmax subtracts. -/
def rowMax : FVec Ideal S4x4x256 .f32 :=
  maximumf (broadcastInDim S4x4x256 ![] bcast_S_S4x4x256 (constant S_ .f32 0xFF800000#32)) (tops (logits Q K))

/-- The reference's result. -/
def REF : FVec Ideal S256x2048 .bf16 :=
  truncf .bf16 (shapeCast _ (transpose S256x4x4x128 [3, 0, 2, 1] (Host.dotGeneral dot_S256x4x128_S4x4x256x256_S4x128x4x256_0_3_2_12_1_0 none (shapeCast _ (extf .f32 (extractStridedSlice S256x512 ![8192, 2560] Z slices_S8448x6144_S256x512_8192_2560) bitsLt_bf16_f32) shapeCasts_S256x512_S256x4x128) (Host.divf (Host.exp (subf (logits Q K) (broadcastInDim S4x4x256x256 ![0, 1, 2, 3] bcast_S4x4x256x1_S4x4x256x256_0_1_2_3 (broadcastInDim S4x4x256x1 ![0, 1, 2] bcast_S4x4x256_S4x4x256x1_0_1_2 (rowMax Q K))))) (broadcastInDim S4x4x256x256 ![0, 1, 2, 3] bcast_S4x4x256x1_S4x4x256x256_0_1_2_3 (broadcastInDim S4x4x256x1 ![0, 1, 2] bcast_S4x4x256_S4x4x256x1_0_1_2 (Host.reduceAdd (Host.exp (subf (logits Q K) (broadcastInDim S4x4x256x256 ![0, 1, 2, 3] bcast_S4x4x256x1_S4x4x256x256_0_1_2_3 (broadcastInDim S4x4x256x1 ![0, 1, 2] bcast_S4x4x256_S4x4x256x1_0_1_2 (rowMax Q K))))) (constant S_ .f32 0x00000000#32) reducesTo_S4x4x256x256_S4x4x256_d3 h_S_))))) transposes_S4x128x4x256_S256x4x4x128_3_0_2_1) shapeCasts_S256x4x4x128_S256x2048) bitsLt_bf16_f32

/-- The pattern of two. -/
theorem two : Ideal.ofBits .f32 0x40000000#32 = ((2 : ℝ) : EReal) := by
  simp [Ideal.ofBits, Ideal.ieee]
  rw [← EReal.coe_mul]
  congr 1
  norm_num

theorem negInf : Ideal.ofBits .f32 0xFF800000#32 = ⊥ := by simp [Ideal.ofBits, Ideal.ieee]

theorem log_two : Ideal.log (Ideal.ofBits .f32 0x40000000#32) = ((Real.log 2 : ℝ) : EReal) := by
  rw [two, Ideal.log_coe, if_neg (by norm_num)]

/-- The score of context key `n` for context query `i` of head `g` in group `h`, in base 2. -/
def dots (h g : Fin 4) (i n : Fin 256) : EReal :=
  ∑ d : Fin 128, Q (ix2 (⟨8192 + i.val, by omega⟩ : Fin 8448) (⟨h.val * 512 + g.val * 128 + d.val, by omega⟩ : Fin 2048))
    * K (ix2 (⟨8192 + n.val, by omega⟩ : Fin 8448) (⟨h.val * 128 + d.val, by omega⟩ : Fin 512))

theorem logits_at (h g : Fin 4) (i n : Fin 256) :
    logits Q K (ix4 h g i n) = dots Q K h g i n * ((Real.log 2 : ℝ) : EReal) := by
  pointwise [logits]
  rw [log_two, dots]
  congr 1
  exact Finset.sum_congr rfl fun d _ => mul_comm _ _

theorem tops_real (x : FVec Ideal S4x4x256x256 .f32) (f : S4x4x256x256.Idx → ℝ) (hf : ∀ i, x i = (f i : EReal)) (j : S4x4x256.Idx) :
    ∃ M : ℝ, tops x j = (M : EReal) := by
  have hr : S4x4x256x256.Reduces [3] S4x4x256 := by decide
  unfold tops
  rw [Host.reduce_eq_fold_single _ _ _ _ hr]
  have ei : constant (F := Ideal) S_ .f32 0xFF800000#32 (Shape.Idx.first h_S_) = (⊥ : EReal) := negInf
  rw [ei]
  exact Cert.Attn.fold_max_real _ ⟨⟨0, by decide⟩, Finset.mem_univ _⟩ _ (fun n => f (hr.lift j n)) fun n _ => hf (hr.lift j n)

theorem bcast_negInf (j : S4x4x256.Idx) :
    broadcastInDim S4x4x256 ![] bcast_S_S4x4x256 (constant (F := Ideal) S_ .f32 0xFF800000#32) j = (⊥ : EReal) := by
  idx_vars j
  pointwise
  exact negInf

/-- The row maxima are real when the scores are. -/
theorem rowMax_real (hl : ∀ i, ∃ x : ℝ, logits Q K i = (x : EReal)) (j : S4x4x256.Idx) : ∃ M : ℝ, rowMax Q K j = (M : EReal) := by
  choose f hf using hl
  obtain ⟨M, hM⟩ := tops_real (logits Q K) f hf j
  refine ⟨M, ?_⟩
  unfold rowMax
  generalize tops (logits Q K) = y at hM
  rw [Cert.Attn.maximumf_at, hM, bcast_negInf]
  exact max_eq_right bot_le

theorem ref_at (i : Fin 256) (c : Fin 2048) :
    REF Q K Z (ix2 i c)
      = ∑ n : Fin 256, Z (ix2 (⟨8192 + n.val, by omega⟩ : Fin 8448) (⟨2560 + (c.val / 512 * 128 + c.val % 128), by omega⟩ : Fin 6144))
        * Ideal.div (Ideal.exp (dots Q K ⟨c.val / 512, by omega⟩ ⟨c.val / 128 % 4, by omega⟩ i n * ((Real.log 2 : ℝ) : EReal)
              - rowMax Q K (ix3 (⟨c.val / 512, by omega⟩ : Fin 4) (⟨c.val / 128 % 4, by omega⟩ : Fin 4) i)))
            (∑ n : Fin 256, Ideal.exp (dots Q K ⟨c.val / 512, by omega⟩ ⟨c.val / 128 % 4, by omega⟩ i n * ((Real.log 2 : ℝ) : EReal)
              - rowMax Q K (ix3 (⟨c.val / 512, by omega⟩ : Fin 4) (⟨c.val / 128 % 4, by omega⟩ : Fin 4) i))) := by
  pointwise [REF]
  simp only [logits_at]

end Cert.AttcRefIdeal.Row

namespace Cert.AttcIdeal.Row

open Idealize.ShloMosaic Idealize.ShloMosaic.TcCoe Idealize.SL.Sem
open Idealize.ShloMosaic.Pipeline (Dat)
open Cert.AttcIdeal Cert.AttcIdeal.Gen

section Generic
variable {F : FTy → Type} [FloatOps F]

/-- Four query heads, stacked. -/
def heads (q0 q1 q2 q3 : FVec F S256x128 .bf16) : FVec F S1024x128 .bf16 :=
  concatenate S1024x128 0 [⟨S256x128, q0⟩, ⟨S256x128, q1⟩, ⟨S256x128, q2⟩, ⟨S256x128, q3⟩] concatenates_S256x128_S256x128_S256x128_S256x128_S1024x128_d0

/-- The columns that count the weights: the first is one, the others zero. -/
def ones : FVec F S256x128 .bf16 :=
  truncf .bf16 (select (cmpi .eq (iota .tc S256x128 32 [1] iota_S256x128_d1_w32) (broadcast S256x128 0#32))
    (broadcast S256x128 (Scalar.ofBits .f32 0x3F800000#32)) (broadcast S256x128 (Scalar.ofBits .f32 0x00000000#32))) bitsLt_bf16_f32

/-- Scores of the 1024 stacked query rows against the 256 keys. -/
def score (q : FVec F S1024x128 .bf16) (k : FVec F S256x128 .bf16) : FVec F S1024x256 .f32 :=
  matmul dot_S1024x128_S256x128_S1024x256_1_1_0_0_n_n none q k (constant S1024x256 .f32 0x00000000#32)

/-- Row maxima of the scores. -/
def rowMax (s : FVec F S1024x256 .f32) : FVec F S1024x1 .f32 :=
  shapeCast S1024x1 (multiReduction .maximumf [1] S1024 s 0xFF800000#32 reduces_S1024x256_S1024 (.inl rfl) rfl) shapeCasts_S1024_S1024x1

/-- The values beside the columns that count the weights. -/
def withOnes (v : FVec F S256x128 .bf16) : FVec F S256x256 .bf16 :=
  concatenate S256x256 1 [⟨S256x128, v⟩, ⟨S256x128, ones⟩] concatenates_S256x128_S256x128_S256x256_d1

/-- The weighted sum at the shifts `m`. -/
def part (m : FVec F S1024x1 .f32) (s : FVec F S1024x256 .f32) (e : FVec F S256x256 .bf16) : FVec F S1024x256 .f32 :=
  matmul dot_S1024x256_S256x256_S1024x256_1_0_0_1_n_n none
    (truncf .bf16 (exp2 (subf s (broadcastTo S1024x256 m broadcasts_S1024x1_S1024x256))) bitsLt_bf16_f32) e (constant S1024x256 .f32 0x00000000#32)

/-- The value columns divided by the column that counts the weights. -/
def close (a : FVec F S1024x256 .f32) : FVec F S1024x128 .f32 :=
  divf (extractStridedSlice S1024x128 ![0, 0] a slices_S1024x256_o0_0_S1024x128)
    (broadcastTo S1024x128 (extractStridedSlice S1024x1 ![0, 128] a slices_S1024x256_o0_128_S1024x1) broadcasts_S1024x1_S1024x128)

/-- The whole of a grid point's result, heads stacked. -/
def total (q : FVec F S1024x128 .bf16) (k v : FVec F S256x128 .bf16) : FVec F S1024x128 .f32 :=
  close (part (rowMax (score q k)) (score q k) (withOnes v))

theorem pay3 (q0 q1 q2 q3 k v : FVec F S256x128 .bf16) : k0_pay3 q0 q1 q2 q3 k v = total (heads q0 q1 q2 q3) k v := rfl

end Generic

/-! ## Read at a row, over the extended reals -/

theorem score_at (q : FVec Ideal S1024x128 .bf16) (k : FVec Ideal S256x128 .bf16) (r : Fin 1024) (l : Fin 256) :
    score (F := Ideal) q k (ix2 r l) = ∑ d : Fin 128, q (ix2 r d) * k (ix2 l d) := by
  pointwise [score]

theorem rowMax_at (s : FVec Ideal S1024x256 .f32) (r : Fin 1024) :
    rowMax (F := Ideal) s (ix2 r 0) = Finset.univ.fold max (⊥ : EReal) fun l : Fin 256 => s (ix2 r l) := by
  pointwise [rowMax]
  rw [Cert.AttcRefIdeal.Row.negInf]

theorem part_at (m : FVec Ideal S1024x1 .f32) (s : FVec Ideal S1024x256 .f32) (e : FVec Ideal S256x256 .bf16) (r : Fin 1024) (c : Fin 256) :
    part (F := Ideal) m s e (ix2 r c) = ∑ l : Fin 256, Ideal.exp2 (s (ix2 r l) - m (ix2 r 0)) * e (ix2 l c) := by
  pointwise [part]
  all_goals rfl

theorem close_at (a : FVec Ideal S1024x256 .f32) (r : Fin 1024) (d : Fin 128) :
    close (F := Ideal) a (ix2 r d) = Ideal.div (a (ix2 r ⟨d.val, by omega⟩)) (a (ix2 r 128)) := by
  pointwise [close]
  all_goals rfl

theorem withOnes_value (v : FVec Ideal S256x128 .bf16) (l : Fin 256) (d : Fin 128) :
    withOnes (F := Ideal) v (ix2 l ⟨d.val, by omega⟩) = v (ix2 l d) := by
  pointwise [withOnes, ones]
  all_goals rfl

theorem withOnes_one (v : FVec Ideal S256x128 .bf16) (l : Fin 256) :
    withOnes (F := Ideal) v (ix2 l 128) = 1 := by
  pointwise [withOnes, ones]
  all_goals rfl

section Row
variable (q : FVec Ideal S1024x128 .bf16) (k v : FVec Ideal S256x128 .bf16) (r : Fin 1024)

/-- The key number as an index. -/
def key (n : ℕ) : Fin 256 := ⟨n % 256, Nat.mod_lt _ (by norm_num)⟩

theorem key_val (l : Fin 256) : key l.val = l := Fin.ext (Nat.mod_eq_of_lt l.isLt)

/-- THE ROW: what the kernel divides at the end is the softmax-weighted sum of the values. -/
theorem row_eq (s : ℕ → ℝ) (hs : ∀ n, score (F := Ideal) q k (ix2 r (key n)) = (s n : EReal)) (d : Fin 128) (M' : ℝ) :
    total (F := Ideal) q k v (ix2 r d)
      = ∑ n : Fin 256, v (ix2 n d)
          * Ideal.div (Ideal.exp (score (F := Ideal) q k (ix2 r n) * ((Real.log 2 : ℝ) : EReal) - (M' : EReal)))
              (∑ n : Fin 256, Ideal.exp (score (F := Ideal) q k (ix2 r n) * ((Real.log 2 : ℝ) : EReal) - (M' : EReal))) := by
  have hs' : ∀ l : Fin 256, score (F := Ideal) q k (ix2 r l) = (s l.val : EReal) := fun l => by rw [← hs, key_val]
  obtain ⟨M, hM⟩ : ∃ M : ℝ, rowMax (F := Ideal) (score q k) (ix2 r 0) = (M : EReal) := by
    rw [rowMax_at]
    exact Cert.Attn.fold_max_real _ Finset.univ_nonempty _ (fun l : Fin 256 => s l.val) fun l _ => hs' l
  have hp : ∀ c : Fin 256, part (F := Ideal) (rowMax (score q k)) (score q k) (withOnes v) (ix2 r c)
      = Cert.Attn.wsum s (fun n => withOnes (F := Ideal) v (ix2 (key n) c)) 256 M := fun c => by
    rw [part_at, hM]
    have h := Cert.Attn.tile_sum s (fun n => withOnes (F := Ideal) v (ix2 (key n) c)) 0 256 M
    simp only [Nat.zero_add] at h
    unfold Cert.Attn.wsum
    rw [← h]
    exact Finset.sum_congr (Eq.refl _) fun l _ => by rw [hs', key_val]
  have hone : (fun n => withOnes (F := Ideal) v (ix2 (key n) 128)) = fun _ => (1 : EReal) := funext fun n => withOnes_one v _
  unfold total
  rw [close_at, hp, hp, hone, Cert.Attn.quotient s _ 256 (by norm_num) M M']
  simp only [hs']
  refine Finset.sum_congr (Eq.refl _) fun n _ => ?_
  rw [key_val, withOnes_value]

end Row

/-! ## The output block of one grid point -/

/-- The four query heads of a group, stacked. -/
def stack (x : Vec Ideal S256x512 .bf16) : FVec Ideal S1024x128 .bf16 :=
  heads (F := Ideal) (View.ld x r0_0) (View.ld x r0_1) (View.ld x r0_2) (View.ld x r0_3)

/-- Row `256 g + i` of the stacked queries is head `g` of query `i`. -/
theorem stack_at (x : Vec Ideal S256x512 .bf16) (r : Fin 1024) (d : Fin 128) :
    stack x (ix2 r d) = x (ix2 (⟨r.val % 256, Nat.mod_lt _ (by norm_num)⟩ : Fin 256) (⟨r.val / 256 * 128 + d.val, by omega⟩ : Fin 512)) := by
  pointwise [stack, heads]
  split_ifs <;> exact congrArg x ((ix2_inj ..).2 ⟨Fin.ext (by dsimp only; omega), Fin.ext (by dsimp only; omega)⟩)

theorem ld4 (x : Vec Ideal S256x128 .bf16) : (@View.ld (Elt Ideal) S256x128 .bf16 x r0_4 : FVec Ideal S256x128 .bf16) = x := by
  funext i
  idx_vars i
  pointwise
  try exact congrArg x ((ix2_inj ..).2 ⟨Fin.ext (by simp), Fin.ext (by simp)⟩)

section
variable (x0 : Vec Ideal S256x512 .bf16) (x1 x2 : Vec Ideal S256x128 .bf16)

theorem pay3_block : k0_pay3 (F := Ideal) (View.ld x0 r0_0) (View.ld x0 r0_1) (View.ld x0 r0_2) (View.ld x0 r0_3) (View.ld x1 r0_4) (View.ld x2 r0_4)
    = total (stack x0) x1 x2 := by
  rw [pay3, ld4, ld4]; exact Eq.refl _

theorem out_at (y : S256x512.Idx) : out0_3 (F := Ideal) x0 x1 x2 y
    = total (stack x0) x1 x2 (ix2 (⟨(y 1).val / 128 * 256 + (y 0).val, by have := (y 0).isLt; have := (y 1).isLt; simp at *; omega⟩ : Fin 1024) (⟨(y 1).val % 128, Nat.mod_lt _ (by norm_num)⟩ : Fin 128)) := by
  obtain_idx i : S1024x128 := [(y 1 : ℕ) / 128 * 256 + (y 0 : ℕ), (y 1 : ℕ) % 128] with hi
  refine Eq.trans (b := total (stack x0) x1 x2 i) ?_ (congrArg _ ?_)
  · unfold out0_3 k0_pay4 k0_pay5 k0_pay6
    rw [pay3_block]
    generalize total (stack x0) x1 x2 = T
    canon_tiles x h
    all_goals (open_payloads; pointwise; blk_ext)
  · rw [eq_ix2 i]; exact (ix2_inj ..).2 ⟨Fin.ext hi0, Fin.ext hi1⟩
end

/-! ## One block against the reference -/

/-- A finite sum of products of reals is a real. -/
theorem dot_real {n : ℕ} (f g : Fin n → EReal) (hf : ∀ d, ∃ x : ℝ, f d = (x : EReal)) (hg : ∀ d, ∃ x : ℝ, g d = (x : EReal)) :
    ∃ x : ℝ, ∑ d, f d * g d = (x : EReal) := by
  choose a ha using hf
  choose b hb using hg
  refine ⟨∑ d, a d * b d, ?_⟩
  rw [Cert.Attn.coe_sum]
  exact Finset.sum_congr rfl fun d _ => by rw [ha, hb, EReal.coe_mul]

theorem logits_real (Q : FVec Ideal S8448x2048 .bf16) (K : FVec Ideal S8448x512 .bf16)
    (hQ : ∀ i, ∃ a : ℝ, (Q i : EReal) = (a : EReal)) (hK : ∀ i, ∃ a : ℝ, (K i : EReal) = (a : EReal))
    (j : Cert.AttcRefIdeal.S4x4x256x256.Idx) : ∃ a : ℝ, Cert.AttcRefIdeal.Row.logits Q K j = (a : EReal) := by
  idx_vars j
  rw [Cert.AttcRefIdeal.Row.logits_at]
  obtain ⟨x, hx⟩ := dot_real _ _ (fun d : Fin 128 => hQ (ix2 (⟨8192 + j2.val, by omega⟩ : Fin 8448) (⟨j0.val * 512 + j1.val * 128 + d.val, by omega⟩ : Fin 2048)))
    (fun d : Fin 128 => hK (ix2 (⟨8192 + j3.val, by omega⟩ : Fin 8448) (⟨j0.val * 128 + d.val, by omega⟩ : Fin 512)))
  refine ⟨x * Real.log 2, ?_⟩
  rw [EReal.coe_mul, ← hx]
  exact Eq.refl _

theorem core (Q : FVec Ideal S8448x2048 .bf16) (K : FVec Ideal S8448x512 .bf16) (Z : FVec Ideal S8448x6144 .bf16)
    (hQ : ∀ i, ∃ a : ℝ, (Q i : EReal) = (a : EReal)) (hK : ∀ i, ∃ a : ℝ, (K i : EReal) = (a : EReal))
    (x0 : Vec Ideal S256x512 .bf16) (x1 x2 : Vec Ideal S256x128 .bf16) (h : Fin 4)
    (hx0 : ∀ (i : Fin 256) (e : Fin 512), x0 (ix2 i e) = Q (ix2 (⟨8192 + i.val, by omega⟩ : Fin 8448) (⟨h.val * 512 + e.val, by omega⟩ : Fin 2048)))
    (hx1 : ∀ (n : Fin 256) (d : Fin 128), x1 (ix2 n d) = K (ix2 (⟨8192 + n.val, by omega⟩ : Fin 8448) (⟨h.val * 128 + d.val, by omega⟩ : Fin 512)))
    (hx2 : ∀ (n : Fin 256) (d : Fin 128), x2 (ix2 n d) = Z (ix2 (⟨8192 + n.val, by omega⟩ : Fin 8448) (⟨2560 + (h.val * 128 + d.val), by omega⟩ : Fin 6144)))
    (i : Fin 256) (e : Fin 512) :
    out0_3 (F := Ideal) x0 x1 x2 (ix2 i e)
      = Cert.AttcRefIdeal.Row.REF Q K Z (ix2 i (⟨h.val * 512 + e.val, by omega⟩ : Fin 2048)) := by
  have h0 : ∀ i, ∃ a : ℝ, (x0 i : EReal) = (a : EReal) := fun i => by
    rw [eq_ix2 i]; exact (hQ _).imp fun _ hh => (hx0 _ _).trans hh
  have h1 : ∀ i, ∃ a : ℝ, (x1 i : EReal) = (a : EReal) := fun i => by
    rw [eq_ix2 i]; exact (hK _).imp fun _ hh => (hx1 _ _).trans hh
  rw [out_at, Cert.AttcRefIdeal.Row.ref_at]
  generalize hr : (⟨((ix2 i e : S256x512.Idx) 1).val / 128 * 256 + ((ix2 i e : S256x512.Idx) 0).val, _⟩ : Fin 1024) = r
  generalize hd : (⟨((ix2 i e : S256x512.Idx) 1).val % 128, _⟩ : Fin 128) = d
  have hr' : r.val = e.val / 128 * 256 + i.val := (congrArg Fin.val hr).symm
  have hd' : d.val = e.val % 128 := (congrArg Fin.val hd).symm
  have hreal : ∀ n : ℕ, ∃ x : ℝ, score (F := Ideal) (stack x0) x1 (ix2 r (key n)) = (x : EReal) := fun n => by
    rw [score_at]
    refine dot_real _ _ (fun dd => ?_) fun dd => h1 _
    rw [stack_at]
    exact h0 _
  choose s hs using hreal
  obtain ⟨M', hM'⟩ := Cert.AttcRefIdeal.Row.rowMax_real Q K (logits_real Q K hQ hK) (ix3 (⟨(h.val * 512 + e.val) / 512, by omega⟩ : Fin 4) (⟨(h.val * 512 + e.val) / 128 % 4, by omega⟩ : Fin 4) i)
  rw [row_eq (stack x0) x1 x2 r s hs d M', hM']
  have hscore : ∀ n : Fin 256, score (F := Ideal) (stack x0) x1 (ix2 r n)
      = Cert.AttcRefIdeal.Row.dots Q K ⟨(h.val * 512 + e.val) / 512, by omega⟩ ⟨(h.val * 512 + e.val) / 128 % 4, by omega⟩ i n := fun n => by
    unfold Cert.AttcRefIdeal.Row.dots
    rw [score_at]
    refine Finset.sum_congr (Eq.refl _) fun dd _ => ?_
    rw [stack_at, hx0, hx1]
    refine Ideal.mul_congr (congrArg Q ((ix2_inj ..).2 ⟨Fin.ext ?_, Fin.ext ?_⟩)) (congrArg K ((ix2_inj ..).2 ⟨Eq.refl _, Fin.ext ?_⟩))
    all_goals (dsimp only; omega)
  simp only [hscore]
  refine Finset.sum_congr (Eq.refl _) fun n _ => ?_
  rw [hx2]
  refine Ideal.mul_congr (congrArg Z ((ix2_inj ..).2 ⟨Eq.refl _, Fin.ext ?_⟩)) (Eq.refl _)
  dsimp only
  omega

/-! ## The array after the run -/

theorem idx : ∀ t : Fin cfg0.N, win0_0.index t = ![32, t.val] ∧ win0_1.index t = ![32, t.val]
    ∧ win0_2.index t = ![32, 20 + t.val] ∧ win0_3.index t = ![0, t.val] :=
  (by decide +kernel : ∀ t : Fin grid0.N, _)

variable (m : (ℓ : Loc nD τ sig) → Buf (Elt Ideal) ℓ)

theorem point (c : Dev nD) (t : Fin cfg0.N)
    (hQ : ∀ i, ∃ a : ℝ, ((m ((c : Thread nD τ).loc main_arg0) : FVec Ideal S8448x2048 .bf16) i : EReal) = (a : EReal))
    (hK : ∀ i, ∃ a : ℝ, ((m ((c : Thread nD τ).loc main_arg1) : FVec Ideal S8448x512 .bf16) i : EReal) = (a : EReal))
    (y : S256x512.Idx) (j : S256x2048.Idx) (hj0 : (j 0).val = (y 0).val) (hj1 : (j 1).val = t.val * 512 + (y 1).val) :
    out0_3 (F := Ideal) (iblk m c 0 t) (iblk m c 1 t) (iblk m c 2 t) y
      = Cert.AttcRefIdeal.Row.REF (m ((c : Thread nD τ).loc main_arg0)) (m ((c : Thread nD τ).loc main_arg1)) (m ((c : Thread nD τ).loc main_arg2)) j := by
  have ht : t.val < 4 := lt_of_lt_of_eq t.isLt (by decide)
  have hh := core (m ((c : Thread nD τ).loc main_arg0)) (m ((c : Thread nD τ).loc main_arg1)) (m ((c : Thread nD τ).loc main_arg2)) hQ hK
    (iblk m c 0 t) (iblk m c 1 t) (iblk m c 2 t) ⟨t.val, ht⟩
    (fun i e => by blk_ext [iblk, V, idx t]) (fun n d => by blk_ext [iblk, V, idx t]) (fun n d => by blk_ext [iblk, V, idx t]) (y 0) (y 1)
  rw [← eq_ix2 y] at hh
  rw [hh]
  refine congrArg _ ?_
  rw [eq_ix2 j]
  exact (ix2_inj ..).2 ⟨Fin.ext hj0.symm, Fin.ext hj1.symm⟩

theorem final (c : Dev nD)
    (hQ : ∀ i, ∃ a : ℝ, ((m ((c : Thread nD τ).loc main_arg0) : FVec Ideal S8448x2048 .bf16) i : EReal) = (a : EReal))
    (hK : ∀ i, ∃ a : ℝ, ((m ((c : Thread nD τ).loc main_arg1) : FVec Ideal S8448x512 .bf16) i : EReal) = (a : EReal)) :
    (dats m 0 c).arrAt 3 (cfgs 0).N
      = Cert.AttcRefIdeal.Row.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine point m c t hQ hK y _ ?_ ?_
  all_goals (blk_simp [idx t] <;> try omega)

end Cert.AttcIdeal.Row

end
-- ==== Proof.RkvVal.lean ====
module

public import proofs.«01_k».proof.Proof.Gen.RkvIdeal.Value
public import proofs.«01_k».proof.Proof.Gen.RkvRefIdeal.Run
public import Idealize.ShloMosaic.Lib.Pipeline.ValueKit

@[expose] public section

set_option maxRecDepth 16384

noncomputable section

/-! # The projection to the recurrence inputs -/

namespace Cert.RkvRefIdeal.Row

open Idealize.ShloMosaic Idealize.ShloMosaic.TcCoe Idealize.SL.Sem
open Cert.RkvRefIdeal Cert.RkvRefIdeal.Gen

/-- The reference's array: the plain product. -/
abbrev REF (x0 : FVec Ideal S8448x4096 .bf16) (x1 : FVec Ideal S2x21920x4096 .f32) : FVec Ideal S8448x3072 .bf16 :=
  truncf .bf16 (Host.dotGeneral dot_S8448x4096_S4096x3072_S8448x3072_1_0_0_1_n_n none (extf .f32 x0 bitsLt_bf16_f32) (transpose S4096x3072 [1, 0] (shapeCast _ (extractStridedSlice S1x3072x4096 ![1, 6144, 0] x1 slices_S2x21920x4096_S1x3072x4096_1_6144_0) shapeCasts_S1x3072x4096_S3072x4096) transposes_S3072x4096_S4096x3072_1_0)) bitsLt_bf16_f32

end Cert.RkvRefIdeal.Row

namespace Cert.RkvIdeal.Row

open Idealize.ShloMosaic Idealize.ShloMosaic.TcCoe Idealize.SL.Sem
open Idealize.ShloMosaic.Pipeline (Dat)
open Cert.RkvIdeal Cert.RkvIdeal.Gen

/-- Where each block of a grid point sits. -/
theorem idx : ∀ t : Fin cfg0.N, win0_0.index t = ![t.val / 6, 0]
    ∧ win0_1.index t = ![1, 6144 + t.val % 6 * 512, 0]
    ∧ win0_2.index t = ![t.val / 6, t.val % 6] :=
  (by decide +kernel : ∀ t : Fin grid0.N, _)

variable (m : (ℓ : Loc nD τ sig) → Buf (Elt Ideal) ℓ)

/-- Where a coordinate of the weight's block lands in the weight. -/
theorem off1 (t : Fin cfg0.N) (y) (a) : (((View.whole main_arg1).slice (win0_1.rect t)).emb y a).val = win0_1.index t a + 1 * (y a).val := rfl

theorem point (c : Dev nD) (t : Fin cfg0.N) (y) : k0_pay1 (F := Ideal) (iblk m c 1 t) (iblk m c 0 t) y
    = Cert.RkvRefIdeal.Row.REF (m ((c : Thread nD τ).loc main_arg0)) (m ((c : Thread nD τ).loc main_arg1)) (((cfg0.win 2).blk t).view.emb y) := by
  pointwise [k0_pay1, Cert.RkvRefIdeal.Row.REF]
  blk_point [iblk, V, idx t]
  all_goals
    first
      | exact (off1 t _ 0).trans (by simp [idx t])
      | exact (off1 t _ 1).trans (by simp [idx t]; omega)
      | exact (off1 t _ 2).trans (by simp [idx t])

theorem final (c : Dev nD) : (dats m 0 c).arrAt 2 (cfgs 0).N = Cert.RkvRefIdeal.Row.REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.RkvIdeal.Row

end
-- ==== Proof.LoraVal.lean ====
module

public import proofs.«01_k».proof.Proof.Gen.LoraIdeal.Value
public import proofs.«01_k».proof.Proof.Gen.LoraRefIdeal.Run
public import Idealize.ShloMosaic.Lib.Pipeline.ValueKit

@[expose] public section

set_option maxRecDepth 16384

noncomputable section

/-! # The low-rank projection -/

namespace Cert.LoraRefIdeal.Row

open Idealize.ShloMosaic Idealize.ShloMosaic.TcCoe Idealize.SL.Sem
open Cert.LoraRefIdeal Cert.LoraRefIdeal.Gen

/-- The reference's array: the plain product. -/
abbrev REF (x0 : FVec Ideal S8448x4096 .bf16) (x1 : FVec Ideal S2x21920x4096 .f32) : FVec Ideal S8448x512 .f32 :=
  Host.dotGeneral dot_S8448x4096_S4096x512_S8448x512_1_0_0_1_n_n none (extf .f32 x0 bitsLt_bf16_f32) (transpose S4096x512 [1, 0] (shapeCast _ (extractStridedSlice S1x512x4096 ![1, 9216, 0] x1 slices_S2x21920x4096_S1x512x4096_1_9216_0) shapeCasts_S1x512x4096_S512x4096) transposes_S512x4096_S4096x512_1_0)

end Cert.LoraRefIdeal.Row

namespace Cert.LoraIdeal.Row

open Idealize.ShloMosaic Idealize.ShloMosaic.TcCoe Idealize.SL.Sem
open Idealize.ShloMosaic.Pipeline (Dat)
open Cert.LoraIdeal Cert.LoraIdeal.Gen

/-- Where each block of a grid point sits. -/
theorem idx : ∀ t : Fin cfg0.N, win0_0.index t = ![t.val, 0]
    ∧ win0_1.index t = ![1, 9216, 0]
    ∧ win0_2.index t = ![t.val, 0] :=
  (by decide +kernel : ∀ t : Fin grid0.N, _)

variable (m : (ℓ : Loc nD τ sig) → Buf (Elt Ideal) ℓ)

/-- Where a coordinate of the weight's block lands in the weight. -/
theorem off1 (t : Fin cfg0.N) (y) (a) : (((View.whole main_arg1).slice (win0_1.rect t)).emb y a).val = win0_1.index t a + 1 * (y a).val := rfl

theorem point (c : Dev nD) (t : Fin cfg0.N) (y) : k0_pay1 (F := Ideal) (iblk m c 1 t) (iblk m c 0 t) y
    = Cert.LoraRefIdeal.Row.REF (m ((c : Thread nD τ).loc main_arg0)) (m ((c : Thread nD τ).loc main_arg1)) (((cfg0.win 2).blk t).view.emb y) := by
  pointwise [k0_pay1, Cert.LoraRefIdeal.Row.REF]
  blk_point [iblk, V, idx t]
  all_goals
    first
      | exact (off1 t _ 0).trans (by simp [idx t])
      | exact (off1 t _ 1).trans (by simp [idx t])
      | exact (off1 t _ 2).trans (by simp [idx t])

theorem final (c : Dev nD) : (dats m 0 c).arrAt 2 (cfgs 0).N = Cert.LoraRefIdeal.Row.REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.LoraIdeal.Row

end
-- ==== Proof.Up0Val.lean ====
module

public import proofs.«01_k».proof.Proof.Gen.Up0Ideal.Value
public import proofs.«01_k».proof.Proof.Gen.Up0RefIdeal.Run
public import Idealize.ShloMosaic.Lib.Pipeline.ValueKit

@[expose] public section

set_option maxRecDepth 16384

noncomputable section

/-! # The up projection of the feed-forward block, first layer -/

namespace Cert.Up0RefIdeal.Row

open Idealize.ShloMosaic Idealize.ShloMosaic.TcCoe Idealize.SL.Sem
open Cert.Up0RefIdeal Cert.Up0RefIdeal.Gen

/-- The reference's array: the plain product. -/
abbrev REF (x0 : FVec Ideal S8448x4096 .bf16) (x1 : FVec Ideal S2x4096x22016 .f32) : FVec Ideal S8448x22016 .bf16 :=
  truncf .bf16 (Host.dotGeneral dot_S8448x4096_S4096x22016_S8448x22016_1_0_0_1_n_n none (extf .f32 x0 bitsLt_bf16_f32) (shapeCast _ (extractStridedSlice S1x4096x22016 ![0, 0, 0] x1 slices_S2x4096x22016_S1x4096x22016_0_0_0) shapeCasts_S1x4096x22016_S4096x22016)) bitsLt_bf16_f32

end Cert.Up0RefIdeal.Row

namespace Cert.Up0Ideal.Row

open Idealize.ShloMosaic Idealize.ShloMosaic.TcCoe Idealize.SL.Sem
open Idealize.ShloMosaic.Pipeline (Dat)
open Cert.Up0Ideal Cert.Up0Ideal.Gen

/-- Where each block of a grid point sits. -/
theorem idx : ∀ t : Fin cfg0.N, win0_0.index t = ![t.val / 43, 0] ∧ win0_1.index t = ![0, 0, t.val % 43]
    ∧ win0_2.index t = ![t.val / 43, t.val % 43] :=
  (by decide +kernel : ∀ t : Fin grid0.N, _)

variable (m : (ℓ : Loc nD τ sig) → Buf (Elt Ideal) ℓ)

theorem point (c : Dev nD) (t : Fin cfg0.N) (y) : k0_pay1 (F := Ideal) (iblk m c 1 t) (iblk m c 0 t) y
    = Cert.Up0RefIdeal.Row.REF (m ((c : Thread nD τ).loc main_arg0)) (m ((c : Thread nD τ).loc main_arg1)) (((cfg0.win 2).blk t).view.emb y) := by
  pointwise [k0_pay1, Cert.Up0RefIdeal.Row.REF]
  blk_point [iblk, V, idx t]

theorem final (c : Dev nD) : (dats m 0 c).arrAt 2 (cfgs 0).N = Cert.Up0RefIdeal.Row.REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Up0Ideal.Row

end
-- ==== Proof.Gates0Val.lean ====
module

public import proofs.«01_k».proof.Proof.Gen.Gates0Ideal.Value
public import proofs.«01_k».proof.Proof.Gen.Gates0RefIdeal.Run
public import Idealize.ShloMosaic.Lib.Pipeline.ValueKit

@[expose] public section

set_option maxRecDepth 16384

noncomputable section

/-! # The branch gates, first layer -/

namespace Cert.Gates0RefIdeal.Row

open Idealize.ShloMosaic Idealize.ShloMosaic.TcCoe Idealize.SL.Sem
open Cert.Gates0RefIdeal Cert.Gates0RefIdeal.Gen

/-- The reference's array: the sigmoid of the product and the bias. -/
abbrev REF (x0 : FVec Ideal S8448x4096 .bf16) (x1 : FVec Ideal S2x21920x4096 .f32) (x2 : FVec Ideal S12288 .f32) : FVec Ideal S8448x12288 .bf16 :=
  truncf .bf16 (Host.divf (broadcastInDim S8448x12288 ![] bcast_S_S8448x12288 (constant S_ .f32 0x3F800000#32)) (addf (broadcastInDim S8448x12288 ![] bcast_S_S8448x12288 (constant S_ .f32 0x3F800000#32)) (Host.exp (Host.negf (addf (Host.dotGeneral dot_S8448x4096_S4096x12288_S8448x12288_1_0_0_1_n_n none (extf .f32 x0 bitsLt_bf16_f32) (transpose S4096x12288 [1, 0] (shapeCast _ (extractStridedSlice S1x12288x4096 ![0, 9632, 0] x1 slices_S2x21920x4096_S1x12288x4096_0_9632_0) shapeCasts_S1x12288x4096_S12288x4096) transposes_S12288x4096_S4096x12288_1_0)) (broadcastInDim S8448x12288 ![0, 1] bcast_S1x12288_S8448x12288_0_1 (broadcastInDim S1x12288 ![1] bcast_S12288_S1x12288_1 x2))))))) bitsLt_bf16_f32

end Cert.Gates0RefIdeal.Row

namespace Cert.Gates0Ideal.Row

open Idealize.ShloMosaic Idealize.ShloMosaic.TcCoe Idealize.SL.Sem
open Idealize.ShloMosaic.Pipeline (Dat)
open Cert.Gates0Ideal Cert.Gates0Ideal.Gen

/-- Where each block of a grid point sits. -/
theorem idx : ∀ t : Fin cfg0.N, win0_0.index t = ![t.val / 24, 0]
    ∧ win0_1.index t = ![0, 9632 + t.val % 24 * 512, 0]
    ∧ win0_2.index t = ![0, t.val % 24]
    ∧ win0_3.index t = ![t.val / 24, t.val % 24] :=
  (by decide +kernel : ∀ t : Fin grid0.N, _)

variable (m : (ℓ : Loc nD τ sig) → Buf (Elt Ideal) ℓ)

/-- Where a coordinate of the result's block lands in the result. -/
theorem off3 (t : Fin cfg0.N) (y) (a : Fin 2) :
    (((View.whole main_v1).slice ((win0 3).rect t)).emb y a).val = win0_3.index t a * S1408x512.size a + 1 * (y a).val := rfl

/-- Where a coordinate of the weight's block lands in the weight. -/
theorem off1 (t : Fin cfg0.N) (y) (a) :
    (((View.whole main_arg1).slice (win0_1.rect t)).emb y a).val = win0_1.index t a + 1 * (y a).val := rfl

/-- An entry of a block of rows, read off the array it is a block of. -/
theorem row_at (c : Dev nD) (t : Fin cfg0.N) (p : Fin 1408) (x : Fin 4096) (i : Fin 8448) (hi : i.val = t.val / 24 * 1408 + p.val) :
    iblk m c 0 t (ix2 p x) = m ((c : Thread nD τ).loc main_arg0) (ix2 i x) := by
  unfold iblk
  refine (congrFun (V_main_arg0 m c) _).trans (congrArg _ (funext fun a => Fin.ext ?_))
  refine (show _ = win0_0.index t a * S1408x4096.size a + 1 * ((ix2 p x : S1408x4096.Idx) a).val from rfl).trans ?_
  fin_cases a
  · simp [idx t, hi]
  · simp [idx t]

/-- An entry of a block of the weight, read off the weight. -/
theorem weight_at (c : Dev nD) (t : Fin cfg0.N) (q : Fin 512) (x : Fin 4096) (i : Fin 21920) (hi : i.val = 9632 + t.val % 24 * 512 + q.val) :
    iblk m c 1 t (ix3 0 q x) = m ((c : Thread nD τ).loc main_arg1) (ix3 0 i x) := by
  unfold iblk
  refine (congrFun (V_main_arg1 m c) _).trans (congrArg _ (funext fun a => Fin.ext ?_))
  refine (off1 t _ a).trans ?_
  fin_cases a
  · simp [idx t]
  · simp [idx t, hi]
  · simp [idx t]

/-- An entry of a block of the bias, read off the bias. -/
theorem bias_at (c : Dev nD) (t : Fin cfg0.N) (q : Fin 512) (i : Fin 12288) (hi : i.val = t.val % 24 * 512 + q.val) :
    iblk m c 2 t (ix2 0 q) = m ((c : Thread nD τ).loc main_arg2) (ix1 i) := by
  blk_point [iblk, V, idx t]

theorem point (c : Dev nD) (t : Fin cfg0.N) (y) : k0_pay1 (F := Ideal) (iblk m c 1 t) (iblk m c 0 t) (iblk m c 2 t) y
    = Cert.Gates0RefIdeal.Row.REF (m ((c : Thread nD τ).loc main_arg0)) (m ((c : Thread nD τ).loc main_arg1)) (m ((c : Thread nD τ).loc main_arg2)) (((cfg0.win 3).blk t).view.emb y) := by
  pointwise [k0_pay1, Cert.Gates0RefIdeal.Row.REF]
  have h0 : (((View.whole main_v1).slice ((win0 3).rect t)).emb y 0).val = t.val / 24 * 1408 + (y 0).val :=
    (off3 t y 0).trans (by simp [idx t])
  have h1 : (((View.whole main_v1).slice ((win0 3).rect t)).emb y 1).val = t.val % 24 * 512 + (y 1).val :=
    (off3 t y 1).trans (by simp [idx t])
  rw [zero_sub, bias_at m c t (y 1) _ h1]
  refine congrArg (fun s : EReal => Ideal.div 1 (1 + Ideal.exp (-(s + _)))) (Finset.sum_congr rfl fun x _ => ?_)
  exact congrArg₂ (fun a b : EReal => a * b) (row_at m c t (y 0) x _ h0)
    (weight_at m c t (y 1) x _ (by show 9632 + _ = _; rw [h1]; omega))

theorem final (c : Dev nD) : (dats m 0 c).arrAt 3 (cfgs 0).N = Cert.Gates0RefIdeal.Row.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Gates0Ideal.Row

end
-- ==== Proof.Qkvc0Val.lean ====
module

public import proofs.«01_k».proof.Proof.Gen.Qkvc0Ideal.Value
public import proofs.«01_k».proof.Proof.Gen.Qkvc0RefIdeal.Run
public import Idealize.ShloMosaic.Lib.Pipeline.ValueKit

@[expose] public section

set_option maxRecDepth 16384

noncomputable section

/-! # The projection to queries, keys, values and convolution inputs, first layer -/

namespace Cert.Qkvc0RefIdeal.Row

open Idealize.ShloMosaic Idealize.ShloMosaic.TcCoe Idealize.SL.Sem
open Cert.Qkvc0RefIdeal Cert.Qkvc0RefIdeal.Gen

/-- The reference's array: the plain product. -/
abbrev REF (x0 : FVec Ideal S8448x4096 .bf16) (x1 : FVec Ideal S2x21920x4096 .f32) : FVec Ideal S8448x6144 .bf16 :=
  truncf .bf16 (Host.dotGeneral dot_S8448x4096_S4096x6144_S8448x6144_1_0_0_1_n_n none (extf .f32 x0 bitsLt_bf16_f32) (transpose S4096x6144 [1, 0] (shapeCast _ (extractStridedSlice S1x6144x4096 ![0, 0, 0] x1 slices_S2x21920x4096_S1x6144x4096_0_0_0) shapeCasts_S1x6144x4096_S6144x4096) transposes_S6144x4096_S4096x6144_1_0)) bitsLt_bf16_f32

end Cert.Qkvc0RefIdeal.Row

namespace Cert.Qkvc0Ideal.Row

open Idealize.ShloMosaic Idealize.ShloMosaic.TcCoe Idealize.SL.Sem
open Idealize.ShloMosaic.Pipeline (Dat)
open Cert.Qkvc0Ideal Cert.Qkvc0Ideal.Gen

/-- Where each block of a grid point sits. -/
theorem idx : ∀ t : Fin cfg0.N, win0_0.index t = ![t.val / 12, 0]
    ∧ win0_1.index t = ![0, t.val % 12 * 512, 0]
    ∧ win0_2.index t = ![t.val / 12, t.val % 12] :=
  (by decide +kernel : ∀ t : Fin grid0.N, _)

variable (m : (ℓ : Loc nD τ sig) → Buf (Elt Ideal) ℓ)

/-- Where a coordinate of the weight's block lands in the weight. -/
theorem off1 (t : Fin cfg0.N) (y) (a) : (((View.whole main_arg1).slice (win0_1.rect t)).emb y a).val = win0_1.index t a + 1 * (y a).val := rfl

theorem point (c : Dev nD) (t : Fin cfg0.N) (y) : k0_pay1 (F := Ideal) (iblk m c 1 t) (iblk m c 0 t) y
    = Cert.Qkvc0RefIdeal.Row.REF (m ((c : Thread nD τ).loc main_arg0)) (m ((c : Thread nD τ).loc main_arg1)) (((cfg0.win 2).blk t).view.emb y) := by
  pointwise [k0_pay1, Cert.Qkvc0RefIdeal.Row.REF]
  blk_point [iblk, V, idx t]
  all_goals
    first
      | exact (off1 t _ 0).trans (by simp [idx t])
      | exact (off1 t _ 1).trans (by simp [idx t])
      | exact (off1 t _ 2).trans (by simp [idx t])

theorem final (c : Dev nD) : (dats m 0 c).arrAt 2 (cfgs 0).N = Cert.Qkvc0RefIdeal.Row.REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Qkvc0Ideal.Row

end
-- ==== Proof.Rkv0Val.lean ====
module

public import proofs.«01_k».proof.Proof.Gen.Rkv0Ideal.Value
public import proofs.«01_k».proof.Proof.Gen.Rkv0RefIdeal.Run
public import Idealize.ShloMosaic.Lib.Pipeline.ValueKit

@[expose] public section

set_option maxRecDepth 16384

noncomputable section

/-! # The projection to the recurrence inputs, first layer -/

namespace Cert.Rkv0RefIdeal.Row

open Idealize.ShloMosaic Idealize.ShloMosaic.TcCoe Idealize.SL.Sem
open Cert.Rkv0RefIdeal Cert.Rkv0RefIdeal.Gen

/-- The reference's array: the plain product. -/
abbrev REF (x0 : FVec Ideal S8448x4096 .bf16) (x1 : FVec Ideal S2x21920x4096 .f32) : FVec Ideal S8448x3072 .bf16 :=
  truncf .bf16 (Host.dotGeneral dot_S8448x4096_S4096x3072_S8448x3072_1_0_0_1_n_n none (extf .f32 x0 bitsLt_bf16_f32) (transpose S4096x3072 [1, 0] (shapeCast _ (extractStridedSlice S1x3072x4096 ![0, 6144, 0] x1 slices_S2x21920x4096_S1x3072x4096_0_6144_0) shapeCasts_S1x3072x4096_S3072x4096) transposes_S3072x4096_S4096x3072_1_0)) bitsLt_bf16_f32

end Cert.Rkv0RefIdeal.Row

namespace Cert.Rkv0Ideal.Row

open Idealize.ShloMosaic Idealize.ShloMosaic.TcCoe Idealize.SL.Sem
open Idealize.ShloMosaic.Pipeline (Dat)
open Cert.Rkv0Ideal Cert.Rkv0Ideal.Gen

/-- Where each block of a grid point sits. -/
theorem idx : ∀ t : Fin cfg0.N, win0_0.index t = ![t.val / 6, 0]
    ∧ win0_1.index t = ![0, 6144 + t.val % 6 * 512, 0]
    ∧ win0_2.index t = ![t.val / 6, t.val % 6] :=
  (by decide +kernel : ∀ t : Fin grid0.N, _)

variable (m : (ℓ : Loc nD τ sig) → Buf (Elt Ideal) ℓ)

/-- Where a coordinate of the weight's block lands in the weight. -/
theorem off1 (t : Fin cfg0.N) (y) (a) : (((View.whole main_arg1).slice (win0_1.rect t)).emb y a).val = win0_1.index t a + 1 * (y a).val := rfl

theorem point (c : Dev nD) (t : Fin cfg0.N) (y) : k0_pay1 (F := Ideal) (iblk m c 1 t) (iblk m c 0 t) y
    = Cert.Rkv0RefIdeal.Row.REF (m ((c : Thread nD τ).loc main_arg0)) (m ((c : Thread nD τ).loc main_arg1)) (((cfg0.win 2).blk t).view.emb y) := by
  pointwise [k0_pay1, Cert.Rkv0RefIdeal.Row.REF]
  blk_point [iblk, V, idx t]
  all_goals
    first
      | exact (off1 t _ 0).trans (by simp [idx t])
      | exact (off1 t _ 1).trans (by simp [idx t]; omega)
      | exact (off1 t _ 2).trans (by simp [idx t])

theorem final (c : Dev nD) : (dats m 0 c).arrAt 2 (cfgs 0).N = Cert.Rkv0RefIdeal.Row.REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Rkv0Ideal.Row

end
-- ==== Proof.Lora0Val.lean ====
module

public import proofs.«01_k».proof.Proof.Gen.Lora0Ideal.Value
public import proofs.«01_k».proof.Proof.Gen.Lora0RefIdeal.Run
public import Idealize.ShloMosaic.Lib.Pipeline.ValueKit

@[expose] public section

set_option maxRecDepth 16384

noncomputable section

/-! # The low-rank projection, first layer -/

namespace Cert.Lora0RefIdeal.Row

open Idealize.ShloMosaic Idealize.ShloMosaic.TcCoe Idealize.SL.Sem
open Cert.Lora0RefIdeal Cert.Lora0RefIdeal.Gen

/-- The reference's array: the plain product. -/
abbrev REF (x0 : FVec Ideal S8448x4096 .bf16) (x1 : FVec Ideal S2x21920x4096 .f32) : FVec Ideal S8448x512 .f32 :=
  Host.dotGeneral dot_S8448x4096_S4096x512_S8448x512_1_0_0_1_n_n none (extf .f32 x0 bitsLt_bf16_f32) (transpose S4096x512 [1, 0] (shapeCast _ (extractStridedSlice S1x512x4096 ![0, 9216, 0] x1 slices_S2x21920x4096_S1x512x4096_0_9216_0) shapeCasts_S1x512x4096_S512x4096) transposes_S512x4096_S4096x512_1_0)

end Cert.Lora0RefIdeal.Row

namespace Cert.Lora0Ideal.Row

open Idealize.ShloMosaic Idealize.ShloMosaic.TcCoe Idealize.SL.Sem
open Idealize.ShloMosaic.Pipeline (Dat)
open Cert.Lora0Ideal Cert.Lora0Ideal.Gen

/-- Where each block of a grid point sits. -/
theorem idx : ∀ t : Fin cfg0.N, win0_0.index t = ![t.val, 0]
    ∧ win0_1.index t = ![0, 9216, 0]
    ∧ win0_2.index t = ![t.val, 0] :=
  (by decide +kernel : ∀ t : Fin grid0.N, _)

variable (m : (ℓ : Loc nD τ sig) → Buf (Elt Ideal) ℓ)

/-- Where a coordinate of the weight's block lands in the weight. -/
theorem off1 (t : Fin cfg0.N) (y) (a) : (((View.whole main_arg1).slice (win0_1.rect t)).emb y a).val = win0_1.index t a + 1 * (y a).val := rfl

theorem point (c : Dev nD) (t : Fin cfg0.N) (y) : k0_pay1 (F := Ideal) (iblk m c 1 t) (iblk m c 0 t) y
    = Cert.Lora0RefIdeal.Row.REF (m ((c : Thread nD τ).loc main_arg0)) (m ((c : Thread nD τ).loc main_arg1)) (((cfg0.win 2).blk t).view.emb y) := by
  pointwise [k0_pay1, Cert.Lora0RefIdeal.Row.REF]
  blk_point [iblk, V, idx t]
  all_goals
    first
      | exact (off1 t _ 0).trans (by simp [idx t])
      | exact (off1 t _ 1).trans (by simp [idx t])
      | exact (off1 t _ 2).trans (by simp [idx t])

theorem final (c : Dev nD) : (dats m 0 c).arrAt 2 (cfgs 0).N = Cert.Lora0RefIdeal.Row.REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Lora0Ideal.Row

end
-- ==== Proof.Down0Val.lean ====
module

public import proofs.«01_k».proof.Proof.Gen.Down0Ideal.Value
public import proofs.«01_k».proof.Proof.Gen.Down0RefIdeal.Run
public import Idealize.ShloMosaic.Lib.Pipeline.ValueKit

@[expose] public section

set_option maxRecDepth 16384

noncomputable section

/-! # The down projection with its gated residual, first layer -/

namespace Cert.Down0RefIdeal.Row

open Idealize.ShloMosaic Idealize.ShloMosaic.TcCoe Idealize.SL.Sem
open Cert.Down0RefIdeal Cert.Down0RefIdeal.Gen

/-- The reference's array. -/
abbrev REF (x0 : FVec Ideal S8448x11264 .bf16) (x1 : FVec Ideal S2x11264x4096 .bf16) (x2 : FVec Ideal S8448x4096 .f32) (x3 : FVec Ideal S2x4096 .f32) : FVec Ideal S8448x4096 .f32 :=
  concatenate S8448x4096 0 [⟨S8192x4096, (addf (extractStridedSlice S8192x4096 ![0, 0] x2 slices_S8448x4096_S8192x4096_0_0) (mulf (broadcastInDim S8192x4096 ![0, 1] bcast_S1x4096_S8192x4096_0_1 (broadcastInDim S1x4096 ![1] bcast_S4096_S1x4096_1 (shapeCast _ (extractStridedSlice S1x4096 ![0, 0] x3 slices_S2x4096_S1x4096_0_0) shapeCasts_S1x4096_S4096))) (extractStridedSlice S8192x4096 ![0, 0] (Host.dotGeneral dot_S8448x11264_S11264x4096_S8448x4096_1_0_0_1_n_n none (extf .f32 x0 bitsLt_bf16_f32) (extf .f32 (shapeCast _ (extractStridedSlice S1x11264x4096 ![0, 0, 0] x1 slices_S2x11264x4096_S1x11264x4096_0_0_0) shapeCasts_S1x11264x4096_S11264x4096) bitsLt_bf16_f32)) slices_S8448x4096_S8192x4096_0_0)))⟩, ⟨S256x4096, (addf (extractStridedSlice S256x4096 ![8192, 0] x2 slices_S8448x4096_S256x4096_8192_0) (mulf (broadcastInDim S256x4096 ![0, 1] bcast_S1x4096_S256x4096_0_1 (broadcastInDim S1x4096 ![1] bcast_S4096_S1x4096_1 (shapeCast _ (extractStridedSlice S1x4096 ![1, 0] x3 slices_S2x4096_S1x4096_1_0) shapeCasts_S1x4096_S4096))) (extractStridedSlice S256x4096 ![8192, 0] (Host.dotGeneral dot_S8448x11264_S11264x4096_S8448x4096_1_0_0_1_n_n none (extf .f32 x0 bitsLt_bf16_f32) (extf .f32 (shapeCast _ (extractStridedSlice S1x11264x4096 ![0, 0, 0] x1 slices_S2x11264x4096_S1x11264x4096_0_0_0) shapeCasts_S1x11264x4096_S11264x4096) bitsLt_bf16_f32)) slices_S8448x4096_S256x4096_8192_0)))⟩] concatenates_S8192x4096_S256x4096_S8448x4096_d0

/-- One entry of the reference's array: rows below 8192 take the first gate, the others the second. -/
theorem REF_at (x0 x1 x2 x3) (j : S8448x4096.Idx) :
    REF x0 x1 x2 x3 j = x2 j + (if (j 0).val < 8192 then x3 (ix2 0 (j 1)) else x3 (ix2 1 (j 1))) * ∑ l : Fin 11264, x0 (ix2 (j 0) l) * x1 (ix3 0 l (j 1)) := by
  have hj : (j 0).val < 8448 := (j 0).isLt
  rcases Nat.lt_or_ge (j 0).val 8192 with h | h
  · rw [if_pos h]
    pointwise [REF]
    rw [dif_pos h]
  · have hs : 8192 + ((j 0).val - 8192) = (j 0).val := by omega
    rw [if_neg (by omega)]
    pointwise [REF]
    rw [dif_neg (by omega)]
    blk_point [hs]

end Cert.Down0RefIdeal.Row

namespace Cert.Down0Ideal.Row

open Idealize.ShloMosaic Idealize.ShloMosaic.TcCoe Idealize.SL.Sem
open Idealize.ShloMosaic.Pipeline (Dat)
open Cert.Down0Ideal Cert.Down0Ideal.Gen

/-- Where each block of a grid point sits. -/
theorem idx : ∀ t : Fin cfg0.N, win0_0.index t = ![t.val / 16, t.val % 4]
    ∧ win0_1.index t = ![0, t.val % 4, t.val / 4 % 4]
    ∧ win0_2.index t = ![t.val / 16, t.val / 4 % 4]
    ∧ win0_3.index t = ![0, t.val / 4 % 4]
    ∧ win0_4.index t = ![t.val / 16, t.val / 4 % 4] :=
  (by decide +kernel : ∀ t : Fin grid0.N, _)

variable (m : (ℓ : Loc nD τ sig) → Buf (Elt Ideal) ℓ)

/-- The first run of lanes: the product of the two blocks. -/
theorem first_at (x1 x0) (j) : k0_pay2 (F := Ideal) x1 x0 j
    = 0 + ∑ k : Fin 2816, x0 (ix2 (j 0) k) * x1 (ix3 0 k (j 1)) := by
  pointwise [k0_pay2, k0_pay1]

/-- A later run of lanes: the product of the two blocks is added. -/
theorem later_at (x1 x0 acc) (j) : k0_pay3 (F := Ideal) x1 x0 acc j
    = acc j + ∑ k : Fin 2816, x0 (ix2 (j 0) k) * x1 (ix3 0 k (j 1)) := by
  pointwise [k0_pay3, k0_pay1]

/-- The word comparison of a row with 8192 says whether the row is a latent row. -/
theorem low_row : ∀ (a : Fin 11) (p : Fin 768),
    IntOp.cmpi CmpIPredicate.slt (IntOp.addi (Scalar.muli (BitVec.ofNat 32 a.val) 768#32) (BitVec.ofNat 32 p.val)) 8192#32
      = if a.val * 768 + p.val < 8192 then 1#1 else 0#1 := by
  decide +kernel

theorem coord0 : ∀ t : Fin cfg0.N, (grid0.coords t 0).val = t.val / 16 :=
  (by decide +kernel : ∀ t : Fin grid0.N, _)

/-- The gate chosen by a row's comparison. -/
theorem pick (t : Fin cfg0.N) (p : Fin 768) (a b : EReal) :
    Scalar.select (IntOp.cmpi CmpIPredicate.slt
      (IntOp.addi (Scalar.muli (BitVec.ofNat 32 (grid0.coords t 0).val) 768#32) (BitVec.ofNat 32 p.val)) 8192#32) a b
      = if t.val / 16 * 768 + p.val < 8192 then a else b := by
  rw [low_row (grid0.coords t 0) p, coord0 t]
  split <;> rfl

theorem eta2 {a b : Nat} (y : (⟨2, ![a, b]⟩ : Shape).Idx) : y = ix2 (y 0) (y 1) := by
  funext i
  fin_cases i <;> rfl

/-- An entry of a block of rows, read off the array it is a block of. -/
theorem row_at (c : Dev nD) (t : Fin cfg0.N) (p : Fin 768) (x : Fin 2816) (i : Fin 8448) (l : Fin 11264)
    (hi : i.val = t.val / 16 * 768 + p.val) (hl : l.val = t.val % 4 * 2816 + x.val) :
    iblk m c 0 t (ix2 p x) = m ((c : Thread nD τ).loc main_arg0) (ix2 i l) := by
  blk_point [iblk, V, idx t]

/-- An entry of a block of the weight, read off the weight. -/
theorem weight_at (c : Dev nD) (t : Fin cfg0.N) (x : Fin 2816) (q : Fin 1024) (l : Fin 11264) (k : Fin 4096)
    (hl : l.val = t.val % 4 * 2816 + x.val) (hk : k.val = t.val / 4 % 4 * 1024 + q.val) :
    iblk m c 1 t (ix3 0 x q) = m ((c : Thread nD τ).loc main_arg1) (ix3 0 l k) := by
  blk_point [iblk, V, idx t]

/-- An entry of a block of the gate's first row, read off the gate. -/
theorem gate_at (c : Dev nD) (t : Fin cfg0.N) (q : Fin 1024) (k : Fin 4096) (hk : k.val = t.val / 4 % 4 * 1024 + q.val) :
    iblk m c 3 t (ix2 0 q) = m ((c : Thread nD τ).loc main_arg3) (ix2 0 k) := by
  blk_point [iblk, V, idx t]

/-- An entry of a block of the gate's second row, read off the gate. -/
theorem gate1_at (c : Dev nD) (t : Fin cfg0.N) (q : Fin 1024) (k : Fin 4096) (hk : k.val = t.val / 4 % 4 * 1024 + q.val) :
    iblk m c 3 t (ix2 1 q) = m ((c : Thread nD τ).loc main_arg3) (ix2 1 k) := by
  blk_point [iblk, V, idx t]

/-- An entry of a block of the stream, read off the array it is a block of. -/
theorem res_at (c : Dev nD) (t : Fin cfg0.N) (j : S768x1024.Idx) (i : S8448x4096.Idx)
    (hi : (i 0).val = t.val / 16 * 768 + (j 0).val) (hk : (i 1).val = t.val / 4 % 4 * 1024 + (j 1).val) :
    iblk m c 2 t j = m ((c : Thread nD τ).loc main_arg2) i := by
  blk_point [iblk, V, idx t]

/-- The accumulator after the last run of lanes: the product over all lanes. -/
theorem sum_at (c : Dev nD) (t : Fin cfg0.N) (hf : t.val % 4 = 3) (j : S768x1024.Idx) (i : Fin 8448) (q : Fin 4096)
    (hi : i.val = t.val / 16 * 768 + (j 0).val) (hq : q.val = t.val / 4 % 4 * 1024 + (j 1).val) :
    ((outsAt0 m c t.val t.isLt).2 j : EReal)
      = ∑ l : Fin 11264, (show EReal from m ((c : Thread nD τ).loc main_arg0) (ix2 i l)) * (show EReal from m ((c : Thread nD τ).loc main_arg1) (ix3 0 l q)) := by
  rw [Pipeline.eq_sum_fin_of_reset_step_apply_of_flush (fun n h => (outsAt0 m c n h).2) 4 (fun _ => 0) _
    (fun t h j => by rw [outsAt0_A m c t h (by omega) (by omega)]; frame_out; rw [first_at])
    (fun t h j => by
      by_cases h2 : t.val % 4 = 3
      · rw [outsAt0_C m c t h (by omega) h2]; frame_out; rw [later_at]; exact congrArg (fun a : EReal => a + _) (congrFun (Memref.IsWhole.read_unread _ _) j)
      · rw [outsAt0_B m c t h (by omega) h2]; frame_out; rw [later_at]; exact congrArg (fun a : EReal => a + _) (congrFun (Memref.IsWhole.read_unread _ _) j))
    t hf j, zero_add]
  refine Fin.sum_mul_add_congr fun s k hl => ?_
  have ht : t.val < 176 := lt_of_lt_of_eq t.isLt N_0
  exact congrArg₂ (fun a b : EReal => a * b)
    (row_at m c ⟨4 * (t.val / 4) + s.val, _⟩ (j 0) k i ⟨s.val * 2816 + k.val, hl⟩ (by show _ = (4 * (t.val / 4) + s.val) / 16 * 768 + _; omega)
      (by show s.val * 2816 + k.val = (4 * (t.val / 4) + s.val) % 4 * 2816 + _; omega))
    (weight_at m c ⟨4 * (t.val / 4) + s.val, _⟩ k (j 1) ⟨s.val * 2816 + k.val, hl⟩ q
      (by show s.val * 2816 + k.val = (4 * (t.val / 4) + s.val) % 4 * 2816 + _; omega)
      (by show _ = (4 * (t.val / 4) + s.val) / 4 % 4 * 1024 + _; omega))

/-- What the last point of a run writes: the stream plus the gate times the accumulator. -/
theorem out_at (c : Dev nD) (t : Fin cfg0.N) (h2 : t.val % 4 = 3) (j : S768x1024.Idx) :
    ((outsAt0 m c t.val t.isLt).1 j : EReal)
      = (show EReal from iblk m c 2 t j) + (if t.val / 16 * 768 + (j 0).val < 8192 then (show EReal from iblk m c 3 t (ix2 0 (j 1))) else (show EReal from iblk m c 3 t (ix2 1 (j 1)))) * (show EReal from (outsAt0 m c t.val t.isLt).2 j) := by
  rw [outsAt0_C m c t (by omega) (by omega) h2]
  frame_out
  pointwise [k0_pay4]
  rw [pick t (j 0)]

/-- Where a coordinate of the result's block lands in the result. -/
theorem off4 (t : Fin cfg0.N) (y) (a : Fin 2) :
    (((View.whole main_v0).slice ((win0 4).rect t)).emb y a).val = win0_4.index t a * S768x1024.size a + 1 * (y a).val := rfl

theorem final (c : Dev nD) : (dats m 0 c).arrAt 4 (cfgs 0).N = Cert.Down0RefIdeal.Row.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have h2 := (flush0_4 t).mp hf
  have h0 : (((View.whole main_v0).slice ((win0 4).rect t)).emb y 0).val = t.val / 16 * 768 + (y 0).val :=
    (off4 t y 0).trans (by simp [idx t])
  have h1 : (((View.whole main_v0).slice ((win0 4).rect t)).emb y 1).val = t.val / 4 % 4 * 1024 + (y 1).val :=
    (off4 t y 1).trans (by simp [idx t])
  rw [after0_4, Cert.Down0RefIdeal.Row.REF_at]
  refine (out_at m c t h2 y).trans ?_
  exact congrArg₂ (fun a b : EReal => a + b) (res_at m c t y _ h0 h1)
    (congrArg₂ (fun a b : EReal => a * b) (if_congr (by rw [h0]) (gate_at m c t (y 1) _ h1) (gate1_at m c t (y 1) _ h1)) (sum_at m c t h2 y _ _ h0 h1))

end Cert.Down0Ideal.Row

end
-- ==== Proof.Out0Val.lean ====
module

public import proofs.«01_k».proof.Proof.Gen.Out0Ideal.Value
public import proofs.«01_k».proof.Proof.Gen.Out0RefIdeal.Run
public import Idealize.ShloMosaic.Lib.Pipeline.ValueKit

@[expose] public section

set_option maxRecDepth 16384

noncomputable section

/-! # The output projection with its gated residual, first layer -/

namespace Cert.Out0RefIdeal.Row

open Idealize.ShloMosaic Idealize.ShloMosaic.TcCoe Idealize.SL.Sem
open Cert.Out0RefIdeal Cert.Out0RefIdeal.Gen

/-- The reference's array. -/
abbrev REF (x0 : FVec Ideal S8448x4096 .bf16) (x1 : FVec Ideal S2x4096x4096 .bf16) (x2 : FVec Ideal S8448x4096 .f32) (x3 : FVec Ideal S2x4096 .f32) : FVec Ideal S8448x4096 .f32 :=
  concatenate S8448x4096 0 [⟨S8192x4096, (addf (extractStridedSlice S8192x4096 ![0, 0] x2 slices_S8448x4096_S8192x4096_0_0) (mulf (broadcastInDim S8192x4096 ![0, 1] bcast_S1x4096_S8192x4096_0_1 (broadcastInDim S1x4096 ![1] bcast_S4096_S1x4096_1 (shapeCast _ (extractStridedSlice S1x4096 ![0, 0] x3 slices_S2x4096_S1x4096_0_0) shapeCasts_S1x4096_S4096))) (extractStridedSlice S8192x4096 ![0, 0] (Host.dotGeneral dot_S8448x4096_S4096x4096_S8448x4096_1_0_0_1_n_n none (extf .f32 x0 bitsLt_bf16_f32) (extf .f32 (shapeCast _ (extractStridedSlice S1x4096x4096 ![0, 0, 0] x1 slices_S2x4096x4096_S1x4096x4096_0_0_0) shapeCasts_S1x4096x4096_S4096x4096) bitsLt_bf16_f32)) slices_S8448x4096_S8192x4096_0_0)))⟩, ⟨S256x4096, (addf (extractStridedSlice S256x4096 ![8192, 0] x2 slices_S8448x4096_S256x4096_8192_0) (mulf (broadcastInDim S256x4096 ![0, 1] bcast_S1x4096_S256x4096_0_1 (broadcastInDim S1x4096 ![1] bcast_S4096_S1x4096_1 (shapeCast _ (extractStridedSlice S1x4096 ![1, 0] x3 slices_S2x4096_S1x4096_1_0) shapeCasts_S1x4096_S4096))) (extractStridedSlice S256x4096 ![8192, 0] (Host.dotGeneral dot_S8448x4096_S4096x4096_S8448x4096_1_0_0_1_n_n none (extf .f32 x0 bitsLt_bf16_f32) (extf .f32 (shapeCast _ (extractStridedSlice S1x4096x4096 ![0, 0, 0] x1 slices_S2x4096x4096_S1x4096x4096_0_0_0) shapeCasts_S1x4096x4096_S4096x4096) bitsLt_bf16_f32)) slices_S8448x4096_S256x4096_8192_0)))⟩] concatenates_S8192x4096_S256x4096_S8448x4096_d0

/-- One entry of the reference's array: rows below 8192 take the first gate, the others the second. -/
theorem REF_at (x0 x1 x2 x3) (j : S8448x4096.Idx) :
    REF x0 x1 x2 x3 j = x2 j + (if (j 0).val < 8192 then x3 (ix2 0 (j 1)) else x3 (ix2 1 (j 1))) * ∑ l : Fin 4096, x0 (ix2 (j 0) l) * x1 (ix3 0 l (j 1)) := by
  have hj : (j 0).val < 8448 := (j 0).isLt
  rcases Nat.lt_or_ge (j 0).val 8192 with h | h
  · rw [if_pos h]
    pointwise [REF]
    rw [dif_pos h]
  · have hs : 8192 + ((j 0).val - 8192) = (j 0).val := by omega
    rw [if_neg (by omega)]
    pointwise [REF]
    rw [dif_neg (by omega)]
    blk_point [hs]

end Cert.Out0RefIdeal.Row

namespace Cert.Out0Ideal.Row

open Idealize.ShloMosaic Idealize.ShloMosaic.TcCoe Idealize.SL.Sem
open Idealize.ShloMosaic.Pipeline (Dat)
open Cert.Out0Ideal Cert.Out0Ideal.Gen

/-- Where each block of a grid point sits. -/
theorem idx : ∀ t : Fin cfg0.N, win0_0.index t = ![t.val / 4, 0]
    ∧ win0_1.index t = ![0, 0, t.val % 4]
    ∧ win0_2.index t = ![t.val / 4, t.val % 4]
    ∧ win0_3.index t = ![0, t.val % 4]
    ∧ win0_4.index t = ![t.val / 4, t.val % 4] :=
  (by decide +kernel : ∀ t : Fin grid0.N, _)

variable (m : (ℓ : Loc nD τ sig) → Buf (Elt Ideal) ℓ)

/-- Where a coordinate of the result's block lands in the result. -/
theorem off4 (t : Fin cfg0.N) (y) (a : Fin 2) :
    (((View.whole main_v0).slice ((win0 4).rect t)).emb y a).val = win0_4.index t a * S768x1024.size a + 1 * (y a).val := rfl

/-- An entry of a block of the stream, read off the array it is a block of. -/
theorem res_at (c : Dev nD) (t : Fin cfg0.N) (j : S768x1024.Idx) (i : S8448x4096.Idx)
    (hi : (i 0).val = t.val / 4 * 768 + (j 0).val) (hk : (i 1).val = t.val % 4 * 1024 + (j 1).val) :
    iblk m c 2 t j = m ((c : Thread nD τ).loc main_arg2) i := by
  blk_point [iblk, V, idx t]

/-- An entry of a block of rows, read off the array it is a block of. -/
theorem row_at (c : Dev nD) (t : Fin cfg0.N) (p : Fin 768) (x : Fin 4096) (i : Fin 8448) (hi : i.val = t.val / 4 * 768 + p.val) :
    iblk m c 0 t (ix2 p x) = m ((c : Thread nD τ).loc main_arg0) (ix2 i x) := by
  blk_point [iblk, V, idx t]

/-- An entry of a block of the weight, read off the weight. -/
theorem weight_at (c : Dev nD) (t : Fin cfg0.N) (x : Fin 4096) (q : Fin 1024) (k : Fin 4096) (hk : k.val = t.val % 4 * 1024 + q.val) :
    iblk m c 1 t (ix3 0 x q) = m ((c : Thread nD τ).loc main_arg1) (ix3 0 x k) := by
  blk_point [iblk, V, idx t]

/-- An entry of a block of the gate's first row, read off the gate. -/
theorem gate_at (c : Dev nD) (t : Fin cfg0.N) (q : Fin 1024) (k : Fin 4096) (hk : k.val = t.val % 4 * 1024 + q.val) :
    iblk m c 3 t (ix2 0 q) = m ((c : Thread nD τ).loc main_arg3) (ix2 0 k) := by
  blk_point [iblk, V, idx t]

/-- An entry of a block of the gate's second row, read off the gate. -/
theorem gate1_at (c : Dev nD) (t : Fin cfg0.N) (q : Fin 1024) (k : Fin 4096) (hk : k.val = t.val % 4 * 1024 + q.val) :
    iblk m c 3 t (ix2 1 q) = m ((c : Thread nD τ).loc main_arg3) (ix2 1 k) := by
  blk_point [iblk, V, idx t]

/-- The word comparison of a row with 8192 says whether the row is a latent row. -/
theorem low_row : ∀ (a : Fin 11) (p : Fin 768),
    IntOp.cmpi CmpIPredicate.slt (IntOp.addi (Scalar.muli (BitVec.ofNat 32 a.val) 768#32) (BitVec.ofNat 32 p.val)) 8192#32
      = if a.val * 768 + p.val < 8192 then 1#1 else 0#1 := by
  decide +kernel

theorem coord0 : ∀ t : Fin cfg0.N, (grid0.coords t 0).val = t.val / 4 :=
  (by decide +kernel : ∀ t : Fin grid0.N, _)

/-- The gate chosen by a row's comparison. -/
theorem pick (t : Fin cfg0.N) (p : Fin 768) (a b : EReal) :
    Scalar.select (IntOp.cmpi CmpIPredicate.slt
      (IntOp.addi (Scalar.muli (BitVec.ofNat 32 (grid0.coords t 0).val) 768#32) (BitVec.ofNat 32 p.val)) 8192#32) a b
      = if t.val / 4 * 768 + p.val < 8192 then a else b := by
  rw [low_row (grid0.coords t 0) p, coord0 t]
  split <;> rfl

theorem eta2 {a b : Nat} (y : (⟨2, ![a, b]⟩ : Shape).Idx) : y = ix2 (y 0) (y 1) := by
  funext i
  fin_cases i <;> rfl

theorem point (c : Dev nD) (t : Fin cfg0.N) (y) : k0_pay1 (F := Ideal) (grid0.coords t) (iblk m c 1 t) (iblk m c 0 t) (View.ld (iblk m c 3 t) (Rect.unit ![0, 0] ![1, 1024] inb_S2x1024_S1x1024_0_0)) (View.ld (iblk m c 3 t) (Rect.unit ![1, 0] ![1, 1024] inb_S2x1024_S1x1024_1_0)) (iblk m c 2 t) y
    = Cert.Out0RefIdeal.Row.REF (m ((c : Thread nD τ).loc main_arg0)) (m ((c : Thread nD τ).loc main_arg1)) (m ((c : Thread nD τ).loc main_arg2)) (m ((c : Thread nD τ).loc main_arg3)) (((cfg0.win 4).blk t).view.emb y) := by
  have h0 : (((View.whole main_v0).slice ((win0 4).rect t)).emb y 0).val = t.val / 4 * 768 + (y 0).val :=
    (off4 t y 0).trans (by simp [idx t])
  have h1 : (((View.whole main_v0).slice ((win0 4).rect t)).emb y 1).val = t.val % 4 * 1024 + (y 1).val :=
    (off4 t y 1).trans (by simp [idx t])
  rw [Cert.Out0RefIdeal.Row.REF_at]
  pointwise [k0_pay1]
  rw [pick t (y 0)]
  refine congrArg₂ (fun a b : EReal => a + b) (res_at m c t y _ h0 h1)
    (congrArg₂ (fun a b : EReal => a * b) ?_ ?_)
  · exact if_congr (by rw [h0]) (gate_at m c t (y 1) _ h1) (gate1_at m c t (y 1) _ h1)
  · exact Finset.sum_congr rfl fun x _ => congrArg₂ (fun a b : EReal => a * b) (row_at m c t (y 0) x _ h0)
      (weight_at m c t x (y 1) _ h1)

theorem final (c : Dev nD) : (dats m 0 c).arrAt 4 (cfgs 0).N = Cert.Out0RefIdeal.Row.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.Out0Ideal.Row

end
-- ==== Proof.Merge0Val.lean ====
module

public import proofs.«01_k».proof.Proof.Gen.Merge0Ideal.Value
public import proofs.«01_k».proof.Proof.Gen.Merge0RefIdeal.Run
public import Idealize.ShloMosaic.Lib.Pipeline.ValueKit

@[expose] public section

set_option maxRecDepth 16384

noncomputable section

/-! # The gated sum of the three branches, first layer -/

namespace Cert.Merge0RefIdeal.Row

open Idealize.ShloMosaic Idealize.ShloMosaic.TcCoe Idealize.SL.Sem
open Cert.Merge0RefIdeal Cert.Merge0RefIdeal.Gen

/-- The reference's array. -/
abbrev REF (x0 : FVec Ideal S8448x2048 .bf16) (x1 : FVec Ideal S8448x1024 .bf16) (x2 : FVec Ideal S8448x1024 .bf16) (x3 : FVec Ideal S2x2048x4096 .bf16) (x4 : FVec Ideal S2x1024x4096 .bf16) (x5 : FVec Ideal S2x1024x4096 .bf16) (x6 : FVec Ideal S8448x12288 .bf16) : FVec Ideal S8448x4096 .bf16 :=
  truncf .bf16 (addf (addf (mulf (extractStridedSlice S8448x4096 ![0, 0] (extf .f32 x6 bitsLt_bf16_f32) slices_S8448x12288_S8448x4096_0_0) (Host.dotGeneral dot_S8448x2048_S2048x4096_S8448x4096_1_0_0_1_n_n none (extf .f32 x0 bitsLt_bf16_f32) (extf .f32 (shapeCast _ (extractStridedSlice S1x2048x4096 ![0, 0, 0] x3 slices_S2x2048x4096_S1x2048x4096_0_0_0) shapeCasts_S1x2048x4096_S2048x4096) bitsLt_bf16_f32))) (mulf (extractStridedSlice S8448x4096 ![0, 4096] (extf .f32 x6 bitsLt_bf16_f32) slices_S8448x12288_S8448x4096_0_4096) (Host.dotGeneral dot_S8448x1024_S1024x4096_S8448x4096_1_0_0_1_n_n none (extf .f32 x1 bitsLt_bf16_f32) (extf .f32 (shapeCast _ (extractStridedSlice S1x1024x4096 ![0, 0, 0] x4 slices_S2x1024x4096_S1x1024x4096_0_0_0) shapeCasts_S1x1024x4096_S1024x4096) bitsLt_bf16_f32)))) (mulf (extractStridedSlice S8448x4096 ![0, 8192] (extf .f32 x6 bitsLt_bf16_f32) slices_S8448x12288_S8448x4096_0_8192) (Host.dotGeneral dot_S8448x1024_S1024x4096_S8448x4096_1_0_0_1_n_n none (extf .f32 x2 bitsLt_bf16_f32) (extf .f32 (shapeCast _ (extractStridedSlice S1x1024x4096 ![0, 0, 0] x5 slices_S2x1024x4096_S1x1024x4096_0_0_0) shapeCasts_S1x1024x4096_S1024x4096) bitsLt_bf16_f32)))) bitsLt_bf16_f32

end Cert.Merge0RefIdeal.Row

namespace Cert.Merge0Ideal.Row

open Idealize.ShloMosaic Idealize.ShloMosaic.TcCoe Idealize.SL.Sem
open Idealize.ShloMosaic.Pipeline (Dat)
open Cert.Merge0Ideal Cert.Merge0Ideal.Gen

/-- Where each block of a grid point sits. -/
theorem idx : ∀ t : Fin cfg0.N, win0_0.index t = ![t.val % 33, 0]
    ∧ win0_1.index t = ![t.val % 33, 0]
    ∧ win0_2.index t = ![t.val % 33, 0]
    ∧ win0_3.index t = ![0, 0, t.val / 33]
    ∧ win0_4.index t = ![0, 0, t.val / 33]
    ∧ win0_5.index t = ![0, 0, t.val / 33]
    ∧ win0_6.index t = ![t.val % 33, t.val / 33]
    ∧ win0_7.index t = ![t.val % 33, 4 + t.val / 33]
    ∧ win0_8.index t = ![t.val % 33, 8 + t.val / 33]
    ∧ win0_9.index t = ![t.val % 33, t.val / 33] :=
  (by decide +kernel : ∀ t : Fin grid0.N, _)

variable (m : (ℓ : Loc nD τ sig) → Buf (Elt Ideal) ℓ)

theorem point (c : Dev nD) (t : Fin cfg0.N) (y) : k0_pay1 (F := Ideal) (iblk m c 0 t) (iblk m c 3 t) (iblk m c 1 t) (iblk m c 4 t) (iblk m c 2 t) (iblk m c 5 t) (iblk m c 6 t) (iblk m c 7 t) (iblk m c 8 t) y
    = Cert.Merge0RefIdeal.Row.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  pointwise [k0_pay1, Cert.Merge0RefIdeal.Row.REF]
  blk_point [iblk, V, idx t]

theorem final (c : Dev nD) : (dats m 0 c).arrAt 9 (cfgs 0).N = Cert.Merge0RefIdeal.Row.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  frame_out
  exact point m c t y

end Cert.Merge0Ideal.Row

end
-- ==== Proof.ModVal.lean ====
module

public import proofs.«01_k».proof.Proof.Gen.ModIdeal.Value
public import proofs.«01_k».proof.Proof.Gen.ModRefIdeal.Run
public import Idealize.ShloMosaic.Lib.Pipeline.ValueKit

@[expose] public section

set_option maxRecDepth 16384

noncomputable section

/-! # The modulated norm before the feed-forward block -/

namespace Cert.ModRefIdeal.Row

open Idealize.ShloMosaic Idealize.ShloMosaic.TcCoe Idealize.SL.Sem
open Cert.ModRefIdeal Cert.ModRefIdeal.Gen

/-- The reference's array. -/
abbrev REF (x0 : FVec Ideal S8192x4096 .f32) (x1 : FVec Ideal S4096 .f32) (x2 : FVec Ideal S2x1x4096 .f32) (x3 : FVec Ideal S2x1x4096 .f32) : FVec Ideal S8192x4096 .bf16 :=
  truncf .bf16 (addf (mulf (mulf (mulf x0 (broadcastInDim S8192x4096 ![0, 1] bcast_S8192x1_S8192x4096_0_1 (Host.rsqrt (addf (Host.divf (broadcastInDim S8192x1 ![0] bcast_S8192_S8192x1_0 (Host.reduceAdd (mulf x0 x0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 x1))) (broadcastInDim S8192x4096 ![0, 1] bcast_S1x4096_S8192x4096_0_1 (addf (broadcastInDim S1x4096 ![] bcast_S_S1x4096 (constant S_ .f32 0x3F800000#32)) (shapeCast _ (extractStridedSlice S1x1x4096 ![0, 0, 0] x3 slices_S2x1x4096_S1x1x4096_0_0_0) shapeCasts_S1x1x4096_S1x4096)))) (broadcastInDim S8192x4096 ![0, 1] bcast_S1x4096_S8192x4096_0_1 (shapeCast _ (extractStridedSlice S1x1x4096 ![0, 0, 0] x2 slices_S2x1x4096_S1x1x4096_0_0_0) shapeCasts_S1x1x4096_S1x4096))) bitsLt_bf16_f32

end Cert.ModRefIdeal.Row

namespace Cert.ModIdeal.Row

open Idealize.ShloMosaic Idealize.ShloMosaic.TcCoe Idealize.SL.Sem
open Idealize.ShloMosaic.Pipeline (Dat)
open Cert.ModIdeal Cert.ModIdeal.Gen

/-- Where each block of a grid point sits. -/
theorem idx : ∀ t : Fin cfg0.N, win0_0.index t = ![t.val, 0]
    ∧ win0_1.index t = ![0, 0]
    ∧ win0_2.index t = ![0, 0, 0]
    ∧ win0_3.index t = ![0, 0, 0]
    ∧ win0_4.index t = ![t.val, 0] :=
  (by decide +kernel : ∀ t : Fin grid0.N, _)

variable (m : (ℓ : Loc nD τ sig) → Buf (Elt Ideal) ℓ)

theorem point (c : Dev nD) (t : Fin cfg0.N) (y) : k0_pay1 (F := Ideal) (iblk m c 0 t) (iblk m c 1 t) (iblk m c 3 t) (iblk m c 2 t) y
    = Cert.ModRefIdeal.Row.REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, Cert.ModRefIdeal.Row.REF]
  blk_point [iblk, V, idx t]

theorem final (c : Dev nD) : (dats m 0 c).arrAt 4 (cfgs 0).N = Cert.ModRefIdeal.Row.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.ModIdeal.Row

end
-- ==== Proof.ModallVal.lean ====
module

public import proofs.«01_k».proof.Proof.Gen.ModallIdeal.Value
public import proofs.«01_k».proof.Proof.Gen.ModallRefIdeal.Run
public import Idealize.ShloMosaic.Lib.Pipeline.ValueKit

@[expose] public section

set_option maxRecDepth 16384

noncomputable section

/-! # The modulated norm over all rows -/

namespace Cert.ModallRefIdeal.Row

open Idealize.ShloMosaic Idealize.ShloMosaic.TcCoe Idealize.SL.Sem
open Cert.ModallRefIdeal Cert.ModallRefIdeal.Gen

/-- The reference's array. -/
abbrev REF (x0 : FVec Ideal S8448x4096 .f32) (x1 : FVec Ideal S4096 .f32) (x2 : FVec Ideal S2x1x4096 .f32) (x3 : FVec Ideal S2x1x4096 .f32) : FVec Ideal S8448x4096 .bf16 :=
  truncf .bf16 (concatenate S8448x4096 0 [⟨S8192x4096, (addf (mulf (extractStridedSlice S8192x4096 ![0, 0] (mulf (mulf x0 (broadcastInDim S8448x4096 ![0, 1] bcast_S8448x1_S8448x4096_0_1 (Host.rsqrt (addf (Host.divf (broadcastInDim S8448x1 ![0] bcast_S8448_S8448x1_0 (Host.reduceAdd (mulf x0 x0) (constant S_ .f32 0x00000000#32) reducesTo_S8448x4096_S8448_d1 h_S_)) (broadcastInDim S8448x1 ![] bcast_S_S8448x1 (constant S_ .f32 0x45800000#32))) (broadcastInDim S8448x1 ![] bcast_S_S8448x1 (constant S_ .f32 0x358637BD#32)))))) (broadcastInDim S8448x4096 ![0, 1] bcast_S1x4096_S8448x4096_0_1 (broadcastInDim S1x4096 ![1] bcast_S4096_S1x4096_1 x1))) slices_S8448x4096_S8192x4096_0_0) (broadcastInDim S8192x4096 ![0, 1] bcast_S1x4096_S8192x4096_0_1 (addf (broadcastInDim S1x4096 ![] bcast_S_S1x4096 (constant S_ .f32 0x3F800000#32)) (shapeCast _ (extractStridedSlice S1x1x4096 ![0, 0, 0] x3 slices_S2x1x4096_S1x1x4096_0_0_0) shapeCasts_S1x1x4096_S1x4096)))) (broadcastInDim S8192x4096 ![0, 1] bcast_S1x4096_S8192x4096_0_1 (shapeCast _ (extractStridedSlice S1x1x4096 ![0, 0, 0] x2 slices_S2x1x4096_S1x1x4096_0_0_0) shapeCasts_S1x1x4096_S1x4096)))⟩, ⟨S256x4096, (addf (mulf (extractStridedSlice S256x4096 ![8192, 0] (mulf (mulf x0 (broadcastInDim S8448x4096 ![0, 1] bcast_S8448x1_S8448x4096_0_1 (Host.rsqrt (addf (Host.divf (broadcastInDim S8448x1 ![0] bcast_S8448_S8448x1_0 (Host.reduceAdd (mulf x0 x0) (constant S_ .f32 0x00000000#32) reducesTo_S8448x4096_S8448_d1 h_S_)) (broadcastInDim S8448x1 ![] bcast_S_S8448x1 (constant S_ .f32 0x45800000#32))) (broadcastInDim S8448x1 ![] bcast_S_S8448x1 (constant S_ .f32 0x358637BD#32)))))) (broadcastInDim S8448x4096 ![0, 1] bcast_S1x4096_S8448x4096_0_1 (broadcastInDim S1x4096 ![1] bcast_S4096_S1x4096_1 x1))) slices_S8448x4096_S256x4096_8192_0) (broadcastInDim S256x4096 ![0, 1] bcast_S1x4096_S256x4096_0_1 (addf (broadcastInDim S1x4096 ![] bcast_S_S1x4096 (constant S_ .f32 0x3F800000#32)) (shapeCast _ (extractStridedSlice S1x1x4096 ![1, 0, 0] x3 slices_S2x1x4096_S1x1x4096_1_0_0) shapeCasts_S1x1x4096_S1x4096)))) (broadcastInDim S256x4096 ![0, 1] bcast_S1x4096_S256x4096_0_1 (shapeCast _ (extractStridedSlice S1x1x4096 ![1, 0, 0] x2 slices_S2x1x4096_S1x1x4096_1_0_0) shapeCasts_S1x1x4096_S1x4096)))⟩] concatenates_S8192x4096_S256x4096_S8448x4096_d0) bitsLt_bf16_f32

end Cert.ModallRefIdeal.Row

namespace Cert.ModallIdeal.Row

open Idealize.ShloMosaic Idealize.ShloMosaic.TcCoe Idealize.SL.Sem
open Idealize.ShloMosaic.Pipeline (Dat)
open Cert.ModallIdeal Cert.ModallIdeal.Gen

/-- Where each block of a grid point sits. -/
theorem idx : ∀ t : Fin cfg0.N, win0_0.index t = ![t.val, 0]
    ∧ win0_1.index t = ![0, 0]
    ∧ win0_2.index t = ![t.val / 32, 0, 0]
    ∧ win0_3.index t = ![t.val / 32, 0, 0]
    ∧ win0_4.index t = ![t.val, 0] :=
  (by decide +kernel : ∀ t : Fin grid0.N, _)

variable (m : (ℓ : Loc nD τ sig) → Buf (Elt Ideal) ℓ)

/-- Where a coordinate of the result's block lands in the result. -/
theorem off4 (t : Fin cfg0.N) (y) (a : Fin 2) :
    (((View.whole main_v1).slice ((win0 4).rect t)).emb y a).val = win0_4.index t a * S256x4096.size a + 1 * (y a).val := rfl

theorem point (c : Dev nD) (t : Fin cfg0.N) (y) : k0_pay1 (F := Ideal) (iblk m c 0 t) (iblk m c 1 t) (iblk m c 3 t) (iblk m c 2 t) y
    = Cert.ModallRefIdeal.Row.REF (m ((c : Thread nD τ).loc main_arg0)) (m ((c : Thread nD τ).loc main_arg1)) (m ((c : Thread nD τ).loc main_arg2)) (m ((c : Thread nD τ).loc main_arg3)) (((cfg0.win 4).blk t).view.emb y) := by
  have h0 : (((View.whole main_v1).slice ((win0 4).rect t)).emb y 0).val = t.val * 256 + (y 0).val :=
    (off4 t y 0).trans (by simp [idx t])
  have hy : (y 0).val < 256 := (y 0).isLt
  rcases Nat.lt_or_ge t.val 32 with h | h
  · have hr : t.val / 32 = 0 := by omega
    pointwise [k0_pay1, Cert.ModallRefIdeal.Row.REF]
    rw [dif_pos (show (((View.whole main_v1).slice ((win0 4).rect t)).emb y 0).val < 8192 by rw [h0]; omega)]
    blk_point [iblk, V, idx t, hr]
  · have ht : t.val < 33 := lt_of_lt_of_eq t.isLt N_0
    have hr : t.val / 32 = 1 := by omega
    have hs : 8192 + (t.val * 256 + (y 0).val - 8192) = t.val * 256 + (y 0).val := by omega
    pointwise [k0_pay1, Cert.ModallRefIdeal.Row.REF]
    rw [dif_neg (show ¬ (((View.whole main_v1).slice ((win0 4).rect t)).emb y 0).val < 8192 by rw [h0]; omega)]
    blk_point [iblk, V, idx t, hr, hs]

theorem final (c : Dev nD) : (dats m 0 c).arrAt 4 (cfgs 0).N = Cert.ModallRefIdeal.Row.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.ModallIdeal.Row

end
-- ==== Proof.ConvVal.lean ====
module

public import proofs.«01_k».proof.Proof.Gen.ConvIdeal.Value
public import proofs.«01_k».proof.Proof.Gen.ConvRefIdeal.Run
public import Idealize.ShloMosaic.Lib.Pipeline.ValueKit

@[expose] public section

set_option maxRecDepth 16384

noncomputable section

/-! # The short convolution branch -/

namespace Cert.ConvRefIdeal.Row

open Idealize.ShloMosaic Idealize.ShloMosaic.TcCoe Idealize.SL.Sem
open Cert.ConvRefIdeal Cert.ConvRefIdeal.Gen

/-- The reference's array. -/
abbrev REF (x0 : FVec Ideal S8448x6144 .bf16) (x1 : FVec Ideal S3x1024 .f32) : FVec Ideal S8192x1024 .bf16 :=
  truncf .bf16 (mulf (extractStridedSlice S8192x1024 ![0, 4096] (extf .f32 (extractStridedSlice S8192x6144 ![0, 0] x0 slices_S8448x6144_S8192x6144_0_0) bitsLt_bf16_f32) slices_S8192x6144_S8192x1024_0_4096) (addf (addf (mulf (extractStridedSlice S8192x1024 ![0, 0] (pad S8194x1024 ![1, 0] ![1, 0] ![0, 0] (mulf (extractStridedSlice S8192x1024 ![0, 5120] (extf .f32 (extractStridedSlice S8192x6144 ![0, 0] x0 slices_S8448x6144_S8192x6144_0_0) bitsLt_bf16_f32) slices_S8192x6144_S8192x1024_0_5120) (extractStridedSlice S8192x1024 ![0, 3072] (extf .f32 (extractStridedSlice S8192x6144 ![0, 0] x0 slices_S8448x6144_S8192x6144_0_0) bitsLt_bf16_f32) slices_S8192x6144_S8192x1024_0_3072)) (sitofp .f32 (constantI S_ 32 0#32)) pads_S8192x1024_S8194x1024_110_000 h_S_) slices_S8194x1024_S8192x1024_0_0) (broadcastInDim S8192x1024 ![0, 1] bcast_S1x1024_S8192x1024_0_1 (broadcastInDim S1x1024 ![1] bcast_S1024_S1x1024_1 (shapeCast _ (extractStridedSlice S1x1024 ![0, 0] x1 slices_S3x1024_S1x1024_0_0) shapeCasts_S1x1024_S1024)))) (mulf (extractStridedSlice S8192x1024 ![1, 0] (pad S8194x1024 ![1, 0] ![1, 0] ![0, 0] (mulf (extractStridedSlice S8192x1024 ![0, 5120] (extf .f32 (extractStridedSlice S8192x6144 ![0, 0] x0 slices_S8448x6144_S8192x6144_0_0) bitsLt_bf16_f32) slices_S8192x6144_S8192x1024_0_5120) (extractStridedSlice S8192x1024 ![0, 3072] (extf .f32 (extractStridedSlice S8192x6144 ![0, 0] x0 slices_S8448x6144_S8192x6144_0_0) bitsLt_bf16_f32) slices_S8192x6144_S8192x1024_0_3072)) (sitofp .f32 (constantI S_ 32 0#32)) pads_S8192x1024_S8194x1024_110_000 h_S_) slices_S8194x1024_S8192x1024_1_0) (broadcastInDim S8192x1024 ![0, 1] bcast_S1x1024_S8192x1024_0_1 (broadcastInDim S1x1024 ![1] bcast_S1024_S1x1024_1 (shapeCast _ (extractStridedSlice S1x1024 ![1, 0] x1 slices_S3x1024_S1x1024_1_0) shapeCasts_S1x1024_S1024))))) (mulf (extractStridedSlice S8192x1024 ![2, 0] (pad S8194x1024 ![1, 0] ![1, 0] ![0, 0] (mulf (extractStridedSlice S8192x1024 ![0, 5120] (extf .f32 (extractStridedSlice S8192x6144 ![0, 0] x0 slices_S8448x6144_S8192x6144_0_0) bitsLt_bf16_f32) slices_S8192x6144_S8192x1024_0_5120) (extractStridedSlice S8192x1024 ![0, 3072] (extf .f32 (extractStridedSlice S8192x6144 ![0, 0] x0 slices_S8448x6144_S8192x6144_0_0) bitsLt_bf16_f32) slices_S8192x6144_S8192x1024_0_3072)) (sitofp .f32 (constantI S_ 32 0#32)) pads_S8192x1024_S8194x1024_110_000 h_S_) slices_S8194x1024_S8192x1024_2_0) (broadcastInDim S8192x1024 ![0, 1] bcast_S1x1024_S8192x1024_0_1 (broadcastInDim S1x1024 ![1] bcast_S1024_S1x1024_1 (shapeCast _ (extractStridedSlice S1x1024 ![2, 0] x1 slices_S3x1024_S1x1024_2_0) shapeCasts_S1x1024_S1024)))))) bitsLt_bf16_f32

theorem zero_word : (FloatOps.sitofp (F := Ideal) FTy.f32 (0#32) : EReal) = 0 := by
  show (((0#32 : BitVec 32).toInt : ℝ) : EReal) = 0
  simp

/-- The product of two column groups at a row, with zero outside the rows. -/
def u (x0 : FVec Ideal S8448x6144 .bf16) (i : Nat) (q : Fin 1024) : EReal :=
  if h : 1 ≤ i ∧ i - 1 < 8192 then
    (show EReal from x0 (ix2 ⟨i - 1, by omega⟩ ⟨5120 + q.val, by omega⟩)) * (show EReal from x0 (ix2 ⟨i - 1, by omega⟩ ⟨3072 + q.val, by omega⟩))
  else (FloatOps.sitofp (F := Ideal) FTy.f32 (0#32) : EReal)

theorem u_out (x0 : FVec Ideal S8448x6144 .bf16) (i : Nat) (q : Fin 1024) (h : ¬ (1 ≤ i ∧ i - 1 < 8192)) : u x0 i q = 0 := by
  unfold u
  rw [dif_neg h]
  exact zero_word

theorem u_in (x0 : FVec Ideal S8448x6144 .bf16) (i : Nat) (q : Fin 1024) (a : Fin 8448) (b d : Fin 6144) (h : i = a.val + 1) (ha : a.val < 8192)
    (hb : b.val = 5120 + q.val) (hd : d.val = 3072 + q.val) :
    u x0 i q = (show EReal from x0 (ix2 a b)) * (show EReal from x0 (ix2 a d)) := by
  subst h
  unfold u
  rw [dif_pos ⟨by omega, by omega⟩]
  have e1 : (⟨a.val + 1 - 1, by omega⟩ : Fin 8448) = a := Fin.ext (by simp)
  have e2 : (⟨5120 + q.val, by omega⟩ : Fin 6144) = b := Fin.ext hb.symm
  have e3 : (⟨3072 + q.val, by omega⟩ : Fin 6144) = d := Fin.ext hd.symm
  rw [e1, e2, e3]

set_option maxHeartbeats 2000000 in
/-- One entry of the reference's array. -/
theorem REF_at (x0 x1) (j : S8192x1024.Idx) :
    (REF x0 x1 j : EReal) = (show EReal from x0 (ix2 ⟨(j 0).val, by have : (j 0).val < 8192 := (j 0).isLt; omega⟩ ⟨4096 + (j 1).val, by have : (j 1).val < 1024 := (j 1).isLt; omega⟩))
      * (u x0 (j 0).val (j 1) * (show EReal from x1 (ix2 0 (j 1))) + u x0 (1 + (j 0).val) (j 1) * (show EReal from x1 (ix2 1 (j 1)))
        + u x0 (2 + (j 0).val) (j 1) * (show EReal from x1 (ix2 2 (j 1)))) := by
  have hj : (j 0).val < 8192 := (j 0).isLt
  pointwise [REF]
  rw [u_in x0 (1 + (j 0).val) (j 1) ⟨(j 0).val, by omega⟩ ⟨5120 + (j 1).val, by have : (j 1).val < 1024 := (j 1).isLt; omega⟩
    ⟨3072 + (j 1).val, by have : (j 1).val < 1024 := (j 1).isLt; omega⟩ (by simp; omega) hj rfl rfl]
  rfl

end Cert.ConvRefIdeal.Row

namespace Cert.ConvIdeal.Row

open Idealize.ShloMosaic Idealize.ShloMosaic.TcCoe Idealize.SL.Sem
open Idealize.ShloMosaic.Pipeline (Dat)
open Cert.ConvIdeal Cert.ConvIdeal.Gen

/-- Where each block of a grid point sits. -/
theorem idx : ∀ t : Fin cfg0.N, win0_0.index t = ![t.val, 3]
    ∧ win0_1.index t = ![t.val * 16 - 1, 3]
    ∧ win0_2.index t = ![min ((t.val + 1) * 16) 511, 3]
    ∧ win0_3.index t = ![t.val, 4]
    ∧ win0_4.index t = ![t.val, 5]
    ∧ win0_5.index t = ![t.val * 16 - 1, 5]
    ∧ win0_6.index t = ![min ((t.val + 1) * 16) 511, 5]
    ∧ win0_7.index t = ![0, 0]
    ∧ win0_8.index t = ![t.val, 0] :=
  (by decide +kernel : ∀ t : Fin grid0.N, _)

theorem coord0 : ∀ t : Fin cfg0.N, (grid0.coords t 0).val = t.val :=
  (by decide +kernel : ∀ t : Fin grid0.N, _)

theorem first_row : ∀ p : Fin 256, IntOp.cmpi CmpIPredicate.eq (BitVec.ofNat 32 p.val) 0#32 = if p.val = 0 then 1#1 else 0#1 := by
  decide +kernel

theorem last_row : ∀ p : Fin 256, IntOp.cmpi CmpIPredicate.eq (BitVec.ofNat 32 p.val) 255#32 = if p.val = 255 then 1#1 else 0#1 := by
  decide +kernel

theorem first_tile : ∀ a : Fin 32, Scalar.ori (Scalar.cmpi CmpIPredicate.eq (Scalar.muli (BitVec.ofNat 32 a.val) 256#32) 0#32)
    (Scalar.cmpi CmpIPredicate.eq (Scalar.muli (BitVec.ofNat 32 a.val) 256#32) 8192#32) = if a.val = 0 then 1#1 else 0#1 := by
  decide +kernel

theorem last_tile : ∀ a : Fin 32, Scalar.ori (Scalar.cmpi CmpIPredicate.eq (Scalar.addi (Scalar.muli (BitVec.ofNat 32 a.val) 256#32) 256#32) 8192#32)
    (Scalar.cmpi CmpIPredicate.eq (Scalar.addi (Scalar.muli (BitVec.ofNat 32 a.val) 256#32) 256#32) 8192#32) = if a.val = 31 then 1#1 else 0#1 := by
  decide +kernel

theorem pick (P : Prop) [Decidable P] (a b : EReal) : Scalar.select (if P then 1#1 else 0#1) a b = if P then a else b := by
  split <;> rfl

/-- One entry of what a grid point writes. -/
theorem pay_at (i : grid0.Coords) (v4 v0 v5 v1 v6 v2 v3 v7) (y : S256x1024.Idx) :
   (k0_pay1 (F := Ideal) (k0_pay2 v4 v0) (k0_pay3 i v5 v1) (k0_pay4 i v6 v2) (k0_pay5 v3) v7 (iota .tc S256x1024 32 [0] iota_S256x1024_d0_w32) y : EReal)
    = (show EReal from v3 y) * ((if (y 0).val = 0 then (if (i 0).val = 0 then (0 : EReal) else (show EReal from v5 (ix2 0 (y 1))) * (show EReal from v1 (ix2 0 (y 1))))
        else (show EReal from v4 (ix2 ⟨((y 0).val + 256 - 1) % 256, Nat.mod_lt _ (by omega)⟩ (y 1))) * (show EReal from v0 (ix2 ⟨((y 0).val + 256 - 1) % 256, Nat.mod_lt _ (by omega)⟩ (y 1)))) * (show EReal from v7 (ix2 0 (y 1)))
      + (show EReal from v4 y) * (show EReal from v0 y) * (show EReal from v7 (ix2 1 (y 1)))
      + (if (y 0).val = 255 then (if (i 0).val = 31 then (0 : EReal) else (show EReal from v6 (ix2 0 (y 1))) * (show EReal from v2 (ix2 0 (y 1))))
        else (show EReal from v4 (ix2 ⟨((y 0).val + 256 - 255) % 256, Nat.mod_lt _ (by omega)⟩ (y 1))) * (show EReal from v0 (ix2 ⟨((y 0).val + 256 - 255) % 256, Nat.mod_lt _ (by omega)⟩ (y 1)))) * (show EReal from v7 (ix2 2 (y 1)))) := by
  pointwise [k0_pay1, k0_pay2, k0_pay3, k0_pay4, k0_pay5]
  rw [first_row (y 0), last_row (y 0), first_tile (i 0), last_tile (i 0), pick, pick, pick, pick]

variable (m : (ℓ : Loc nD τ sig) → Buf (Elt Ideal) ℓ)

/-- An entry of a block of a column group, read off the array it is a block of. -/
theorem h_at (c : Dev nD) (t : Fin cfg0.N) (p : Fin 256) (q : Fin 1024) (i : Fin 8448) (k : Fin 6144) (hi : i.val = t.val * 256 + p.val) (hk : k.val = 3072 + q.val) :
    iblk m c 0 t (ix2 p q) = m ((c : Thread nD τ).loc main_arg0) (ix2 i k) := by
  blk_point [iblk, V, idx t]

theorem b_at (c : Dev nD) (t : Fin cfg0.N) (p : Fin 256) (q : Fin 1024) (i : Fin 8448) (k : Fin 6144) (hi : i.val = t.val * 256 + p.val) (hk : k.val = 4096 + q.val) :
    iblk m c 3 t (ix2 p q) = m ((c : Thread nD τ).loc main_arg0) (ix2 i k) := by
  blk_point [iblk, V, idx t]

theorem c_at (c : Dev nD) (t : Fin cfg0.N) (p : Fin 256) (q : Fin 1024) (i : Fin 8448) (k : Fin 6144) (hi : i.val = t.val * 256 + p.val) (hk : k.val = 5120 + q.val) :
    iblk m c 4 t (ix2 p q) = m ((c : Thread nD τ).loc main_arg0) (ix2 i k) := by
  blk_point [iblk, V, idx t]

/-- The row before a block, read off the array. -/
theorem hp_at (c : Dev nD) (t : Fin cfg0.N) (q : Fin 1024) (i : Fin 8448) (k : Fin 6144) (ht : t.val ≠ 0) (hi : i.val = t.val * 256 - 1) (hk : k.val = 3072 + q.val) :
    View.ld (iblk m c 1 t) r0_1 (ix2 0 q) = m ((c : Thread nD τ).loc main_arg0) (ix2 i k) := by
  have e : i.val = (t.val * 16 - 1) * 16 + 15 := by omega
  blk_point [iblk, V, idx t]

theorem cp_at (c : Dev nD) (t : Fin cfg0.N) (q : Fin 1024) (i : Fin 8448) (k : Fin 6144) (ht : t.val ≠ 0) (hi : i.val = t.val * 256 - 1) (hk : k.val = 5120 + q.val) :
    View.ld (iblk m c 5 t) r0_1 (ix2 0 q) = m ((c : Thread nD τ).loc main_arg0) (ix2 i k) := by
  have e : i.val = (t.val * 16 - 1) * 16 + 15 := by omega
  blk_point [iblk, V, idx t]

/-- The row after a block, read off the array. -/
theorem hn_at (c : Dev nD) (t : Fin cfg0.N) (q : Fin 1024) (i : Fin 8448) (k : Fin 6144) (ht : t.val < 31) (hi : i.val = t.val * 256 + 256) (hk : k.val = 3072 + q.val) :
    View.ld (iblk m c 2 t) r0_2 (ix2 0 q) = m ((c : Thread nD τ).loc main_arg0) (ix2 i k) := by
  have e : i.val = min ((t.val + 1) * 16) 511 * 16 := by omega
  blk_point [iblk, V, idx t]

theorem cn_at (c : Dev nD) (t : Fin cfg0.N) (q : Fin 1024) (i : Fin 8448) (k : Fin 6144) (ht : t.val < 31) (hi : i.val = t.val * 256 + 256) (hk : k.val = 5120 + q.val) :
    View.ld (iblk m c 6 t) r0_2 (ix2 0 q) = m ((c : Thread nD τ).loc main_arg0) (ix2 i k) := by
  have e : i.val = min ((t.val + 1) * 16) 511 * 16 := by omega
  blk_point [iblk, V, idx t]

theorem w_at (c : Dev nD) (t : Fin cfg0.N) (a : Fin 3) (q k : Fin 1024) (hk : k = q) :
    iblk m c 7 t (ix2 a q) = m ((c : Thread nD τ).loc main_arg1) (ix2 a k) := by
  subst hk
  blk_point [iblk, V, idx t]

theorem off8 (t : Fin cfg0.N) (y : S256x1024.Idx) (a : Fin 2) :
    (((View.whole main_v0).slice ((win0 8).rect t)).emb y a).val = win0_8.index t a * S256x1024.size a + 1 * (y a).val := rfl

theorem point (c : Dev nD) (t : Fin cfg0.N) (y : S256x1024.Idx) :
    k0_pay1 (F := Ideal) (k0_pay2 (iblk m c 4 t) (iblk m c 0 t)) (k0_pay3 (grid0.coords t) (View.ld (iblk m c 5 t) r0_1) (View.ld (iblk m c 1 t) r0_1)) (k0_pay4 (grid0.coords t) (View.ld (iblk m c 6 t) r0_2) (View.ld (iblk m c 2 t) r0_2)) (k0_pay5 (iblk m c 3 t)) (iblk m c 7 t) (iota .tc S256x1024 32 [0] iota_S256x1024_d0_w32) y
      = Cert.ConvRefIdeal.Row.REF (m ((c : Thread nD τ).loc main_arg0)) (m ((c : Thread nD τ).loc main_arg1)) (((View.whole main_v0).slice ((win0 8).rect t)).emb y) := by
  have h0 : ((((View.whole main_v0).slice ((win0 8).rect t)).emb y) 0).val = t.val * 256 + (y 0).val := (off8 t y 0).trans (by simp [idx t])
  have h1 : ((((View.whole main_v0).slice ((win0 8).rect t)).emb y) 1).val = (y 1).val := (off8 t y 1).trans (by simp [idx t])
  have ht : t.val < 32 := lt_of_lt_of_eq t.isLt N_0
  have hc := coord0 t
  obtain ⟨p, q, rfl⟩ : ∃ (p : Fin 256) (q : Fin 1024), y = ix2 p q := ⟨y 0, y 1, by funext a; match a with | 0 => rfl | 1 => rfl⟩
  have hp : p.val < 256 := p.isLt
  have hq : q.val < 1024 := q.isLt
  replace h0 : ((((View.whole main_v0).slice ((win0 8).rect t)).emb (ix2 p q)) 0).val = t.val * 256 + p.val := h0
  replace h1 : ((((View.whole main_v0).slice ((win0 8).rect t)).emb (ix2 p q)) 1).val = q.val := h1
  generalize ((View.whole main_v0).slice ((win0 8).rect t)).emb (ix2 p q) = j at h0 h1 ⊢
  refine (pay_at _ _ _ _ _ _ _ _ _ _).trans (Eq.trans ?_ (Cert.ConvRefIdeal.Row.REF_at _ _ j).symm)
  have hj1 : j 1 = q := Fin.ext h1
  have wt (a : Fin 3) : iblk m c 7 t (ix2 a q) = m ((c : Thread nD τ).loc main_arg1) (ix2 a (j 1)) := w_at m c t a q (j 1) hj1
  refine congrArg₂ (fun a b : EReal => a * b) (b_at m c t p q _ _ h0 (congrArg (4096 + ·) h1)) (congrArg₂ (fun a b : EReal => a + b)
    (congrArg₂ (fun a b : EReal => a + b) (congrArg₂ (fun a b : EReal => a * b) ?_ (wt 0)) (congrArg₂ (fun a b : EReal => a * b) ?_ (wt 1)))
    (congrArg₂ (fun a b : EReal => a * b) ?_ (wt 2)))
  · show (if p.val = 0 then _ else _) = _
    by_cases e0 : p.val = 0
    · rw [if_pos e0]
      by_cases e1 : (grid0.coords t 0).val = 0
      · rw [if_pos e1]
        refine (Cert.ConvRefIdeal.Row.u_out _ _ _ ?_).symm
        omega
      · rw [if_neg e1, Cert.ConvRefIdeal.Row.u_in _ _ _ ⟨t.val * 256 - 1, by omega⟩ ⟨5120 + q.val, by omega⟩ ⟨3072 + q.val, by omega⟩ (by simp only []; omega) (by simp only []; omega) (congrArg (5120 + ·) h1.symm) (congrArg (3072 + ·) h1.symm)]
        exact congrArg₂ (fun a b : EReal => a * b) (cp_at m c t q _ _ (by omega) rfl rfl) (hp_at m c t q _ _ (by omega) rfl rfl)
    · rw [if_neg e0, Cert.ConvRefIdeal.Row.u_in _ _ _ ⟨t.val * 256 + p.val - 1, by omega⟩ ⟨5120 + q.val, by omega⟩ ⟨3072 + q.val, by omega⟩ (by simp only []; omega) (by simp only []; omega) (congrArg (5120 + ·) h1.symm) (congrArg (3072 + ·) h1.symm)]
      exact congrArg₂ (fun a b : EReal => a * b) (c_at m c t _ q _ _ (by simp; omega) rfl) (h_at m c t _ q _ _ (by simp; omega) rfl)
  · rw [Cert.ConvRefIdeal.Row.u_in _ _ _ ⟨t.val * 256 + p.val, by omega⟩ ⟨5120 + q.val, by omega⟩ ⟨3072 + q.val, by omega⟩ (by simp only []; omega) (by simp only []; omega) (congrArg (5120 + ·) h1.symm) (congrArg (3072 + ·) h1.symm)]
    exact congrArg₂ (fun a b : EReal => a * b) (c_at m c t p q _ _ rfl rfl) (h_at m c t p q _ _ rfl rfl)
  · show (if p.val = 255 then _ else _) = _
    by_cases e0 : p.val = 255
    · rw [if_pos e0]
      by_cases e1 : (grid0.coords t 0).val = 31
      · rw [if_pos e1]
        refine (Cert.ConvRefIdeal.Row.u_out _ _ _ ?_).symm
        omega
      · rw [if_neg e1, Cert.ConvRefIdeal.Row.u_in _ _ _ ⟨t.val * 256 + 256, by omega⟩ ⟨5120 + q.val, by omega⟩ ⟨3072 + q.val, by omega⟩ (by simp only []; omega) (by simp only []; omega) (congrArg (5120 + ·) h1.symm) (congrArg (3072 + ·) h1.symm)]
        exact congrArg₂ (fun a b : EReal => a * b) (cn_at m c t q _ _ (by omega) rfl rfl) (hn_at m c t q _ _ (by omega) rfl rfl)
    · rw [if_neg e0, Cert.ConvRefIdeal.Row.u_in _ _ _ ⟨t.val * 256 + p.val + 1, by omega⟩ ⟨5120 + q.val, by omega⟩ ⟨3072 + q.val, by omega⟩ (by simp only []; omega) (by simp only []; omega) (congrArg (5120 + ·) h1.symm) (congrArg (3072 + ·) h1.symm)]
      exact congrArg₂ (fun a b : EReal => a * b) (c_at m c t _ q _ _ (by simp; omega) rfl) (h_at m c t _ q _ _ (by simp; omega) rfl)

theorem final (c : Dev nD) : (dats m 0 c).arrAt 8 (cfgs 0).N = Cert.ConvRefIdeal.Row.REF (m ((c : Thread nD τ).loc main_arg0)) (m ((c : Thread nD τ).loc main_arg1)) := by
  refine (dats m 0 c).arrAt_eq_of_covers 8 _ (by decide +kernel) fun t _ y => ?_
  blk_simp
  rw [after0_8]
  frame_out
  exact point m c t y

end Cert.ConvIdeal.Row

end
-- ==== Proof.ActVal.lean ====
module

public import proofs.«01_k».proof.Proof.Gen.ActIdeal.Value
public import proofs.«01_k».proof.Proof.Gen.ActRefIdeal.Run
public import Idealize.ShloMosaic.Lib.Pipeline.ValueKit

@[expose] public section

set_option maxRecDepth 16384

noncomputable section

/-! # The feed-forward activation -/

namespace Cert.ActRefIdeal.Row

open Idealize.ShloMosaic Idealize.ShloMosaic.TcCoe Idealize.SL.Sem
open Cert.ActRefIdeal Cert.ActRefIdeal.Gen

/-- The reference's convolution and bias, over all columns. -/
def T (x0 : FVec Ideal S8192x22016 .bf16) (x1 : FVec Ideal S3x22016 .f32) (x2 : FVec Ideal S1x22016 .f32) : FVec Ideal S8192x22016 .f32 :=
  (addf (addf (addf (mulf (extractStridedSlice S8192x22016 ![0, 0] (pad S8194x22016 ![1, 0] ![1, 0] ![0, 0] (extf .f32 x0 bitsLt_bf16_f32) (sitofp .f32 (constantI S_ 32 0#32)) pads_S8192x22016_S8194x22016_110_000 h_S_) slices_S8194x22016_S8192x22016_0_0) (broadcastInDim S8192x22016 ![0, 1] bcast_S1x22016_S8192x22016_0_1 (broadcastInDim S1x22016 ![1] bcast_S22016_S1x22016_1 (shapeCast _ (extractStridedSlice S1x22016 ![0, 0] x1 slices_S3x22016_S1x22016_0_0) shapeCasts_S1x22016_S22016)))) (mulf (extractStridedSlice S8192x22016 ![1, 0] (pad S8194x22016 ![1, 0] ![1, 0] ![0, 0] (extf .f32 x0 bitsLt_bf16_f32) (sitofp .f32 (constantI S_ 32 0#32)) pads_S8192x22016_S8194x22016_110_000 h_S_) slices_S8194x22016_S8192x22016_1_0) (broadcastInDim S8192x22016 ![0, 1] bcast_S1x22016_S8192x22016_0_1 (broadcastInDim S1x22016 ![1] bcast_S22016_S1x22016_1 (shapeCast _ (extractStridedSlice S1x22016 ![1, 0] x1 slices_S3x22016_S1x22016_1_0) shapeCasts_S1x22016_S22016))))) (mulf (extractStridedSlice S8192x22016 ![2, 0] (pad S8194x22016 ![1, 0] ![1, 0] ![0, 0] (extf .f32 x0 bitsLt_bf16_f32) (sitofp .f32 (constantI S_ 32 0#32)) pads_S8192x22016_S8194x22016_110_000 h_S_) slices_S8194x22016_S8192x22016_2_0) (broadcastInDim S8192x22016 ![0, 1] bcast_S1x22016_S8192x22016_0_1 (broadcastInDim S1x22016 ![1] bcast_S22016_S1x22016_1 (shapeCast _ (extractStridedSlice S1x22016 ![2, 0] x1 slices_S3x22016_S1x22016_2_0) shapeCasts_S1x22016_S22016))))) (broadcastInDim S8192x22016 ![0, 1] bcast_S1x22016_S8192x22016_0_1 x2))

/-- The reference's array. -/
def REF (x0 : FVec Ideal S8192x22016 .bf16) (x1 : FVec Ideal S3x22016 .f32) (x2 : FVec Ideal S1x22016 .f32) : FVec Ideal S8192x11264 .bf16 :=
  (concatenate S8192x11264 1 [⟨S8192x5504, ((extractStridedSlice S8192x5504 ![0, 0] (truncf .bf16 (mulf (mulf (extractStridedSlice S8192x11008 ![0, 11008] (T x0 x1 x2) slices_S8192x22016_S8192x11008_0_11008) (Host.divf (broadcastInDim S8192x11008 ![] bcast_S_S8192x11008 (constant S_ .f32 0x3F800000#32)) (addf (broadcastInDim S8192x11008 ![] bcast_S_S8192x11008 (constant S_ .f32 0x3F800000#32)) (Host.exp (Host.negf (extractStridedSlice S8192x11008 ![0, 11008] (T x0 x1 x2) slices_S8192x22016_S8192x11008_0_11008)))))) (extractStridedSlice S8192x11008 ![0, 0] (T x0 x1 x2) slices_S8192x22016_S8192x11008_0_0)) bitsLt_bf16_f32) slices_S8192x11008_S8192x5504_0_0) : (⟨S8192x5504, .bf16⟩ : BufTy).Contents (Elt Ideal))⟩, ⟨S8192x128, ((broadcastInDim S8192x128 ![] bcast_S_S8192x128 (constant (F := Ideal) S_ .bf16 0x0000#16)) : (⟨S8192x128, .bf16⟩ : BufTy).Contents (Elt Ideal))⟩, ⟨S8192x5504, ((extractStridedSlice S8192x5504 ![0, 5504] (truncf .bf16 (mulf (mulf (extractStridedSlice S8192x11008 ![0, 11008] (T x0 x1 x2) slices_S8192x22016_S8192x11008_0_11008) (Host.divf (broadcastInDim S8192x11008 ![] bcast_S_S8192x11008 (constant S_ .f32 0x3F800000#32)) (addf (broadcastInDim S8192x11008 ![] bcast_S_S8192x11008 (constant S_ .f32 0x3F800000#32)) (Host.exp (Host.negf (extractStridedSlice S8192x11008 ![0, 11008] (T x0 x1 x2) slices_S8192x22016_S8192x11008_0_11008)))))) (extractStridedSlice S8192x11008 ![0, 0] (T x0 x1 x2) slices_S8192x22016_S8192x11008_0_0)) bitsLt_bf16_f32) slices_S8192x11008_S8192x5504_0_5504) : (⟨S8192x5504, .bf16⟩ : BufTy).Contents (Elt Ideal))⟩, ⟨S8192x128, ((broadcastInDim S8192x128 ![] bcast_S_S8192x128 (constant (F := Ideal) S_ .bf16 0x0000#16)) : (⟨S8192x128, .bf16⟩ : BufTy).Contents (Elt Ideal))⟩] concatenates_S8192x5504_S8192x128_S8192x5504_S8192x128_S8192x11264_d1 : (⟨S8192x11264, .bf16⟩ : BufTy).Contents (Elt Ideal))

theorem zero_word : (FloatOps.sitofp (F := Ideal) FTy.f32 (0#32) : EReal) = 0 := by
  show (((0#32 : BitVec 32).toInt : ℝ) : EReal) = 0
  simp

/-- An entry of the padded array, with zero outside the rows. -/
def u (x0 : FVec Ideal S8192x22016 .bf16) (i : Nat) (k : Fin 22016) : EReal :=
  if h : 1 ≤ i ∧ i - 1 < 8192 then (show EReal from x0 (ix2 ⟨i - 1, by omega⟩ k))
  else (FloatOps.sitofp (F := Ideal) FTy.f32 (0#32) : EReal)

theorem u_out (x0 : FVec Ideal S8192x22016 .bf16) (i : Nat) (k : Fin 22016) (h : ¬ (1 ≤ i ∧ i - 1 < 8192)) : u x0 i k = 0 := by
  unfold u
  rw [dif_neg h]
  exact zero_word

theorem u_in (x0 : FVec Ideal S8192x22016 .bf16) (i : Nat) (k : Fin 22016) (a : Fin 8192) (h : i = a.val + 1) :
    u x0 i k = (show EReal from x0 (ix2 a k)) := by
  subst h
  unfold u
  have := a.isLt
  rw [dif_pos ⟨by omega, by omega⟩]
  have e1 : (⟨a.val + 1 - 1, by omega⟩ : Fin 8192) = a := Fin.ext (by simp)
  rw [e1]

set_option maxHeartbeats 2000000 in
/-- One entry of the convolution and bias. -/
theorem T_at (x0 x1 x2) (i : Fin 8192) (k : Fin 22016) :
    (T x0 x1 x2 (ix2 i k) : EReal) = u x0 i.val k * (show EReal from x1 (ix2 0 k)) + (show EReal from x0 (ix2 i k)) * (show EReal from x1 (ix2 1 k))
      + u x0 (2 + i.val) k * (show EReal from x1 (ix2 2 k)) + (show EReal from x2 (ix2 0 k)) := by
  rw [← u_in x0 (1 + i.val) k i (by omega)]
  pointwise [T]
  unfold u
  rw [dif_pos (show 1 ≤ 1 + i.val ∧ 1 + i.val - 1 < 8192 from ⟨by omega, by have := i.isLt; omega⟩)]
  simp only [Nat.add_sub_cancel_left]

/-- What the activation makes of a value and a gate. -/
def act (v g : EReal) : EReal := g * Ideal.div 1 (1 + Ideal.exp (-g)) * v

set_option maxHeartbeats 2000000 in
/-- One entry of the reference's array in its first or its second block of columns. -/
theorem REF_lo (x0 x1 x2) (j : S8192x11264.Idx) (h : (j 1).val < 5504) :
    (REF x0 x1 x2 j : EReal) = act (T x0 x1 x2 (ix2 (j 0) ⟨(j 1).val, by omega⟩)) (T x0 x1 x2 (ix2 (j 0) ⟨11008 + (j 1).val, by omega⟩)) := by
  pointwise [REF]
  rw [dif_pos h]
  rfl

set_option maxHeartbeats 2000000 in
theorem REF_hi (x0 x1 x2) (j : S8192x11264.Idx) (h : 5632 ≤ (j 1).val) (h2 : (j 1).val < 11136) :
    (REF x0 x1 x2 j : EReal) = act (T x0 x1 x2 (ix2 (j 0) ⟨5504 + ((j 1).val - 5504 - 128), by omega⟩)) (T x0 x1 x2 (ix2 (j 0) ⟨11008 + (5504 + ((j 1).val - 5504 - 128)), by omega⟩)) := by
  pointwise [REF]
  rw [dif_neg (by omega), dif_neg (by omega), dif_pos (by omega)]
  rfl

set_option maxHeartbeats 2000000 in
theorem REF_pad (x0 x1 x2) (j : S8192x11264.Idx) (h : (5504 ≤ (j 1).val ∧ (j 1).val < 5632) ∨ 11136 ≤ (j 1).val) :
    (REF x0 x1 x2 j : EReal) = 0 := by
  pointwise [REF]
  rcases h with h | h
  · rw [dif_neg (by omega), dif_pos (by omega)]
  · rw [dif_neg (by omega), dif_neg (by omega), dif_neg (by omega)]

end Cert.ActRefIdeal.Row

namespace Cert.ActIdeal.Row

open Idealize.ShloMosaic Idealize.ShloMosaic.TcCoe Idealize.SL.Sem
open Idealize.ShloMosaic.Pipeline (Dat)
open Cert.ActIdeal Cert.ActIdeal.Gen

/-- Where each block of a grid point sits. -/
theorem idx : ∀ t : Fin cfg0.N, win0_0.index t = ![t.val / 2, t.val % 2]
    ∧ win0_1.index t = ![t.val / 2 * 8 - 1, t.val % 2]
    ∧ win0_2.index t = ![min ((t.val / 2 + 1) * 8) 511, t.val % 2]
    ∧ win0_3.index t = ![t.val / 2, 2 + t.val % 2]
    ∧ win0_4.index t = ![t.val / 2 * 8 - 1, 2 + t.val % 2]
    ∧ win0_5.index t = ![min ((t.val / 2 + 1) * 8) 511, 2 + t.val % 2]
    ∧ win0_6.index t = ![0, t.val % 2]
    ∧ win0_7.index t = ![0, 2 + t.val % 2]
    ∧ win0_8.index t = ![0, t.val % 2]
    ∧ win0_9.index t = ![0, 2 + t.val % 2]
    ∧ win0_10.index t = ![t.val / 2, t.val % 2] :=
  (by decide +kernel : ∀ t : Fin grid0.N, _)

theorem coord0 : ∀ t : Fin cfg0.N, (grid0.coords t 0).val = t.val / 2 :=
  (by decide +kernel : ∀ t : Fin grid0.N, _)

theorem shift_word : ∀ (r : Fin 256) (k : Fin 128), IntOp.cmpi CmpIPredicate.eq (BitVec.ofNat 32 k.val)
    (Scalar.select (IntOp.cmpi CmpIPredicate.slt (BitVec.ofNat 32 r.val) 128#32) (IntOp.subi (BitVec.ofNat 32 r.val) 1#32)
      (IntOp.addi (IntOp.subi (BitVec.ofNat 32 r.val) 128#32) 1#32))
    = if (r.val < 128 ∧ k.val + 1 = r.val) ∨ (128 ≤ r.val ∧ k.val + 127 = r.val) then 1#1 else 0#1 := by
  decide +kernel

theorem first_row : ∀ p : Fin 128, IntOp.cmpi CmpIPredicate.eq (BitVec.ofNat 32 p.val) 0#32 = if p.val = 0 then 1#1 else 0#1 := by
  decide +kernel

theorem last_row : ∀ p : Fin 128, IntOp.cmpi CmpIPredicate.eq (BitVec.ofNat 32 (p.val - 120)) 7#32 = if p.val = 127 then 1#1 else 0#1 := by
  decide +kernel

theorem first_tile : ∀ a : Fin 64, Scalar.ori (Scalar.cmpi CmpIPredicate.eq (Scalar.muli (BitVec.ofNat 32 a.val) 128#32) 0#32)
    (Scalar.cmpi CmpIPredicate.eq (Scalar.muli (BitVec.ofNat 32 a.val) 128#32) 8192#32) = if a.val = 0 then 1#1 else 0#1 := by
  decide +kernel

theorem last_tile : ∀ a : Fin 64, Scalar.ori (Scalar.cmpi CmpIPredicate.eq (Scalar.addi (Scalar.muli (BitVec.ofNat 32 a.val) 128#32) 128#32) 8192#32)
    (Scalar.cmpi CmpIPredicate.eq (Scalar.addi (Scalar.muli (BitVec.ofNat 32 a.val) 128#32) 128#32) 8192#32) = if a.val = 63 then 1#1 else 0#1 := by
  decide +kernel

theorem pick (P : Prop) [Decidable P] (a b : EReal) : Scalar.select (if P then 1#1 else 0#1) a b = if P then a else b := by
  split <;> rfl

theorem sel (b d : BitVec 1) (P Q : Prop) [Decidable P] [Decidable Q] (hb : b = if P then 1#1 else 0#1) (hd : d = if Q then 1#1 else 0#1) (a : EReal) :
    Scalar.select b (Scalar.select d (0 : EReal) a) 0 = if P then (if Q then 0 else a) else 0 := by
  subst hb hd
  rw [pick, pick]

/-- The shift matrix holds one where a row picks its neighbour and zero elsewhere. -/
theorem shift_at (r : Fin 256) (k : Fin 128) : (k0_pay4 (F := Ideal) (ix2 r k) : EReal)
    = if (r.val < 128 ∧ k.val + 1 = r.val) ∨ (128 ≤ r.val ∧ k.val + 127 = r.val) then 1 else 0 := by
  pointwise [k0_pay4]
  rw [shift_word r k, pick]

/-- The shifted rows: a row of the product is the row it picks. -/
theorem pay5_pick (v27) (r : Fin 256) (q : Fin 5504) (k : Fin 128) (h : (r.val < 128 ∧ k.val + 1 = r.val) ∨ (128 ≤ r.val ∧ k.val + 127 = r.val)) :
    (k0_pay5 (F := Ideal) v27 (ix2 r q) : EReal) = v27 (ix2 k q) := by
  pointwise [k0_pay5]
  refine (Finset.sum_eq_single k (fun b _ hb => ?_) fun hk => absurd (Finset.mem_univ k) hk).trans ?_
  · rw [shift_at, if_neg, zero_mul]
    have : b.val ≠ k.val := fun e => hb (Fin.ext e)
    omega
  · rw [shift_at, if_pos h, one_mul]

/-- The first and the last row of the product pick nothing. -/
theorem pay5_zero (v27) (r : Fin 256) (q : Fin 5504) (h : r.val = 0 ∨ r.val = 255) :
    (k0_pay5 (F := Ideal) v27 (ix2 r q) : EReal) = 0 := by
  pointwise [k0_pay5]
  refine Finset.sum_eq_zero fun k _ => ?_
  rw [shift_at, if_neg, zero_mul]
  have := k.isLt
  omega

/-- The convolution of one group of columns, at one entry. -/
abbrev tile (i : grid0.Coords) (v27 : FVec Ideal S128x5504 .bf16) (v32 v44 : FVec Ideal S1x5504 .bf16) (v57 : FVec Ideal S3x5504 .f32) (v70 : FVec Ideal S1x5504 .f32) : FVec Ideal S128x5504 .f32 :=
  k0_pay9 (F := Ideal) (k0_pay3 i) (iota .tc S8x5504 32 [0] iota_S8x5504_d0_w32) v27 (k0_pay5 v27) (k0_pay6 v27) k0_pay7 (k0_pay8 i v32) v44 v57 v70

theorem tile_at (i : grid0.Coords) (v27 v32 v44 v57 v70) (p : Fin 128) (q : Fin 5504) :
    (tile i v27 v32 v44 v57 v70 (ix2 p q) : EReal)
      = (if p.val = 0 then (if (i 0).val = 0 then (0 : EReal) else (show EReal from v32 (ix2 0 q))) else (show EReal from v27 (ix2 ⟨p.val - 1, by omega⟩ q))) * (show EReal from v57 (ix2 0 q))
      + (show EReal from v27 (ix2 p q)) * (show EReal from v57 (ix2 1 q))
      + (if h : p.val = 127 then (if (i 0).val = 63 then (0 : EReal) else (show EReal from v44 (ix2 0 q))) else (show EReal from v27 (ix2 ⟨p.val + 1, by omega⟩ q))) * (show EReal from v57 (ix2 2 q))
      + (show EReal from v70 (ix2 0 q)) := by
  pointwise [tile, k0_pay9, k0_pay6, k0_pay7, k0_pay8, k0_pay2, k0_pay3]
  refine congrArg₂ (fun a b : EReal => a + b) (congrArg₂ (fun a b : EReal => a + b) (congrArg₂ (fun a b : EReal => a + b) (congrArg₂ (fun a b : EReal => a * b) ?_ rfl) rfl) (congrArg₂ (fun a b : EReal => a * b) ?_ rfl)) rfl
  · by_cases h8 : p.val < 8
    · rw [dif_pos h8]
      by_cases h0 : p.val = 0
      · refine (congrArg₂ (fun a b : EReal => a + b) (pay5_zero _ _ _ (Or.inl h0)) (sel _ _ _ _ (first_row p) (first_tile (i 0)) _)).trans ?_
        rw [if_pos h0, if_pos h0]
        exact zero_add _
      · refine (congrArg₂ (fun a b : EReal => a + b) (pay5_pick _ _ _ ⟨p.val - 1, by omega⟩ (Or.inl ⟨by simp only []; omega, by simp only []; omega⟩)) (sel _ _ _ _ (first_row p) (first_tile (i 0)) _)).trans ?_
        rw [if_neg h0, if_neg h0]
        exact add_zero _
    · rw [dif_neg h8]
      exact (pay5_pick _ _ _ ⟨p.val - 1, by omega⟩ (Or.inl ⟨by simp only []; omega, by simp only []; omega⟩)).trans (if_neg (by omega)).symm
  · by_cases h8 : p.val < 120
    · rw [dif_pos h8]
      refine (pay5_pick _ _ _ ⟨p.val + 1, by omega⟩ (Or.inr ⟨by simp only []; omega, by simp only []; omega⟩)).trans ?_
      rw [dif_neg (show ¬ p.val = 127 by omega)]
    · rw [dif_neg h8]
      by_cases h0 : p.val = 127
      · refine (congrArg₂ (fun a b : EReal => a + b) (pay5_zero _ _ _ (Or.inr (by simp only []; omega))) (sel _ _ _ _ (last_row p) (last_tile (i 0)) _)).trans ?_
        rw [if_pos h0, dif_pos h0]
        exact zero_add _
      · refine (congrArg₂ (fun a b : EReal => a + b) (pay5_pick _ _ _ ⟨p.val + 1, by omega⟩ (Or.inr ⟨by simp only []; omega, by simp only []; omega⟩)) (sel _ _ _ _ (last_row p) (last_tile (i 0)) _)).trans ?_
        rw [if_neg h0, dif_neg h0]
        exact add_zero _

/-- One entry of the stored block: the gate's silu times the value. -/
theorem pay15_at (i : grid0.Coords) (v72 v73 v78 v90 v103 v116) (y : S128x5504.Idx) :
    (k0_pay15 (F := Ideal) (k0_pay3 i) (iota .tc S8x5504 32 [0] iota_S8x5504_d0_w32) v72 v73 (k0_pay10 k0_pay4 v73) (k0_pay11 k0_pay4 v73) (k0_pay12 (iota .tc S8x5504 32 [0] iota_S8x5504_d0_w32)) (k0_pay13 v78) (k0_pay14 (k0_pay2 i)) v90 v103 v116 y : EReal)
      = (show EReal from tile i v73 v78 v90 v103 v116 y)
        * Ideal.div 1 (1 + Ideal.exp (-(show EReal from tile i v73 v78 v90 v103 v116 y))) * (show EReal from v72 y) := by
  have e : (k0_pay15 (F := Ideal) (k0_pay3 i) (iota .tc S8x5504 32 [0] iota_S8x5504_d0_w32) v72 v73 (k0_pay10 k0_pay4 v73) (k0_pay11 k0_pay4 v73) (k0_pay12 (iota .tc S8x5504 32 [0] iota_S8x5504_d0_w32)) (k0_pay13 v78) (k0_pay14 (k0_pay2 i)) v90 v103 v116)
      = truncf .bf16 (mulf (mulf (tile i v73 v78 v90 v103 v116) (divf (broadcast S128x5504 (Scalar.ofBits (F := Ideal) .f32 0x3F800000#32)) (addf (broadcast S128x5504 (Scalar.ofBits .f32 0x3F800000#32)) (exp (subf (broadcast S128x5504 (Scalar.ofBits .f32 0x00000000#32)) (tile i v73 v78 v90 v103 v116)))))) v72) bitsLt_bf16_f32 := rfl
  rw [e]
  generalize tile i v73 v78 v90 v103 v116 = z
  pointwise []
  rw [zero_sub]

variable (m : (ℓ : Loc nD τ sig) → Buf (Elt Ideal) ℓ)

/-- The blocks of the value columns, read off the arrays. -/
theorem v_at (c : Dev nD) (t : Fin cfg0.N) (p : Fin 128) (q : Fin 5504) (i : Fin 8192) (k : Fin 22016) (hi : i.val = t.val / 2 * 128 + p.val) (hk : k.val = 0 + t.val % 2 * 5504 + q.val) :
    iblk m c 0 t (ix2 p q) = m ((c : Thread nD τ).loc main_arg0) (ix2 i k) := by
  blk_point [iblk, V, idx t]

theorem vp_at (c : Dev nD) (t : Fin cfg0.N) (q : Fin 5504) (i : Fin 8192) (k : Fin 22016) (ht : t.val / 2 ≠ 0) (hi : i.val = t.val / 2 * 128 - 1) (hk : k.val = 0 + t.val % 2 * 5504 + q.val) :
    View.ld (iblk m c 1 t) (Rect.unit (s := S16x5504) ![15, 0] ![1, 5504] inb_S16x5504_S1x5504_15_0) (ix2 0 q) = m ((c : Thread nD τ).loc main_arg0) (ix2 i k) := by
  have e : i.val = (t.val / 2 * 8 - 1) * 16 + 15 := by omega
  blk_point [iblk, V, idx t]

theorem vn_at (c : Dev nD) (t : Fin cfg0.N) (q : Fin 5504) (i : Fin 8192) (k : Fin 22016) (ht : t.val / 2 < 63) (hi : i.val = t.val / 2 * 128 + 128) (hk : k.val = 0 + t.val % 2 * 5504 + q.val) :
    View.ld (iblk m c 2 t) (Rect.unit (s := S16x5504) ![0, 0] ![1, 5504] inb_S16x5504_S1x5504_0_0) (ix2 0 q) = m ((c : Thread nD τ).loc main_arg0) (ix2 i k) := by
  have e : i.val = min ((t.val / 2 + 1) * 8) 511 * 16 := by omega
  blk_point [iblk, V, idx t]

theorem vw_at (c : Dev nD) (t : Fin cfg0.N) (a : Fin 3) (q : Fin 5504) (k : Fin 22016) (hk : k.val = 0 + t.val % 2 * 5504 + q.val) :
    iblk m c 6 t (ix2 a q) = m ((c : Thread nD τ).loc main_arg1) (ix2 a k) := by
  blk_point [iblk, V, idx t]

theorem vb_at (c : Dev nD) (t : Fin cfg0.N) (q : Fin 5504) (k : Fin 22016) (hk : k.val = 0 + t.val % 2 * 5504 + q.val) :
    iblk m c 8 t (ix2 0 q) = m ((c : Thread nD τ).loc main_arg2) (ix2 0 k) := by
  blk_point [iblk, V, idx t]

/-- The blocks of the gate columns, read off the arrays. -/
theorem g_at (c : Dev nD) (t : Fin cfg0.N) (p : Fin 128) (q : Fin 5504) (i : Fin 8192) (k : Fin 22016) (hi : i.val = t.val / 2 * 128 + p.val) (hk : k.val = 11008 + t.val % 2 * 5504 + q.val) :
    iblk m c 3 t (ix2 p q) = m ((c : Thread nD τ).loc main_arg0) (ix2 i k) := by
  blk_point [iblk, V, idx t]

theorem gp_at (c : Dev nD) (t : Fin cfg0.N) (q : Fin 5504) (i : Fin 8192) (k : Fin 22016) (ht : t.val / 2 ≠ 0) (hi : i.val = t.val / 2 * 128 - 1) (hk : k.val = 11008 + t.val % 2 * 5504 + q.val) :
    View.ld (iblk m c 4 t) (Rect.unit (s := S16x5504) ![15, 0] ![1, 5504] inb_S16x5504_S1x5504_15_0) (ix2 0 q) = m ((c : Thread nD τ).loc main_arg0) (ix2 i k) := by
  have e : i.val = (t.val / 2 * 8 - 1) * 16 + 15 := by omega
  blk_point [iblk, V, idx t]

theorem gn_at (c : Dev nD) (t : Fin cfg0.N) (q : Fin 5504) (i : Fin 8192) (k : Fin 22016) (ht : t.val / 2 < 63) (hi : i.val = t.val / 2 * 128 + 128) (hk : k.val = 11008 + t.val % 2 * 5504 + q.val) :
    View.ld (iblk m c 5 t) (Rect.unit (s := S16x5504) ![0, 0] ![1, 5504] inb_S16x5504_S1x5504_0_0) (ix2 0 q) = m ((c : Thread nD τ).loc main_arg0) (ix2 i k) := by
  have e : i.val = min ((t.val / 2 + 1) * 8) 511 * 16 := by omega
  blk_point [iblk, V, idx t]

theorem gw_at (c : Dev nD) (t : Fin cfg0.N) (a : Fin 3) (q : Fin 5504) (k : Fin 22016) (hk : k.val = 11008 + t.val % 2 * 5504 + q.val) :
    iblk m c 7 t (ix2 a q) = m ((c : Thread nD τ).loc main_arg1) (ix2 a k) := by
  blk_point [iblk, V, idx t]

theorem gb_at (c : Dev nD) (t : Fin cfg0.N) (q : Fin 5504) (k : Fin 22016) (hk : k.val = 11008 + t.val % 2 * 5504 + q.val) :
    iblk m c 9 t (ix2 0 q) = m ((c : Thread nD τ).loc main_arg2) (ix2 0 k) := by
  blk_point [iblk, V, idx t]

/-- The convolution of the value columns at one entry of a block is the reference's. -/
theorem v_tile (c : Dev nD) (t : Fin cfg0.N) (p : Fin 128) (q : Fin 5504) (i : Fin 8192) (k : Fin 22016) (hi : i.val = t.val / 2 * 128 + p.val) (hk : k.val = 0 + t.val % 2 * 5504 + q.val) :
    (tile (grid0.coords t) (iblk m c 0 t) (View.ld (iblk m c 1 t) (Rect.unit (s := S16x5504) ![15, 0] ![1, 5504] inb_S16x5504_S1x5504_15_0)) (View.ld (iblk m c 2 t) (Rect.unit (s := S16x5504) ![0, 0] ![1, 5504] inb_S16x5504_S1x5504_0_0)) (iblk m c 6 t) (iblk m c 8 t) (ix2 p q) : EReal) = Cert.ActRefIdeal.Row.T (m ((c : Thread nD τ).loc main_arg0)) (m ((c : Thread nD τ).loc main_arg1)) (m ((c : Thread nD τ).loc main_arg2)) (ix2 i k) := by
  have ht : t.val < 128 := lt_of_lt_of_eq t.isLt N_0
  have hc := coord0 t
  have hp := p.isLt
  refine (tile_at _ _ _ _ _ _ p q).trans (Eq.trans ?_ (Cert.ActRefIdeal.Row.T_at _ _ _ i k).symm)
  refine congrArg₂ (fun a b : EReal => a + b) (congrArg₂ (fun a b : EReal => a + b) (congrArg₂ (fun a b : EReal => a + b)
    (congrArg₂ (fun a b : EReal => a * b) ?_ (vw_at m c t 0 q k hk)) (congrArg₂ (fun a b : EReal => a * b) (v_at m c t p q i k hi hk) (vw_at m c t 1 q k hk)))
    (congrArg₂ (fun a b : EReal => a * b) ?_ (vw_at m c t 2 q k hk))) (vb_at m c t q k hk)
  · by_cases e0 : p.val = 0
    · rw [if_pos e0]
      by_cases e1 : (grid0.coords t 0).val = 0
      · rw [if_pos e1]
        refine (Cert.ActRefIdeal.Row.u_out _ _ _ ?_).symm
        omega
      · rw [if_neg e1]
        exact (vp_at m c t q ⟨t.val / 2 * 128 - 1, by omega⟩ k (by omega) rfl hk).trans (Cert.ActRefIdeal.Row.u_in _ _ _ _ (by simp only []; omega)).symm
    · rw [if_neg e0]
      exact (v_at m c t _ q ⟨t.val / 2 * 128 + p.val - 1, by omega⟩ k (by simp only []; omega) hk).trans (Cert.ActRefIdeal.Row.u_in _ _ _ _ (by simp only []; omega)).symm
  · by_cases e0 : p.val = 127
    · rw [dif_pos e0]
      by_cases e1 : (grid0.coords t 0).val = 63
      · rw [if_pos e1]
        refine (Cert.ActRefIdeal.Row.u_out _ _ _ ?_).symm
        omega
      · rw [if_neg e1]
        exact (vn_at m c t q ⟨t.val / 2 * 128 + 128, by omega⟩ k (by omega) rfl hk).trans (Cert.ActRefIdeal.Row.u_in _ _ _ _ (by simp only []; omega)).symm
    · rw [dif_neg e0]
      exact (v_at m c t _ q ⟨t.val / 2 * 128 + p.val + 1, by omega⟩ k (by simp only []; omega) hk).trans (Cert.ActRefIdeal.Row.u_in _ _ _ _ (by simp only []; omega)).symm

/-- The convolution of the gate columns at one entry of a block is the reference's. -/
theorem g_tile (c : Dev nD) (t : Fin cfg0.N) (p : Fin 128) (q : Fin 5504) (i : Fin 8192) (k : Fin 22016) (hi : i.val = t.val / 2 * 128 + p.val) (hk : k.val = 11008 + t.val % 2 * 5504 + q.val) :
    (tile (grid0.coords t) (iblk m c 3 t) (View.ld (iblk m c 4 t) (Rect.unit (s := S16x5504) ![15, 0] ![1, 5504] inb_S16x5504_S1x5504_15_0)) (View.ld (iblk m c 5 t) (Rect.unit (s := S16x5504) ![0, 0] ![1, 5504] inb_S16x5504_S1x5504_0_0)) (iblk m c 7 t) (iblk m c 9 t) (ix2 p q) : EReal) = Cert.ActRefIdeal.Row.T (m ((c : Thread nD τ).loc main_arg0)) (m ((c : Thread nD τ).loc main_arg1)) (m ((c : Thread nD τ).loc main_arg2)) (ix2 i k) := by
  have ht : t.val < 128 := lt_of_lt_of_eq t.isLt N_0
  have hc := coord0 t
  have hp := p.isLt
  refine (tile_at _ _ _ _ _ _ p q).trans (Eq.trans ?_ (Cert.ActRefIdeal.Row.T_at _ _ _ i k).symm)
  refine congrArg₂ (fun a b : EReal => a + b) (congrArg₂ (fun a b : EReal => a + b) (congrArg₂ (fun a b : EReal => a + b)
    (congrArg₂ (fun a b : EReal => a * b) ?_ (gw_at m c t 0 q k hk)) (congrArg₂ (fun a b : EReal => a * b) (g_at m c t p q i k hi hk) (gw_at m c t 1 q k hk)))
    (congrArg₂ (fun a b : EReal => a * b) ?_ (gw_at m c t 2 q k hk))) (gb_at m c t q k hk)
  · by_cases e0 : p.val = 0
    · rw [if_pos e0]
      by_cases e1 : (grid0.coords t 0).val = 0
      · rw [if_pos e1]
        refine (Cert.ActRefIdeal.Row.u_out _ _ _ ?_).symm
        omega
      · rw [if_neg e1]
        exact (gp_at m c t q ⟨t.val / 2 * 128 - 1, by omega⟩ k (by omega) rfl hk).trans (Cert.ActRefIdeal.Row.u_in _ _ _ _ (by simp only []; omega)).symm
    · rw [if_neg e0]
      exact (g_at m c t _ q ⟨t.val / 2 * 128 + p.val - 1, by omega⟩ k (by simp only []; omega) hk).trans (Cert.ActRefIdeal.Row.u_in _ _ _ _ (by simp only []; omega)).symm
  · by_cases e0 : p.val = 127
    · rw [dif_pos e0]
      by_cases e1 : (grid0.coords t 0).val = 63
      · rw [if_pos e1]
        refine (Cert.ActRefIdeal.Row.u_out _ _ _ ?_).symm
        omega
      · rw [if_neg e1]
        exact (gn_at m c t q ⟨t.val / 2 * 128 + 128, by omega⟩ k (by omega) rfl hk).trans (Cert.ActRefIdeal.Row.u_in _ _ _ _ (by simp only []; omega)).symm
    · rw [dif_neg e0]
      exact (g_at m c t _ q ⟨t.val / 2 * 128 + p.val + 1, by omega⟩ k (by simp only []; omega) hk).trans (Cert.ActRefIdeal.Row.u_in _ _ _ _ (by simp only []; omega)).symm

theorem off10 (t : Fin cfg0.N) (y : S128x5632.Idx) (a : Fin 2) :
    (((View.whole main_v0).slice ((win0 10).rect t)).emb y a).val = win0_10.index t a * S128x5632.size a + 1 * (y a).val := rfl

theorem point (c : Dev nD) (t : Fin cfg0.N) (y : S128x5632.Idx) :
    outsAt0 m c t y = Cert.ActRefIdeal.Row.REF (m ((c : Thread nD τ).loc main_arg0)) (m ((c : Thread nD τ).loc main_arg1)) (m ((c : Thread nD τ).loc main_arg2)) (((View.whole main_v0).slice ((win0 10).rect t)).emb y) := by
  have h0 : ((((View.whole main_v0).slice ((win0 10).rect t)).emb y) 0).val = t.val / 2 * 128 + (y 0).val := (off10 t y 0).trans (by simp [idx t])
  have h1 : ((((View.whole main_v0).slice ((win0 10).rect t)).emb y) 1).val = t.val % 2 * 5632 + (y 1).val := (off10 t y 1).trans (by simp [idx t])
  have ht : t.val < 128 := lt_of_lt_of_eq t.isLt N_0
  have hy0 : (y 0).val < 128 := (y 0).isLt
  have hy1 : (y 1).val < 5632 := (y 1).isLt
  generalize ((View.whole main_v0).slice ((win0 10).rect t)).emb y = j at h0 h1 ⊢
  unfold outsAt0
  frame_out
  canon_tiles x g using View.cover_of_tiledBy _ ![128, 128] (by sl_kernel_rfl) y
  · refine Eq.trans ?_ (Cert.ActRefIdeal.Row.REF_pad _ _ _ j (by omega)).symm
    pointwise [k0_pay1]
  · obtain ⟨p, q, rfl⟩ : ∃ (p : Fin 128) (q : Fin 5504), x = ix2 p q := ⟨x 0, x 1, by funext a; match a with | 0 => rfl | 1 => rfl⟩
    replace g0 : (y 0).val = p.val := g0
    replace g1 : (y 1).val = q.val := g1
    have hq := q.isLt
    refine (pay15_at _ _ _ _ _ _ _ _).trans ?_
    have h2 : (j 0).val = t.val / 2 * 128 + p.val := by omega
    rcases Nat.mod_two_eq_zero_or_one t.val with e | e
    · refine Eq.trans ?_ (Cert.ActRefIdeal.Row.REF_lo _ _ _ j (by omega)).symm
      rw [← v_tile m c t p q (j 0) _ h2 (by simp only []; omega), ← g_tile m c t p q (j 0) _ h2 (by simp only []; omega)]
      rfl
    · refine Eq.trans ?_ (Cert.ActRefIdeal.Row.REF_hi _ _ _ j (by omega) (by omega)).symm
      rw [← v_tile m c t p q (j 0) _ h2 (by simp only []; omega), ← g_tile m c t p q (j 0) _ h2 (by simp only []; omega)]
      rfl

theorem final (c : Dev nD) : (dats m 0 c).arrAt 10 (cfgs 0).N = Cert.ActRefIdeal.Row.REF (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  exact point m c t y

end Cert.ActIdeal.Row
end
-- ==== Proof.Conv0Val.lean ====
module

public import proofs.«01_k».proof.Proof.Gen.Conv0Ideal.Value
public import proofs.«01_k».proof.Proof.Gen.Conv0RefIdeal.Run
public import Idealize.ShloMosaic.Lib.Pipeline.ValueKit

@[expose] public section

set_option maxRecDepth 16384

noncomputable section

/-! # The short convolution branch, first layer -/

namespace Cert.Conv0RefIdeal.Row

open Idealize.ShloMosaic Idealize.ShloMosaic.TcCoe Idealize.SL.Sem
open Cert.Conv0RefIdeal Cert.Conv0RefIdeal.Gen

/-- The product of the two column groups. -/
def U (x0 : FVec Ideal S8448x6144 .bf16) : FVec Ideal S8448x1024 .f32 :=
  (mulf (extractStridedSlice S8448x1024 ![0, 5120] (extf .f32 x0 bitsLt_bf16_f32) slices_S8448x6144_S8448x1024_0_5120) (extractStridedSlice S8448x1024 ![0, 3072] (extf .f32 x0 bitsLt_bf16_f32) slices_S8448x6144_S8448x1024_0_3072))

/-- The convolution of the first 8192 rows. -/
def CL (x : FVec Ideal S8448x1024 .f32) (x1 : FVec Ideal S3x1024 .f32) : FVec Ideal S8192x1024 .f32 :=
  (addf (addf (mulf (extractStridedSlice S8192x1024 ![0, 0] (pad S8194x1024 ![1, 0] ![1, 0] ![0, 0] (extractStridedSlice S8192x1024 ![0, 0] x slices_S8448x1024_S8192x1024_0_0) (sitofp .f32 (constantI S_ 32 0#32)) pads_S8192x1024_S8194x1024_110_000 h_S_) slices_S8194x1024_S8192x1024_0_0) (broadcastInDim S8192x1024 ![0, 1] bcast_S1x1024_S8192x1024_0_1 (broadcastInDim S1x1024 ![1] bcast_S1024_S1x1024_1 (shapeCast _ (extractStridedSlice S1x1024 ![0, 0] x1 slices_S3x1024_S1x1024_0_0) shapeCasts_S1x1024_S1024)))) (mulf (extractStridedSlice S8192x1024 ![1, 0] (pad S8194x1024 ![1, 0] ![1, 0] ![0, 0] (extractStridedSlice S8192x1024 ![0, 0] x slices_S8448x1024_S8192x1024_0_0) (sitofp .f32 (constantI S_ 32 0#32)) pads_S8192x1024_S8194x1024_110_000 h_S_) slices_S8194x1024_S8192x1024_1_0) (broadcastInDim S8192x1024 ![0, 1] bcast_S1x1024_S8192x1024_0_1 (broadcastInDim S1x1024 ![1] bcast_S1024_S1x1024_1 (shapeCast _ (extractStridedSlice S1x1024 ![1, 0] x1 slices_S3x1024_S1x1024_1_0) shapeCasts_S1x1024_S1024))))) (mulf (extractStridedSlice S8192x1024 ![2, 0] (pad S8194x1024 ![1, 0] ![1, 0] ![0, 0] (extractStridedSlice S8192x1024 ![0, 0] x slices_S8448x1024_S8192x1024_0_0) (sitofp .f32 (constantI S_ 32 0#32)) pads_S8192x1024_S8194x1024_110_000 h_S_) slices_S8194x1024_S8192x1024_2_0) (broadcastInDim S8192x1024 ![0, 1] bcast_S1x1024_S8192x1024_0_1 (broadcastInDim S1x1024 ![1] bcast_S1024_S1x1024_1 (shapeCast _ (extractStridedSlice S1x1024 ![2, 0] x1 slices_S3x1024_S1x1024_2_0) shapeCasts_S1x1024_S1024)))))

/-- The convolution of the last 256 rows. -/
def CH (x : FVec Ideal S8448x1024 .f32) (x1 : FVec Ideal S3x1024 .f32) : FVec Ideal S256x1024 .f32 :=
  (addf (addf (mulf (extractStridedSlice S256x1024 ![0, 0] (pad S258x1024 ![1, 0] ![1, 0] ![0, 0] (extractStridedSlice S256x1024 ![8192, 0] x slices_S8448x1024_S256x1024_8192_0) (sitofp .f32 (constantI S_ 32 0#32)) pads_S256x1024_S258x1024_110_000 h_S_) slices_S258x1024_S256x1024_0_0) (broadcastInDim S256x1024 ![0, 1] bcast_S1x1024_S256x1024_0_1 (broadcastInDim S1x1024 ![1] bcast_S1024_S1x1024_1 (shapeCast _ (extractStridedSlice S1x1024 ![0, 0] x1 slices_S3x1024_S1x1024_0_0) shapeCasts_S1x1024_S1024)))) (mulf (extractStridedSlice S256x1024 ![1, 0] (pad S258x1024 ![1, 0] ![1, 0] ![0, 0] (extractStridedSlice S256x1024 ![8192, 0] x slices_S8448x1024_S256x1024_8192_0) (sitofp .f32 (constantI S_ 32 0#32)) pads_S256x1024_S258x1024_110_000 h_S_) slices_S258x1024_S256x1024_1_0) (broadcastInDim S256x1024 ![0, 1] bcast_S1x1024_S256x1024_0_1 (broadcastInDim S1x1024 ![1] bcast_S1024_S1x1024_1 (shapeCast _ (extractStridedSlice S1x1024 ![1, 0] x1 slices_S3x1024_S1x1024_1_0) shapeCasts_S1x1024_S1024))))) (mulf (extractStridedSlice S256x1024 ![2, 0] (pad S258x1024 ![1, 0] ![1, 0] ![0, 0] (extractStridedSlice S256x1024 ![8192, 0] x slices_S8448x1024_S256x1024_8192_0) (sitofp .f32 (constantI S_ 32 0#32)) pads_S256x1024_S258x1024_110_000 h_S_) slices_S258x1024_S256x1024_2_0) (broadcastInDim S256x1024 ![0, 1] bcast_S1x1024_S256x1024_0_1 (broadcastInDim S1x1024 ![1] bcast_S1024_S1x1024_1 (shapeCast _ (extractStridedSlice S1x1024 ![2, 0] x1 slices_S3x1024_S1x1024_2_0) shapeCasts_S1x1024_S1024)))))

/-- The reference's array. -/
def REF (x0 : FVec Ideal S8448x6144 .bf16) (x1 : FVec Ideal S3x1024 .f32) : FVec Ideal S8448x1024 .bf16 :=
  truncf .bf16 (mulf (extractStridedSlice S8448x1024 ![0, 4096] (extf .f32 x0 bitsLt_bf16_f32) slices_S8448x6144_S8448x1024_0_4096) (concatenate S8448x1024 0 [⟨S8192x1024, (CL (U x0) x1)⟩, ⟨S256x1024, (CH (U x0) x1)⟩] concatenates_S8192x1024_S256x1024_S8448x1024_d0)) bitsLt_bf16_f32

theorem zero_word : (FloatOps.sitofp (F := Ideal) FTy.f32 (0#32) : EReal) = 0 := by
  show (((0#32 : BitVec 32).toInt : ℝ) : EReal) = 0
  simp

/-- The rows of the first run, shifted by one, with zero outside. -/
def zl (x : FVec Ideal S8448x1024 .f32) (i : Nat) (q : Fin 1024) : EReal :=
  if h : 1 ≤ i ∧ i - 1 < 8192 then (show EReal from x (ix2 ⟨i - 1, by omega⟩ q)) else (FloatOps.sitofp (F := Ideal) FTy.f32 (0#32) : EReal)

/-- The rows of the second run, shifted by one, with zero outside. -/
def zh (x : FVec Ideal S8448x1024 .f32) (i : Nat) (q : Fin 1024) : EReal :=
  if h : 1 ≤ i ∧ i - 1 < 256 then (show EReal from x (ix2 ⟨8192 + (i - 1), by omega⟩ q)) else (FloatOps.sitofp (F := Ideal) FTy.f32 (0#32) : EReal)

/-- A row of the whole array. -/
def tap (x : FVec Ideal S8448x1024 .f32) (i : Nat) (q : Fin 1024) : EReal :=
  if h : i < 8448 then (show EReal from x (ix2 ⟨i, h⟩ q)) else 0

theorem tap_eq (x : FVec Ideal S8448x1024 .f32) (i : Nat) (q : Fin 1024) (a : Fin 8448) (h : i = a.val) : tap x i q = (show EReal from x (ix2 a q)) := by
  subst h
  exact dif_pos a.isLt

theorem zl_in (x : FVec Ideal S8448x1024 .f32) (i : Nat) (q : Fin 1024) (h : 1 ≤ i) (h2 : i ≤ 8192) : zl x i q = tap x (i - 1) q := by
  unfold zl tap
  rw [dif_pos ⟨h, by omega⟩, dif_pos (by omega)]

theorem zl_out (x : FVec Ideal S8448x1024 .f32) (i : Nat) (q : Fin 1024) (h : i = 0 ∨ 8192 < i) : zl x i q = 0 := by
  unfold zl
  rw [dif_neg (by omega)]
  exact zero_word

theorem zh_in (x : FVec Ideal S8448x1024 .f32) (i : Nat) (q : Fin 1024) (h : 1 ≤ i) (h2 : i ≤ 256) : zh x i q = tap x (8192 + (i - 1)) q := by
  unfold zh tap
  rw [dif_pos ⟨h, by omega⟩, dif_pos (by omega)]

theorem zh_out (x : FVec Ideal S8448x1024 .f32) (i : Nat) (q : Fin 1024) (h : i = 0 ∨ 256 < i) : zh x i q = 0 := by
  unfold zh
  rw [dif_neg (by omega)]
  exact zero_word

set_option maxHeartbeats 2000000 in
theorem CL_at (x : FVec Ideal S8448x1024 .f32) (x1 : FVec Ideal S3x1024 .f32) (i : Fin 8192) (q : Fin 1024) :
    (CL x x1 (ix2 i q) : EReal) = zl x i.val q * (show EReal from x1 (ix2 0 q)) + tap x i.val q * (show EReal from x1 (ix2 1 q))
      + zl x (2 + i.val) q * (show EReal from x1 (ix2 2 q)) := by
  pointwise [CL]
  rw [tap_eq x i.val q ⟨i.val, by omega⟩ rfl]
  rfl

set_option maxHeartbeats 2000000 in
theorem CH_at (x : FVec Ideal S8448x1024 .f32) (x1 : FVec Ideal S3x1024 .f32) (i : Fin 256) (q : Fin 1024) :
    (CH x x1 (ix2 i q) : EReal) = zh x i.val q * (show EReal from x1 (ix2 0 q)) + tap x (8192 + i.val) q * (show EReal from x1 (ix2 1 q))
      + zh x (2 + i.val) q * (show EReal from x1 (ix2 2 q)) := by
  pointwise [CH]
  rw [tap_eq x (8192 + i.val) q ⟨8192 + i.val, by omega⟩ rfl]
  rfl

/-- The convolution at a row: the row before and the row after, left out at the ends of the two runs. -/
def conv (x : FVec Ideal S8448x1024 .f32) (x1 : FVec Ideal S3x1024 .f32) (i : Nat) (q : Fin 1024) : EReal :=
  (if i = 0 ∨ i = 8192 then 0 else tap x (i - 1) q) * (show EReal from x1 (ix2 0 q)) + tap x i q * (show EReal from x1 (ix2 1 q))
    + (if i = 8191 ∨ i = 8447 then 0 else tap x (i + 1) q) * (show EReal from x1 (ix2 2 q))

theorem CL_conv (x : FVec Ideal S8448x1024 .f32) (x1 : FVec Ideal S3x1024 .f32) (i : Fin 8192) (q : Fin 1024) :
    (CL x x1 (ix2 i q) : EReal) = conv x x1 i.val q := by
  have hi := i.isLt
  rw [CL_at]
  unfold conv
  have h0 : zl x i.val q = if i.val = 0 ∨ i.val = 8192 then 0 else tap x (i.val - 1) q := by
    by_cases e : i.val = 0
    · rw [if_pos (Or.inl e)]
      exact zl_out x _ q (Or.inl e)
    · rw [if_neg (by omega)]
      exact zl_in x _ q (by omega) (by omega)
  have h2 : zl x (2 + i.val) q = if i.val = 8191 ∨ i.val = 8447 then 0 else tap x (i.val + 1) q := by
    by_cases e : i.val = 8191
    · rw [if_pos (Or.inl e)]
      exact zl_out x _ q (Or.inr (by omega))
    · rw [if_neg (by omega)]
      exact (zl_in x _ q (by omega) (by omega)).trans (congrArg (tap x · q) (by omega))
  rw [h0, h2]

theorem CH_conv (x : FVec Ideal S8448x1024 .f32) (x1 : FVec Ideal S3x1024 .f32) (i : Fin 256) (q : Fin 1024) (r : Nat) (hr : r = 8192 + i.val) :
    (CH x x1 (ix2 i q) : EReal) = conv x x1 r q := by
  subst hr
  have hi := i.isLt
  rw [CH_at]
  unfold conv
  have h0 : zh x i.val q = if 8192 + i.val = 0 ∨ 8192 + i.val = 8192 then 0 else tap x (8192 + i.val - 1) q := by
    by_cases e : i.val = 0
    · rw [if_pos (Or.inr (by omega))]
      exact zh_out x _ q (Or.inl e)
    · rw [if_neg (by omega)]
      exact (zh_in x _ q (by omega) (by omega)).trans (congrArg (tap x · q) (by omega))
  have h2 : zh x (2 + i.val) q = if 8192 + i.val = 8191 ∨ 8192 + i.val = 8447 then 0 else tap x (8192 + i.val + 1) q := by
    by_cases e : i.val = 255
    · rw [if_pos (Or.inr (by omega))]
      exact zh_out x _ q (Or.inr (by omega))
    · rw [if_neg (by omega)]
      exact (zh_in x _ q (by omega) (by omega)).trans (congrArg (tap x · q) (by omega))
  rw [h0, h2]

/-- One entry of the product. -/
theorem u_in (x0 : FVec Ideal S8448x6144 .bf16) (i : Nat) (q : Fin 1024) (a : Fin 8448) (b d : Fin 6144) (h : i = a.val)
    (hb : b.val = 5120 + q.val) (hd : d.val = 3072 + q.val) :
    tap (U x0) i q = (show EReal from x0 (ix2 a b)) * (show EReal from x0 (ix2 a d)) := by
  refine (tap_eq (U x0) i q a h).trans ?_
  have e2 : (⟨5120 + q.val, by omega⟩ : Fin 6144) = b := Fin.ext hb.symm
  have e3 : (⟨3072 + q.val, by omega⟩ : Fin 6144) = d := Fin.ext hd.symm
  have e : (U x0 (ix2 a q) : EReal) = (show EReal from x0 (ix2 a ⟨5120 + q.val, by omega⟩)) * (show EReal from x0 (ix2 a ⟨3072 + q.val, by omega⟩)) := by
    pointwise [U]
  exact e.trans (by rw [e2, e3])

/-- One entry of the reference's array. -/
theorem REF_at (x0 x1) (j : S8448x1024.Idx) :
    (REF x0 x1 j : EReal) = (show EReal from x0 (ix2 (j 0) ⟨4096 + (j 1).val, by have : (j 1).val < 1024 := (j 1).isLt; omega⟩)) * conv (U x0) x1 (j 0).val (j 1) := by
  have hj : (j 0).val < 8448 := (j 0).isLt
  pointwise [REF]
  refine congrArg₂ (fun a b : EReal => a * b) rfl ?_
  by_cases h : (j 0).val < 8192
  · rw [dif_pos h]
    exact CL_conv (U x0) x1 ⟨(j 0).val, h⟩ (j 1)
  · rw [dif_neg h]
    exact CH_conv (U x0) x1 ⟨(j 0).val - 8192, by omega⟩ (j 1) _ (by simp only []; omega)

end Cert.Conv0RefIdeal.Row

namespace Cert.Conv0Ideal.Row

open Idealize.ShloMosaic Idealize.ShloMosaic.TcCoe Idealize.SL.Sem
open Idealize.ShloMosaic.Pipeline (Dat)
open Cert.Conv0Ideal Cert.Conv0Ideal.Gen

/-- Where each block of a grid point sits. -/
theorem idx : ∀ t : Fin cfg0.N, win0_0.index t = ![t.val, 3]
    ∧ win0_1.index t = ![t.val * 16 - 1, 3]
    ∧ win0_2.index t = ![min ((t.val + 1) * 16) 527, 3]
    ∧ win0_3.index t = ![t.val, 4]
    ∧ win0_4.index t = ![t.val, 5]
    ∧ win0_5.index t = ![t.val * 16 - 1, 5]
    ∧ win0_6.index t = ![min ((t.val + 1) * 16) 527, 5]
    ∧ win0_7.index t = ![0, 0]
    ∧ win0_8.index t = ![t.val, 0] :=
  (by decide +kernel : ∀ t : Fin grid0.N, _)

theorem coord0 : ∀ t : Fin cfg0.N, (grid0.coords t 0).val = t.val :=
  (by decide +kernel : ∀ t : Fin grid0.N, _)

theorem first_row : ∀ p : Fin 256, IntOp.cmpi CmpIPredicate.eq (BitVec.ofNat 32 p.val) 0#32 = if p.val = 0 then 1#1 else 0#1 := by
  decide +kernel

theorem last_row : ∀ p : Fin 256, IntOp.cmpi CmpIPredicate.eq (BitVec.ofNat 32 p.val) 255#32 = if p.val = 255 then 1#1 else 0#1 := by
  decide +kernel

theorem first_tile : ∀ a : Fin 33, Scalar.ori (Scalar.cmpi CmpIPredicate.eq (Scalar.muli (BitVec.ofNat 32 a.val) 256#32) 0#32)
    (Scalar.cmpi CmpIPredicate.eq (Scalar.muli (BitVec.ofNat 32 a.val) 256#32) 8192#32) = if a.val = 0 ∨ a.val = 32 then 1#1 else 0#1 := by
  decide +kernel

theorem last_tile : ∀ a : Fin 33, Scalar.ori (Scalar.cmpi CmpIPredicate.eq (Scalar.addi (Scalar.muli (BitVec.ofNat 32 a.val) 256#32) 256#32) 8192#32)
    (Scalar.cmpi CmpIPredicate.eq (Scalar.addi (Scalar.muli (BitVec.ofNat 32 a.val) 256#32) 256#32) 8448#32) = if a.val = 31 ∨ a.val = 32 then 1#1 else 0#1 := by
  decide +kernel

theorem pick (P : Prop) [Decidable P] (a b : EReal) : Scalar.select (if P then 1#1 else 0#1) a b = if P then a else b := by
  split <;> rfl

/-- One entry of what a grid point writes. -/
theorem pay_at (i : grid0.Coords) (v4 v0 v5 v1 v6 v2 v3 v7) (y : S256x1024.Idx) :
   (k0_pay1 (F := Ideal) (k0_pay2 v4 v0) (k0_pay3 i v5 v1) (k0_pay4 i v6 v2) (k0_pay5 v3) v7 (iota .tc S256x1024 32 [0] iota_S256x1024_d0_w32) y : EReal)
    = (show EReal from v3 y) * ((if (y 0).val = 0 then (if (i 0).val = 0 ∨ (i 0).val = 32 then (0 : EReal) else (show EReal from v5 (ix2 0 (y 1))) * (show EReal from v1 (ix2 0 (y 1))))
        else (show EReal from v4 (ix2 ⟨((y 0).val + 256 - 1) % 256, Nat.mod_lt _ (by omega)⟩ (y 1))) * (show EReal from v0 (ix2 ⟨((y 0).val + 256 - 1) % 256, Nat.mod_lt _ (by omega)⟩ (y 1)))) * (show EReal from v7 (ix2 0 (y 1)))
      + (show EReal from v4 y) * (show EReal from v0 y) * (show EReal from v7 (ix2 1 (y 1)))
      + (if (y 0).val = 255 then (if (i 0).val = 31 ∨ (i 0).val = 32 then (0 : EReal) else (show EReal from v6 (ix2 0 (y 1))) * (show EReal from v2 (ix2 0 (y 1))))
        else (show EReal from v4 (ix2 ⟨((y 0).val + 256 - 255) % 256, Nat.mod_lt _ (by omega)⟩ (y 1))) * (show EReal from v0 (ix2 ⟨((y 0).val + 256 - 255) % 256, Nat.mod_lt _ (by omega)⟩ (y 1)))) * (show EReal from v7 (ix2 2 (y 1)))) := by
  pointwise [k0_pay1, k0_pay2, k0_pay3, k0_pay4, k0_pay5]
  rw [first_row (y 0), last_row (y 0), first_tile (i 0), last_tile (i 0), pick, pick, pick, pick]

variable (m : (ℓ : Loc nD τ sig) → Buf (Elt Ideal) ℓ)

/-- An entry of a block of a column group, read off the array it is a block of. -/
theorem h_at (c : Dev nD) (t : Fin cfg0.N) (p : Fin 256) (q : Fin 1024) (i : Fin 8448) (k : Fin 6144) (hi : i.val = t.val * 256 + p.val) (hk : k.val = 3072 + q.val) :
    iblk m c 0 t (ix2 p q) = m ((c : Thread nD τ).loc main_arg0) (ix2 i k) := by
  blk_point [iblk, V, idx t]

theorem b_at (c : Dev nD) (t : Fin cfg0.N) (p : Fin 256) (q : Fin 1024) (i : Fin 8448) (k : Fin 6144) (hi : i.val = t.val * 256 + p.val) (hk : k.val = 4096 + q.val) :
    iblk m c 3 t (ix2 p q) = m ((c : Thread nD τ).loc main_arg0) (ix2 i k) := by
  blk_point [iblk, V, idx t]

theorem c_at (c : Dev nD) (t : Fin cfg0.N) (p : Fin 256) (q : Fin 1024) (i : Fin 8448) (k : Fin 6144) (hi : i.val = t.val * 256 + p.val) (hk : k.val = 5120 + q.val) :
    iblk m c 4 t (ix2 p q) = m ((c : Thread nD τ).loc main_arg0) (ix2 i k) := by
  blk_point [iblk, V, idx t]

/-- The row before a block, read off the array. -/
theorem hp_at (c : Dev nD) (t : Fin cfg0.N) (q : Fin 1024) (i : Fin 8448) (k : Fin 6144) (ht : t.val ≠ 0) (hi : i.val = t.val * 256 - 1) (hk : k.val = 3072 + q.val) :
    View.ld (iblk m c 1 t) r0_1 (ix2 0 q) = m ((c : Thread nD τ).loc main_arg0) (ix2 i k) := by
  have e : i.val = (t.val * 16 - 1) * 16 + 15 := by omega
  blk_point [iblk, V, idx t]

theorem cp_at (c : Dev nD) (t : Fin cfg0.N) (q : Fin 1024) (i : Fin 8448) (k : Fin 6144) (ht : t.val ≠ 0) (hi : i.val = t.val * 256 - 1) (hk : k.val = 5120 + q.val) :
    View.ld (iblk m c 5 t) r0_1 (ix2 0 q) = m ((c : Thread nD τ).loc main_arg0) (ix2 i k) := by
  have e : i.val = (t.val * 16 - 1) * 16 + 15 := by omega
  blk_point [iblk, V, idx t]

/-- The row after a block, read off the array. -/
theorem hn_at (c : Dev nD) (t : Fin cfg0.N) (q : Fin 1024) (i : Fin 8448) (k : Fin 6144) (ht : t.val < 32) (hi : i.val = t.val * 256 + 256) (hk : k.val = 3072 + q.val) :
    View.ld (iblk m c 2 t) r0_2 (ix2 0 q) = m ((c : Thread nD τ).loc main_arg0) (ix2 i k) := by
  have e : i.val = min ((t.val + 1) * 16) 527 * 16 := by omega
  blk_point [iblk, V, idx t]

theorem cn_at (c : Dev nD) (t : Fin cfg0.N) (q : Fin 1024) (i : Fin 8448) (k : Fin 6144) (ht : t.val < 32) (hi : i.val = t.val * 256 + 256) (hk : k.val = 5120 + q.val) :
    View.ld (iblk m c 6 t) r0_2 (ix2 0 q) = m ((c : Thread nD τ).loc main_arg0) (ix2 i k) := by
  have e : i.val = min ((t.val + 1) * 16) 527 * 16 := by omega
  blk_point [iblk, V, idx t]

theorem w_at (c : Dev nD) (t : Fin cfg0.N) (a : Fin 3) (q k : Fin 1024) (hk : k = q) :
    iblk m c 7 t (ix2 a q) = m ((c : Thread nD τ).loc main_arg1) (ix2 a k) := by
  subst hk
  blk_point [iblk, V, idx t]

theorem off8 (t : Fin cfg0.N) (y : S256x1024.Idx) (a : Fin 2) :
    (((View.whole main_v0).slice ((win0 8).rect t)).emb y a).val = win0_8.index t a * S256x1024.size a + 1 * (y a).val := rfl

theorem point (c : Dev nD) (t : Fin cfg0.N) (y : S256x1024.Idx) :
    k0_pay1 (F := Ideal) (k0_pay2 (iblk m c 4 t) (iblk m c 0 t)) (k0_pay3 (grid0.coords t) (View.ld (iblk m c 5 t) r0_1) (View.ld (iblk m c 1 t) r0_1)) (k0_pay4 (grid0.coords t) (View.ld (iblk m c 6 t) r0_2) (View.ld (iblk m c 2 t) r0_2)) (k0_pay5 (iblk m c 3 t)) (iblk m c 7 t) (iota .tc S256x1024 32 [0] iota_S256x1024_d0_w32) y
      = Cert.Conv0RefIdeal.Row.REF (m ((c : Thread nD τ).loc main_arg0)) (m ((c : Thread nD τ).loc main_arg1)) (((View.whole main_v0).slice ((win0 8).rect t)).emb y) := by
  have h0 : ((((View.whole main_v0).slice ((win0 8).rect t)).emb y) 0).val = t.val * 256 + (y 0).val := (off8 t y 0).trans (by simp [idx t])
  have h1 : ((((View.whole main_v0).slice ((win0 8).rect t)).emb y) 1).val = (y 1).val := (off8 t y 1).trans (by simp [idx t])
  have ht : t.val < 33 := lt_of_lt_of_eq t.isLt N_0
  have hc := coord0 t
  obtain ⟨p, q, rfl⟩ : ∃ (p : Fin 256) (q : Fin 1024), y = ix2 p q := ⟨y 0, y 1, by funext a; match a with | 0 => rfl | 1 => rfl⟩
  have hp : p.val < 256 := p.isLt
  have hq : q.val < 1024 := q.isLt
  replace h0 : ((((View.whole main_v0).slice ((win0 8).rect t)).emb (ix2 p q)) 0).val = t.val * 256 + p.val := h0
  replace h1 : ((((View.whole main_v0).slice ((win0 8).rect t)).emb (ix2 p q)) 1).val = q.val := h1
  generalize ((View.whole main_v0).slice ((win0 8).rect t)).emb (ix2 p q) = j at h0 h1 ⊢
  refine (pay_at _ _ _ _ _ _ _ _ _ _).trans (Eq.trans ?_ (Cert.Conv0RefIdeal.Row.REF_at _ _ j).symm)
  have hj1 : j 1 = q := Fin.ext h1
  have wt (a : Fin 3) : iblk m c 7 t (ix2 a q) = m ((c : Thread nD τ).loc main_arg1) (ix2 a (j 1)) := w_at m c t a q (j 1) hj1
  have hu (i : Nat) (a : Fin 8448) (b d : Fin 6144) (h : i = a.val) (hb : b.val = 5120 + q.val) (hd : d.val = 3072 + q.val) :
      Cert.Conv0RefIdeal.Row.tap (Cert.Conv0RefIdeal.Row.U (m ((c : Thread nD τ).loc main_arg0))) i (j 1)
        = (show EReal from m ((c : Thread nD τ).loc main_arg0) (ix2 a b)) * (show EReal from m ((c : Thread nD τ).loc main_arg0) (ix2 a d)) :=
    Cert.Conv0RefIdeal.Row.u_in _ _ _ a b d h (hb.trans (congrArg (5120 + ·) h1.symm)) (hd.trans (congrArg (3072 + ·) h1.symm))
  unfold Cert.Conv0RefIdeal.Row.conv
  refine congrArg₂ (fun a b : EReal => a * b) (b_at m c t p q _ _ h0 (congrArg (4096 + ·) h1)) (congrArg₂ (fun a b : EReal => a + b)
    (congrArg₂ (fun a b : EReal => a + b) (congrArg₂ (fun a b : EReal => a * b) ?_ (wt 0)) (congrArg₂ (fun a b : EReal => a * b) ?_ (wt 1)))
    (congrArg₂ (fun a b : EReal => a * b) ?_ (wt 2)))
  · show (if p.val = 0 then _ else _) = _
    by_cases e0 : p.val = 0
    · rw [if_pos e0]
      by_cases e1 : (grid0.coords t 0).val = 0 ∨ (grid0.coords t 0).val = 32
      · rw [if_pos e1]
        exact (if_pos (by omega)).symm
      · rw [if_neg e1]
        refine Eq.trans ?_ ((if_neg (by omega)).trans (hu _ ⟨t.val * 256 - 1, by omega⟩ ⟨5120 + q.val, by omega⟩ ⟨3072 + q.val, by omega⟩ (by simp only []; omega) rfl rfl)).symm
        exact congrArg₂ (fun a b : EReal => a * b) (cp_at m c t q _ _ (by omega) rfl rfl) (hp_at m c t q _ _ (by omega) rfl rfl)
    · rw [if_neg e0]
      refine Eq.trans ?_ ((if_neg (by omega)).trans (hu _ ⟨t.val * 256 + p.val - 1, by omega⟩ ⟨5120 + q.val, by omega⟩ ⟨3072 + q.val, by omega⟩ (by simp only []; omega) rfl rfl)).symm
      exact congrArg₂ (fun a b : EReal => a * b) (c_at m c t _ q _ _ (by simp; omega) rfl) (h_at m c t _ q _ _ (by simp; omega) rfl)
  · refine Eq.trans ?_ (hu _ ⟨t.val * 256 + p.val, by omega⟩ ⟨5120 + q.val, by omega⟩ ⟨3072 + q.val, by omega⟩ (by simp only []; omega) rfl rfl).symm
    exact congrArg₂ (fun a b : EReal => a * b) (c_at m c t p q _ _ rfl rfl) (h_at m c t p q _ _ rfl rfl)
  · show (if p.val = 255 then _ else _) = _
    by_cases e0 : p.val = 255
    · rw [if_pos e0]
      by_cases e1 : (grid0.coords t 0).val = 31 ∨ (grid0.coords t 0).val = 32
      · rw [if_pos e1]
        exact (if_pos (by omega)).symm
      · rw [if_neg e1]
        refine Eq.trans ?_ ((if_neg (by omega)).trans (hu _ ⟨t.val * 256 + 256, by omega⟩ ⟨5120 + q.val, by omega⟩ ⟨3072 + q.val, by omega⟩ (by simp only []; omega) rfl rfl)).symm
        exact congrArg₂ (fun a b : EReal => a * b) (cn_at m c t q _ _ (by omega) rfl rfl) (hn_at m c t q _ _ (by omega) rfl rfl)
    · rw [if_neg e0]
      refine Eq.trans ?_ ((if_neg (by omega)).trans (hu _ ⟨t.val * 256 + p.val + 1, by omega⟩ ⟨5120 + q.val, by omega⟩ ⟨3072 + q.val, by omega⟩ (by simp only []; omega) rfl rfl)).symm
      exact congrArg₂ (fun a b : EReal => a * b) (c_at m c t _ q _ _ (by simp; omega) rfl) (h_at m c t _ q _ _ (by simp; omega) rfl)

theorem final (c : Dev nD) : (dats m 0 c).arrAt 8 (cfgs 0).N = Cert.Conv0RefIdeal.Row.REF (m ((c : Thread nD τ).loc main_arg0)) (m ((c : Thread nD τ).loc main_arg1)) := by
  refine (dats m 0 c).arrAt_eq_of_covers 8 _ (by decide +kernel) fun t _ y => ?_
  blk_simp
  rw [after0_8]
  frame_out
  exact point m c t y

end Cert.Conv0Ideal.Row

end
-- ==== Proof.Act0Val.lean ====
module

public import proofs.«01_k».proof.Proof.Gen.Act0Ideal.Value
public import proofs.«01_k».proof.Proof.Gen.Act0RefIdeal.Run
public import Idealize.ShloMosaic.Lib.Pipeline.ValueKit

@[expose] public section

set_option maxRecDepth 16384

noncomputable section

/-! # The feed-forward activation, first layer -/

namespace Cert.Act0RefIdeal.Row

open Idealize.ShloMosaic Idealize.ShloMosaic.TcCoe Idealize.SL.Sem
open Cert.Act0RefIdeal Cert.Act0RefIdeal.Gen

/-- The convolution of the first 8192 rows. -/
def CL (x0 : FVec Ideal S8448x22016 .bf16) (x1 : FVec Ideal S3x22016 .f32) : FVec Ideal S8192x22016 .f32 :=
  (addf (addf (mulf (extractStridedSlice S8192x22016 ![0, 0] (pad S8194x22016 ![1, 0] ![1, 0] ![0, 0] (extractStridedSlice S8192x22016 ![0, 0] (extf .f32 x0 bitsLt_bf16_f32) slices_S8448x22016_S8192x22016_0_0) (sitofp .f32 (constantI S_ 32 0#32)) pads_S8192x22016_S8194x22016_110_000 h_S_) slices_S8194x22016_S8192x22016_0_0) (broadcastInDim S8192x22016 ![0, 1] bcast_S1x22016_S8192x22016_0_1 (broadcastInDim S1x22016 ![1] bcast_S22016_S1x22016_1 (shapeCast _ (extractStridedSlice S1x22016 ![0, 0] x1 slices_S3x22016_S1x22016_0_0) shapeCasts_S1x22016_S22016)))) (mulf (extractStridedSlice S8192x22016 ![1, 0] (pad S8194x22016 ![1, 0] ![1, 0] ![0, 0] (extractStridedSlice S8192x22016 ![0, 0] (extf .f32 x0 bitsLt_bf16_f32) slices_S8448x22016_S8192x22016_0_0) (sitofp .f32 (constantI S_ 32 0#32)) pads_S8192x22016_S8194x22016_110_000 h_S_) slices_S8194x22016_S8192x22016_1_0) (broadcastInDim S8192x22016 ![0, 1] bcast_S1x22016_S8192x22016_0_1 (broadcastInDim S1x22016 ![1] bcast_S22016_S1x22016_1 (shapeCast _ (extractStridedSlice S1x22016 ![1, 0] x1 slices_S3x22016_S1x22016_1_0) shapeCasts_S1x22016_S22016))))) (mulf (extractStridedSlice S8192x22016 ![2, 0] (pad S8194x22016 ![1, 0] ![1, 0] ![0, 0] (extractStridedSlice S8192x22016 ![0, 0] (extf .f32 x0 bitsLt_bf16_f32) slices_S8448x22016_S8192x22016_0_0) (sitofp .f32 (constantI S_ 32 0#32)) pads_S8192x22016_S8194x22016_110_000 h_S_) slices_S8194x22016_S8192x22016_2_0) (broadcastInDim S8192x22016 ![0, 1] bcast_S1x22016_S8192x22016_0_1 (broadcastInDim S1x22016 ![1] bcast_S22016_S1x22016_1 (shapeCast _ (extractStridedSlice S1x22016 ![2, 0] x1 slices_S3x22016_S1x22016_2_0) shapeCasts_S1x22016_S22016)))))

/-- The convolution of the last 256 rows. -/
def CH (x0 : FVec Ideal S8448x22016 .bf16) (x1 : FVec Ideal S3x22016 .f32) : FVec Ideal S256x22016 .f32 :=
  (addf (addf (mulf (extractStridedSlice S256x22016 ![0, 0] (pad S258x22016 ![1, 0] ![1, 0] ![0, 0] (extractStridedSlice S256x22016 ![8192, 0] (extf .f32 x0 bitsLt_bf16_f32) slices_S8448x22016_S256x22016_8192_0) (sitofp .f32 (constantI S_ 32 0#32)) pads_S256x22016_S258x22016_110_000 h_S_) slices_S258x22016_S256x22016_0_0) (broadcastInDim S256x22016 ![0, 1] bcast_S1x22016_S256x22016_0_1 (broadcastInDim S1x22016 ![1] bcast_S22016_S1x22016_1 (shapeCast _ (extractStridedSlice S1x22016 ![0, 0] x1 slices_S3x22016_S1x22016_0_0) shapeCasts_S1x22016_S22016)))) (mulf (extractStridedSlice S256x22016 ![1, 0] (pad S258x22016 ![1, 0] ![1, 0] ![0, 0] (extractStridedSlice S256x22016 ![8192, 0] (extf .f32 x0 bitsLt_bf16_f32) slices_S8448x22016_S256x22016_8192_0) (sitofp .f32 (constantI S_ 32 0#32)) pads_S256x22016_S258x22016_110_000 h_S_) slices_S258x22016_S256x22016_1_0) (broadcastInDim S256x22016 ![0, 1] bcast_S1x22016_S256x22016_0_1 (broadcastInDim S1x22016 ![1] bcast_S22016_S1x22016_1 (shapeCast _ (extractStridedSlice S1x22016 ![1, 0] x1 slices_S3x22016_S1x22016_1_0) shapeCasts_S1x22016_S22016))))) (mulf (extractStridedSlice S256x22016 ![2, 0] (pad S258x22016 ![1, 0] ![1, 0] ![0, 0] (extractStridedSlice S256x22016 ![8192, 0] (extf .f32 x0 bitsLt_bf16_f32) slices_S8448x22016_S256x22016_8192_0) (sitofp .f32 (constantI S_ 32 0#32)) pads_S256x22016_S258x22016_110_000 h_S_) slices_S258x22016_S256x22016_2_0) (broadcastInDim S256x22016 ![0, 1] bcast_S1x22016_S256x22016_0_1 (broadcastInDim S1x22016 ![1] bcast_S22016_S1x22016_1 (shapeCast _ (extractStridedSlice S1x22016 ![2, 0] x1 slices_S3x22016_S1x22016_2_0) shapeCasts_S1x22016_S22016)))))

/-- The reference's convolution and bias, over all columns. -/
def T (x0 : FVec Ideal S8448x22016 .bf16) (x1 : FVec Ideal S3x22016 .f32) (x2 : FVec Ideal S1x22016 .f32) : FVec Ideal S8448x22016 .f32 :=
  (addf (concatenate S8448x22016 0 [⟨S8192x22016, (CL x0 x1)⟩, ⟨S256x22016, (CH x0 x1)⟩] concatenates_S8192x22016_S256x22016_S8448x22016_d0) (broadcastInDim S8448x22016 ![0, 1] bcast_S1x22016_S8448x22016_0_1 x2))

/-- The reference's array. -/
def REF (x0 : FVec Ideal S8448x22016 .bf16) (x1 : FVec Ideal S3x22016 .f32) (x2 : FVec Ideal S1x22016 .f32) : FVec Ideal S8448x11264 .bf16 :=
  (concatenate S8448x11264 1 [⟨S8448x5504, ((extractStridedSlice S8448x5504 ![0, 0] (truncf .bf16 (mulf (mulf (extractStridedSlice S8448x11008 ![0, 11008] (T x0 x1 x2) slices_S8448x22016_S8448x11008_0_11008) (Host.divf (broadcastInDim S8448x11008 ![] bcast_S_S8448x11008 (constant S_ .f32 0x3F800000#32)) (addf (broadcastInDim S8448x11008 ![] bcast_S_S8448x11008 (constant S_ .f32 0x3F800000#32)) (Host.exp (Host.negf (extractStridedSlice S8448x11008 ![0, 11008] (T x0 x1 x2) slices_S8448x22016_S8448x11008_0_11008)))))) (extractStridedSlice S8448x11008 ![0, 0] (T x0 x1 x2) slices_S8448x22016_S8448x11008_0_0)) bitsLt_bf16_f32) slices_S8448x11008_S8448x5504_0_0) : (⟨S8448x5504, .bf16⟩ : BufTy).Contents (Elt Ideal))⟩, ⟨S8448x128, ((broadcastInDim S8448x128 ![] bcast_S_S8448x128 (constant (F := Ideal) S_ .bf16 0x0000#16)) : (⟨S8448x128, .bf16⟩ : BufTy).Contents (Elt Ideal))⟩, ⟨S8448x5504, ((extractStridedSlice S8448x5504 ![0, 5504] (truncf .bf16 (mulf (mulf (extractStridedSlice S8448x11008 ![0, 11008] (T x0 x1 x2) slices_S8448x22016_S8448x11008_0_11008) (Host.divf (broadcastInDim S8448x11008 ![] bcast_S_S8448x11008 (constant S_ .f32 0x3F800000#32)) (addf (broadcastInDim S8448x11008 ![] bcast_S_S8448x11008 (constant S_ .f32 0x3F800000#32)) (Host.exp (Host.negf (extractStridedSlice S8448x11008 ![0, 11008] (T x0 x1 x2) slices_S8448x22016_S8448x11008_0_11008)))))) (extractStridedSlice S8448x11008 ![0, 0] (T x0 x1 x2) slices_S8448x22016_S8448x11008_0_0)) bitsLt_bf16_f32) slices_S8448x11008_S8448x5504_0_5504) : (⟨S8448x5504, .bf16⟩ : BufTy).Contents (Elt Ideal))⟩, ⟨S8448x128, ((broadcastInDim S8448x128 ![] bcast_S_S8448x128 (constant (F := Ideal) S_ .bf16 0x0000#16)) : (⟨S8448x128, .bf16⟩ : BufTy).Contents (Elt Ideal))⟩] concatenates_S8448x5504_S8448x128_S8448x5504_S8448x128_S8448x11264_d1 : (⟨S8448x11264, .bf16⟩ : BufTy).Contents (Elt Ideal))

theorem zero_word : (FloatOps.sitofp (F := Ideal) FTy.f32 (0#32) : EReal) = 0 := by
  show (((0#32 : BitVec 32).toInt : ℝ) : EReal) = 0
  simp

/-- The rows of the first run, shifted by one, with zero outside. -/
def zl (x : FVec Ideal S8448x22016 .bf16) (i : Nat) (q : Fin 22016) : EReal :=
  if h : 1 ≤ i ∧ i - 1 < 8192 then (show EReal from x (ix2 ⟨i - 1, by omega⟩ q)) else (FloatOps.sitofp (F := Ideal) FTy.f32 (0#32) : EReal)

/-- The rows of the second run, shifted by one, with zero outside. -/
def zh (x : FVec Ideal S8448x22016 .bf16) (i : Nat) (q : Fin 22016) : EReal :=
  if h : 1 ≤ i ∧ i - 1 < 256 then (show EReal from x (ix2 ⟨8192 + (i - 1), by omega⟩ q)) else (FloatOps.sitofp (F := Ideal) FTy.f32 (0#32) : EReal)

/-- A row of the whole array. -/
def tap (x : FVec Ideal S8448x22016 .bf16) (i : Nat) (q : Fin 22016) : EReal :=
  if h : i < 8448 then (show EReal from x (ix2 ⟨i, h⟩ q)) else 0

theorem tap_eq (x : FVec Ideal S8448x22016 .bf16) (i : Nat) (q : Fin 22016) (a : Fin 8448) (h : i = a.val) : tap x i q = (show EReal from x (ix2 a q)) := by
  subst h
  exact dif_pos a.isLt

theorem zl_in (x : FVec Ideal S8448x22016 .bf16) (i : Nat) (q : Fin 22016) (h : 1 ≤ i) (h2 : i ≤ 8192) : zl x i q = tap x (i - 1) q := by
  unfold zl tap
  rw [dif_pos ⟨h, by omega⟩, dif_pos (by omega)]

theorem zl_out (x : FVec Ideal S8448x22016 .bf16) (i : Nat) (q : Fin 22016) (h : i = 0 ∨ 8192 < i) : zl x i q = 0 := by
  unfold zl
  rw [dif_neg (by omega)]
  exact zero_word

theorem zh_in (x : FVec Ideal S8448x22016 .bf16) (i : Nat) (q : Fin 22016) (h : 1 ≤ i) (h2 : i ≤ 256) : zh x i q = tap x (8192 + (i - 1)) q := by
  unfold zh tap
  rw [dif_pos ⟨h, by omega⟩, dif_pos (by omega)]

theorem zh_out (x : FVec Ideal S8448x22016 .bf16) (i : Nat) (q : Fin 22016) (h : i = 0 ∨ 256 < i) : zh x i q = 0 := by
  unfold zh
  rw [dif_neg (by omega)]
  exact zero_word

set_option maxHeartbeats 2000000 in
theorem CL_at (x : FVec Ideal S8448x22016 .bf16) (x1 : FVec Ideal S3x22016 .f32) (i : Fin 8192) (q : Fin 22016) :
    (CL x x1 (ix2 i q) : EReal) = zl x i.val q * (show EReal from x1 (ix2 0 q)) + tap x i.val q * (show EReal from x1 (ix2 1 q))
      + zl x (2 + i.val) q * (show EReal from x1 (ix2 2 q)) := by
  pointwise [CL]
  rw [tap_eq x i.val q ⟨i.val, by omega⟩ rfl]
  rfl

set_option maxHeartbeats 2000000 in
theorem CH_at (x : FVec Ideal S8448x22016 .bf16) (x1 : FVec Ideal S3x22016 .f32) (i : Fin 256) (q : Fin 22016) :
    (CH x x1 (ix2 i q) : EReal) = zh x i.val q * (show EReal from x1 (ix2 0 q)) + tap x (8192 + i.val) q * (show EReal from x1 (ix2 1 q))
      + zh x (2 + i.val) q * (show EReal from x1 (ix2 2 q)) := by
  pointwise [CH]
  rw [tap_eq x (8192 + i.val) q ⟨8192 + i.val, by omega⟩ rfl]
  rfl

/-- The convolution at a row: the row before and the row after, left out at the ends of the two runs. -/
def conv (x : FVec Ideal S8448x22016 .bf16) (x1 : FVec Ideal S3x22016 .f32) (i : Nat) (q : Fin 22016) : EReal :=
  (if i = 0 ∨ i = 8192 then 0 else tap x (i - 1) q) * (show EReal from x1 (ix2 0 q)) + tap x i q * (show EReal from x1 (ix2 1 q))
    + (if i = 8191 ∨ i = 8447 then 0 else tap x (i + 1) q) * (show EReal from x1 (ix2 2 q))

theorem CL_conv (x : FVec Ideal S8448x22016 .bf16) (x1 : FVec Ideal S3x22016 .f32) (i : Fin 8192) (q : Fin 22016) :
    (CL x x1 (ix2 i q) : EReal) = conv x x1 i.val q := by
  have hi := i.isLt
  rw [CL_at]
  unfold conv
  have h0 : zl x i.val q = if i.val = 0 ∨ i.val = 8192 then 0 else tap x (i.val - 1) q := by
    by_cases e : i.val = 0
    · rw [if_pos (Or.inl e)]
      exact zl_out x _ q (Or.inl e)
    · rw [if_neg (by omega)]
      exact zl_in x _ q (by omega) (by omega)
  have h2 : zl x (2 + i.val) q = if i.val = 8191 ∨ i.val = 8447 then 0 else tap x (i.val + 1) q := by
    by_cases e : i.val = 8191
    · rw [if_pos (Or.inl e)]
      exact zl_out x _ q (Or.inr (by omega))
    · rw [if_neg (by omega)]
      exact (zl_in x _ q (by omega) (by omega)).trans (congrArg (tap x · q) (by omega))
  rw [h0, h2]

theorem CH_conv (x : FVec Ideal S8448x22016 .bf16) (x1 : FVec Ideal S3x22016 .f32) (i : Fin 256) (q : Fin 22016) (r : Nat) (hr : r = 8192 + i.val) :
    (CH x x1 (ix2 i q) : EReal) = conv x x1 r q := by
  subst hr
  have hi := i.isLt
  rw [CH_at]
  unfold conv
  have h0 : zh x i.val q = if 8192 + i.val = 0 ∨ 8192 + i.val = 8192 then 0 else tap x (8192 + i.val - 1) q := by
    by_cases e : i.val = 0
    · rw [if_pos (Or.inr (by omega))]
      exact zh_out x _ q (Or.inl e)
    · rw [if_neg (by omega)]
      exact (zh_in x _ q (by omega) (by omega)).trans (congrArg (tap x · q) (by omega))
  have h2 : zh x (2 + i.val) q = if 8192 + i.val = 8191 ∨ 8192 + i.val = 8447 then 0 else tap x (8192 + i.val + 1) q := by
    by_cases e : i.val = 255
    · rw [if_pos (Or.inr (by omega))]
      exact zh_out x _ q (Or.inr (by omega))
    · rw [if_neg (by omega)]
      exact (zh_in x _ q (by omega) (by omega)).trans (congrArg (tap x · q) (by omega))
  rw [h0, h2]

/-- One entry of the convolution and bias. -/
theorem T_at (x0 x1 x2) (i : Fin 8448) (k : Fin 22016) :
    (T x0 x1 x2 (ix2 i k) : EReal) = conv x0 x1 i.val k + (show EReal from x2 (ix2 0 k)) := by
  have hi := i.isLt
  pointwise [T]
  refine congrArg₂ (fun a b : EReal => a + b) ?_ rfl
  by_cases h : i.val < 8192
  · rw [dif_pos h]
    exact CL_conv x0 x1 ⟨i.val, h⟩ k
  · rw [dif_neg h]
    exact CH_conv x0 x1 ⟨i.val - 8192, by omega⟩ k _ (by simp only []; omega)

/-- What the activation makes of a value and a gate. -/
def act (v g : EReal) : EReal := g * Ideal.div 1 (1 + Ideal.exp (-g)) * v

set_option maxHeartbeats 2000000 in
/-- One entry of the reference's array in its first or its second block of columns. -/
theorem REF_lo (x0 x1 x2) (j : S8448x11264.Idx) (h : (j 1).val < 5504) :
    (REF x0 x1 x2 j : EReal) = act (T x0 x1 x2 (ix2 (j 0) ⟨(j 1).val, by omega⟩)) (T x0 x1 x2 (ix2 (j 0) ⟨11008 + (j 1).val, by omega⟩)) := by
  pointwise [REF]
  rw [dif_pos h]
  rfl

set_option maxHeartbeats 2000000 in
theorem REF_hi (x0 x1 x2) (j : S8448x11264.Idx) (h : 5632 ≤ (j 1).val) (h2 : (j 1).val < 11136) :
    (REF x0 x1 x2 j : EReal) = act (T x0 x1 x2 (ix2 (j 0) ⟨5504 + ((j 1).val - 5504 - 128), by omega⟩)) (T x0 x1 x2 (ix2 (j 0) ⟨11008 + (5504 + ((j 1).val - 5504 - 128)), by omega⟩)) := by
  pointwise [REF]
  rw [dif_neg (by omega), dif_neg (by omega), dif_pos (by omega)]
  rfl

set_option maxHeartbeats 2000000 in
theorem REF_pad (x0 x1 x2) (j : S8448x11264.Idx) (h : (5504 ≤ (j 1).val ∧ (j 1).val < 5632) ∨ 11136 ≤ (j 1).val) :
    (REF x0 x1 x2 j : EReal) = 0 := by
  pointwise [REF]
  rcases h with h | h
  · rw [dif_neg (by omega), dif_pos (by omega)]
  · rw [dif_neg (by omega), dif_neg (by omega), dif_neg (by omega)]

end Cert.Act0RefIdeal.Row

namespace Cert.Act0Ideal.Row

open Idealize.ShloMosaic Idealize.ShloMosaic.TcCoe Idealize.SL.Sem
open Idealize.ShloMosaic.Pipeline (Dat)
open Cert.Act0Ideal Cert.Act0Ideal.Gen

/-- Where each block of a grid point sits. -/
theorem idx : ∀ t : Fin cfg0.N, win0_0.index t = ![t.val / 2, t.val % 2]
    ∧ win0_1.index t = ![t.val / 2 * 8 - 1, t.val % 2]
    ∧ win0_2.index t = ![min ((t.val / 2 + 1) * 8) 527, t.val % 2]
    ∧ win0_3.index t = ![t.val / 2, 2 + t.val % 2]
    ∧ win0_4.index t = ![t.val / 2 * 8 - 1, 2 + t.val % 2]
    ∧ win0_5.index t = ![min ((t.val / 2 + 1) * 8) 527, 2 + t.val % 2]
    ∧ win0_6.index t = ![0, t.val % 2]
    ∧ win0_7.index t = ![0, 2 + t.val % 2]
    ∧ win0_8.index t = ![0, t.val % 2]
    ∧ win0_9.index t = ![0, 2 + t.val % 2]
    ∧ win0_10.index t = ![t.val / 2, t.val % 2] :=
  (by decide +kernel : ∀ t : Fin grid0.N, _)

theorem coord0 : ∀ t : Fin cfg0.N, (grid0.coords t 0).val = t.val / 2 :=
  (by decide +kernel : ∀ t : Fin grid0.N, _)

theorem shift_word : ∀ (r : Fin 256) (k : Fin 128), IntOp.cmpi CmpIPredicate.eq (BitVec.ofNat 32 k.val)
    (Scalar.select (IntOp.cmpi CmpIPredicate.slt (BitVec.ofNat 32 r.val) 128#32) (IntOp.subi (BitVec.ofNat 32 r.val) 1#32)
      (IntOp.addi (IntOp.subi (BitVec.ofNat 32 r.val) 128#32) 1#32))
    = if (r.val < 128 ∧ k.val + 1 = r.val) ∨ (128 ≤ r.val ∧ k.val + 127 = r.val) then 1#1 else 0#1 := by
  decide +kernel

theorem first_row : ∀ p : Fin 128, IntOp.cmpi CmpIPredicate.eq (BitVec.ofNat 32 p.val) 0#32 = if p.val = 0 then 1#1 else 0#1 := by
  decide +kernel

theorem last_row : ∀ p : Fin 128, IntOp.cmpi CmpIPredicate.eq (BitVec.ofNat 32 (p.val - 120)) 7#32 = if p.val = 127 then 1#1 else 0#1 := by
  decide +kernel

theorem first_tile : ∀ a : Fin 66, Scalar.ori (Scalar.cmpi CmpIPredicate.eq (Scalar.muli (BitVec.ofNat 32 a.val) 128#32) 0#32)
    (Scalar.cmpi CmpIPredicate.eq (Scalar.muli (BitVec.ofNat 32 a.val) 128#32) 8192#32) = if a.val = 0 ∨ a.val = 64 then 1#1 else 0#1 := by
  decide +kernel

theorem last_tile : ∀ a : Fin 66, Scalar.ori (Scalar.cmpi CmpIPredicate.eq (Scalar.addi (Scalar.muli (BitVec.ofNat 32 a.val) 128#32) 128#32) 8192#32)
    (Scalar.cmpi CmpIPredicate.eq (Scalar.addi (Scalar.muli (BitVec.ofNat 32 a.val) 128#32) 128#32) 8448#32) = if a.val = 63 ∨ a.val = 65 then 1#1 else 0#1 := by
  decide +kernel

theorem pick (P : Prop) [Decidable P] (a b : EReal) : Scalar.select (if P then 1#1 else 0#1) a b = if P then a else b := by
  split <;> rfl

theorem sel (b d : BitVec 1) (P Q : Prop) [Decidable P] [Decidable Q] (hb : b = if P then 1#1 else 0#1) (hd : d = if Q then 1#1 else 0#1) (a : EReal) :
    Scalar.select b (Scalar.select d (0 : EReal) a) 0 = if P then (if Q then 0 else a) else 0 := by
  subst hb hd
  rw [pick, pick]

/-- The shift matrix holds one where a row picks its neighbour and zero elsewhere. -/
theorem shift_at (r : Fin 256) (k : Fin 128) : (k0_pay4 (F := Ideal) (ix2 r k) : EReal)
    = if (r.val < 128 ∧ k.val + 1 = r.val) ∨ (128 ≤ r.val ∧ k.val + 127 = r.val) then 1 else 0 := by
  pointwise [k0_pay4]
  rw [shift_word r k, pick]

/-- The shifted rows: a row of the product is the row it picks. -/
theorem pay5_pick (v27) (r : Fin 256) (q : Fin 5504) (k : Fin 128) (h : (r.val < 128 ∧ k.val + 1 = r.val) ∨ (128 ≤ r.val ∧ k.val + 127 = r.val)) :
    (k0_pay5 (F := Ideal) v27 (ix2 r q) : EReal) = v27 (ix2 k q) := by
  pointwise [k0_pay5]
  refine (Finset.sum_eq_single k (fun b _ hb => ?_) fun hk => absurd (Finset.mem_univ k) hk).trans ?_
  · rw [shift_at, if_neg, zero_mul]
    have : b.val ≠ k.val := fun e => hb (Fin.ext e)
    omega
  · rw [shift_at, if_pos h, one_mul]

/-- The first and the last row of the product pick nothing. -/
theorem pay5_zero (v27) (r : Fin 256) (q : Fin 5504) (h : r.val = 0 ∨ r.val = 255) :
    (k0_pay5 (F := Ideal) v27 (ix2 r q) : EReal) = 0 := by
  pointwise [k0_pay5]
  refine Finset.sum_eq_zero fun k _ => ?_
  rw [shift_at, if_neg, zero_mul]
  have := k.isLt
  omega

/-- The convolution of one group of columns, at one entry. -/
abbrev tile (i : grid0.Coords) (v27 : FVec Ideal S128x5504 .bf16) (v32 v44 : FVec Ideal S1x5504 .bf16) (v57 : FVec Ideal S3x5504 .f32) (v70 : FVec Ideal S1x5504 .f32) : FVec Ideal S128x5504 .f32 :=
  k0_pay9 (F := Ideal) (k0_pay3 i) (iota .tc S8x5504 32 [0] iota_S8x5504_d0_w32) v27 (k0_pay5 v27) (k0_pay6 v27) k0_pay7 (k0_pay8 i v32) v44 v57 v70

theorem tile_at (i : grid0.Coords) (v27 v32 v44 v57 v70) (p : Fin 128) (q : Fin 5504) :
    (tile i v27 v32 v44 v57 v70 (ix2 p q) : EReal)
      = (if p.val = 0 then (if (i 0).val = 0 ∨ (i 0).val = 64 then (0 : EReal) else (show EReal from v32 (ix2 0 q))) else (show EReal from v27 (ix2 ⟨p.val - 1, by omega⟩ q))) * (show EReal from v57 (ix2 0 q))
      + (show EReal from v27 (ix2 p q)) * (show EReal from v57 (ix2 1 q))
      + (if h : p.val = 127 then (if (i 0).val = 63 ∨ (i 0).val = 65 then (0 : EReal) else (show EReal from v44 (ix2 0 q))) else (show EReal from v27 (ix2 ⟨p.val + 1, by omega⟩ q))) * (show EReal from v57 (ix2 2 q))
      + (show EReal from v70 (ix2 0 q)) := by
  pointwise [tile, k0_pay9, k0_pay6, k0_pay7, k0_pay8, k0_pay2, k0_pay3]
  refine congrArg₂ (fun a b : EReal => a + b) (congrArg₂ (fun a b : EReal => a + b) (congrArg₂ (fun a b : EReal => a + b) (congrArg₂ (fun a b : EReal => a * b) ?_ rfl) rfl) (congrArg₂ (fun a b : EReal => a * b) ?_ rfl)) rfl
  · by_cases h8 : p.val < 8
    · rw [dif_pos h8]
      by_cases h0 : p.val = 0
      · refine (congrArg₂ (fun a b : EReal => a + b) (pay5_zero _ _ _ (Or.inl h0)) (sel _ _ _ _ (first_row p) (first_tile (i 0)) _)).trans ?_
        rw [if_pos h0, if_pos h0]
        exact zero_add _
      · refine (congrArg₂ (fun a b : EReal => a + b) (pay5_pick _ _ _ ⟨p.val - 1, by omega⟩ (Or.inl ⟨by simp only []; omega, by simp only []; omega⟩)) (sel _ _ _ _ (first_row p) (first_tile (i 0)) _)).trans ?_
        rw [if_neg h0, if_neg h0]
        exact add_zero _
    · rw [dif_neg h8]
      exact (pay5_pick _ _ _ ⟨p.val - 1, by omega⟩ (Or.inl ⟨by simp only []; omega, by simp only []; omega⟩)).trans (if_neg (by omega)).symm
  · by_cases h8 : p.val < 120
    · rw [dif_pos h8]
      refine (pay5_pick _ _ _ ⟨p.val + 1, by omega⟩ (Or.inr ⟨by simp only []; omega, by simp only []; omega⟩)).trans ?_
      rw [dif_neg (show ¬ p.val = 127 by omega)]
    · rw [dif_neg h8]
      by_cases h0 : p.val = 127
      · refine (congrArg₂ (fun a b : EReal => a + b) (pay5_zero _ _ _ (Or.inr (by simp only []; omega))) (sel _ _ _ _ (last_row p) (last_tile (i 0)) _)).trans ?_
        rw [if_pos h0, dif_pos h0]
        exact zero_add _
      · refine (congrArg₂ (fun a b : EReal => a + b) (pay5_pick _ _ _ ⟨p.val + 1, by omega⟩ (Or.inr ⟨by simp only []; omega, by simp only []; omega⟩)) (sel _ _ _ _ (last_row p) (last_tile (i 0)) _)).trans ?_
        rw [if_neg h0, dif_neg h0]
        exact add_zero _

/-- One entry of the stored block: the gate's silu times the value. -/
theorem pay15_at (i : grid0.Coords) (v72 v73 v78 v90 v103 v116) (y : S128x5504.Idx) :
    (k0_pay15 (F := Ideal) (k0_pay3 i) (iota .tc S8x5504 32 [0] iota_S8x5504_d0_w32) v72 v73 (k0_pay10 k0_pay4 v73) (k0_pay11 k0_pay4 v73) (k0_pay12 (iota .tc S8x5504 32 [0] iota_S8x5504_d0_w32)) (k0_pay13 v78) (k0_pay14 (k0_pay2 i)) v90 v103 v116 y : EReal)
      = (show EReal from tile i v73 v78 v90 v103 v116 y)
        * Ideal.div 1 (1 + Ideal.exp (-(show EReal from tile i v73 v78 v90 v103 v116 y))) * (show EReal from v72 y) := by
  have e : (k0_pay15 (F := Ideal) (k0_pay3 i) (iota .tc S8x5504 32 [0] iota_S8x5504_d0_w32) v72 v73 (k0_pay10 k0_pay4 v73) (k0_pay11 k0_pay4 v73) (k0_pay12 (iota .tc S8x5504 32 [0] iota_S8x5504_d0_w32)) (k0_pay13 v78) (k0_pay14 (k0_pay2 i)) v90 v103 v116)
      = truncf .bf16 (mulf (mulf (tile i v73 v78 v90 v103 v116) (divf (broadcast S128x5504 (Scalar.ofBits (F := Ideal) .f32 0x3F800000#32)) (addf (broadcast S128x5504 (Scalar.ofBits .f32 0x3F800000#32)) (exp (subf (broadcast S128x5504 (Scalar.ofBits .f32 0x00000000#32)) (tile i v73 v78 v90 v103 v116)))))) v72) bitsLt_bf16_f32 := rfl
  rw [e]
  generalize tile i v73 v78 v90 v103 v116 = z
  pointwise []
  rw [zero_sub]

variable (m : (ℓ : Loc nD τ sig) → Buf (Elt Ideal) ℓ)

/-- The blocks of the value columns, read off the arrays. -/
theorem v_at (c : Dev nD) (t : Fin cfg0.N) (p : Fin 128) (q : Fin 5504) (i : Fin 8448) (k : Fin 22016) (hi : i.val = t.val / 2 * 128 + p.val) (hk : k.val = 0 + t.val % 2 * 5504 + q.val) :
    iblk m c 0 t (ix2 p q) = m ((c : Thread nD τ).loc main_arg0) (ix2 i k) := by
  blk_point [iblk, V, idx t]

theorem vp_at (c : Dev nD) (t : Fin cfg0.N) (q : Fin 5504) (i : Fin 8448) (k : Fin 22016) (ht : t.val / 2 ≠ 0) (hi : i.val = t.val / 2 * 128 - 1) (hk : k.val = 0 + t.val % 2 * 5504 + q.val) :
    View.ld (iblk m c 1 t) (Rect.unit (s := S16x5504) ![15, 0] ![1, 5504] inb_S16x5504_S1x5504_15_0) (ix2 0 q) = m ((c : Thread nD τ).loc main_arg0) (ix2 i k) := by
  have e : i.val = (t.val / 2 * 8 - 1) * 16 + 15 := by omega
  blk_point [iblk, V, idx t]

theorem vn_at (c : Dev nD) (t : Fin cfg0.N) (q : Fin 5504) (i : Fin 8448) (k : Fin 22016) (ht : t.val / 2 < 65) (hi : i.val = t.val / 2 * 128 + 128) (hk : k.val = 0 + t.val % 2 * 5504 + q.val) :
    View.ld (iblk m c 2 t) (Rect.unit (s := S16x5504) ![0, 0] ![1, 5504] inb_S16x5504_S1x5504_0_0) (ix2 0 q) = m ((c : Thread nD τ).loc main_arg0) (ix2 i k) := by
  have e : i.val = min ((t.val / 2 + 1) * 8) 527 * 16 := by omega
  blk_point [iblk, V, idx t]

theorem vw_at (c : Dev nD) (t : Fin cfg0.N) (a : Fin 3) (q : Fin 5504) (k : Fin 22016) (hk : k.val = 0 + t.val % 2 * 5504 + q.val) :
    iblk m c 6 t (ix2 a q) = m ((c : Thread nD τ).loc main_arg1) (ix2 a k) := by
  blk_point [iblk, V, idx t]

theorem vb_at (c : Dev nD) (t : Fin cfg0.N) (q : Fin 5504) (k : Fin 22016) (hk : k.val = 0 + t.val % 2 * 5504 + q.val) :
    iblk m c 8 t (ix2 0 q) = m ((c : Thread nD τ).loc main_arg2) (ix2 0 k) := by
  blk_point [iblk, V, idx t]

/-- The blocks of the gate columns, read off the arrays. -/
theorem g_at (c : Dev nD) (t : Fin cfg0.N) (p : Fin 128) (q : Fin 5504) (i : Fin 8448) (k : Fin 22016) (hi : i.val = t.val / 2 * 128 + p.val) (hk : k.val = 11008 + t.val % 2 * 5504 + q.val) :
    iblk m c 3 t (ix2 p q) = m ((c : Thread nD τ).loc main_arg0) (ix2 i k) := by
  blk_point [iblk, V, idx t]

theorem gp_at (c : Dev nD) (t : Fin cfg0.N) (q : Fin 5504) (i : Fin 8448) (k : Fin 22016) (ht : t.val / 2 ≠ 0) (hi : i.val = t.val / 2 * 128 - 1) (hk : k.val = 11008 + t.val % 2 * 5504 + q.val) :
    View.ld (iblk m c 4 t) (Rect.unit (s := S16x5504) ![15, 0] ![1, 5504] inb_S16x5504_S1x5504_15_0) (ix2 0 q) = m ((c : Thread nD τ).loc main_arg0) (ix2 i k) := by
  have e : i.val = (t.val / 2 * 8 - 1) * 16 + 15 := by omega
  blk_point [iblk, V, idx t]

theorem gn_at (c : Dev nD) (t : Fin cfg0.N) (q : Fin 5504) (i : Fin 8448) (k : Fin 22016) (ht : t.val / 2 < 65) (hi : i.val = t.val / 2 * 128 + 128) (hk : k.val = 11008 + t.val % 2 * 5504 + q.val) :
    View.ld (iblk m c 5 t) (Rect.unit (s := S16x5504) ![0, 0] ![1, 5504] inb_S16x5504_S1x5504_0_0) (ix2 0 q) = m ((c : Thread nD τ).loc main_arg0) (ix2 i k) := by
  have e : i.val = min ((t.val / 2 + 1) * 8) 527 * 16 := by omega
  blk_point [iblk, V, idx t]

theorem gw_at (c : Dev nD) (t : Fin cfg0.N) (a : Fin 3) (q : Fin 5504) (k : Fin 22016) (hk : k.val = 11008 + t.val % 2 * 5504 + q.val) :
    iblk m c 7 t (ix2 a q) = m ((c : Thread nD τ).loc main_arg1) (ix2 a k) := by
  blk_point [iblk, V, idx t]

theorem gb_at (c : Dev nD) (t : Fin cfg0.N) (q : Fin 5504) (k : Fin 22016) (hk : k.val = 11008 + t.val % 2 * 5504 + q.val) :
    iblk m c 9 t (ix2 0 q) = m ((c : Thread nD τ).loc main_arg2) (ix2 0 k) := by
  blk_point [iblk, V, idx t]

/-- The convolution of the value columns at one entry of a block is the reference's. -/
theorem v_tile (c : Dev nD) (t : Fin cfg0.N) (p : Fin 128) (q : Fin 5504) (i : Fin 8448) (k : Fin 22016) (hi : i.val = t.val / 2 * 128 + p.val) (hk : k.val = 0 + t.val % 2 * 5504 + q.val) :
    (tile (grid0.coords t) (iblk m c 0 t) (View.ld (iblk m c 1 t) (Rect.unit (s := S16x5504) ![15, 0] ![1, 5504] inb_S16x5504_S1x5504_15_0)) (View.ld (iblk m c 2 t) (Rect.unit (s := S16x5504) ![0, 0] ![1, 5504] inb_S16x5504_S1x5504_0_0)) (iblk m c 6 t) (iblk m c 8 t) (ix2 p q) : EReal) = Cert.Act0RefIdeal.Row.T (m ((c : Thread nD τ).loc main_arg0)) (m ((c : Thread nD τ).loc main_arg1)) (m ((c : Thread nD τ).loc main_arg2)) (ix2 i k) := by
  have ht : t.val < 132 := lt_of_lt_of_eq t.isLt N_0
  have hc := coord0 t
  have hp := p.isLt
  have tap_eq (n : Nat) (a : Fin 8448) (h : n = a.val) : Cert.Act0RefIdeal.Row.tap (m ((c : Thread nD τ).loc main_arg0)) n k = m ((c : Thread nD τ).loc main_arg0) (ix2 a k) :=
    Cert.Act0RefIdeal.Row.tap_eq _ n k a h
  refine (tile_at _ _ _ _ _ _ p q).trans (Eq.trans ?_ (Cert.Act0RefIdeal.Row.T_at _ _ _ i k).symm)
  unfold Cert.Act0RefIdeal.Row.conv
  refine congrArg₂ (fun a b : EReal => a + b) (congrArg₂ (fun a b : EReal => a + b) (congrArg₂ (fun a b : EReal => a + b)
    (congrArg₂ (fun a b : EReal => a * b) ?_ (vw_at m c t 0 q k hk)) (congrArg₂ (fun a b : EReal => a * b) (((v_at m c t p q i k hi hk)).trans (tap_eq i.val i rfl).symm) (vw_at m c t 1 q k hk)))
    (congrArg₂ (fun a b : EReal => a * b) ?_ (vw_at m c t 2 q k hk))) (vb_at m c t q k hk)
  · by_cases e0 : p.val = 0
    · rw [if_pos e0]
      by_cases e1 : (grid0.coords t 0).val = 0 ∨ (grid0.coords t 0).val = 64
      · rw [if_pos e1]
        exact (if_pos (by omega)).symm
      · rw [if_neg e1]
        exact (vp_at m c t q ⟨t.val / 2 * 128 - 1, by omega⟩ k (by omega) rfl hk).trans ((if_neg (by omega)).trans (tap_eq _ _ (by simp only []; omega))).symm
    · rw [if_neg e0]
      exact (v_at m c t _ q ⟨t.val / 2 * 128 + p.val - 1, by omega⟩ k (by simp only []; omega) hk).trans ((if_neg (by omega)).trans (tap_eq _ _ (by simp only []; omega))).symm
  · by_cases e0 : p.val = 127
    · rw [dif_pos e0]
      by_cases e1 : (grid0.coords t 0).val = 63 ∨ (grid0.coords t 0).val = 65
      · rw [if_pos e1]
        exact (if_pos (by omega)).symm
      · rw [if_neg e1]
        exact (vn_at m c t q ⟨t.val / 2 * 128 + 128, by omega⟩ k (by omega) rfl hk).trans ((if_neg (by omega)).trans (tap_eq _ _ (by simp only []; omega))).symm
    · rw [dif_neg e0]
      exact (v_at m c t _ q ⟨t.val / 2 * 128 + p.val + 1, by omega⟩ k (by simp only []; omega) hk).trans ((if_neg (by omega)).trans (tap_eq _ _ (by simp only []; omega))).symm

/-- The convolution of the gate columns at one entry of a block is the reference's. -/
theorem g_tile (c : Dev nD) (t : Fin cfg0.N) (p : Fin 128) (q : Fin 5504) (i : Fin 8448) (k : Fin 22016) (hi : i.val = t.val / 2 * 128 + p.val) (hk : k.val = 11008 + t.val % 2 * 5504 + q.val) :
    (tile (grid0.coords t) (iblk m c 3 t) (View.ld (iblk m c 4 t) (Rect.unit (s := S16x5504) ![15, 0] ![1, 5504] inb_S16x5504_S1x5504_15_0)) (View.ld (iblk m c 5 t) (Rect.unit (s := S16x5504) ![0, 0] ![1, 5504] inb_S16x5504_S1x5504_0_0)) (iblk m c 7 t) (iblk m c 9 t) (ix2 p q) : EReal) = Cert.Act0RefIdeal.Row.T (m ((c : Thread nD τ).loc main_arg0)) (m ((c : Thread nD τ).loc main_arg1)) (m ((c : Thread nD τ).loc main_arg2)) (ix2 i k) := by
  have ht : t.val < 132 := lt_of_lt_of_eq t.isLt N_0
  have hc := coord0 t
  have hp := p.isLt
  have tap_eq (n : Nat) (a : Fin 8448) (h : n = a.val) : Cert.Act0RefIdeal.Row.tap (m ((c : Thread nD τ).loc main_arg0)) n k = m ((c : Thread nD τ).loc main_arg0) (ix2 a k) :=
    Cert.Act0RefIdeal.Row.tap_eq _ n k a h
  refine (tile_at _ _ _ _ _ _ p q).trans (Eq.trans ?_ (Cert.Act0RefIdeal.Row.T_at _ _ _ i k).symm)
  unfold Cert.Act0RefIdeal.Row.conv
  refine congrArg₂ (fun a b : EReal => a + b) (congrArg₂ (fun a b : EReal => a + b) (congrArg₂ (fun a b : EReal => a + b)
    (congrArg₂ (fun a b : EReal => a * b) ?_ (gw_at m c t 0 q k hk)) (congrArg₂ (fun a b : EReal => a * b) (((g_at m c t p q i k hi hk)).trans (tap_eq i.val i rfl).symm) (gw_at m c t 1 q k hk)))
    (congrArg₂ (fun a b : EReal => a * b) ?_ (gw_at m c t 2 q k hk))) (gb_at m c t q k hk)
  · by_cases e0 : p.val = 0
    · rw [if_pos e0]
      by_cases e1 : (grid0.coords t 0).val = 0 ∨ (grid0.coords t 0).val = 64
      · rw [if_pos e1]
        exact (if_pos (by omega)).symm
      · rw [if_neg e1]
        exact (gp_at m c t q ⟨t.val / 2 * 128 - 1, by omega⟩ k (by omega) rfl hk).trans ((if_neg (by omega)).trans (tap_eq _ _ (by simp only []; omega))).symm
    · rw [if_neg e0]
      exact (g_at m c t _ q ⟨t.val / 2 * 128 + p.val - 1, by omega⟩ k (by simp only []; omega) hk).trans ((if_neg (by omega)).trans (tap_eq _ _ (by simp only []; omega))).symm
  · by_cases e0 : p.val = 127
    · rw [dif_pos e0]
      by_cases e1 : (grid0.coords t 0).val = 63 ∨ (grid0.coords t 0).val = 65
      · rw [if_pos e1]
        exact (if_pos (by omega)).symm
      · rw [if_neg e1]
        exact (gn_at m c t q ⟨t.val / 2 * 128 + 128, by omega⟩ k (by omega) rfl hk).trans ((if_neg (by omega)).trans (tap_eq _ _ (by simp only []; omega))).symm
    · rw [dif_neg e0]
      exact (g_at m c t _ q ⟨t.val / 2 * 128 + p.val + 1, by omega⟩ k (by simp only []; omega) hk).trans ((if_neg (by omega)).trans (tap_eq _ _ (by simp only []; omega))).symm

theorem off10 (t : Fin cfg0.N) (y : S128x5632.Idx) (a : Fin 2) :
    (((View.whole main_v0).slice ((win0 10).rect t)).emb y a).val = win0_10.index t a * S128x5632.size a + 1 * (y a).val := rfl

theorem point (c : Dev nD) (t : Fin cfg0.N) (y : S128x5632.Idx) :
    outsAt0 m c t y = Cert.Act0RefIdeal.Row.REF (m ((c : Thread nD τ).loc main_arg0)) (m ((c : Thread nD τ).loc main_arg1)) (m ((c : Thread nD τ).loc main_arg2)) (((View.whole main_v0).slice ((win0 10).rect t)).emb y) := by
  have h0 : ((((View.whole main_v0).slice ((win0 10).rect t)).emb y) 0).val = t.val / 2 * 128 + (y 0).val := (off10 t y 0).trans (by simp [idx t])
  have h1 : ((((View.whole main_v0).slice ((win0 10).rect t)).emb y) 1).val = t.val % 2 * 5632 + (y 1).val := (off10 t y 1).trans (by simp [idx t])
  have ht : t.val < 132 := lt_of_lt_of_eq t.isLt N_0
  have hy0 : (y 0).val < 128 := (y 0).isLt
  have hy1 : (y 1).val < 5632 := (y 1).isLt
  generalize ((View.whole main_v0).slice ((win0 10).rect t)).emb y = j at h0 h1 ⊢
  unfold outsAt0
  frame_out
  canon_tiles x g using View.cover_of_tiledBy _ ![128, 128] (by sl_kernel_rfl) y
  · refine Eq.trans ?_ (Cert.Act0RefIdeal.Row.REF_pad _ _ _ j (by omega)).symm
    pointwise [k0_pay1]
  · obtain ⟨p, q, rfl⟩ : ∃ (p : Fin 128) (q : Fin 5504), x = ix2 p q := ⟨x 0, x 1, by funext a; match a with | 0 => rfl | 1 => rfl⟩
    replace g0 : (y 0).val = p.val := g0
    replace g1 : (y 1).val = q.val := g1
    have hq := q.isLt
    refine (pay15_at _ _ _ _ _ _ _ _).trans ?_
    have h2 : (j 0).val = t.val / 2 * 128 + p.val := by omega
    rcases Nat.mod_two_eq_zero_or_one t.val with e | e
    · refine Eq.trans ?_ (Cert.Act0RefIdeal.Row.REF_lo _ _ _ j (by omega)).symm
      rw [← v_tile m c t p q (j 0) _ h2 (by simp only []; omega), ← g_tile m c t p q (j 0) _ h2 (by simp only []; omega)]
      rfl
    · refine Eq.trans ?_ (Cert.Act0RefIdeal.Row.REF_hi _ _ _ j (by omega) (by omega)).symm
      rw [← v_tile m c t p q (j 0) _ h2 (by simp only []; omega), ← g_tile m c t p q (j 0) _ h2 (by simp only []; omega)]
      rfl

theorem final (c : Dev nD) : (dats m 0 c).arrAt 10 (cfgs 0).N = Cert.Act0RefIdeal.Row.REF (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  exact point m c t y

end Cert.Act0Ideal.Row
end
-- ==== Proof.AdaVal.lean ====
module

public import proofs.«01_k».proof.Proof.Gen.AdaIdeal.Value
public import proofs.«01_k».proof.Proof.Gen.AdaRefIdeal.Run
public import Idealize.ShloMosaic.Lib.Pipeline.ValueKit

@[expose] public section

set_option maxRecDepth 16384

noncomputable section

/-! # The modulation of both layers -/

namespace Cert.AdaRefIdeal.Row

open Idealize.ShloMosaic Idealize.ShloMosaic.TcCoe Idealize.SL.Sem
open Cert.AdaRefIdeal Cert.AdaRefIdeal.Gen

/-- The reference's array. -/
abbrev REF (x0 : FVec Ideal S16x4096 .f32) (x1 : FVec Ideal S2x4096x24576 .f32) (x2 : FVec Ideal S2x24576 .f32) : FVec Ideal S2x16x24576 .f32 :=
  concatenate S2x16x24576 0 [⟨S1x16x24576, (broadcastInDim S1x16x24576 ![1, 2] bcast_S16x24576_S1x16x24576_1_2 (addf (Host.dotGeneral dot_S16x4096_S4096x24576_S16x24576_1_0_0_1_n_n none (mulf x0 (Host.divf (broadcastInDim S16x4096 ![] bcast_S_S16x4096 (constant S_ .f32 0x3F800000#32)) (addf (broadcastInDim S16x4096 ![] bcast_S_S16x4096 (constant S_ .f32 0x3F800000#32)) (Host.exp (Host.negf x0))))) (shapeCast _ (extractStridedSlice S1x4096x24576 ![0, 0, 0] x1 slices_S2x4096x24576_S1x4096x24576_0_0_0) shapeCasts_S1x4096x24576_S4096x24576)) (broadcastInDim S16x24576 ![0, 1] bcast_S1x24576_S16x24576_0_1 (broadcastInDim S1x24576 ![1] bcast_S24576_S1x24576_1 (shapeCast _ (extractStridedSlice S1x24576 ![0, 0] x2 slices_S2x24576_S1x24576_0_0) shapeCasts_S1x24576_S24576)))))⟩, ⟨S1x16x24576, (broadcastInDim S1x16x24576 ![1, 2] bcast_S16x24576_S1x16x24576_1_2 (addf (Host.dotGeneral dot_S16x4096_S4096x24576_S16x24576_1_0_0_1_n_n none (mulf x0 (Host.divf (broadcastInDim S16x4096 ![] bcast_S_S16x4096 (constant S_ .f32 0x3F800000#32)) (addf (broadcastInDim S16x4096 ![] bcast_S_S16x4096 (constant S_ .f32 0x3F800000#32)) (Host.exp (Host.negf x0))))) (shapeCast _ (extractStridedSlice S1x4096x24576 ![1, 0, 0] x1 slices_S2x4096x24576_S1x4096x24576_1_0_0) shapeCasts_S1x4096x24576_S4096x24576)) (broadcastInDim S16x24576 ![0, 1] bcast_S1x24576_S16x24576_0_1 (broadcastInDim S1x24576 ![1] bcast_S24576_S1x24576_1 (shapeCast _ (extractStridedSlice S1x24576 ![1, 0] x2 slices_S2x24576_S1x24576_1_0) shapeCasts_S1x24576_S24576)))))⟩] concatenates_S1x16x24576_S1x16x24576_S2x16x24576_d0

/-- One entry of the reference's array: the silu of a row against a column of a layer's weight, and the bias. -/
theorem REF_at (x0 x1 x2) (j : S2x16x24576.Idx) (l : Fin 2) (i : Fin 16) (k : Fin 24576) (hl : j 0 = l) (hi : j 1 = i) (hk : j 2 = k) :
    (REF x0 x1 x2 j : EReal) = (∑ x : Fin 4096, (show EReal from x0 (ix2 i x)) * Ideal.div 1 (1 + Ideal.exp (-(show EReal from x0 (ix2 i x)))) * (show EReal from x1 (ix3 l x k)))
      + (show EReal from x2 (ix2 l k)) := by
  subst hl hi hk
  obtain ⟨l, i, k, rfl⟩ : ∃ (l : Fin 2) (i : Fin 16) (k : Fin 24576), j = ix3 l i k := ⟨j 0, j 1, j 2, by funext a; match a with | 0 => rfl | 1 => rfl | 2 => rfl⟩
  pointwise [REF]
  match l with
  | 0 => rfl
  | 1 => rfl

end Cert.AdaRefIdeal.Row

namespace Cert.AdaIdeal.Row

open Idealize.ShloMosaic Idealize.ShloMosaic.TcCoe Idealize.SL.Sem
open Idealize.ShloMosaic.Pipeline (Dat)
open Cert.AdaIdeal Cert.AdaIdeal.Gen

/-- Where each block of a grid point sits. -/
theorem idx : ∀ t : Fin cfg0.N, win0_0.index t = ![0, 0]
    ∧ win0_1.index t = ![t.val / 48, 0, t.val % 48]
    ∧ win0_2.index t = ![t.val / 48, 0, t.val % 48]
    ∧ win0_3.index t = ![t.val / 48, 0, t.val % 48] :=
  (by decide +kernel : ∀ t : Fin grid0.N, _)

/-- One entry of what a grid point writes. -/
theorem pay_at (v0 v10 v14) (y : S1x16x512.Idx) :
    (k0_pay1 (F := Ideal) v0 v10 v14 y : EReal) = (∑ x : Fin 4096, (show EReal from v0 (ix2 (y 1) x)) * Ideal.div 1 (1 + Ideal.exp (-(show EReal from v0 (ix2 (y 1) x)))) * (show EReal from v10 (ix3 0 x (y 2))))
      + (show EReal from v14 (ix3 0 0 (y 2))) := by
  pointwise [k0_pay1]
  simp only [zero_sub]

variable (m : (ℓ : Loc nD τ sig) → Buf (Elt Ideal) ℓ)

theorem x_at (c : Dev nD) (t : Fin cfg0.N) (p : Fin 16) (q : Fin 4096) :
    iblk m c 0 t (ix2 p q) = m ((c : Thread nD τ).loc main_arg0) (ix2 p q) := by
  blk_point [iblk, V, idx t]

theorem w_at (c : Dev nD) (t : Fin cfg0.N) (x : Fin 4096) (q : Fin 512) (l : Fin 2) (k : Fin 24576) (hl : l.val = t.val / 48) (hk : k.val = t.val % 48 * 512 + q.val) :
    iblk m c 1 t (ix3 0 x q) = m ((c : Thread nD τ).loc main_arg1) (ix3 l x k) := by
  blk_point [iblk, V, idx t]

theorem b_at (c : Dev nD) (t : Fin cfg0.N) (q : Fin 512) (l : Fin 2) (k : Fin 24576) (hl : l.val = t.val / 48) (hk : k.val = t.val % 48 * 512 + q.val) :
    iblk m c 2 t (ix3 0 0 q) = m ((c : Thread nD τ).loc main_arg2) (ix2 l k) := by
  blk_point [iblk, V, idx t]

theorem off3 (t : Fin cfg0.N) (y : S1x16x512.Idx) (a : Fin 3) :
    (((View.whole main_v1).slice ((win0 3).rect t)).emb y a).val = win0_3.index t a * S1x16x512.size a + 1 * (y a).val := rfl

theorem point (c : Dev nD) (t : Fin cfg0.N) (y : S1x16x512.Idx) : k0_pay1 (F := Ideal) (iblk m c 0 t) (iblk m c 1 t) (iblk m c 2 t) y
    = Cert.AdaRefIdeal.Row.REF (m ((c : Thread nD τ).loc main_arg0)) (m ((c : Thread nD τ).loc main_arg1)) (m ((c : Thread nD τ).loc main_arg2)) (((View.whole main_v1).slice ((win0 3).rect t)).emb y) := by
  have h0 : (((View.whole main_v1).slice ((win0 3).rect t)).emb y 0).val = t.val / 48 := (off3 t y 0).trans (by
    have : (y 0).val < 1 := (y 0).isLt
    simp [idx t])
  have h1 : (((View.whole main_v1).slice ((win0 3).rect t)).emb y 1).val = (y 1).val := (off3 t y 1).trans (by simp [idx t])
  have h2 : (((View.whole main_v1).slice ((win0 3).rect t)).emb y 2).val = t.val % 48 * 512 + (y 2).val := (off3 t y 2).trans (by simp [idx t])
  generalize ((View.whole main_v1).slice ((win0 3).rect t)).emb y = j at h0 h1 h2 ⊢
  refine (pay_at _ _ _ _).trans (Eq.trans ?_ (Cert.AdaRefIdeal.Row.REF_at _ _ _ j (j 0) (y 1) (j 2) rfl (Fin.ext h1) rfl).symm)
  refine congrArg₂ (fun a b : EReal => a + b) (Finset.sum_congr rfl fun x _ => ?_) (b_at m c t (y 2) (j 0) (j 2) h0 h2)
  exact congrArg₂ (fun a b : EReal => a * Ideal.div 1 (1 + Ideal.exp (-a)) * b) (x_at m c t (y 1) x) (w_at m c t x (y 2) (j 0) (j 2) h0 h2)

theorem final (c : Dev nD) : (dats m 0 c).arrAt 3 (cfgs 0).N = Cert.AdaRefIdeal.Row.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.AdaIdeal.Row

end
-- ==== Proof.UpVal.lean ====
module

public import proofs.«01_k».proof.Proof.Gen.UpIdeal.Value
public import proofs.«01_k».proof.Proof.Gen.UpRefIdeal.Run
public import Idealize.ShloMosaic.Lib.Pipeline.ValueKit

@[expose] public section

set_option maxRecDepth 16384

noncomputable section

/-! # The up projection of the feed-forward block -/

namespace Cert.UpRefIdeal.Row

open Idealize.ShloMosaic Idealize.ShloMosaic.TcCoe Idealize.SL.Sem
open Cert.UpRefIdeal Cert.UpRefIdeal.Gen

/-- The reference's array: the plain product. -/
abbrev REF (x0 : FVec Ideal S8192x4096 .bf16) (x1 : FVec Ideal S2x4096x22016 .f32) : FVec Ideal S8192x22016 .bf16 :=
  truncf .bf16 (Host.dotGeneral dot_S8192x4096_S4096x22016_S8192x22016_1_0_0_1_n_n none (extf .f32 x0 bitsLt_bf16_f32) (shapeCast _ (extractStridedSlice S1x4096x22016 ![1, 0, 0] x1 slices_S2x4096x22016_S1x4096x22016_1_0_0) shapeCasts_S1x4096x22016_S4096x22016)) bitsLt_bf16_f32

end Cert.UpRefIdeal.Row

namespace Cert.UpIdeal.Row

open Idealize.ShloMosaic Idealize.ShloMosaic.TcCoe Idealize.SL.Sem
open Idealize.ShloMosaic.Pipeline (Dat)
open Cert.UpIdeal Cert.UpIdeal.Gen

/-- Where each block of a grid point sits. -/
theorem idx : ∀ t : Fin cfg0.N, win0_0.index t = ![t.val / 43, 0] ∧ win0_1.index t = ![1, 0, t.val % 43]
    ∧ win0_2.index t = ![t.val / 43, t.val % 43] :=
  (by decide +kernel : ∀ t : Fin grid0.N, _)

variable (m : (ℓ : Loc nD τ sig) → Buf (Elt Ideal) ℓ)

theorem point (c : Dev nD) (t : Fin cfg0.N) (y) : k0_pay1 (F := Ideal) (iblk m c 1 t) (iblk m c 0 t) y
    = Cert.UpRefIdeal.Row.REF (m ((c : Thread nD τ).loc main_arg0)) (m ((c : Thread nD τ).loc main_arg1)) (((cfg0.win 2).blk t).view.emb y) := by
  pointwise [k0_pay1, Cert.UpRefIdeal.Row.REF]
  blk_point [iblk, V, idx t]

theorem final (c : Dev nD) : (dats m 0 c).arrAt 2 (cfgs 0).N = Cert.UpRefIdeal.Row.REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.UpIdeal.Row

end
-- ==== Proof.GatesVal.lean ====
module

public import proofs.«01_k».proof.Proof.Gen.GatesIdeal.Value
public import proofs.«01_k».proof.Proof.Gen.GatesRefIdeal.Run
public import Idealize.ShloMosaic.Lib.Pipeline.ValueKit

@[expose] public section

set_option maxRecDepth 16384

noncomputable section

/-! # The branch gates -/

namespace Cert.GatesRefIdeal.Row

open Idealize.ShloMosaic Idealize.ShloMosaic.TcCoe Idealize.SL.Sem
open Cert.GatesRefIdeal Cert.GatesRefIdeal.Gen

/-- The reference's array: the sigmoid of the product and the bias. -/
abbrev REF (x0 : FVec Ideal S8448x4096 .bf16) (x1 : FVec Ideal S2x21920x4096 .f32) (x2 : FVec Ideal S12288 .f32) : FVec Ideal S8192x12288 .bf16 :=
  truncf .bf16 (Host.divf (broadcastInDim S8192x12288 ![] bcast_S_S8192x12288 (constant S_ .f32 0x3F800000#32)) (addf (broadcastInDim S8192x12288 ![] bcast_S_S8192x12288 (constant S_ .f32 0x3F800000#32)) (Host.exp (Host.negf (addf (Host.dotGeneral dot_S8192x4096_S4096x12288_S8192x12288_1_0_0_1_n_n none (extf .f32 (extractStridedSlice S8192x4096 ![0, 0] x0 slices_S8448x4096_S8192x4096_0_0) bitsLt_bf16_f32) (transpose S4096x12288 [1, 0] (shapeCast _ (extractStridedSlice S1x12288x4096 ![1, 9632, 0] x1 slices_S2x21920x4096_S1x12288x4096_1_9632_0) shapeCasts_S1x12288x4096_S12288x4096) transposes_S12288x4096_S4096x12288_1_0)) (broadcastInDim S8192x12288 ![0, 1] bcast_S1x12288_S8192x12288_0_1 (broadcastInDim S1x12288 ![1] bcast_S12288_S1x12288_1 x2))))))) bitsLt_bf16_f32

end Cert.GatesRefIdeal.Row

namespace Cert.GatesIdeal.Row

open Idealize.ShloMosaic Idealize.ShloMosaic.TcCoe Idealize.SL.Sem
open Idealize.ShloMosaic.Pipeline (Dat)
open Cert.GatesIdeal Cert.GatesIdeal.Gen

/-- Where each block of a grid point sits. -/
theorem idx : ∀ t : Fin cfg0.N, win0_0.index t = ![t.val / 24, 0]
    ∧ win0_1.index t = ![1, 9632 + t.val % 24 * 512, 0]
    ∧ win0_2.index t = ![0, t.val % 24]
    ∧ win0_3.index t = ![t.val / 24, t.val % 24] :=
  (by decide +kernel : ∀ t : Fin grid0.N, _)

variable (m : (ℓ : Loc nD τ sig) → Buf (Elt Ideal) ℓ)

/-- Where a coordinate of the result's block lands in the result. -/
theorem off3 (t : Fin cfg0.N) (y) (a : Fin 2) :
    (((View.whole main_v1).slice ((win0 3).rect t)).emb y a).val = win0_3.index t a * S1024x512.size a + 1 * (y a).val := rfl

/-- Where a coordinate of the weight's block lands in the weight. -/
theorem off1 (t : Fin cfg0.N) (y) (a) :
    (((View.whole main_arg1).slice (win0_1.rect t)).emb y a).val = win0_1.index t a + 1 * (y a).val := rfl

/-- An entry of a block of rows, read off the array it is a block of. -/
theorem row_at (c : Dev nD) (t : Fin cfg0.N) (p : Fin 1024) (x : Fin 4096) (i : Fin 8448) (hi : i.val = t.val / 24 * 1024 + p.val) :
    X0_0 m c t (ix2 p x) = m ((c : Thread nD τ).loc main_arg0) (ix2 i x) := by
  unfold X0_0 Pipeline.Window.fill
  rw [dif_pos (moved0_0 t _)]
  unfold iblk
  refine (congrFun (V_main_arg0 m c) _).trans (congrArg _ (funext fun a => Fin.ext ?_))
  refine (show _ = win0_0.index t a * S1024x4096.size a + 1 * ((ix2 p x : S1024x4096.Idx) a).val from rfl).trans ?_
  fin_cases a
  · simp [idx t, hi]
  · simp [idx t]

/-- An entry of a block of the weight, read off the weight. -/
theorem weight_at (c : Dev nD) (t : Fin cfg0.N) (q : Fin 512) (x : Fin 4096) (i : Fin 21920) (hi : i.val = 9632 + t.val % 24 * 512 + q.val) :
    iblk m c 1 t (ix3 0 q x) = m ((c : Thread nD τ).loc main_arg1) (ix3 1 i x) := by
  unfold iblk
  refine (congrFun (V_main_arg1 m c) _).trans (congrArg _ (funext fun a => Fin.ext ?_))
  refine (off1 t _ a).trans ?_
  fin_cases a
  · simp [idx t]
  · simp [idx t, hi]
  · simp [idx t]

/-- An entry of a block of the bias, read off the bias. -/
theorem bias_at (c : Dev nD) (t : Fin cfg0.N) (q : Fin 512) (i : Fin 12288) (hi : i.val = t.val % 24 * 512 + q.val) :
    iblk m c 2 t (ix2 0 q) = m ((c : Thread nD τ).loc main_arg2) (ix1 i) := by
  blk_point [iblk, V, idx t]

theorem point (c : Dev nD) (t : Fin cfg0.N) (y) : k0_pay1 (F := Ideal) (iblk m c 1 t) (X0_0 m c t) (iblk m c 2 t) y
    = Cert.GatesRefIdeal.Row.REF (m ((c : Thread nD τ).loc main_arg0)) (m ((c : Thread nD τ).loc main_arg1)) (m ((c : Thread nD τ).loc main_arg2)) (((cfg0.win 3).blk t).view.emb y) := by
  pointwise [k0_pay1, Cert.GatesRefIdeal.Row.REF]
  have h0 : (((View.whole main_v1).slice ((win0 3).rect t)).emb y 0).val = t.val / 24 * 1024 + (y 0).val :=
    (off3 t y 0).trans (by simp [idx t])
  have h1 : (((View.whole main_v1).slice ((win0 3).rect t)).emb y 1).val = t.val % 24 * 512 + (y 1).val :=
    (off3 t y 1).trans (by simp [idx t])
  rw [zero_sub, bias_at m c t (y 1) _ h1]
  refine congrArg (fun s : EReal => Ideal.div 1 (1 + Ideal.exp (-(s + _)))) (Finset.sum_congr rfl fun x _ => ?_)
  exact congrArg₂ (fun a b : EReal => a * b) (row_at m c t (y 0) x _ h0)
    (weight_at m c t (y 1) x _ (by show 9632 + _ = _; rw [h1]; omega))

theorem final (c : Dev nD) : (dats m 0 c).arrAt 3 (cfgs 0).N = Cert.GatesRefIdeal.Row.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  exact point m c t y

end Cert.GatesIdeal.Row

end
-- ==== Proof.QkvcVal.lean ====
module

public import proofs.«01_k».proof.Proof.Gen.QkvcIdeal.Value
public import proofs.«01_k».proof.Proof.Gen.QkvcRefIdeal.Run
public import Idealize.ShloMosaic.Lib.Pipeline.ValueKit

@[expose] public section

set_option maxRecDepth 16384

noncomputable section

/-! # The projection to queries, keys, values and convolution inputs -/

namespace Cert.QkvcRefIdeal.Row

open Idealize.ShloMosaic Idealize.ShloMosaic.TcCoe Idealize.SL.Sem
open Cert.QkvcRefIdeal Cert.QkvcRefIdeal.Gen

/-- The reference's array: the plain product. -/
abbrev REF (x0 : FVec Ideal S8448x4096 .bf16) (x1 : FVec Ideal S2x21920x4096 .f32) : FVec Ideal S8448x6144 .bf16 :=
  truncf .bf16 (Host.dotGeneral dot_S8448x4096_S4096x6144_S8448x6144_1_0_0_1_n_n none (extf .f32 x0 bitsLt_bf16_f32) (transpose S4096x6144 [1, 0] (shapeCast _ (extractStridedSlice S1x6144x4096 ![1, 0, 0] x1 slices_S2x21920x4096_S1x6144x4096_1_0_0) shapeCasts_S1x6144x4096_S6144x4096) transposes_S6144x4096_S4096x6144_1_0)) bitsLt_bf16_f32

end Cert.QkvcRefIdeal.Row

namespace Cert.QkvcIdeal.Row

open Idealize.ShloMosaic Idealize.ShloMosaic.TcCoe Idealize.SL.Sem
open Idealize.ShloMosaic.Pipeline (Dat)
open Cert.QkvcIdeal Cert.QkvcIdeal.Gen

/-- Where each block of a grid point sits. -/
theorem idx : ∀ t : Fin cfg0.N, win0_0.index t = ![t.val / 12, 0]
    ∧ win0_1.index t = ![1, t.val % 12 * 512, 0]
    ∧ win0_2.index t = ![t.val / 12, t.val % 12] :=
  (by decide +kernel : ∀ t : Fin grid0.N, _)

variable (m : (ℓ : Loc nD τ sig) → Buf (Elt Ideal) ℓ)

/-- Where a coordinate of the weight's block lands in the weight. -/
theorem off1 (t : Fin cfg0.N) (y) (a) : (((View.whole main_arg1).slice (win0_1.rect t)).emb y a).val = win0_1.index t a + 1 * (y a).val := rfl

theorem point (c : Dev nD) (t : Fin cfg0.N) (y) : k0_pay1 (F := Ideal) (iblk m c 1 t) (iblk m c 0 t) y
    = Cert.QkvcRefIdeal.Row.REF (m ((c : Thread nD τ).loc main_arg0)) (m ((c : Thread nD τ).loc main_arg1)) (((cfg0.win 2).blk t).view.emb y) := by
  pointwise [k0_pay1, Cert.QkvcRefIdeal.Row.REF]
  blk_point [iblk, V, idx t]
  all_goals
    first
      | exact (off1 t _ 0).trans (by simp [idx t])
      | exact (off1 t _ 1).trans (by simp [idx t])
      | exact (off1 t _ 2).trans (by simp [idx t])

theorem final (c : Dev nD) : (dats m 0 c).arrAt 2 (cfgs 0).N = Cert.QkvcRefIdeal.Row.REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.QkvcIdeal.Row

end
-- ==== Proof.DownVal.lean ====
module

public import proofs.«01_k».proof.Proof.Gen.DownIdeal.Value
public import proofs.«01_k».proof.Proof.Gen.DownRefIdeal.Run
public import Idealize.ShloMosaic.Lib.Pipeline.ValueKit

@[expose] public section

set_option maxRecDepth 16384

noncomputable section

/-! # The down projection with its gated residual -/

namespace Cert.DownRefIdeal.Row

open Idealize.ShloMosaic Idealize.ShloMosaic.TcCoe Idealize.SL.Sem
open Cert.DownRefIdeal Cert.DownRefIdeal.Gen

/-- The reference's array. -/
abbrev REF (x0 : FVec Ideal S8192x11264 .bf16) (x1 : FVec Ideal S2x11264x4096 .bf16) (x2 : FVec Ideal S8192x4096 .f32) (x3 : FVec Ideal S2x4096 .f32) : FVec Ideal S8192x4096 .f32 :=
  addf x2 (mulf (broadcastInDim S8192x4096 ![0, 1] bcast_S1x4096_S8192x4096_0_1 (broadcastInDim S1x4096 ![1] bcast_S4096_S1x4096_1 (shapeCast _ (extractStridedSlice S1x4096 ![0, 0] x3 slices_S2x4096_S1x4096_0_0) shapeCasts_S1x4096_S4096))) (Host.dotGeneral dot_S8192x11264_S11264x4096_S8192x4096_1_0_0_1_n_n none (extf .f32 x0 bitsLt_bf16_f32) (extf .f32 (shapeCast _ (extractStridedSlice S1x11264x4096 ![1, 0, 0] x1 slices_S2x11264x4096_S1x11264x4096_1_0_0) shapeCasts_S1x11264x4096_S11264x4096) bitsLt_bf16_f32)))

/-- One entry of the reference's array. -/
theorem REF_at (x0 x1 x2 x3) (j : S8192x4096.Idx) :
    REF x0 x1 x2 x3 j = x2 j + x3 (ix2 0 (j 1)) * ∑ l : Fin 11264, x0 (ix2 (j 0) l) * x1 (ix3 1 l (j 1)) := by
  pointwise [REF]

end Cert.DownRefIdeal.Row

namespace Cert.DownIdeal.Row

open Idealize.ShloMosaic Idealize.ShloMosaic.TcCoe Idealize.SL.Sem
open Idealize.ShloMosaic.Pipeline (Dat)
open Cert.DownIdeal Cert.DownIdeal.Gen

/-- Where each block of a grid point sits. -/
theorem idx : ∀ t : Fin cfg0.N, win0_0.index t = ![t.val / 16, t.val % 4]
    ∧ win0_1.index t = ![1, t.val % 4, t.val / 4 % 4]
    ∧ win0_2.index t = ![t.val / 16, t.val / 4 % 4]
    ∧ win0_3.index t = ![0, t.val / 4 % 4]
    ∧ win0_4.index t = ![t.val / 16, t.val / 4 % 4] :=
  (by decide +kernel : ∀ t : Fin grid0.N, _)

variable (m : (ℓ : Loc nD τ sig) → Buf (Elt Ideal) ℓ)

/-- The first run of lanes: the product of the two blocks. -/
theorem first_at (x1 x0) (j) : k0_pay2 (F := Ideal) x1 x0 j
    = 0 + ∑ k : Fin 2816, x0 (ix2 (j 0) k) * x1 (ix3 0 k (j 1)) := by
  pointwise [k0_pay2, k0_pay1]

/-- A later run of lanes: the product of the two blocks is added. -/
theorem later_at (x1 x0 acc) (j) : k0_pay3 (F := Ideal) x1 x0 acc j
    = acc j + ∑ k : Fin 2816, x0 (ix2 (j 0) k) * x1 (ix3 0 k (j 1)) := by
  pointwise [k0_pay3, k0_pay1]

/-- Every row of every block lies below row 8192. -/
theorem low_row : ∀ (a : Fin 8) (p : Fin 1024),
    IntOp.cmpi CmpIPredicate.slt (IntOp.addi (Scalar.muli (BitVec.ofNat 32 a.val) 1024#32) (BitVec.ofNat 32 p.val)) 8192#32 = 1#1 := by
  decide +kernel

theorem low (t : Fin cfg0.N) (p : Fin 1024) :
    IntOp.cmpi CmpIPredicate.slt
      (IntOp.addi (Scalar.muli (BitVec.ofNat 32 (grid0.coords t 0).val) 1024#32) (BitVec.ofNat 32 p.val)) 8192#32 = 1#1 :=
  low_row (grid0.coords t 0) p

theorem select_one (a b : EReal) : Scalar.select (1#1) a b = a := rfl

theorem eta2 {a b : Nat} (y : (⟨2, ![a, b]⟩ : Shape).Idx) : y = ix2 (y 0) (y 1) := by
  funext i
  fin_cases i <;> rfl

/-- An entry of a block of rows, read off the array it is a block of. -/
theorem row_at (c : Dev nD) (t : Fin cfg0.N) (p : Fin 1024) (x : Fin 2816) (i : Fin 8192) (l : Fin 11264)
    (hi : i.val = t.val / 16 * 1024 + p.val) (hl : l.val = t.val % 4 * 2816 + x.val) :
    iblk m c 0 t (ix2 p x) = m ((c : Thread nD τ).loc main_arg0) (ix2 i l) := by
  blk_point [iblk, V, idx t]

/-- An entry of a block of the weight, read off the weight. -/
theorem weight_at (c : Dev nD) (t : Fin cfg0.N) (x : Fin 2816) (q : Fin 1024) (l : Fin 11264) (k : Fin 4096)
    (hl : l.val = t.val % 4 * 2816 + x.val) (hk : k.val = t.val / 4 % 4 * 1024 + q.val) :
    iblk m c 1 t (ix3 0 x q) = m ((c : Thread nD τ).loc main_arg1) (ix3 1 l k) := by
  blk_point [iblk, V, idx t]

/-- An entry of a block of the gate's first row, read off the gate. -/
theorem gate_at (c : Dev nD) (t : Fin cfg0.N) (q : Fin 1024) (k : Fin 4096) (hk : k.val = t.val / 4 % 4 * 1024 + q.val) :
    iblk m c 3 t (ix2 0 q) = m ((c : Thread nD τ).loc main_arg3) (ix2 0 k) := by
  blk_point [iblk, V, idx t]

/-- An entry of a block of the stream, read off the array it is a block of. -/
theorem res_at (c : Dev nD) (t : Fin cfg0.N) (j : S1024x1024.Idx) (i : S8192x4096.Idx)
    (hi : (i 0).val = t.val / 16 * 1024 + (j 0).val) (hk : (i 1).val = t.val / 4 % 4 * 1024 + (j 1).val) :
    iblk m c 2 t j = m ((c : Thread nD τ).loc main_arg2) i := by
  blk_point [iblk, V, idx t]

/-- The accumulator after the last run of lanes: the product over all lanes. -/
theorem sum_at (c : Dev nD) (t : Fin cfg0.N) (hf : t.val % 4 = 3) (j : S1024x1024.Idx) (i : Fin 8192) (q : Fin 4096)
    (hi : i.val = t.val / 16 * 1024 + (j 0).val) (hq : q.val = t.val / 4 % 4 * 1024 + (j 1).val) :
    ((outsAt0 m c t.val t.isLt).2 j : EReal)
      = ∑ l : Fin 11264, (show EReal from m ((c : Thread nD τ).loc main_arg0) (ix2 i l)) * (show EReal from m ((c : Thread nD τ).loc main_arg1) (ix3 1 l q)) := by
  rw [Pipeline.eq_sum_fin_of_reset_step_apply_of_flush (fun n h => (outsAt0 m c n h).2) 4 (fun _ => 0) _
    (fun t h j => by rw [outsAt0_A m c t h (by omega) (by omega)]; frame_out; rw [first_at])
    (fun t h j => by
      by_cases h2 : t.val % 4 = 3
      · rw [outsAt0_C m c t h (by omega) h2]; frame_out; rw [later_at]; exact congrArg (fun a : EReal => a + _) (congrFun (Memref.IsWhole.read_unread _ _) j)
      · rw [outsAt0_B m c t h (by omega) h2]; frame_out; rw [later_at]; exact congrArg (fun a : EReal => a + _) (congrFun (Memref.IsWhole.read_unread _ _) j))
    t hf j, zero_add]
  refine Fin.sum_mul_add_congr fun s k hl => ?_
  have ht : t.val < 128 := lt_of_lt_of_eq t.isLt N_0
  exact congrArg₂ (fun a b : EReal => a * b)
    (row_at m c ⟨4 * (t.val / 4) + s.val, _⟩ (j 0) k i ⟨s.val * 2816 + k.val, hl⟩ (by show _ = (4 * (t.val / 4) + s.val) / 16 * 1024 + _; omega)
      (by show s.val * 2816 + k.val = (4 * (t.val / 4) + s.val) % 4 * 2816 + _; omega))
    (weight_at m c ⟨4 * (t.val / 4) + s.val, _⟩ k (j 1) ⟨s.val * 2816 + k.val, hl⟩ q
      (by show s.val * 2816 + k.val = (4 * (t.val / 4) + s.val) % 4 * 2816 + _; omega)
      (by show _ = (4 * (t.val / 4) + s.val) / 4 % 4 * 1024 + _; omega))

/-- What the last point of a run writes: the stream plus the gate times the accumulator. -/
theorem out_at (c : Dev nD) (t : Fin cfg0.N) (h2 : t.val % 4 = 3) (j : S1024x1024.Idx) :
    ((outsAt0 m c t.val t.isLt).1 j : EReal)
      = (show EReal from iblk m c 2 t j) + (show EReal from iblk m c 3 t (ix2 0 (j 1))) * (show EReal from (outsAt0 m c t.val t.isLt).2 j) := by
  rw [outsAt0_C m c t (by omega) (by omega) h2]
  frame_out
  pointwise [k0_pay4]
  rw [low t (j 0)]
  rfl

/-- Where a coordinate of the result's block lands in the result. -/
theorem off4 (t : Fin cfg0.N) (y) (a : Fin 2) :
    (((View.whole main_v0).slice ((win0 4).rect t)).emb y a).val = win0_4.index t a * S1024x1024.size a + 1 * (y a).val := rfl

theorem final (c : Dev nD) : (dats m 0 c).arrAt 4 (cfgs 0).N = Cert.DownRefIdeal.Row.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have h2 := (flush0_4 t).mp hf
  have h0 : (((View.whole main_v0).slice ((win0 4).rect t)).emb y 0).val = t.val / 16 * 1024 + (y 0).val :=
    (off4 t y 0).trans (by simp [idx t])
  have h1 : (((View.whole main_v0).slice ((win0 4).rect t)).emb y 1).val = t.val / 4 % 4 * 1024 + (y 1).val :=
    (off4 t y 1).trans (by simp [idx t])
  rw [after0_4, Cert.DownRefIdeal.Row.REF_at]
  refine (out_at m c t h2 y).trans ?_
  exact congrArg₂ (fun a b : EReal => a + b) (res_at m c t y _ h0 h1)
    (congrArg₂ (fun a b : EReal => a * b) (gate_at m c t (y 1) _ h1) (sum_at m c t h2 y _ _ h0 h1))

end Cert.DownIdeal.Row

end
-- ==== Proof.OutVal.lean ====
module

public import proofs.«01_k».proof.Proof.Gen.OutIdeal.Value
public import proofs.«01_k».proof.Proof.Gen.OutRefIdeal.Run
public import Idealize.ShloMosaic.Lib.Pipeline.ValueKit

@[expose] public section

set_option maxRecDepth 16384

noncomputable section

/-! # The output projection with its gated residual -/

namespace Cert.OutRefIdeal.Row

open Idealize.ShloMosaic Idealize.ShloMosaic.TcCoe Idealize.SL.Sem
open Cert.OutRefIdeal Cert.OutRefIdeal.Gen

/-- The reference's array. -/
abbrev REF (x0 : FVec Ideal S8192x4096 .bf16) (x1 : FVec Ideal S2x4096x4096 .bf16) (x2 : FVec Ideal S8448x4096 .f32) (x3 : FVec Ideal S2x4096 .f32) : FVec Ideal S8192x4096 .f32 :=
  addf (extractStridedSlice S8192x4096 ![0, 0] x2 slices_S8448x4096_S8192x4096_0_0) (mulf (broadcastInDim S8192x4096 ![0, 1] bcast_S1x4096_S8192x4096_0_1 (broadcastInDim S1x4096 ![1] bcast_S4096_S1x4096_1 (shapeCast _ (extractStridedSlice S1x4096 ![0, 0] x3 slices_S2x4096_S1x4096_0_0) shapeCasts_S1x4096_S4096))) (Host.dotGeneral dot_S8192x4096_S4096x4096_S8192x4096_1_0_0_1_n_n none (extf .f32 x0 bitsLt_bf16_f32) (extf .f32 (shapeCast _ (extractStridedSlice S1x4096x4096 ![1, 0, 0] x1 slices_S2x4096x4096_S1x4096x4096_1_0_0) shapeCasts_S1x4096x4096_S4096x4096) bitsLt_bf16_f32)))

end Cert.OutRefIdeal.Row

namespace Cert.OutIdeal.Row

open Idealize.ShloMosaic Idealize.ShloMosaic.TcCoe Idealize.SL.Sem
open Idealize.ShloMosaic.Pipeline (Dat)
open Cert.OutIdeal Cert.OutIdeal.Gen

/-- Where each block of a grid point sits. -/
theorem idx : ∀ t : Fin cfg0.N, win0_0.index t = ![t.val / 8, 0]
    ∧ win0_1.index t = ![1, 0, t.val % 8]
    ∧ win0_2.index t = ![t.val / 8, t.val % 8]
    ∧ win0_3.index t = ![0, t.val % 8]
    ∧ win0_4.index t = ![t.val / 8, t.val % 8] :=
  (by decide +kernel : ∀ t : Fin grid0.N, _)

variable (m : (ℓ : Loc nD τ sig) → Buf (Elt Ideal) ℓ)

/-- Where a coordinate of the result's block lands in the result. -/
theorem off4 (t : Fin cfg0.N) (y) (a : Fin 2) :
    (((View.whole main_v0).slice ((win0 4).rect t)).emb y a).val = win0_4.index t a * S1024x512.size a + 1 * (y a).val := rfl

/-- An entry of a block of the stream, read off the array it is a block of. -/
theorem res_at (c : Dev nD) (t : Fin cfg0.N) (p : Fin 1024) (q : Fin 512) (i : Fin 8448) (k : Fin 4096)
    (hi : i.val = t.val / 8 * 1024 + p.val) (hk : k.val = t.val % 8 * 512 + q.val) :
    X0_2 m c t (ix2 p q) = m ((c : Thread nD τ).loc main_arg2) (ix2 i k) := by
  unfold X0_2 Pipeline.Window.fill
  rw [dif_pos (moved0_2 t _)]
  unfold iblk
  refine (congrFun (V_main_arg2 m c) _).trans (congrArg _ (funext fun a => Fin.ext ?_))
  refine (show _ = win0_2.index t a * S1024x512.size a + 1 * ((ix2 p q : S1024x512.Idx) a).val from rfl).trans ?_
  fin_cases a
  · simp [idx t, hi]
  · simp [idx t, hk]

/-- An entry of a block of rows, read off the array it is a block of. -/
theorem row_at (c : Dev nD) (t : Fin cfg0.N) (p : Fin 1024) (x : Fin 4096) (i : Fin 8192) (hi : i.val = t.val / 8 * 1024 + p.val) :
    iblk m c 0 t (ix2 p x) = m ((c : Thread nD τ).loc main_arg0) (ix2 i x) := by
  blk_point [iblk, V, idx t]

/-- An entry of a block of the weight, read off the weight. -/
theorem weight_at (c : Dev nD) (t : Fin cfg0.N) (x : Fin 4096) (q : Fin 512) (k : Fin 4096) (hk : k.val = t.val % 8 * 512 + q.val) :
    iblk m c 1 t (ix3 0 x q) = m ((c : Thread nD τ).loc main_arg1) (ix3 1 x k) := by
  blk_point [iblk, V, idx t]

/-- An entry of a block of the gate's first row, read off the gate. -/
theorem gate_at (c : Dev nD) (t : Fin cfg0.N) (q : Fin 512) (k : Fin 4096) (hk : k.val = t.val % 8 * 512 + q.val) :
    iblk m c 3 t (ix2 0 q) = m ((c : Thread nD τ).loc main_arg3) (ix2 0 k) := by
  blk_point [iblk, V, idx t]

/-- Every row of every block lies below row 8192. -/
theorem low_row : ∀ (a : Fin 8) (p : Fin 1024),
    IntOp.cmpi CmpIPredicate.slt (IntOp.addi (Scalar.muli (BitVec.ofNat 32 a.val) 1024#32) (BitVec.ofNat 32 p.val)) 8192#32 = 1#1 := by
  decide +kernel

theorem low (t : Fin cfg0.N) (p : Fin 1024) :
    IntOp.cmpi CmpIPredicate.slt
      (IntOp.addi (Scalar.muli (BitVec.ofNat 32 (grid0.coords t 0).val) 1024#32) (BitVec.ofNat 32 p.val)) 8192#32 = 1#1 :=
  low_row (grid0.coords t 0) p

theorem select_one (a b : EReal) : Scalar.select (1#1) a b = a := rfl

theorem eta2 {a b : Nat} (y : (⟨2, ![a, b]⟩ : Shape).Idx) : y = ix2 (y 0) (y 1) := by
  funext i
  fin_cases i <;> rfl

theorem point (c : Dev nD) (t : Fin cfg0.N) (y) : k0_pay1 (F := Ideal) (grid0.coords t) (iblk m c 1 t) (iblk m c 0 t) (View.ld (iblk m c 3 t) (Rect.unit ![0, 0] ![1, 512] inb_S2x512_S1x512_0_0)) (View.ld (iblk m c 3 t) (Rect.unit ![1, 0] ![1, 512] inb_S2x512_S1x512_1_0)) (X0_2 m c t) y
    = Cert.OutRefIdeal.Row.REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, Cert.OutRefIdeal.Row.REF]
  have h0 : (((View.whole main_v0).slice ((win0 4).rect t)).emb y 0).val = t.val / 8 * 1024 + (y 0).val :=
    (off4 t y 0).trans (by simp [idx t])
  have h1 : (((View.whole main_v0).slice ((win0 4).rect t)).emb y 1).val = t.val % 8 * 512 + (y 1).val :=
    (off4 t y 1).trans (by simp [idx t])
  rw [low t (y 0)]
  refine congrArg₂ (fun a b : EReal => a + b) ((congrArg _ (eta2 y)).trans (res_at m c t (y 0) (y 1) _ _ h0 h1))
    (congrArg₂ (fun a b : EReal => a * b) ((select_one _ _).trans (gate_at m c t (y 1) _ h1)) ?_)
  exact Finset.sum_congr rfl fun x _ => congrArg₂ (fun a b : EReal => a * b) (row_at m c t (y 0) x _ h0)
    (weight_at m c t x (y 1) _ h1)

theorem final (c : Dev nD) : (dats m 0 c).arrAt 4 (cfgs 0).N = Cert.OutRefIdeal.Row.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  frame_out
  exact point m c t y

end Cert.OutIdeal.Row

end
-- ==== Proof.MergeVal.lean ====
module

public import proofs.«01_k».proof.Proof.Gen.MergeIdeal.Value
public import proofs.«01_k».proof.Proof.Gen.MergeRefIdeal.Run
public import Idealize.ShloMosaic.Lib.Pipeline.ValueKit

@[expose] public section

set_option maxRecDepth 16384

noncomputable section

/-! # The gated sum of the three branches -/

namespace Cert.MergeRefIdeal.Row

open Idealize.ShloMosaic Idealize.ShloMosaic.TcCoe Idealize.SL.Sem
open Cert.MergeRefIdeal Cert.MergeRefIdeal.Gen

/-- The reference's array. -/
abbrev REF (x0 : FVec Ideal S8192x2048 .bf16) (x1 : FVec Ideal S8192x1024 .bf16) (x2 : FVec Ideal S8192x1024 .bf16) (x3 : FVec Ideal S2x2048x4096 .bf16) (x4 : FVec Ideal S2x1024x4096 .bf16) (x5 : FVec Ideal S2x1024x4096 .bf16) (x6 : FVec Ideal S8192x12288 .bf16) : FVec Ideal S8192x4096 .bf16 :=
  truncf .bf16 (addf (addf (mulf (extractStridedSlice S8192x4096 ![0, 0] (extf .f32 x6 bitsLt_bf16_f32) slices_S8192x12288_S8192x4096_0_0) (Host.dotGeneral dot_S8192x2048_S2048x4096_S8192x4096_1_0_0_1_n_n none (extf .f32 x0 bitsLt_bf16_f32) (extf .f32 (shapeCast _ (extractStridedSlice S1x2048x4096 ![1, 0, 0] x3 slices_S2x2048x4096_S1x2048x4096_1_0_0) shapeCasts_S1x2048x4096_S2048x4096) bitsLt_bf16_f32))) (mulf (extractStridedSlice S8192x4096 ![0, 4096] (extf .f32 x6 bitsLt_bf16_f32) slices_S8192x12288_S8192x4096_0_4096) (Host.dotGeneral dot_S8192x1024_S1024x4096_S8192x4096_1_0_0_1_n_n none (extf .f32 x1 bitsLt_bf16_f32) (extf .f32 (shapeCast _ (extractStridedSlice S1x1024x4096 ![1, 0, 0] x4 slices_S2x1024x4096_S1x1024x4096_1_0_0) shapeCasts_S1x1024x4096_S1024x4096) bitsLt_bf16_f32)))) (mulf (extractStridedSlice S8192x4096 ![0, 8192] (extf .f32 x6 bitsLt_bf16_f32) slices_S8192x12288_S8192x4096_0_8192) (Host.dotGeneral dot_S8192x1024_S1024x4096_S8192x4096_1_0_0_1_n_n none (extf .f32 x2 bitsLt_bf16_f32) (extf .f32 (shapeCast _ (extractStridedSlice S1x1024x4096 ![1, 0, 0] x5 slices_S2x1024x4096_S1x1024x4096_1_0_0) shapeCasts_S1x1024x4096_S1024x4096) bitsLt_bf16_f32)))) bitsLt_bf16_f32

end Cert.MergeRefIdeal.Row

namespace Cert.MergeIdeal.Row

open Idealize.ShloMosaic Idealize.ShloMosaic.TcCoe Idealize.SL.Sem
open Idealize.ShloMosaic.Pipeline (Dat)
open Cert.MergeIdeal Cert.MergeIdeal.Gen

/-- Where each block of a grid point sits. -/
theorem idx : ∀ t : Fin cfg0.N, win0_0.index t = ![t.val % 16, 0]
    ∧ win0_1.index t = ![t.val % 16, 0]
    ∧ win0_2.index t = ![t.val % 16, 0]
    ∧ win0_3.index t = ![1, 0, t.val / 16]
    ∧ win0_4.index t = ![1, 0, t.val / 16]
    ∧ win0_5.index t = ![1, 0, t.val / 16]
    ∧ win0_6.index t = ![t.val % 16, t.val / 16]
    ∧ win0_7.index t = ![t.val % 16, 4 + t.val / 16]
    ∧ win0_8.index t = ![t.val % 16, 8 + t.val / 16]
    ∧ win0_9.index t = ![t.val % 16, t.val / 16] :=
  (by decide +kernel : ∀ t : Fin grid0.N, _)

variable (m : (ℓ : Loc nD τ sig) → Buf (Elt Ideal) ℓ)

theorem point (c : Dev nD) (t : Fin cfg0.N) (y) : k0_pay1 (F := Ideal) (iblk m c 0 t) (iblk m c 3 t) (iblk m c 1 t) (iblk m c 4 t) (iblk m c 2 t) (iblk m c 5 t) (iblk m c 6 t) (iblk m c 7 t) (iblk m c 8 t) y
    = Cert.MergeRefIdeal.Row.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  pointwise [k0_pay1, Cert.MergeRefIdeal.Row.REF]
  blk_point [iblk, V, idx t]

theorem final (c : Dev nD) : (dats m 0 c).arrAt 9 (cfgs 0).N = Cert.MergeRefIdeal.Row.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  frame_out
  exact point m c t y

end Cert.MergeIdeal.Row

end
-- ==== Proof.NormVal.lean ====
module

public import proofs.«01_k».proof.Proof.Gen.NormIdeal.Value
public import proofs.«01_k».proof.Proof.Gen.NormRefIdeal.Run
public import Idealize.ShloMosaic.Lib.Pipeline.ValueKit

@[expose] public section

set_option maxRecDepth 16384

noncomputable section

/-! # The last norm -/

namespace Cert.NormRefIdeal.Row

open Idealize.ShloMosaic Idealize.ShloMosaic.TcCoe Idealize.SL.Sem
open Cert.NormRefIdeal Cert.NormRefIdeal.Gen

/-- The reference's array. -/
abbrev REF (x0 : FVec Ideal S8192x4096 .f32) (x1 : FVec Ideal S4096 .f32) : FVec Ideal S8192x4096 .f32 :=
  mulf (mulf x0 (broadcastInDim S8192x4096 ![0, 1] bcast_S8192x1_S8192x4096_0_1 (Host.rsqrt (addf (Host.divf (broadcastInDim S8192x1 ![0] bcast_S8192_S8192x1_0 (Host.reduceAdd (mulf x0 x0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 x1))

end Cert.NormRefIdeal.Row

namespace Cert.NormIdeal.Row

open Idealize.ShloMosaic Idealize.ShloMosaic.TcCoe Idealize.SL.Sem
open Idealize.ShloMosaic.Pipeline (Dat)
open Cert.NormIdeal Cert.NormIdeal.Gen

/-- Where each block of a grid point sits. -/
theorem idx : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ)

theorem point (c : Dev nD) (t : Fin cfg0.N) (y) : k0_pay1 (F := Ideal) (iblk m c 0 t) (iblk m c 1 t) y
    = Cert.NormRefIdeal.Row.REF (m ((c : Thread nD τ).loc main_arg0)) (m ((c : Thread nD τ).loc main_arg1)) (((cfg0.win 2).blk t).view.emb y) := by
  pointwise [k0_pay1, Cert.NormRefIdeal.Row.REF]
  blk_point [iblk, V, idx t]

theorem final (c : Dev nD) : (dats m 0 c).arrAt 2 (cfgs 0).N = Cert.NormRefIdeal.Row.REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.NormIdeal.Row

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.Qkvc
public import proofs.«01_k».proof.Proof.Gen.Qkvc.Skeleton
public import proofs.«01_k».proof.Proof.Gen.Qkvc.Launch
public import proofs.«01_k».proof.Proof.Gen.Qkvc.Points
public import proofs.«01_k».proof.Proof.Gen.Qkvc.Frame
public import proofs.«01_k».proof.Proof.Gen.QkvcIdeal
public import proofs.«01_k».proof.Proof.Gen.QkvcIdeal.Skeleton
public import proofs.«01_k».proof.Proof.Gen.QkvcIdeal.Launch
public import proofs.«01_k».proof.Proof.Gen.QkvcIdeal.Points
public import proofs.«01_k».proof.Proof.Gen.QkvcIdeal.Frame
public import proofs.«01_k».proof.Proof.Gen.QkvcIdeal.Value
public import proofs.«01_k».proof.Proof.Gen.QkvcRefIdeal
public import proofs.«01_k».proof.Proof.Gen.QkvcRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Rkv
public import proofs.«01_k».proof.Proof.Gen.Rkv.Skeleton
public import proofs.«01_k».proof.Proof.Gen.Rkv.Launch
public import proofs.«01_k».proof.Proof.Gen.Rkv.Points
public import proofs.«01_k».proof.Proof.Gen.Rkv.Frame
public import proofs.«01_k».proof.Proof.Gen.RkvIdeal
public import proofs.«01_k».proof.Proof.Gen.RkvIdeal.Skeleton
public import proofs.«01_k».proof.Proof.Gen.RkvIdeal.Launch
public import proofs.«01_k».proof.Proof.Gen.RkvIdeal.Points
public import proofs.«01_k».proof.Proof.Gen.RkvIdeal.Frame
public import proofs.«01_k».proof.Proof.Gen.RkvIdeal.Value
public import proofs.«01_k».proof.Proof.Gen.RkvRefIdeal
public import proofs.«01_k».proof.Proof.Gen.RkvRefIdeal.Run
public import proofs.«01_k».proof.Proof.Gen.Lora
public import proofs.«01_k».proof.Proof.Gen.Lora.Skeleton
public import proofs.«01_k».proof.Proof.Gen.Lora.Launch
public import proofs.«01_k».proof.Proof.Gen.Lora.Points
public import proofs.«01_k».proof.Proof.Gen.Lora.Frame
public import proofs.«01_k».proof.Proof.Gen.LoraIdeal
public import proofs.«01_k».proof.Proof.Gen.LoraIdeal.Skeleton
public import proofs.«01_k».proof.Proof.Gen.LoraIdeal.Launch
public import proofs.«01_k».proof.Proof.Gen.LoraIdeal.Points
public import proofs.«01_k».proof.Proof.Gen.LoraIdeal.Frame
public import proofs.«01_k».proof.Proof.Gen.LoraIdeal.Value
public import proofs.«01_k».proof.Proof.Gen.LoraRefIdeal
public import proofs.«01_k».proof.Proof.Gen.LoraRefIdeal.Run
public import proofs.«01_k».proof.Proof.Gen.Up0
public import proofs.«01_k».proof.Proof.Gen.Up0.Skeleton
public import proofs.«01_k».proof.Proof.Gen.Up0.Launch
public import proofs.«01_k».proof.Proof.Gen.Up0.Points
public import proofs.«01_k».proof.Proof.Gen.Up0.Frame
public import proofs.«01_k».proof.Proof.Gen.Up0Ideal
public import proofs.«01_k».proof.Proof.Gen.Up0Ideal.Skeleton
public import proofs.«01_k».proof.Proof.Gen.Up0Ideal.Launch
public import proofs.«01_k».proof.Proof.Gen.Up0Ideal.Points
public import proofs.«01_k».proof.Proof.Gen.Up0Ideal.Frame
public import proofs.«01_k».proof.Proof.Gen.Up0Ideal.Value
public import proofs.«01_k».proof.Proof.Gen.Up0RefIdeal
public import proofs.«01_k».proof.Proof.Gen.Up0RefIdeal.Run
public import proofs.«01_k».proof.Proof.Gen.Gates0
public import proofs.«01_k».proof.Proof.Gen.Gates0.Skeleton
public import proofs.«01_k».proof.Proof.Gen.Gates0.Launch
public import proofs.«01_k».proof.Proof.Gen.Gates0.Points
public import proofs.«01_k».proof.Proof.Gen.Gates0.Frame
public import proofs.«01_k».proof.Proof.Gen.Gates0Ideal
public import proofs.«01_k».proof.Proof.Gen.Gates0Ideal.Skeleton
public import proofs.«01_k».proof.Proof.Gen.Gates0Ideal.Launch
public import proofs.«01_k».proof.Proof.Gen.Gates0Ideal.Points
public import proofs.«01_k».proof.Proof.Gen.Gates0Ideal.Frame
public import proofs.«01_k».proof.Proof.Gen.Gates0Ideal.Value
public import proofs.«01_k».proof.Proof.Gen.Gates0RefIdeal
public import proofs.«01_k».proof.Proof.Gen.Gates0RefIdeal.Run
public import proofs.«01_k».proof.Proof.Gen.Qkvc0
public import proofs.«01_k».proof.Proof.Gen.Qkvc0.Skeleton
public import proofs.«01_k».proof.Proof.Gen.Qkvc0.Launch
public import proofs.«01_k».proof.Proof.Gen.Qkvc0.Points
public import proofs.«01_k».proof.Proof.Gen.Qkvc0.Frame
public import proofs.«01_k».proof.Proof.Gen.Qkvc0Ideal
public import proofs.«01_k».proof.Proof.Gen.Qkvc0Ideal.Skeleton
public import proofs.«01_k».proof.Proof.Gen.Qkvc0Ideal.Launch
public import proofs.«01_k».proof.Proof.Gen.Qkvc0Ideal.Points
public import proofs.«01_k».proof.Proof.Gen.Qkvc0Ideal.Frame
public import proofs.«01_k».proof.Proof.Gen.Qkvc0Ideal.Value
public import proofs.«01_k».proof.Proof.Gen.Qkvc0RefIdeal
public import proofs.«01_k».proof.Proof.Gen.Qkvc0RefIdeal.Run
public import proofs.«01_k».proof.Proof.Gen.Rkv0
public import proofs.«01_k».proof.Proof.Gen.Rkv0.Skeleton
public import proofs.«01_k».proof.Proof.Gen.Rkv0.Launch
public import proofs.«01_k».proof.Proof.Gen.Rkv0.Points
public import proofs.«01_k».proof.Proof.Gen.Rkv0.Frame
public import proofs.«01_k».proof.Proof.Gen.Rkv0Ideal
public import proofs.«01_k».proof.Proof.Gen.Rkv0Ideal.Skeleton
public import proofs.«01_k».proof.Proof.Gen.Rkv0Ideal.Launch
public import proofs.«01_k».proof.Proof.Gen.Rkv0Ideal.Points
public import proofs.«01_k».proof.Proof.Gen.Rkv0Ideal.Frame
public import proofs.«01_k».proof.Proof.Gen.Rkv0Ideal.Value
public import proofs.«01_k».proof.Proof.Gen.Rkv0RefIdeal
public import proofs.«01_k».proof.Proof.Gen.Rkv0RefIdeal.Run
public import proofs.«01_k».proof.Proof.Gen.Lora0
public import proofs.«01_k».proof.Proof.Gen.Lora0.Skeleton
public import proofs.«01_k».proof.Proof.Gen.Lora0.Launch
public import proofs.«01_k».proof.Proof.Gen.Lora0.Points
public import proofs.«01_k».proof.Proof.Gen.Lora0.Frame
public import proofs.«01_k».proof.Proof.Gen.Lora0Ideal
public import proofs.«01_k».proof.Proof.Gen.Lora0Ideal.Skeleton
public import proofs.«01_k».proof.Proof.Gen.Lora0Ideal.Launch
public import proofs.«01_k».proof.Proof.Gen.Lora0Ideal.Points
public import proofs.«01_k».proof.Proof.Gen.Lora0Ideal.Frame
public import proofs.«01_k».proof.Proof.Gen.Lora0Ideal.Value
public import proofs.«01_k».proof.Proof.Gen.Lora0RefIdeal
public import proofs.«01_k».proof.Proof.Gen.Lora0RefIdeal.Run
public import proofs.«01_k».proof.Proof.Gen.Down0
public import proofs.«01_k».proof.Proof.Gen.Down0.Skeleton
public import proofs.«01_k».proof.Proof.Gen.Down0.Launch
public import proofs.«01_k».proof.Proof.Gen.Down0.Points
public import proofs.«01_k».proof.Proof.Gen.Down0.Frame
public import proofs.«01_k».proof.Proof.Gen.Down0Ideal
public import proofs.«01_k».proof.Proof.Gen.Down0Ideal.Skeleton
public import proofs.«01_k».proof.Proof.Gen.Down0Ideal.Launch
public import proofs.«01_k».proof.Proof.Gen.Down0Ideal.Points
public import proofs.«01_k».proof.Proof.Gen.Down0Ideal.Frame
public import proofs.«01_k».proof.Proof.Gen.Down0Ideal.Value
public import proofs.«01_k».proof.Proof.Gen.Down0RefIdeal
public import proofs.«01_k».proof.Proof.Gen.Down0RefIdeal.Run
public import proofs.«01_k».proof.Proof.Gen.Out0
public import proofs.«01_k».proof.Proof.Gen.Out0.Skeleton
public import proofs.«01_k».proof.Proof.Gen.Out0.Launch
public import proofs.«01_k».proof.Proof.Gen.Out0.Points
public import proofs.«01_k».proof.Proof.Gen.Out0.Frame
public import proofs.«01_k».proof.Proof.Gen.Out0Ideal
public import proofs.«01_k».proof.Proof.Gen.Out0Ideal.Skeleton
public import proofs.«01_k».proof.Proof.Gen.Out0Ideal.Launch
public import proofs.«01_k».proof.Proof.Gen.Out0Ideal.Points
public import proofs.«01_k».proof.Proof.Gen.Out0Ideal.Frame
public import proofs.«01_k».proof.Proof.Gen.Out0Ideal.Value
public import proofs.«01_k».proof.Proof.Gen.Out0RefIdeal
public import proofs.«01_k».proof.Proof.Gen.Out0RefIdeal.Run
public import proofs.«01_k».proof.Proof.Gen.Merge0
public import proofs.«01_k».proof.Proof.Gen.Merge0.Skeleton
public import proofs.«01_k».proof.Proof.Gen.Merge0.Launch
public import proofs.«01_k».proof.Proof.Gen.Merge0.Points
public import proofs.«01_k».proof.Proof.Gen.Merge0.Frame
public import proofs.«01_k».proof.Proof.Gen.Merge0Ideal
public import proofs.«01_k».proof.Proof.Gen.Merge0Ideal.Skeleton
public import proofs.«01_k».proof.Proof.Gen.Merge0Ideal.Launch
public import proofs.«01_k».proof.Proof.Gen.Merge0Ideal.Points
public import proofs.«01_k».proof.Proof.Gen.Merge0Ideal.Frame
public import proofs.«01_k».proof.Proof.Gen.Merge0Ideal.Value
public import proofs.«01_k».proof.Proof.Gen.Merge0RefIdeal
public import proofs.«01_k».proof.Proof.Gen.Merge0RefIdeal.Run
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.Modall
public import proofs.«01_k».proof.Proof.Gen.Modall.Skeleton
public import proofs.«01_k».proof.Proof.Gen.Modall.Launch
public import proofs.«01_k».proof.Proof.Gen.Modall.Points
public import proofs.«01_k».proof.Proof.Gen.Modall.Frame
public import proofs.«01_k».proof.Proof.Gen.ModallIdeal
public import proofs.«01_k».proof.Proof.Gen.ModallIdeal.Skeleton
public import proofs.«01_k».proof.Proof.Gen.ModallIdeal.Launch
public import proofs.«01_k».proof.Proof.Gen.ModallIdeal.Points
public import proofs.«01_k».proof.Proof.Gen.ModallIdeal.Frame
public import proofs.«01_k».proof.Proof.Gen.ModallIdeal.Value
public import proofs.«01_k».proof.Proof.Gen.ModallRefIdeal
public import proofs.«01_k».proof.Proof.Gen.ModallRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.Conv0
public import proofs.«01_k».proof.Proof.Gen.Conv0.Skeleton
public import proofs.«01_k».proof.Proof.Gen.Conv0.Launch
public import proofs.«01_k».proof.Proof.Gen.Conv0.Points
public import proofs.«01_k».proof.Proof.Gen.Conv0.Frame
public import proofs.«01_k».proof.Proof.Gen.Conv0Ideal
public import proofs.«01_k».proof.Proof.Gen.Conv0Ideal.Skeleton
public import proofs.«01_k».proof.Proof.Gen.Conv0Ideal.Launch
public import proofs.«01_k».proof.Proof.Gen.Conv0Ideal.Points
public import proofs.«01_k».proof.Proof.Gen.Conv0Ideal.Frame
public import proofs.«01_k».proof.Proof.Gen.Conv0Ideal.Value
public import proofs.«01_k».proof.Proof.Gen.Conv0RefIdeal
public import proofs.«01_k».proof.Proof.Gen.Conv0RefIdeal.Run
public import proofs.«01_k».proof.Proof.Gen.Act0
public import proofs.«01_k».proof.Proof.Gen.Act0.Skeleton
public import proofs.«01_k».proof.Proof.Gen.Act0.Launch
public import proofs.«01_k».proof.Proof.Gen.Act0.Points
public import proofs.«01_k».proof.Proof.Gen.Act0.Frame
public import proofs.«01_k».proof.Proof.Gen.Act0Ideal
public import proofs.«01_k».proof.Proof.Gen.Act0Ideal.Skeleton
public import proofs.«01_k».proof.Proof.Gen.Act0Ideal.Launch
public import proofs.«01_k».proof.Proof.Gen.Act0Ideal.Points
public import proofs.«01_k».proof.Proof.Gen.Act0Ideal.Frame
public import proofs.«01_k».proof.Proof.Gen.Act0Ideal.Value
public import proofs.«01_k».proof.Proof.Gen.Act0RefIdeal
public import proofs.«01_k».proof.Proof.Gen.Act0RefIdeal.Run
public import proofs.«01_k».proof.Proof.Gen.Ada
public import proofs.«01_k».proof.Proof.Gen.Attc
public import proofs.«01_k».proof.Proof.Gen.Ada.Skeleton
public import proofs.«01_k».proof.Proof.Gen.Attc.Skeleton
public import proofs.«01_k».proof.Proof.Gen.Ada.Launch
public import proofs.«01_k».proof.Proof.Gen.Attc.Launch
public import proofs.«01_k».proof.Proof.Gen.Ada.Points
public import proofs.«01_k».proof.Proof.Gen.Attc.Points
public import proofs.«01_k».proof.Proof.Gen.Ada.Frame
public import proofs.«01_k».proof.Proof.Gen.Attc.Frame
public import proofs.«01_k».proof.Proof.Gen.AdaIdeal
public import proofs.«01_k».proof.Proof.Gen.AttcIdeal
public import proofs.«01_k».proof.Proof.Gen.AdaIdeal.Skeleton
public import proofs.«01_k».proof.Proof.Gen.AttcIdeal.Skeleton
public import proofs.«01_k».proof.Proof.Gen.AdaIdeal.Launch
public import proofs.«01_k».proof.Proof.Gen.AttcIdeal.Launch
public import proofs.«01_k».proof.Proof.Gen.AdaIdeal.Points
public import proofs.«01_k».proof.Proof.Gen.AttcIdeal.Points
public import proofs.«01_k».proof.Proof.Gen.AdaIdeal.Frame
public import proofs.«01_k».proof.Proof.Gen.AttcIdeal.Frame
public import proofs.«01_k».proof.Proof.Gen.AdaIdeal.Value
public import proofs.«01_k».proof.Proof.Gen.AttcIdeal.Value
public import proofs.«01_k».proof.Proof.Gen.AdaRefIdeal
public import proofs.«01_k».proof.Proof.Gen.AttcRefIdeal
public import proofs.«01_k».proof.Proof.Gen.AdaRefIdeal.Run
public import proofs.«01_k».proof.Proof.Gen.AttcRefIdeal.Run
public import proofs.«01_k».proof.Proof.Final
public import proofs.«01_k».proof.Proof.AttcVal
public import proofs.«01_k».proof.Proof.RkvVal
public import proofs.«01_k».proof.Proof.LoraVal
public import proofs.«01_k».proof.Proof.Up0Val
public import proofs.«01_k».proof.Proof.Gates0Val
public import proofs.«01_k».proof.Proof.Qkvc0Val
public import proofs.«01_k».proof.Proof.Rkv0Val
public import proofs.«01_k».proof.Proof.Lora0Val
public import proofs.«01_k».proof.Proof.Down0Val
public import proofs.«01_k».proof.Proof.Out0Val
public import proofs.«01_k».proof.Proof.Merge0Val
public import proofs.«01_k».proof.Proof.ModVal
public import proofs.«01_k».proof.Proof.ModallVal
public import proofs.«01_k».proof.Proof.ConvVal
public import proofs.«01_k».proof.Proof.ActVal
public import proofs.«01_k».proof.Proof.Conv0Val
public import proofs.«01_k».proof.Proof.Act0Val
public import proofs.«01_k».proof.Proof.AdaVal
public import proofs.«01_k».proof.Proof.UpVal
public import proofs.«01_k».proof.Proof.GatesVal
public import proofs.«01_k».proof.Proof.QkvcVal
public import proofs.«01_k».proof.Proof.DownVal
public import proofs.«01_k».proof.Proof.OutVal
public import proofs.«01_k».proof.Proof.MergeVal
public import proofs.«01_k».proof.Proof.NormVal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The attention kernel computes the plain softmax attention. -/
theorem attention : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m g m' g' hpre hag
  have hfin := fun c : Dev Cert.KernelIdeal.nD => Cert.KernelIdeal.Row.real_of_pre _ _ _ (hpre c)
  refine ⟨fun c => (Cert.KernelIdeal.Gen.dats m 0 c).arrAt 3 Cert.KernelIdeal.cfg0.N, ?_, ?_⟩
  · exact Cert.KernelIdeal.Value.run_blocks m g
  · refine (θ_run Cert.ReferenceIdeal.defs _ _).mono (fun r h c => ⟨(h c).1.trans ?_, (h c).2⟩) (Cert.ReferenceIdeal.Value.run (F := Ideal) m' g')
    obtain ⟨h0, h1, h2⟩ := hag c
    rw [h0, h1, h2]
    exact (Cert.KernelIdeal.Row.final m c (hfin c).1 (hfin c).2).symm

/-- The reference of the attention runs to its end, whatever memory it starts from. -/
theorem reference_ends (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) _⟩) (Cert.ReferenceIdeal.Value.run (F := Ideal) m g)

/-- The attention of the context queries computes its plain softmax attention. -/
theorem attc : Cert.algebraic_AttcIdeal_AttcRefIdeal_pre_finite_qk (hAttcIdeal := Cert.AttcIdeal.Gen.facts)
    (hAttcRefIdeal := Cert.AttcRefIdeal.Gen.facts) (hPre_finite_qk := Cert.Pre_finite_qk.Gen.facts) := by
  intro m g m' g' hpre hag
  have hfin := fun c : Dev Cert.AttcIdeal.nD => Cert.KernelIdeal.Row.real_of_pre _ _ _ (hpre c)
  refine ⟨fun c => (Cert.AttcIdeal.Gen.dats m 0 c).arrAt 3 Cert.AttcIdeal.cfg0.N, ?_, ?_⟩
  · exact Cert.AttcIdeal.Value.run_blocks m g
  · refine (θ_run Cert.AttcRefIdeal.defs _ _).mono (fun r h c => ⟨(h c).1.trans ?_, (h c).2⟩) (Cert.AttcRefIdeal.Value.run (F := Ideal) m' g')
    obtain ⟨h0, h1, h2⟩ := hag c
    unfold Cert.AttcRefIdeal.Value.res_main_v28
    rw [h0, h1, h2]
    exact (Cert.AttcIdeal.Row.final m c (hfin c).1 (hfin c).2).symm

/-- The reference of the attention of the context queries runs to its end, whatever memory it starts from. -/
theorem attc_reference_ends (m : (ℓ : Loc Cert.AttcRefIdeal.nD Cert.AttcRefIdeal.τ Cert.AttcRefIdeal.sig) → Buf (Elt Ideal) ℓ) (g : Dev Cert.AttcRefIdeal.nD → PrngReg) :
    θ_run (Cert.AttcRefIdeal.defs (F := Ideal)) (onTc (τ := Cert.AttcRefIdeal.τ) (Cert.AttcRefIdeal.main (F := Ideal))) ⟨m, fun _ => 0, g⟩ (fun r => (∀ c : Dev Cert.AttcRefIdeal.nD,
      r.2.mem ((c.tc : Thread Cert.AttcRefIdeal.nD Cert.AttcRefIdeal.τ).loc Cert.AttcRefIdeal.main_arg0) = m ((c.tc : Thread Cert.AttcRefIdeal.nD Cert.AttcRefIdeal.τ).loc Cert.AttcRefIdeal.main_arg0)
      ∧ r.2.mem ((c.tc : Thread Cert.AttcRefIdeal.nD Cert.AttcRefIdeal.τ).loc Cert.AttcRefIdeal.main_arg1) = m ((c.tc : Thread Cert.AttcRefIdeal.nD Cert.AttcRefIdeal.τ).loc Cert.AttcRefIdeal.main_arg1)
      ∧ r.2.mem ((c.tc : Thread Cert.AttcRefIdeal.nD Cert.AttcRefIdeal.τ).loc Cert.AttcRefIdeal.main_arg2) = m ((c.tc : Thread Cert.AttcRefIdeal.nD Cert.AttcRefIdeal.τ).loc Cert.AttcRefIdeal.main_arg2))
      ∧ r.2.sem = fun _ => 0) :=
  (θ_run _ _ _).mono (fun r h => ⟨fun c => (h c).2, sem_eq_zero_of_no_sems (by decide) _⟩) (Cert.AttcRefIdeal.Value.run (F := Ideal) m g)

/-- The reference of the projection to the recurrence inputs runs to its end, whatever memory it starts from. -/
theorem rkv_reference_ends (m : (ℓ : Loc Cert.RkvRefIdeal.nD Cert.RkvRefIdeal.τ Cert.RkvRefIdeal.sig) → Buf (Elt Ideal) ℓ) (g : Dev Cert.RkvRefIdeal.nD → PrngReg) :
    θ_run (Cert.RkvRefIdeal.defs (F := Ideal)) (onTc (τ := Cert.RkvRefIdeal.τ) (Cert.RkvRefIdeal.main (F := Ideal))) ⟨m, fun _ => 0, g⟩ (fun r => (∀ c : Dev Cert.RkvRefIdeal.nD,
      r.2.mem ((c.tc : Thread Cert.RkvRefIdeal.nD Cert.RkvRefIdeal.τ).loc Cert.RkvRefIdeal.main_arg0) = m ((c.tc : Thread Cert.RkvRefIdeal.nD Cert.RkvRefIdeal.τ).loc Cert.RkvRefIdeal.main_arg0)
      ∧ r.2.mem ((c.tc : Thread Cert.RkvRefIdeal.nD Cert.RkvRefIdeal.τ).loc Cert.RkvRefIdeal.main_arg1) = m ((c.tc : Thread Cert.RkvRefIdeal.nD Cert.RkvRefIdeal.τ).loc Cert.RkvRefIdeal.main_arg1))
      ∧ r.2.sem = fun _ => 0) :=
  (θ_run _ _ _).mono (fun r h => ⟨fun c => (h c).2, sem_eq_zero_of_no_sems (by decide) _⟩) (Cert.RkvRefIdeal.Value.run (F := Ideal) m g)

/-- The projection to the recurrence inputs computes its reference. -/
theorem rkv : Cert.algebraic_RkvIdeal_RkvRefIdeal (hRkvIdeal := Cert.RkvIdeal.Gen.facts) (hRkvRefIdeal := Cert.RkvRefIdeal.Gen.facts) := by
  intro m g m' g' _ hag
  refine ⟨fun c => (Cert.RkvIdeal.Gen.dats m 0 c).arrAt 2 Cert.RkvIdeal.cfg0.N, ?_, ?_⟩
  · exact Cert.RkvIdeal.Value.run_blocks m g
  · refine (θ_run Cert.RkvRefIdeal.defs _ _).mono (fun r h c => ⟨(h c).1.trans ?_, (h c).2⟩) (Cert.RkvRefIdeal.Value.run (F := Ideal) m' g')
    obtain ⟨h0, h1⟩ := hag c
    rw [h0, h1]
    exact (Cert.RkvIdeal.Row.final m c).symm

/-- The reference of the low-rank projection runs to its end, whatever memory it starts from. -/
theorem lora_reference_ends (m : (ℓ : Loc Cert.LoraRefIdeal.nD Cert.LoraRefIdeal.τ Cert.LoraRefIdeal.sig) → Buf (Elt Ideal) ℓ) (g : Dev Cert.LoraRefIdeal.nD → PrngReg) :
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1))
      ∧ r.2.sem = fun _ => 0) :=
  (θ_run _ _ _).mono (fun r h => ⟨fun c => (h c).2, sem_eq_zero_of_no_sems (by decide) _⟩) (Cert.LoraRefIdeal.Value.run (F := Ideal) m g)

/-- The low-rank projection computes its reference. -/
theorem lora : Cert.algebraic_LoraIdeal_LoraRefIdeal (hLoraIdeal := Cert.LoraIdeal.Gen.facts) (hLoraRefIdeal := Cert.LoraRefIdeal.Gen.facts) := by
  intro m g m' g' _ hag
  refine ⟨fun c => (Cert.LoraIdeal.Gen.dats m 0 c).arrAt 2 Cert.LoraIdeal.cfg0.N, ?_, ?_⟩
  · exact Cert.LoraIdeal.Value.run_blocks m g
  · refine (θ_run Cert.LoraRefIdeal.defs _ _).mono (fun r h c => ⟨(h c).1.trans ?_, (h c).2⟩) (Cert.LoraRefIdeal.Value.run (F := Ideal) m' g')
    obtain ⟨h0, h1⟩ := hag c
    rw [h0, h1]
    exact (Cert.LoraIdeal.Row.final m c).symm

/-- The reference of the up projection of the first layer runs to its end, whatever memory it starts from. -/
theorem up0_reference_ends (m : (ℓ : Loc Cert.Up0RefIdeal.nD Cert.Up0RefIdeal.τ Cert.Up0RefIdeal.sig) → Buf (Elt Ideal) ℓ) (g : Dev Cert.Up0RefIdeal.nD → PrngReg) :
    θ_run (Cert.Up0RefIdeal.defs (F := Ideal)) (onTc (τ := Cert.Up0RefIdeal.τ) (Cert.Up0RefIdeal.main (F := Ideal))) ⟨m, fun _ => 0, g⟩ (fun r => (∀ c : Dev Cert.Up0RefIdeal.nD,
      r.2.mem ((c.tc : Thread Cert.Up0RefIdeal.nD Cert.Up0RefIdeal.τ).loc Cert.Up0RefIdeal.main_arg0) = m ((c.tc : Thread Cert.Up0RefIdeal.nD Cert.Up0RefIdeal.τ).loc Cert.Up0RefIdeal.main_arg0)
      ∧ r.2.mem ((c.tc : Thread Cert.Up0RefIdeal.nD Cert.Up0RefIdeal.τ).loc Cert.Up0RefIdeal.main_arg1) = m ((c.tc : Thread Cert.Up0RefIdeal.nD Cert.Up0RefIdeal.τ).loc Cert.Up0RefIdeal.main_arg1))
      ∧ r.2.sem = fun _ => 0) :=
  (θ_run _ _ _).mono (fun r h => ⟨fun c => (h c).2, sem_eq_zero_of_no_sems (by decide) _⟩) (Cert.Up0RefIdeal.Value.run (F := Ideal) m g)

/-- The up projection of the first layer computes its reference. -/
theorem up0 : Cert.algebraic_Up0Ideal_Up0RefIdeal (hUp0Ideal := Cert.Up0Ideal.Gen.facts) (hUp0RefIdeal := Cert.Up0RefIdeal.Gen.facts) := by
  intro m g m' g' _ hag
  refine ⟨fun c => (Cert.Up0Ideal.Gen.dats m 0 c).arrAt 2 Cert.Up0Ideal.cfg0.N, ?_, ?_⟩
  · exact Cert.Up0Ideal.Value.run_blocks m g
  · refine (θ_run Cert.Up0RefIdeal.defs _ _).mono (fun r h c => ⟨(h c).1.trans ?_, (h c).2⟩) (Cert.Up0RefIdeal.Value.run (F := Ideal) m' g')
    obtain ⟨h0, h1⟩ := hag c
    rw [h0, h1]
    exact (Cert.Up0Ideal.Row.final m c).symm

/-- The reference of the projection to the branch gates of the first layer runs to its end, whatever memory it starts from. -/
theorem gates0_reference_ends (m : (ℓ : Loc Cert.Gates0RefIdeal.nD Cert.Gates0RefIdeal.τ Cert.Gates0RefIdeal.sig) → Buf (Elt Ideal) ℓ) (g : Dev Cert.Gates0RefIdeal.nD → PrngReg) :
    θ_run (Cert.Gates0RefIdeal.defs (F := Ideal)) (onTc (τ := Cert.Gates0RefIdeal.τ) (Cert.Gates0RefIdeal.main (F := Ideal))) ⟨m, fun _ => 0, g⟩ (fun r => (∀ c : Dev Cert.Gates0RefIdeal.nD,
      r.2.mem ((c.tc : Thread Cert.Gates0RefIdeal.nD Cert.Gates0RefIdeal.τ).loc Cert.Gates0RefIdeal.main_arg0) = m ((c.tc : Thread Cert.Gates0RefIdeal.nD Cert.Gates0RefIdeal.τ).loc Cert.Gates0RefIdeal.main_arg0)
      ∧ r.2.mem ((c.tc : Thread Cert.Gates0RefIdeal.nD Cert.Gates0RefIdeal.τ).loc Cert.Gates0RefIdeal.main_arg1) = m ((c.tc : Thread Cert.Gates0RefIdeal.nD Cert.Gates0RefIdeal.τ).loc Cert.Gates0RefIdeal.main_arg1)
      ∧ r.2.mem ((c.tc : Thread Cert.Gates0RefIdeal.nD Cert.Gates0RefIdeal.τ).loc Cert.Gates0RefIdeal.main_arg2) = m ((c.tc : Thread Cert.Gates0RefIdeal.nD Cert.Gates0RefIdeal.τ).loc Cert.Gates0RefIdeal.main_arg2))
      ∧ r.2.sem = fun _ => 0) :=
  (θ_run _ _ _).mono (fun r h => ⟨fun c => (h c).2, sem_eq_zero_of_no_sems (by decide) _⟩) (Cert.Gates0RefIdeal.Value.run (F := Ideal) m g)

/-- The projection to the branch gates of the first layer computes its reference. -/
theorem gates0 : Cert.algebraic_Gates0Ideal_Gates0RefIdeal (hGates0Ideal := Cert.Gates0Ideal.Gen.facts) (hGates0RefIdeal := Cert.Gates0RefIdeal.Gen.facts) := by
  intro m g m' g' _ hag
  refine ⟨fun c => (Cert.Gates0Ideal.Gen.dats m 0 c).arrAt 3 Cert.Gates0Ideal.cfg0.N, ?_, ?_⟩
  · exact Cert.Gates0Ideal.Value.run_blocks m g
  · refine (θ_run Cert.Gates0RefIdeal.defs _ _).mono (fun r h c => ⟨(h c).1.trans ?_, (h c).2⟩) (Cert.Gates0RefIdeal.Value.run (F := Ideal) m' g')
    obtain ⟨h0, h1, h2⟩ := hag c
    rw [h0, h1, h2]
    exact (Cert.Gates0Ideal.Row.final m c).symm

/-- The reference of the projection to queries, keys, values and convolution inputs of the first layer runs to its end, whatever memory it starts from. -/
theorem qkvc0_reference_ends (m : (ℓ : Loc Cert.Qkvc0RefIdeal.nD Cert.Qkvc0RefIdeal.τ Cert.Qkvc0RefIdeal.sig) → Buf (Elt Ideal) ℓ) (g : Dev Cert.Qkvc0RefIdeal.nD → PrngReg) :
    θ_run (Cert.Qkvc0RefIdeal.defs (F := Ideal)) (onTc (τ := Cert.Qkvc0RefIdeal.τ) (Cert.Qkvc0RefIdeal.main (F := Ideal))) ⟨m, fun _ => 0, g⟩ (fun r => (∀ c : Dev Cert.Qkvc0RefIdeal.nD,
      r.2.mem ((c.tc : Thread Cert.Qkvc0RefIdeal.nD Cert.Qkvc0RefIdeal.τ).loc Cert.Qkvc0RefIdeal.main_arg0) = m ((c.tc : Thread Cert.Qkvc0RefIdeal.nD Cert.Qkvc0RefIdeal.τ).loc Cert.Qkvc0RefIdeal.main_arg0)
      ∧ r.2.mem ((c.tc : Thread Cert.Qkvc0RefIdeal.nD Cert.Qkvc0RefIdeal.τ).loc Cert.Qkvc0RefIdeal.main_arg1) = m ((c.tc : Thread Cert.Qkvc0RefIdeal.nD Cert.Qkvc0RefIdeal.τ).loc Cert.Qkvc0RefIdeal.main_arg1))
      ∧ r.2.sem = fun _ => 0) :=
  (θ_run _ _ _).mono (fun r h => ⟨fun c => (h c).2, sem_eq_zero_of_no_sems (by decide) _⟩) (Cert.Qkvc0RefIdeal.Value.run (F := Ideal) m g)

/-- The projection to queries, keys, values and convolution inputs of the first layer computes its reference. -/
theorem qkvc0 : Cert.algebraic_Qkvc0Ideal_Qkvc0RefIdeal (hQkvc0Ideal := Cert.Qkvc0Ideal.Gen.facts) (hQkvc0RefIdeal := Cert.Qkvc0RefIdeal.Gen.facts) := by
  intro m g m' g' _ hag
  refine ⟨fun c => (Cert.Qkvc0Ideal.Gen.dats m 0 c).arrAt 2 Cert.Qkvc0Ideal.cfg0.N, ?_, ?_⟩
  · exact Cert.Qkvc0Ideal.Value.run_blocks m g
  · refine (θ_run Cert.Qkvc0RefIdeal.defs _ _).mono (fun r h c => ⟨(h c).1.trans ?_, (h c).2⟩) (Cert.Qkvc0RefIdeal.Value.run (F := Ideal) m' g')
    obtain ⟨h0, h1⟩ := hag c
    rw [h0, h1]
    exact (Cert.Qkvc0Ideal.Row.final m c).symm

/-- The reference of the projection to the recurrence inputs of the first layer runs to its end, whatever memory it starts from. -/
theorem rkv0_reference_ends (m : (ℓ : Loc Cert.Rkv0RefIdeal.nD Cert.Rkv0RefIdeal.τ Cert.Rkv0RefIdeal.sig) → Buf (Elt Ideal) ℓ) (g : Dev Cert.Rkv0RefIdeal.nD → PrngReg) :
    θ_run (Cert.Rkv0RefIdeal.defs (F := Ideal)) (onTc (τ := Cert.Rkv0RefIdeal.τ) (Cert.Rkv0RefIdeal.main (F := Ideal))) ⟨m, fun _ => 0, g⟩ (fun r => (∀ c : Dev Cert.Rkv0RefIdeal.nD,
      r.2.mem ((c.tc : Thread Cert.Rkv0RefIdeal.nD Cert.Rkv0RefIdeal.τ).loc Cert.Rkv0RefIdeal.main_arg0) = m ((c.tc : Thread Cert.Rkv0RefIdeal.nD Cert.Rkv0RefIdeal.τ).loc Cert.Rkv0RefIdeal.main_arg0)
      ∧ r.2.mem ((c.tc : Thread Cert.Rkv0RefIdeal.nD Cert.Rkv0RefIdeal.τ).loc Cert.Rkv0RefIdeal.main_arg1) = m ((c.tc : Thread Cert.Rkv0RefIdeal.nD Cert.Rkv0RefIdeal.τ).loc Cert.Rkv0RefIdeal.main_arg1))
      ∧ r.2.sem = fun _ => 0) :=
  (θ_run _ _ _).mono (fun r h => ⟨fun c => (h c).2, sem_eq_zero_of_no_sems (by decide) _⟩) (Cert.Rkv0RefIdeal.Value.run (F := Ideal) m g)

/-- The projection to the recurrence inputs of the first layer computes its reference. -/
theorem rkv0 : Cert.algebraic_Rkv0Ideal_Rkv0RefIdeal (hRkv0Ideal := Cert.Rkv0Ideal.Gen.facts) (hRkv0RefIdeal := Cert.Rkv0RefIdeal.Gen.facts) := by
  intro m g m' g' _ hag
  refine ⟨fun c => (Cert.Rkv0Ideal.Gen.dats m 0 c).arrAt 2 Cert.Rkv0Ideal.cfg0.N, ?_, ?_⟩
  · exact Cert.Rkv0Ideal.Value.run_blocks m g
  · refine (θ_run Cert.Rkv0RefIdeal.defs _ _).mono (fun r h c => ⟨(h c).1.trans ?_, (h c).2⟩) (Cert.Rkv0RefIdeal.Value.run (F := Ideal) m' g')
    obtain ⟨h0, h1⟩ := hag c
    rw [h0, h1]
    exact (Cert.Rkv0Ideal.Row.final m c).symm

/-- The reference of the low-rank projection of the first layer runs to its end, whatever memory it starts from. -/
theorem lora0_reference_ends (m : (ℓ : Loc Cert.Lora0RefIdeal.nD Cert.Lora0RefIdeal.τ Cert.Lora0RefIdeal.sig) → Buf (Elt Ideal) ℓ) (g : Dev Cert.Lora0RefIdeal.nD → PrngReg) :
    θ_run (Cert.Lora0RefIdeal.defs (F := Ideal)) (onTc (τ := Cert.Lora0RefIdeal.τ) (Cert.Lora0RefIdeal.main (F := Ideal))) ⟨m, fun _ => 0, g⟩ (fun r => (∀ c : Dev Cert.Lora0RefIdeal.nD,
      r.2.mem ((c.tc : Thread Cert.Lora0RefIdeal.nD Cert.Lora0RefIdeal.τ).loc Cert.Lora0RefIdeal.main_arg0) = m ((c.tc : Thread Cert.Lora0RefIdeal.nD Cert.Lora0RefIdeal.τ).loc Cert.Lora0RefIdeal.main_arg0)
      ∧ r.2.mem ((c.tc : Thread Cert.Lora0RefIdeal.nD Cert.Lora0RefIdeal.τ).loc Cert.Lora0RefIdeal.main_arg1) = m ((c.tc : Thread Cert.Lora0RefIdeal.nD Cert.Lora0RefIdeal.τ).loc Cert.Lora0RefIdeal.main_arg1))
      ∧ r.2.sem = fun _ => 0) :=
  (θ_run _ _ _).mono (fun r h => ⟨fun c => (h c).2, sem_eq_zero_of_no_sems (by decide) _⟩) (Cert.Lora0RefIdeal.Value.run (F := Ideal) m g)

/-- The low-rank projection of the first layer computes its reference. -/
theorem lora0 : Cert.algebraic_Lora0Ideal_Lora0RefIdeal (hLora0Ideal := Cert.Lora0Ideal.Gen.facts) (hLora0RefIdeal := Cert.Lora0RefIdeal.Gen.facts) := by
  intro m g m' g' _ hag
  refine ⟨fun c => (Cert.Lora0Ideal.Gen.dats m 0 c).arrAt 2 Cert.Lora0Ideal.cfg0.N, ?_, ?_⟩
  · exact Cert.Lora0Ideal.Value.run_blocks m g
  · refine (θ_run Cert.Lora0RefIdeal.defs _ _).mono (fun r h c => ⟨(h c).1.trans ?_, (h c).2⟩) (Cert.Lora0RefIdeal.Value.run (F := Ideal) m' g')
    obtain ⟨h0, h1⟩ := hag c
    rw [h0, h1]
    exact (Cert.Lora0Ideal.Row.final m c).symm

/-- The reference of the down projection of the first layer runs to its end, whatever memory it starts from. -/
theorem down0_reference_ends (m : (ℓ : Loc Cert.Down0RefIdeal.nD Cert.Down0RefIdeal.τ Cert.Down0RefIdeal.sig) → Buf (Elt Ideal) ℓ) (g : Dev Cert.Down0RefIdeal.nD → PrngReg) :
    θ_run (Cert.Down0RefIdeal.defs (F := Ideal)) (onTc (τ := Cert.Down0RefIdeal.τ) (Cert.Down0RefIdeal.main (F := Ideal))) ⟨m, fun _ => 0, g⟩ (fun r => (∀ c : Dev Cert.Down0RefIdeal.nD,
      r.2.mem ((c.tc : Thread Cert.Down0RefIdeal.nD Cert.Down0RefIdeal.τ).loc Cert.Down0RefIdeal.main_arg0) = m ((c.tc : Thread Cert.Down0RefIdeal.nD Cert.Down0RefIdeal.τ).loc Cert.Down0RefIdeal.main_arg0)
      ∧ r.2.mem ((c.tc : Thread Cert.Down0RefIdeal.nD Cert.Down0RefIdeal.τ).loc Cert.Down0RefIdeal.main_arg1) = m ((c.tc : Thread Cert.Down0RefIdeal.nD Cert.Down0RefIdeal.τ).loc Cert.Down0RefIdeal.main_arg1)
      ∧ r.2.mem ((c.tc : Thread Cert.Down0RefIdeal.nD Cert.Down0RefIdeal.τ).loc Cert.Down0RefIdeal.main_arg2) = m ((c.tc : Thread Cert.Down0RefIdeal.nD Cert.Down0RefIdeal.τ).loc Cert.Down0RefIdeal.main_arg2)
      ∧ r.2.mem ((c.tc : Thread Cert.Down0RefIdeal.nD Cert.Down0RefIdeal.τ).loc Cert.Down0RefIdeal.main_arg3) = m ((c.tc : Thread Cert.Down0RefIdeal.nD Cert.Down0RefIdeal.τ).loc Cert.Down0RefIdeal.main_arg3))
      ∧ r.2.sem = fun _ => 0) :=
  (θ_run _ _ _).mono (fun r h => ⟨fun c => (h c).2, sem_eq_zero_of_no_sems (by decide) _⟩) (Cert.Down0RefIdeal.Value.run (F := Ideal) m g)

/-- The down projection of the first layer computes its reference. -/
theorem down0 : Cert.algebraic_Down0Ideal_Down0RefIdeal (hDown0Ideal := Cert.Down0Ideal.Gen.facts) (hDown0RefIdeal := Cert.Down0RefIdeal.Gen.facts) := by
  intro m g m' g' _ hag
  refine ⟨fun c => (Cert.Down0Ideal.Gen.dats m 0 c).arrAt 4 Cert.Down0Ideal.cfg0.N, ?_, ?_⟩
  · exact Cert.Down0Ideal.Value.run_blocks m g
  · refine (θ_run Cert.Down0RefIdeal.defs _ _).mono (fun r h c => ⟨(h c).1.trans ?_, (h c).2⟩) (Cert.Down0RefIdeal.Value.run (F := Ideal) m' g')
    obtain ⟨h0, h1, h2, h3⟩ := hag c
    rw [h0, h1, h2, h3]
    exact (Cert.Down0Ideal.Row.final m c).symm

/-- The reference of the output projection of the first layer runs to its end, whatever memory it starts from. -/
theorem out0_reference_ends (m : (ℓ : Loc Cert.Out0RefIdeal.nD Cert.Out0RefIdeal.τ Cert.Out0RefIdeal.sig) → Buf (Elt Ideal) ℓ) (g : Dev Cert.Out0RefIdeal.nD → PrngReg) :
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1)
      ∧ r.2.mem ((c.tc : Thread Cert.Out0RefIdeal.nD Cert.Out0RefIdeal.τ).loc Cert.Out0RefIdeal.main_arg2) = m ((c.tc : Thread Cert.Out0RefIdeal.nD Cert.Out0RefIdeal.τ).loc Cert.Out0RefIdeal.main_arg2)
      ∧ r.2.mem ((c.tc : Thread Cert.Out0RefIdeal.nD Cert.Out0RefIdeal.τ).loc Cert.Out0RefIdeal.main_arg3) = m ((c.tc : Thread Cert.Out0RefIdeal.nD Cert.Out0RefIdeal.τ).loc Cert.Out0RefIdeal.main_arg3))
      ∧ r.2.sem = fun _ => 0) :=
  (θ_run _ _ _).mono (fun r h => ⟨fun c => (h c).2, sem_eq_zero_of_no_sems (by decide) _⟩) (Cert.Out0RefIdeal.Value.run (F := Ideal) m g)

/-- The output projection of the first layer computes its reference. -/
theorem out0 : Cert.algebraic_Out0Ideal_Out0RefIdeal (hOut0Ideal := Cert.Out0Ideal.Gen.facts) (hOut0RefIdeal := Cert.Out0RefIdeal.Gen.facts) := by
  intro m g m' g' _ hag
  refine ⟨fun c => (Cert.Out0Ideal.Gen.dats m 0 c).arrAt 4 Cert.Out0Ideal.cfg0.N, ?_, ?_⟩
  · exact Cert.Out0Ideal.Value.run_blocks m g
  · refine (θ_run Cert.Out0RefIdeal.defs _ _).mono (fun r h c => ⟨(h c).1.trans ?_, (h c).2⟩) (Cert.Out0RefIdeal.Value.run (F := Ideal) m' g')
    obtain ⟨h0, h1, h2, h3⟩ := hag c
    rw [h0, h1, h2, h3]
    exact (Cert.Out0Ideal.Row.final m c).symm

/-- The reference of the merge of the three branches of the first layer runs to its end, whatever memory it starts from. -/
theorem merge0_reference_ends (m : (ℓ : Loc Cert.Merge0RefIdeal.nD Cert.Merge0RefIdeal.τ Cert.Merge0RefIdeal.sig) → Buf (Elt Ideal) ℓ) (g : Dev Cert.Merge0RefIdeal.nD → PrngReg) :
    θ_run (Cert.Merge0RefIdeal.defs (F := Ideal)) (onTc (τ := Cert.Merge0RefIdeal.τ) (Cert.Merge0RefIdeal.main (F := Ideal))) ⟨m, fun _ => 0, g⟩ (fun r => (∀ c : Dev Cert.Merge0RefIdeal.nD,
      r.2.mem ((c.tc : Thread Cert.Merge0RefIdeal.nD Cert.Merge0RefIdeal.τ).loc Cert.Merge0RefIdeal.main_arg0) = m ((c.tc : Thread Cert.Merge0RefIdeal.nD Cert.Merge0RefIdeal.τ).loc Cert.Merge0RefIdeal.main_arg0)
      ∧ r.2.mem ((c.tc : Thread Cert.Merge0RefIdeal.nD Cert.Merge0RefIdeal.τ).loc Cert.Merge0RefIdeal.main_arg1) = m ((c.tc : Thread Cert.Merge0RefIdeal.nD Cert.Merge0RefIdeal.τ).loc Cert.Merge0RefIdeal.main_arg1)
      ∧ r.2.mem ((c.tc : Thread Cert.Merge0RefIdeal.nD Cert.Merge0RefIdeal.τ).loc Cert.Merge0RefIdeal.main_arg2) = m ((c.tc : Thread Cert.Merge0RefIdeal.nD Cert.Merge0RefIdeal.τ).loc Cert.Merge0RefIdeal.main_arg2)
      ∧ r.2.mem ((c.tc : Thread Cert.Merge0RefIdeal.nD Cert.Merge0RefIdeal.τ).loc Cert.Merge0RefIdeal.main_arg3) = m ((c.tc : Thread Cert.Merge0RefIdeal.nD Cert.Merge0RefIdeal.τ).loc Cert.Merge0RefIdeal.main_arg3)
      ∧ r.2.mem ((c.tc : Thread Cert.Merge0RefIdeal.nD Cert.Merge0RefIdeal.τ).loc Cert.Merge0RefIdeal.main_arg4) = m ((c.tc : Thread Cert.Merge0RefIdeal.nD Cert.Merge0RefIdeal.τ).loc Cert.Merge0RefIdeal.main_arg4)
      ∧ r.2.mem ((c.tc : Thread Cert.Merge0RefIdeal.nD Cert.Merge0RefIdeal.τ).loc Cert.Merge0RefIdeal.main_arg5) = m ((c.tc : Thread Cert.Merge0RefIdeal.nD Cert.Merge0RefIdeal.τ).loc Cert.Merge0RefIdeal.main_arg5)
      ∧ r.2.mem ((c.tc : Thread Cert.Merge0RefIdeal.nD Cert.Merge0RefIdeal.τ).loc Cert.Merge0RefIdeal.main_arg6) = m ((c.tc : Thread Cert.Merge0RefIdeal.nD Cert.Merge0RefIdeal.τ).loc Cert.Merge0RefIdeal.main_arg6))
      ∧ r.2.sem = fun _ => 0) :=
  (θ_run _ _ _).mono (fun r h => ⟨fun c => (h c).2, sem_eq_zero_of_no_sems (by decide) _⟩) (Cert.Merge0RefIdeal.Value.run (F := Ideal) m g)

/-- The merge of the three branches of the first layer computes its reference. -/
theorem merge0 : Cert.algebraic_Merge0Ideal_Merge0RefIdeal (hMerge0Ideal := Cert.Merge0Ideal.Gen.facts) (hMerge0RefIdeal := Cert.Merge0RefIdeal.Gen.facts) := by
  intro m g m' g' _ hag
  refine ⟨fun c => (Cert.Merge0Ideal.Gen.dats m 0 c).arrAt 9 Cert.Merge0Ideal.cfg0.N, ?_, ?_⟩
  · exact Cert.Merge0Ideal.Value.run_blocks m g
  · refine (θ_run Cert.Merge0RefIdeal.defs _ _).mono (fun r h c => ⟨(h c).1.trans ?_, (h c).2⟩) (Cert.Merge0RefIdeal.Value.run (F := Ideal) m' g')
    obtain ⟨h0, h1, h2, h3, h4, h5, h6⟩ := hag c
    rw [h0, h1, h2, h3, h4, h5, h6]
    exact (Cert.Merge0Ideal.Row.final m c).symm

/-- The reference of the modulated norm before the last feed-forward block runs to its end, whatever memory it starts from. -/
theorem mod_reference_ends (m : (ℓ : Loc Cert.ModRefIdeal.nD Cert.ModRefIdeal.τ Cert.ModRefIdeal.sig) → Buf (Elt Ideal) ℓ) (g : Dev Cert.ModRefIdeal.nD → PrngReg) :
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0) :=
  (θ_run _ _ _).mono (fun r h => ⟨fun c => (h c).2, sem_eq_zero_of_no_sems (by decide) _⟩) (Cert.ModRefIdeal.Value.run (F := Ideal) m g)

/-- The modulated norm before the last feed-forward block computes its reference. -/
theorem mod : Cert.algebraic_ModIdeal_ModRefIdeal (hModIdeal := Cert.ModIdeal.Gen.facts) (hModRefIdeal := Cert.ModRefIdeal.Gen.facts) := by
  intro m g m' g' _ hag
  refine ⟨fun c => (Cert.ModIdeal.Gen.dats m 0 c).arrAt 4 Cert.ModIdeal.cfg0.N, ?_, ?_⟩
  · exact Cert.ModIdeal.Value.run_blocks m g
  · refine (θ_run Cert.ModRefIdeal.defs _ _).mono (fun r h c => ⟨(h c).1.trans ?_, (h c).2⟩) (Cert.ModRefIdeal.Value.run (F := Ideal) m' g')
    obtain ⟨h0, h1, h2, h3⟩ := hag c
    rw [h0, h1, h2, h3]
    exact (Cert.ModIdeal.Row.final m c).symm

/-- The reference of the modulated norm over all rows runs to its end, whatever memory it starts from. -/
theorem modall_reference_ends (m : (ℓ : Loc Cert.ModallRefIdeal.nD Cert.ModallRefIdeal.τ Cert.ModallRefIdeal.sig) → Buf (Elt Ideal) ℓ) (g : Dev Cert.ModallRefIdeal.nD → PrngReg) :
    θ_run (Cert.ModallRefIdeal.defs (F := Ideal)) (onTc (τ := Cert.ModallRefIdeal.τ) (Cert.ModallRefIdeal.main (F := Ideal))) ⟨m, fun _ => 0, g⟩ (fun r => (∀ c : Dev Cert.ModallRefIdeal.nD,
      r.2.mem ((c.tc : Thread Cert.ModallRefIdeal.nD Cert.ModallRefIdeal.τ).loc Cert.ModallRefIdeal.main_arg0) = m ((c.tc : Thread Cert.ModallRefIdeal.nD Cert.ModallRefIdeal.τ).loc Cert.ModallRefIdeal.main_arg0)
      ∧ r.2.mem ((c.tc : Thread Cert.ModallRefIdeal.nD Cert.ModallRefIdeal.τ).loc Cert.ModallRefIdeal.main_arg1) = m ((c.tc : Thread Cert.ModallRefIdeal.nD Cert.ModallRefIdeal.τ).loc Cert.ModallRefIdeal.main_arg1)
      ∧ r.2.mem ((c.tc : Thread Cert.ModallRefIdeal.nD Cert.ModallRefIdeal.τ).loc Cert.ModallRefIdeal.main_arg2) = m ((c.tc : Thread Cert.ModallRefIdeal.nD Cert.ModallRefIdeal.τ).loc Cert.ModallRefIdeal.main_arg2)
      ∧ r.2.mem ((c.tc : Thread Cert.ModallRefIdeal.nD Cert.ModallRefIdeal.τ).loc Cert.ModallRefIdeal.main_arg3) = m ((c.tc : Thread Cert.ModallRefIdeal.nD Cert.ModallRefIdeal.τ).loc Cert.ModallRefIdeal.main_arg3))
      ∧ r.2.sem = fun _ => 0) :=
  (θ_run _ _ _).mono (fun r h => ⟨fun c => (h c).2, sem_eq_zero_of_no_sems (by decide) _⟩) (Cert.ModallRefIdeal.Value.run (F := Ideal) m g)

/-- The modulated norm over all rows computes its reference. -/
theorem modall : Cert.algebraic_ModallIdeal_ModallRefIdeal (hModallIdeal := Cert.ModallIdeal.Gen.facts) (hModallRefIdeal := Cert.ModallRefIdeal.Gen.facts) := by
  intro m g m' g' _ hag
  refine ⟨fun c => (Cert.ModallIdeal.Gen.dats m 0 c).arrAt 4 Cert.ModallIdeal.cfg0.N, ?_, ?_⟩
  · exact Cert.ModallIdeal.Value.run_blocks m g
  · refine (θ_run Cert.ModallRefIdeal.defs _ _).mono (fun r h c => ⟨(h c).1.trans ?_, (h c).2⟩) (Cert.ModallRefIdeal.Value.run (F := Ideal) m' g')
    obtain ⟨h0, h1, h2, h3⟩ := hag c
    rw [h0, h1, h2, h3]
    exact (Cert.ModallIdeal.Row.final m c).symm

/-- The reference of the short convolution branch runs to its end, whatever memory it starts from. -/
theorem conv_reference_ends (m : (ℓ : Loc Cert.ConvRefIdeal.nD Cert.ConvRefIdeal.τ Cert.ConvRefIdeal.sig) → Buf (Elt Ideal) ℓ) (g : Dev Cert.ConvRefIdeal.nD → PrngReg) :
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0) :=
  (θ_run _ _ _).mono (fun r h => ⟨fun c => (h c).2, sem_eq_zero_of_no_sems (by decide) _⟩) (Cert.ConvRefIdeal.Value.run (F := Ideal) m g)

/-- The short convolution branch computes its reference. -/
theorem conv : Cert.algebraic_ConvIdeal_ConvRefIdeal (hConvIdeal := Cert.ConvIdeal.Gen.facts) (hConvRefIdeal := Cert.ConvRefIdeal.Gen.facts) := by
  intro m g m' g' _ hag
  refine ⟨fun c => (Cert.ConvIdeal.Gen.dats m 0 c).arrAt 8 Cert.ConvIdeal.cfg0.N, ?_, ?_⟩
  · exact Cert.ConvIdeal.Value.run_blocks m g
  · refine (θ_run Cert.ConvRefIdeal.defs _ _).mono (fun r h c => ⟨(h c).1.trans ?_, (h c).2⟩) (Cert.ConvRefIdeal.Value.run (F := Ideal) m' g')
    obtain ⟨h0, h1⟩ := hag c
    rw [h0, h1]
    exact (Cert.ConvIdeal.Row.final m c).symm

/-- The reference of the feed-forward activation runs to its end, whatever memory it starts from. -/
theorem act_reference_ends (m : (ℓ : Loc Cert.ActRefIdeal.nD Cert.ActRefIdeal.τ Cert.ActRefIdeal.sig) → Buf (Elt Ideal) ℓ) (g : Dev Cert.ActRefIdeal.nD → PrngReg) :
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0) :=
  (θ_run _ _ _).mono (fun r h => ⟨fun c => (h c).2, sem_eq_zero_of_no_sems (by decide) _⟩) (Cert.ActRefIdeal.Value.run (F := Ideal) m g)

/-- The feed-forward activation computes its reference. -/
theorem act : Cert.algebraic_ActIdeal_ActRefIdeal (hActIdeal := Cert.ActIdeal.Gen.facts) (hActRefIdeal := Cert.ActRefIdeal.Gen.facts) := by
  intro m g m' g' _ hag
  refine ⟨fun c => (Cert.ActIdeal.Gen.dats m 0 c).arrAt 10 Cert.ActIdeal.cfg0.N, ?_, ?_⟩
  · exact Cert.ActIdeal.Value.run_blocks m g
  · refine (θ_run Cert.ActRefIdeal.defs _ _).mono (fun r h c => ⟨(h c).1.trans ?_, (h c).2⟩) (Cert.ActRefIdeal.Value.run (F := Ideal) m' g')
    obtain ⟨h0, h1, h2⟩ := hag c
    unfold Cert.ActRefIdeal.Value.res_main_v32
    rw [h0, h1, h2]
    exact (Cert.ActIdeal.Row.final m c).symm

/-- The reference of the short convolution branch of the first layer runs to its end, whatever memory it starts from. -/
theorem conv0_reference_ends (m : (ℓ : Loc Cert.Conv0RefIdeal.nD Cert.Conv0RefIdeal.τ Cert.Conv0RefIdeal.sig) → Buf (Elt Ideal) ℓ) (g : Dev Cert.Conv0RefIdeal.nD → PrngReg) :
    θ_run (Cert.Conv0RefIdeal.defs (F := Ideal)) (onTc (τ := Cert.Conv0RefIdeal.τ) (Cert.Conv0RefIdeal.main (F := Ideal))) ⟨m, fun _ => 0, g⟩ (fun r => (∀ c : Dev Cert.Conv0RefIdeal.nD,
      r.2.mem ((c.tc : Thread Cert.Conv0RefIdeal.nD Cert.Conv0RefIdeal.τ).loc Cert.Conv0RefIdeal.main_arg0) = m ((c.tc : Thread Cert.Conv0RefIdeal.nD Cert.Conv0RefIdeal.τ).loc Cert.Conv0RefIdeal.main_arg0)
      ∧ r.2.mem ((c.tc : Thread Cert.Conv0RefIdeal.nD Cert.Conv0RefIdeal.τ).loc Cert.Conv0RefIdeal.main_arg1) = m ((c.tc : Thread Cert.Conv0RefIdeal.nD Cert.Conv0RefIdeal.τ).loc Cert.Conv0RefIdeal.main_arg1))
      ∧ r.2.sem = fun _ => 0) :=
  (θ_run _ _ _).mono (fun r h => ⟨fun c => (h c).2, sem_eq_zero_of_no_sems (by decide) _⟩) (Cert.Conv0RefIdeal.Value.run (F := Ideal) m g)

/-- The short convolution branch of the first layer computes its reference. -/
theorem conv0 : Cert.algebraic_Conv0Ideal_Conv0RefIdeal (hConv0Ideal := Cert.Conv0Ideal.Gen.facts) (hConv0RefIdeal := Cert.Conv0RefIdeal.Gen.facts) := by
  intro m g m' g' _ hag
  refine ⟨fun c => (Cert.Conv0Ideal.Gen.dats m 0 c).arrAt 8 Cert.Conv0Ideal.cfg0.N, ?_, ?_⟩
  · exact Cert.Conv0Ideal.Value.run_blocks m g
  · refine (θ_run Cert.Conv0RefIdeal.defs _ _).mono (fun r h c => ⟨(h c).1.trans ?_, (h c).2⟩) (Cert.Conv0RefIdeal.Value.run (F := Ideal) m' g')
    obtain ⟨h0, h1⟩ := hag c
    unfold Cert.Conv0RefIdeal.Value.res_main_v51
    rw [h0, h1]
    exact (Cert.Conv0Ideal.Row.final m c).symm

/-- The reference of the feed-forward activation of the first layer runs to its end, whatever memory it starts from. -/
theorem act0_reference_ends (m : (ℓ : Loc Cert.Act0RefIdeal.nD Cert.Act0RefIdeal.τ Cert.Act0RefIdeal.sig) → Buf (Elt Ideal) ℓ) (g : Dev Cert.Act0RefIdeal.nD → PrngReg) :
    θ_run (Cert.Act0RefIdeal.defs (F := Ideal)) (onTc (τ := Cert.Act0RefIdeal.τ) (Cert.Act0RefIdeal.main (F := Ideal))) ⟨m, fun _ => 0, g⟩ (fun r => (∀ c : Dev Cert.Act0RefIdeal.nD,
      r.2.mem ((c.tc : Thread Cert.Act0RefIdeal.nD Cert.Act0RefIdeal.τ).loc Cert.Act0RefIdeal.main_arg0) = m ((c.tc : Thread Cert.Act0RefIdeal.nD Cert.Act0RefIdeal.τ).loc Cert.Act0RefIdeal.main_arg0)
      ∧ r.2.mem ((c.tc : Thread Cert.Act0RefIdeal.nD Cert.Act0RefIdeal.τ).loc Cert.Act0RefIdeal.main_arg1) = m ((c.tc : Thread Cert.Act0RefIdeal.nD Cert.Act0RefIdeal.τ).loc Cert.Act0RefIdeal.main_arg1)
      ∧ r.2.mem ((c.tc : Thread Cert.Act0RefIdeal.nD Cert.Act0RefIdeal.τ).loc Cert.Act0RefIdeal.main_arg2) = m ((c.tc : Thread Cert.Act0RefIdeal.nD Cert.Act0RefIdeal.τ).loc Cert.Act0RefIdeal.main_arg2))
      ∧ r.2.sem = fun _ => 0) :=
  (θ_run _ _ _).mono (fun r h => ⟨fun c => (h c).2, sem_eq_zero_of_no_sems (by decide) _⟩) (Cert.Act0RefIdeal.Value.run (F := Ideal) m g)

/-- The feed-forward activation of the first layer computes its reference. -/
theorem act0 : Cert.algebraic_Act0Ideal_Act0RefIdeal (hAct0Ideal := Cert.Act0Ideal.Gen.facts) (hAct0RefIdeal := Cert.Act0RefIdeal.Gen.facts) := by
  intro m g m' g' _ hag
  refine ⟨fun c => (Cert.Act0Ideal.Gen.dats m 0 c).arrAt 10 Cert.Act0Ideal.cfg0.N, ?_, ?_⟩
  · exact Cert.Act0Ideal.Value.run_blocks m g
  · refine (θ_run Cert.Act0RefIdeal.defs _ _).mono (fun r h c => ⟨(h c).1.trans ?_, (h c).2⟩) (Cert.Act0RefIdeal.Value.run (F := Ideal) m' g')
    obtain ⟨h0, h1, h2⟩ := hag c
    unfold Cert.Act0RefIdeal.Value.res_main_v56
    rw [h0, h1, h2]
    exact (Cert.Act0Ideal.Row.final m c).symm

/-- The reference of the modulation vectors runs to its end, whatever memory it starts from. -/
theorem ada_reference_ends (m : (ℓ : Loc Cert.AdaRefIdeal.nD Cert.AdaRefIdeal.τ Cert.AdaRefIdeal.sig) → Buf (Elt Ideal) ℓ) (g : Dev Cert.AdaRefIdeal.nD → PrngReg) :
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0) :=
  (θ_run _ _ _).mono (fun r h => ⟨fun c => (h c).2, sem_eq_zero_of_no_sems (by decide) _⟩) (Cert.AdaRefIdeal.Value.run (F := Ideal) m g)

/-- The modulation vectors computes its reference. -/
theorem ada : Cert.algebraic_AdaIdeal_AdaRefIdeal (hAdaIdeal := Cert.AdaIdeal.Gen.facts) (hAdaRefIdeal := Cert.AdaRefIdeal.Gen.facts) := by
  intro m g m' g' _ hag
  refine ⟨fun c => (Cert.AdaIdeal.Gen.dats m 0 c).arrAt 3 Cert.AdaIdeal.cfg0.N, ?_, ?_⟩
  · exact Cert.AdaIdeal.Value.run_blocks m g
  · refine (θ_run Cert.AdaRefIdeal.defs _ _).mono (fun r h c => ⟨(h c).1.trans ?_, (h c).2⟩) (Cert.AdaRefIdeal.Value.run (F := Ideal) m' g')
    obtain ⟨h0, h1, h2⟩ := hag c
    rw [h0, h1, h2]
    exact (Cert.AdaIdeal.Row.final m c).symm

/-- The reference of the up projection runs to its end, whatever memory it starts from. -/
theorem up_reference_ends (m : (ℓ : Loc Cert.UpRefIdeal.nD Cert.UpRefIdeal.τ Cert.UpRefIdeal.sig) → Buf (Elt Ideal) ℓ) (g : Dev Cert.UpRefIdeal.nD → PrngReg) :
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0) :=
  (θ_run _ _ _).mono (fun r h => ⟨fun c => (h c).2, sem_eq_zero_of_no_sems (by decide) _⟩) (Cert.UpRefIdeal.Value.run (F := Ideal) m g)

/-- The up projection computes its reference. -/
theorem up : Cert.algebraic_UpIdeal_UpRefIdeal (hUpIdeal := Cert.UpIdeal.Gen.facts) (hUpRefIdeal := Cert.UpRefIdeal.Gen.facts) := by
  intro m g m' g' _ hag
  refine ⟨fun c => (Cert.UpIdeal.Gen.dats m 0 c).arrAt 2 Cert.UpIdeal.cfg0.N, ?_, ?_⟩
  · exact Cert.UpIdeal.Value.run_blocks m g
  · refine (θ_run Cert.UpRefIdeal.defs _ _).mono (fun r h c => ⟨(h c).1.trans ?_, (h c).2⟩) (Cert.UpRefIdeal.Value.run (F := Ideal) m' g')
    obtain ⟨h0, h1⟩ := hag c
    rw [h0, h1]
    exact (Cert.UpIdeal.Row.final m c).symm

/-- The reference of the projection to the branch gates runs to its end, whatever memory it starts from. -/
theorem gates_reference_ends (m : (ℓ : Loc Cert.GatesRefIdeal.nD Cert.GatesRefIdeal.τ Cert.GatesRefIdeal.sig) → Buf (Elt Ideal) ℓ) (g : Dev Cert.GatesRefIdeal.nD → PrngReg) :
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0) :=
  (θ_run _ _ _).mono (fun r h => ⟨fun c => (h c).2, sem_eq_zero_of_no_sems (by decide) _⟩) (Cert.GatesRefIdeal.Value.run (F := Ideal) m g)

/-- The projection to the branch gates computes its reference. -/
theorem gates : Cert.algebraic_GatesIdeal_GatesRefIdeal (hGatesIdeal := Cert.GatesIdeal.Gen.facts) (hGatesRefIdeal := Cert.GatesRefIdeal.Gen.facts) := by
  intro m g m' g' _ hag
  refine ⟨fun c => (Cert.GatesIdeal.Gen.dats m 0 c).arrAt 3 Cert.GatesIdeal.cfg0.N, ?_, ?_⟩
  · exact Cert.GatesIdeal.Value.run_blocks m g
  · refine (θ_run Cert.GatesRefIdeal.defs _ _).mono (fun r h c => ⟨(h c).1.trans ?_, (h c).2⟩) (Cert.GatesRefIdeal.Value.run (F := Ideal) m' g')
    obtain ⟨h0, h1, h2⟩ := hag c
    rw [h0, h1, h2]
    exact (Cert.GatesIdeal.Row.final m c).symm

/-- The reference of the projection to queries, keys, values and convolution inputs runs to its end, whatever memory it starts from. -/
theorem qkvc_reference_ends (m : (ℓ : Loc Cert.QkvcRefIdeal.nD Cert.QkvcRefIdeal.τ Cert.QkvcRefIdeal.sig) → Buf (Elt Ideal) ℓ) (g : Dev Cert.QkvcRefIdeal.nD → PrngReg) :
    θ_run (Cert.QkvcRefIdeal.defs (F := Ideal)) (onTc (τ := Cert.QkvcRefIdeal.τ) (Cert.QkvcRefIdeal.main (F := Ideal))) ⟨m, fun _ => 0, g⟩ (fun r => (∀ c : Dev Cert.QkvcRefIdeal.nD,
      r.2.mem ((c.tc : Thread Cert.QkvcRefIdeal.nD Cert.QkvcRefIdeal.τ).loc Cert.QkvcRefIdeal.main_arg0) = m ((c.tc : Thread Cert.QkvcRefIdeal.nD Cert.QkvcRefIdeal.τ).loc Cert.QkvcRefIdeal.main_arg0)
      ∧ r.2.mem ((c.tc : Thread Cert.QkvcRefIdeal.nD Cert.QkvcRefIdeal.τ).loc Cert.QkvcRefIdeal.main_arg1) = m ((c.tc : Thread Cert.QkvcRefIdeal.nD Cert.QkvcRefIdeal.τ).loc Cert.QkvcRefIdeal.main_arg1))
      ∧ r.2.sem = fun _ => 0) :=
  (θ_run _ _ _).mono (fun r h => ⟨fun c => (h c).2, sem_eq_zero_of_no_sems (by decide) _⟩) (Cert.QkvcRefIdeal.Value.run (F := Ideal) m g)

/-- The projection to queries, keys, values and convolution inputs computes its reference. -/
theorem qkvc : Cert.algebraic_QkvcIdeal_QkvcRefIdeal (hQkvcIdeal := Cert.QkvcIdeal.Gen.facts) (hQkvcRefIdeal := Cert.QkvcRefIdeal.Gen.facts) := by
  intro m g m' g' _ hag
  refine ⟨fun c => (Cert.QkvcIdeal.Gen.dats m 0 c).arrAt 2 Cert.QkvcIdeal.cfg0.N, ?_, ?_⟩
  · exact Cert.QkvcIdeal.Value.run_blocks m g
  · refine (θ_run Cert.QkvcRefIdeal.defs _ _).mono (fun r h c => ⟨(h c).1.trans ?_, (h c).2⟩) (Cert.QkvcRefIdeal.Value.run (F := Ideal) m' g')
    obtain ⟨h0, h1⟩ := hag c
    rw [h0, h1]
    exact (Cert.QkvcIdeal.Row.final m c).symm

/-- The reference of the down projection runs to its end, whatever memory it starts from. -/
theorem down_reference_ends (m : (ℓ : Loc Cert.DownRefIdeal.nD Cert.DownRefIdeal.τ Cert.DownRefIdeal.sig) → Buf (Elt Ideal) ℓ) (g : Dev Cert.DownRefIdeal.nD → PrngReg) :
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0) :=
  (θ_run _ _ _).mono (fun r h => ⟨fun c => (h c).2, sem_eq_zero_of_no_sems (by decide) _⟩) (Cert.DownRefIdeal.Value.run (F := Ideal) m g)

/-- The down projection computes its reference. -/
theorem down : Cert.algebraic_DownIdeal_DownRefIdeal (hDownIdeal := Cert.DownIdeal.Gen.facts) (hDownRefIdeal := Cert.DownRefIdeal.Gen.facts) := by
  intro m g m' g' _ hag
  refine ⟨fun c => (Cert.DownIdeal.Gen.dats m 0 c).arrAt 4 Cert.DownIdeal.cfg0.N, ?_, ?_⟩
  · exact Cert.DownIdeal.Value.run_blocks m g
  · refine (θ_run Cert.DownRefIdeal.defs _ _).mono (fun r h c => ⟨(h c).1.trans ?_, (h c).2⟩) (Cert.DownRefIdeal.Value.run (F := Ideal) m' g')
    obtain ⟨h0, h1, h2, h3⟩ := hag c
    rw [h0, h1, h2, h3]
    exact (Cert.DownIdeal.Row.final m c).symm

/-- The reference of the output projection runs to its end, whatever memory it starts from. -/
theorem out_reference_ends (m : (ℓ : Loc Cert.OutRefIdeal.nD Cert.OutRefIdeal.τ Cert.OutRefIdeal.sig) → Buf (Elt Ideal) ℓ) (g : Dev Cert.OutRefIdeal.nD → PrngReg) :
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0) :=
  (θ_run _ _ _).mono (fun r h => ⟨fun c => (h c).2, sem_eq_zero_of_no_sems (by decide) _⟩) (Cert.OutRefIdeal.Value.run (F := Ideal) m g)

/-- The output projection computes its reference. -/
theorem out : Cert.algebraic_OutIdeal_OutRefIdeal (hOutIdeal := Cert.OutIdeal.Gen.facts) (hOutRefIdeal := Cert.OutRefIdeal.Gen.facts) := by
  intro m g m' g' _ hag
  refine ⟨fun c => (Cert.OutIdeal.Gen.dats m 0 c).arrAt 4 Cert.OutIdeal.cfg0.N, ?_, ?_⟩
  · exact Cert.OutIdeal.Value.run_blocks m g
  · refine (θ_run Cert.OutRefIdeal.defs _ _).mono (fun r h c => ⟨(h c).1.trans ?_, (h c).2⟩) (Cert.OutRefIdeal.Value.run (F := Ideal) m' g')
    obtain ⟨h0, h1, h2, h3⟩ := hag c
    rw [h0, h1, h2, h3]
    exact (Cert.OutIdeal.Row.final m c).symm

/-- The reference of the merge of the three branches runs to its end, whatever memory it starts from. -/
theorem merge_reference_ends (m : (ℓ : Loc Cert.MergeRefIdeal.nD Cert.MergeRefIdeal.τ Cert.MergeRefIdeal.sig) → Buf (Elt Ideal) ℓ) (g : Dev Cert.MergeRefIdeal.nD → PrngReg) :
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0) :=
  (θ_run _ _ _).mono (fun r h => ⟨fun c => (h c).2, sem_eq_zero_of_no_sems (by decide) _⟩) (Cert.MergeRefIdeal.Value.run (F := Ideal) m g)

/-- The merge of the three branches computes its reference. -/
theorem merge : Cert.algebraic_MergeIdeal_MergeRefIdeal (hMergeIdeal := Cert.MergeIdeal.Gen.facts) (hMergeRefIdeal := Cert.MergeRefIdeal.Gen.facts) := by
  intro m g m' g' _ hag
  refine ⟨fun c => (Cert.MergeIdeal.Gen.dats m 0 c).arrAt 9 Cert.MergeIdeal.cfg0.N, ?_, ?_⟩
  · exact Cert.MergeIdeal.Value.run_blocks m g
  · refine (θ_run Cert.MergeRefIdeal.defs _ _).mono (fun r h c => ⟨(h c).1.trans ?_, (h c).2⟩) (Cert.MergeRefIdeal.Value.run (F := Ideal) m' g')
    obtain ⟨h0, h1, h2, h3, h4, h5, h6⟩ := hag c
    rw [h0, h1, h2, h3, h4, h5, h6]
    exact (Cert.MergeIdeal.Row.final m c).symm

/-- The reference of the last norm runs to its end, whatever memory it starts from. -/
theorem norm_reference_ends (m : (ℓ : Loc Cert.NormRefIdeal.nD Cert.NormRefIdeal.τ Cert.NormRefIdeal.sig) → Buf (Elt Ideal) ℓ) (g : Dev Cert.NormRefIdeal.nD → PrngReg) :
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0) :=
  (θ_run _ _ _).mono (fun r h => ⟨fun c => (h c).2, sem_eq_zero_of_no_sems (by decide) _⟩) (Cert.NormRefIdeal.Value.run (F := Ideal) m g)

/-- The last norm computes its reference. -/
theorem norm : Cert.algebraic_NormIdeal_NormRefIdeal (hNormIdeal := Cert.NormIdeal.Gen.facts) (hNormRefIdeal := Cert.NormRefIdeal.Gen.facts) := by
  intro m g m' g' _ hag
  refine ⟨fun c => (Cert.NormIdeal.Gen.dats m 0 c).arrAt 2 Cert.NormIdeal.cfg0.N, ?_, ?_⟩
  · exact Cert.NormIdeal.Value.run_blocks m g
  · refine (θ_run Cert.NormRefIdeal.defs _ _).mono (fun r h c => ⟨(h c).1.trans ?_, (h c).2⟩) (Cert.NormRefIdeal.Value.run (F := Ideal) m' g')
    obtain ⟨h0, h1⟩ := hag c
    rw [h0, h1]
    exact (Cert.NormIdeal.Row.final m c).symm

theorem claim : Cert.Claim := ⟨Cert.Kernel.Gen.facts, Cert.KernelIdeal.Gen.facts, Cert.ReferenceIdeal.Gen.facts, Cert.Attc.Gen.facts, Cert.AttcIdeal.Gen.facts, Cert.AttcRefIdeal.Gen.facts, Cert.Rkv.Gen.facts, Cert.RkvIdeal.Gen.facts, Cert.RkvRefIdeal.Gen.facts, Cert.Lora.Gen.facts, Cert.LoraIdeal.Gen.facts, Cert.LoraRefIdeal.Gen.facts, Cert.Up0.Gen.facts, Cert.Up0Ideal.Gen.facts, Cert.Up0RefIdeal.Gen.facts, Cert.Gates0.Gen.facts, Cert.Gates0Ideal.Gen.facts, Cert.Gates0RefIdeal.Gen.facts, Cert.Qkvc0.Gen.facts, Cert.Qkvc0Ideal.Gen.facts, Cert.Qkvc0RefIdeal.Gen.facts, Cert.Rkv0.Gen.facts, Cert.Rkv0Ideal.Gen.facts, Cert.Rkv0RefIdeal.Gen.facts, Cert.Lora0.Gen.facts, Cert.Lora0Ideal.Gen.facts, Cert.Lora0RefIdeal.Gen.facts, Cert.Down0.Gen.facts, Cert.Down0Ideal.Gen.facts, Cert.Down0RefIdeal.Gen.facts, Cert.Out0.Gen.facts, Cert.Out0Ideal.Gen.facts, Cert.Out0RefIdeal.Gen.facts, Cert.Merge0.Gen.facts, Cert.Merge0Ideal.Gen.facts, Cert.Merge0RefIdeal.Gen.facts, Cert.Mod.Gen.facts, Cert.ModIdeal.Gen.facts, Cert.ModRefIdeal.Gen.facts, Cert.Modall.Gen.facts, Cert.ModallIdeal.Gen.facts, Cert.ModallRefIdeal.Gen.facts, Cert.Conv.Gen.facts, Cert.ConvIdeal.Gen.facts, Cert.ConvRefIdeal.Gen.facts, Cert.Act.Gen.facts, Cert.ActIdeal.Gen.facts, Cert.ActRefIdeal.Gen.facts, Cert.Conv0.Gen.facts, Cert.Conv0Ideal.Gen.facts, Cert.Conv0RefIdeal.Gen.facts, Cert.Act0.Gen.facts, Cert.Act0Ideal.Gen.facts, Cert.Act0RefIdeal.Gen.facts, Cert.Ada.Gen.facts, Cert.AdaIdeal.Gen.facts, Cert.AdaRefIdeal.Gen.facts, Cert.Up.Gen.facts, Cert.UpIdeal.Gen.facts, Cert.UpRefIdeal.Gen.facts, Cert.Gates.Gen.facts, Cert.GatesIdeal.Gen.facts, Cert.GatesRefIdeal.Gen.facts, Cert.Qkvc.Gen.facts, Cert.QkvcIdeal.Gen.facts, Cert.QkvcRefIdeal.Gen.facts, Cert.Down.Gen.facts, Cert.DownIdeal.Gen.facts, Cert.DownRefIdeal.Gen.facts, Cert.Out.Gen.facts, Cert.OutIdeal.Gen.facts, Cert.OutRefIdeal.Gen.facts, Cert.Merge.Gen.facts, Cert.MergeIdeal.Gen.facts, Cert.MergeRefIdeal.Gen.facts, Cert.Norm.Gen.facts, Cert.NormIdeal.Gen.facts, Cert.NormRefIdeal.Gen.facts, Cert.Pre_finite_qk.Gen.facts, by
  refine ⟨fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, fun m g _ => ?_, trivial, attention, trivial, attc, trivial, rkv, trivial, lora, trivial, up0, trivial, gates0, trivial, qkvc0, trivial, rkv0, trivial, lora0, trivial, down0, trivial, out0, trivial, merge0, trivial, mod, trivial, modall, trivial, conv, trivial, act, trivial, conv0, trivial, act0, trivial, ada, trivial, up, trivial, gates, trivial, qkvc, trivial, down, trivial, out, trivial, merge, trivial, norm⟩
  · exact Cert.Kernel.Gen.frame m g
  · exact Cert.KernelIdeal.Gen.frame m g
  · exact Cert.KernelIdeal.Gen.frame m g
  · exact reference_ends m g
  · exact reference_ends m g
  · exact Cert.Attc.Gen.frame m g
  · exact Cert.AttcIdeal.Gen.frame m g
  · exact Cert.AttcIdeal.Gen.frame m g
  · exact attc_reference_ends m g
  · exact attc_reference_ends m g
  · exact Cert.Rkv.Gen.frame m g
  · exact Cert.RkvIdeal.Gen.frame m g
  · exact rkv_reference_ends m g
  · exact Cert.Lora.Gen.frame m g
  · exact Cert.LoraIdeal.Gen.frame m g
  · exact lora_reference_ends m g
  · exact Cert.Up0.Gen.frame m g
  · exact Cert.Up0Ideal.Gen.frame m g
  · exact up0_reference_ends m g
  · exact Cert.Gates0.Gen.frame m g
  · exact Cert.Gates0Ideal.Gen.frame m g
  · exact gates0_reference_ends m g
  · exact Cert.Qkvc0.Gen.frame m g
  · exact Cert.Qkvc0Ideal.Gen.frame m g
  · exact qkvc0_reference_ends m g
  · exact Cert.Rkv0.Gen.frame m g
  · exact Cert.Rkv0Ideal.Gen.frame m g
  · exact rkv0_reference_ends m g
  · exact Cert.Lora0.Gen.frame m g
  · exact Cert.Lora0Ideal.Gen.frame m g
  · exact lora0_reference_ends m g
  · exact Cert.Down0.Gen.frame m g
  · exact Cert.Down0Ideal.Gen.frame m g
  · exact down0_reference_ends m g
  · exact Cert.Out0.Gen.frame m g
  · exact Cert.Out0Ideal.Gen.frame m g
  · exact out0_reference_ends m g
  · exact Cert.Merge0.Gen.frame m g
  · exact Cert.Merge0Ideal.Gen.frame m g
  · exact merge0_reference_ends m g
  · exact Cert.Mod.Gen.frame m g
  · exact Cert.ModIdeal.Gen.frame m g
  · exact mod_reference_ends m g
  · exact Cert.Modall.Gen.frame m g
  · exact Cert.ModallIdeal.Gen.frame m g
  · exact modall_reference_ends m g
  · exact Cert.Conv.Gen.frame m g
  · exact Cert.ConvIdeal.Gen.frame m g
  · exact conv_reference_ends m g
  · exact Cert.Act.Gen.frame m g
  · exact Cert.ActIdeal.Gen.frame m g
  · exact act_reference_ends m g
  · exact Cert.Conv0.Gen.frame m g
  · exact Cert.Conv0Ideal.Gen.frame m g
  · exact conv0_reference_ends m g
  · exact Cert.Act0.Gen.frame m g
  · exact Cert.Act0Ideal.Gen.frame m g
  · exact act0_reference_ends m g
  · exact Cert.Ada.Gen.frame m g
  · exact Cert.AdaIdeal.Gen.frame m g
  · exact ada_reference_ends m g
  · exact Cert.Up.Gen.frame m g
  · exact Cert.UpIdeal.Gen.frame m g
  · exact up_reference_ends m g
  · exact Cert.Gates.Gen.frame m g
  · exact Cert.GatesIdeal.Gen.frame m g
  · exact gates_reference_ends m g
  · exact Cert.Qkvc.Gen.frame m g
  · exact Cert.QkvcIdeal.Gen.frame m g
  · exact qkvc_reference_ends m g
  · exact Cert.Down.Gen.frame m g
  · exact Cert.DownIdeal.Gen.frame m g
  · exact down_reference_ends m g
  · exact Cert.Out.Gen.frame m g
  · exact Cert.OutIdeal.Gen.frame m g
  · exact out_reference_ends m g
  · exact Cert.Merge.Gen.frame m g
  · exact Cert.MergeIdeal.Gen.frame m g
  · exact merge_reference_ends m g
  · exact Cert.Norm.Gen.frame m g
  · exact Cert.NormIdeal.Gen.frame m g
  · exact norm_reference_ends m g⟩

end Cert.Proof

end
